-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_WinLow (m : (ℓ : Loc Cert.WinLow.nD Cert.WinLow.τ Cert.WinLow.sig) → Buf (Elt Bits) ℓ) : Prop :=
  True

def Pre_WinLowIdeal (m : (ℓ : Loc Cert.WinLowIdeal.nD Cert.WinLowIdeal.τ Cert.WinLowIdeal.sig) → Buf (Elt Ideal) ℓ) : Prop :=
  True

def Pre_WinLowRefIdeal (m : (ℓ : Loc Cert.WinLowRefIdeal.nD Cert.WinLowRefIdeal.τ Cert.WinLowRefIdeal.sig) → Buf (Elt Ideal) ℓ) : Prop :=
  True

def Pre_WinHigh (m : (ℓ : Loc Cert.WinHigh.nD Cert.WinHigh.τ Cert.WinHigh.sig) → Buf (Elt Bits) ℓ) : Prop :=
  True

def Pre_WinHighIdeal (m : (ℓ : Loc Cert.WinHighIdeal.nD Cert.WinHighIdeal.τ Cert.WinHighIdeal.sig) → Buf (Elt Ideal) ℓ) : Prop :=
  True

def Pre_WinHighRefIdeal (m : (ℓ : Loc Cert.WinHighRefIdeal.nD Cert.WinHighRefIdeal.τ Cert.WinHighRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Mixin (m : (ℓ : Loc Cert.Mixin.nD Cert.Mixin.τ Cert.Mixin.sig) → Buf (Elt Bits) ℓ) : Prop :=
  True

def Pre_MixinIdeal (m : (ℓ : Loc Cert.MixinIdeal.nD Cert.MixinIdeal.τ Cert.MixinIdeal.sig) → Buf (Elt Ideal) ℓ) : Prop :=
  True

def Pre_MixinRefIdeal (m : (ℓ : Loc Cert.MixinRefIdeal.nD Cert.MixinRefIdeal.τ Cert.MixinRefIdeal.sig) → Buf (Elt Ideal) ℓ) : Prop :=
  True

def Pre_MixinGrad (m : (ℓ : Loc Cert.MixinGrad.nD Cert.MixinGrad.τ Cert.MixinGrad.sig) → Buf (Elt Bits) ℓ) : Prop :=
  True

def Pre_MixinGradIdeal (m : (ℓ : Loc Cert.MixinGradIdeal.nD Cert.MixinGradIdeal.τ Cert.MixinGradIdeal.sig) → Buf (Elt Ideal) ℓ) : Prop :=
  True

def Pre_MixinGradRefIdeal (m : (ℓ : Loc Cert.MixinGradRefIdeal.nD Cert.MixinGradRefIdeal.τ Cert.MixinGradRefIdeal.sig) → Buf (Elt Ideal) ℓ) : Prop :=
  True

def Pre_MixinWUv (m : (ℓ : Loc Cert.MixinWUv.nD Cert.MixinWUv.τ Cert.MixinWUv.sig) → Buf (Elt Bits) ℓ) : Prop :=
  True

def Pre_MixinWUvIdeal (m : (ℓ : Loc Cert.MixinWUvIdeal.nD Cert.MixinWUvIdeal.τ Cert.MixinWUvIdeal.sig) → Buf (Elt Ideal) ℓ) : Prop :=
  True

def Pre_MixinWUvRefIdeal (m : (ℓ : Loc Cert.MixinWUvRefIdeal.nD Cert.MixinWUvRefIdeal.τ Cert.MixinWUvRefIdeal.sig) → Buf (Elt Ideal) ℓ) : Prop :=
  True

def Pre_SquareW (m : (ℓ : Loc Cert.SquareW.nD Cert.SquareW.τ Cert.SquareW.sig) → Buf (Elt Bits) ℓ) : Prop :=
  True

def Pre_SquareWIdeal (m : (ℓ : Loc Cert.SquareWIdeal.nD Cert.SquareWIdeal.τ Cert.SquareWIdeal.sig) → Buf (Elt Ideal) ℓ) : Prop :=
  True

def Pre_SquareWRefIdeal (m : (ℓ : Loc Cert.SquareWRefIdeal.nD Cert.SquareWRefIdeal.τ Cert.SquareWRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_PleW (m : (ℓ : Loc Cert.PleW.nD Cert.PleW.τ Cert.PleW.sig) → Buf (Elt Bits) ℓ) : Prop :=
  True

def Pre_PleWIdeal (m : (ℓ : Loc Cert.PleWIdeal.nD Cert.PleWIdeal.τ Cert.PleWIdeal.sig) → Buf (Elt Ideal) ℓ) : Prop :=
  True

def Pre_PleWRefIdeal (m : (ℓ : Loc Cert.PleWRefIdeal.nD Cert.PleWRefIdeal.τ Cert.PleWRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Mixout (m : (ℓ : Loc Cert.Mixout.nD Cert.Mixout.τ Cert.Mixout.sig) → Buf (Elt Bits) ℓ) : Prop :=
  True

def Pre_MixoutIdeal (m : (ℓ : Loc Cert.MixoutIdeal.nD Cert.MixoutIdeal.τ Cert.MixoutIdeal.sig) → Buf (Elt Ideal) ℓ) : Prop :=
  True

def Pre_MixoutRefIdeal (m : (ℓ : Loc Cert.MixoutRefIdeal.nD Cert.MixoutRefIdeal.τ Cert.MixoutRefIdeal.sig) → Buf (Elt Ideal) ℓ) : Prop :=
  True

def Pre_MixoutGrad (m : (ℓ : Loc Cert.MixoutGrad.nD Cert.MixoutGrad.τ Cert.MixoutGrad.sig) → Buf (Elt Bits) ℓ) : Prop :=
  True

def Pre_MixoutGradIdeal (m : (ℓ : Loc Cert.MixoutGradIdeal.nD Cert.MixoutGradIdeal.τ Cert.MixoutGradIdeal.sig) → Buf (Elt Ideal) ℓ) : Prop :=
  True

def Pre_MixoutGradIdeal_finite_mix [hPre_finite_mix : Cert.Pre_finite_mix.Facts] (m : (ℓ : Loc Cert.MixoutGradIdeal.nD Cert.MixoutGradIdeal.τ Cert.MixoutGradIdeal.sig) → Buf (Elt Ideal) ℓ) : Prop :=
  ∀ c : Dev Cert.MixoutGradIdeal.nD,
    (Cert.Pre_finite_mix.fn (F := Ideal) (m ((c.tc : Thread Cert.MixoutGradIdeal.nD Cert.MixoutGradIdeal.τ).loc Cert.MixoutGradIdeal.main_arg0)) (m ((c.tc : Thread Cert.MixoutGradIdeal.nD Cert.MixoutGradIdeal.τ).loc Cert.MixoutGradIdeal.main_arg1)) (m ((c.tc : Thread Cert.MixoutGradIdeal.nD Cert.MixoutGradIdeal.τ).loc Cert.MixoutGradIdeal.main_arg2)) (m ((c.tc : Thread Cert.MixoutGradIdeal.nD Cert.MixoutGradIdeal.τ).loc Cert.MixoutGradIdeal.main_arg3)) (m ((c.tc : Thread Cert.MixoutGradIdeal.nD Cert.MixoutGradIdeal.τ).loc Cert.MixoutGradIdeal.main_arg4)) (m ((c.tc : Thread Cert.MixoutGradIdeal.nD Cert.MixoutGradIdeal.τ).loc Cert.MixoutGradIdeal.main_arg5)) (m ((c.tc : Thread Cert.MixoutGradIdeal.nD Cert.MixoutGradIdeal.τ).loc Cert.MixoutGradIdeal.main_arg6)) (m ((c.tc : Thread Cert.MixoutGradIdeal.nD Cert.MixoutGradIdeal.τ).loc Cert.MixoutGradIdeal.main_arg7)) (m ((c.tc : Thread Cert.MixoutGradIdeal.nD Cert.MixoutGradIdeal.τ).loc Cert.MixoutGradIdeal.main_arg8)) (m ((c.tc : Thread Cert.MixoutGradIdeal.nD Cert.MixoutGradIdeal.τ).loc Cert.MixoutGradIdeal.main_arg9))) = (fun _ => 1#1)

def Pre_MixoutGradRefIdeal (m : (ℓ : Loc Cert.MixoutGradRefIdeal.nD Cert.MixoutGradRefIdeal.τ Cert.MixoutGradRefIdeal.sig) → Buf (Elt Ideal) ℓ) : Prop :=
  True

def Pre_MixoutGradRefIdeal_finite_mix [hPre_finite_mix : Cert.Pre_finite_mix.Facts] (m : (ℓ : Loc Cert.MixoutGradRefIdeal.nD Cert.MixoutGradRefIdeal.τ Cert.MixoutGradRefIdeal.sig) → Buf (Elt Ideal) ℓ) : Prop :=
  ∀ c : Dev Cert.MixoutGradRefIdeal.nD,
    (Cert.Pre_finite_mix.fn (F := Ideal) (m ((c.tc : Thread Cert.MixoutGradRefIdeal.nD Cert.MixoutGradRefIdeal.τ).loc Cert.MixoutGradRefIdeal.main_arg0)) (m ((c.tc : Thread Cert.MixoutGradRefIdeal.nD Cert.MixoutGradRefIdeal.τ).loc Cert.MixoutGradRefIdeal.main_arg1)) (m ((c.tc : Thread Cert.MixoutGradRefIdeal.nD Cert.MixoutGradRefIdeal.τ).loc Cert.MixoutGradRefIdeal.main_arg2)) (m ((c.tc : Thread Cert.MixoutGradRefIdeal.nD Cert.MixoutGradRefIdeal.τ).loc Cert.MixoutGradRefIdeal.main_arg3)) (m ((c.tc : Thread Cert.MixoutGradRefIdeal.nD Cert.MixoutGradRefIdeal.τ).loc Cert.MixoutGradRefIdeal.main_arg4)) (m ((c.tc : Thread Cert.MixoutGradRefIdeal.nD Cert.MixoutGradRefIdeal.τ).loc Cert.MixoutGradRefIdeal.main_arg5)) (m ((c.tc : Thread Cert.MixoutGradRefIdeal.nD Cert.MixoutGradRefIdeal.τ).loc Cert.MixoutGradRefIdeal.main_arg6)) (m ((c.tc : Thread Cert.MixoutGradRefIdeal.nD Cert.MixoutGradRefIdeal.τ).loc Cert.MixoutGradRefIdeal.main_arg7)) (m ((c.tc : Thread Cert.MixoutGradRefIdeal.nD Cert.MixoutGradRefIdeal.τ).loc Cert.MixoutGradRefIdeal.main_arg8)) (m ((c.tc : Thread Cert.MixoutGradRefIdeal.nD Cert.MixoutGradRefIdeal.τ).loc Cert.MixoutGradRefIdeal.main_arg9))) = (fun _ => 1#1)

def Pre_MixinWG (m : (ℓ : Loc Cert.MixinWG.nD Cert.MixinWG.τ Cert.MixinWG.sig) → Buf (Elt Bits) ℓ) : Prop :=
  True

def Pre_MixinWGIdeal (m : (ℓ : Loc Cert.MixinWGIdeal.nD Cert.MixinWGIdeal.τ Cert.MixinWGIdeal.sig) → Buf (Elt Ideal) ℓ) : Prop :=
  True

def Pre_MixinWGRefIdeal (m : (ℓ : Loc Cert.MixinWGRefIdeal.nD Cert.MixinWGRefIdeal.τ Cert.MixinWGRefIdeal.sig) → Buf (Elt Ideal) ℓ) : Prop :=
  True

def Pre_SumLoss (m : (ℓ : Loc Cert.SumLoss.nD Cert.SumLoss.τ Cert.SumLoss.sig) → Buf (Elt Bits) ℓ) : Prop :=
  True

def Pre_SumLossIdeal (m : (ℓ : Loc Cert.SumLossIdeal.nD Cert.SumLossIdeal.τ Cert.SumLossIdeal.sig) → Buf (Elt Ideal) ℓ) : Prop :=
  True

def Pre_SumLossRefIdeal (m : (ℓ : Loc Cert.SumLossRefIdeal.nD Cert.SumLossRefIdeal.τ Cert.SumLossRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamMixIn (m : (ℓ : Loc Cert.AdamMixIn.nD Cert.AdamMixIn.τ Cert.AdamMixIn.sig) → Buf (Elt Bits) ℓ) : Prop :=
  True

def Pre_AdamMixInIdeal (m : (ℓ : Loc Cert.AdamMixInIdeal.nD Cert.AdamMixInIdeal.τ Cert.AdamMixInIdeal.sig) → Buf (Elt Ideal) ℓ) : Prop :=
  True

def Pre_AdamMixInRefIdeal (m : (ℓ : Loc Cert.AdamMixInRefIdeal.nD Cert.AdamMixInRefIdeal.τ Cert.AdamMixInRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamPle (m : (ℓ : Loc Cert.AdamPle.nD Cert.AdamPle.τ Cert.AdamPle.sig) → Buf (Elt Bits) ℓ) : Prop :=
  True

def Pre_AdamPleIdeal (m : (ℓ : Loc Cert.AdamPleIdeal.nD Cert.AdamPleIdeal.τ Cert.AdamPleIdeal.sig) → Buf (Elt Ideal) ℓ) : Prop :=
  True

def Pre_AdamPleRefIdeal (m : (ℓ : Loc Cert.AdamPleRefIdeal.nD Cert.AdamPleRefIdeal.τ Cert.AdamPleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1)
      ∧ r.2.mem ((c.tc : Thread Cert.Wout.nD Cert.Wout.τ).loc Cert.Wout.main_arg2) = m ((c.tc : Thread Cert.Wout.nD Cert.Wout.τ).loc Cert.Wout.main_arg2))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1)
      ∧ r.2.mem ((c.tc : Thread Cert.WoutRefIdeal.nD Cert.WoutRefIdeal.τ).loc Cert.WoutRefIdeal.main_arg2) = m ((c.tc : Thread Cert.WoutRefIdeal.nD Cert.WoutRefIdeal.τ).loc Cert.WoutRefIdeal.main_arg2))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2))
      ∧ r.2.sem = fun _ => 0)

def quiescent_WinLow [hWinLow : Cert.WinLow.Facts] : Prop :=
  ∀ (m : (ℓ : Loc Cert.WinLow.nD Cert.WinLow.τ Cert.WinLow.sig) → Buf (Elt Bits) ℓ) (g : Dev Cert.WinLow.nD → PrngReg), Pre_WinLow m →
    θ_run (Cert.WinLow.defs (F := Bits)) (onTc (τ := Cert.WinLow.τ) (Cert.WinLow.main (F := Bits))) ⟨m, fun _ => 0, g⟩ (fun r => (∀ c : Dev Cert.WinLow.nD,
      r.2.mem ((c.tc : Thread Cert.WinLow.nD Cert.WinLow.τ).loc Cert.WinLow.main_arg0) = m ((c.tc : Thread Cert.WinLow.nD Cert.WinLow.τ).loc Cert.WinLow.main_arg0)
      ∧ r.2.mem ((c.tc : Thread Cert.WinLow.nD Cert.WinLow.τ).loc Cert.WinLow.main_arg1) = m ((c.tc : Thread Cert.WinLow.nD Cert.WinLow.τ).loc Cert.WinLow.main_arg1)
      ∧ r.2.mem ((c.tc : Thread Cert.WinLow.nD Cert.WinLow.τ).loc Cert.WinLow.main_arg2) = m ((c.tc : Thread Cert.WinLow.nD Cert.WinLow.τ).loc Cert.WinLow.main_arg2))
      ∧ r.2.sem = fun _ => 0)

def quiescent_WinLowIdeal [hWinLowIdeal : Cert.WinLowIdeal.Facts] : Prop :=
  ∀ (m : (ℓ : Loc Cert.WinLowIdeal.nD Cert.WinLowIdeal.τ Cert.WinLowIdeal.sig) → Buf (Elt Ideal) ℓ) (g : Dev Cert.WinLowIdeal.nD → PrngReg), Pre_WinLowIdeal m →
    θ_run (Cert.WinLowIdeal.defs (F := Ideal)) (onTc (τ := Cert.WinLowIdeal.τ) (Cert.WinLowIdeal.main (F := Ideal))) ⟨m, fun _ => 0, g⟩ (fun r => (∀ c : Dev Cert.WinLowIdeal.nD,
      r.2.mem ((c.tc : Thread Cert.WinLowIdeal.nD Cert.WinLowIdeal.τ).loc Cert.WinLowIdeal.main_arg0) = m ((c.tc : Thread Cert.WinLowIdeal.nD Cert.WinLowIdeal.τ).loc Cert.WinLowIdeal.main_arg0)
      ∧ r.2.mem ((c.tc : Thread Cert.WinLowIdeal.nD Cert.WinLowIdeal.τ).loc Cert.WinLowIdeal.main_arg1) = m ((c.tc : Thread Cert.WinLowIdeal.nD Cert.WinLowIdeal.τ).loc Cert.WinLowIdeal.main_arg1)
      ∧ r.2.mem ((c.tc : Thread Cert.WinLowIdeal.nD Cert.WinLowIdeal.τ).loc Cert.WinLowIdeal.main_arg2) = m ((c.tc : Thread Cert.WinLowIdeal.nD Cert.WinLowIdeal.τ).loc Cert.WinLowIdeal.main_arg2))
      ∧ r.2.sem = fun _ => 0)

def quiescent_WinLowRefIdeal [hWinLowRefIdeal : Cert.WinLowRefIdeal.Facts] : Prop :=
  ∀ (m : (ℓ : Loc Cert.WinLowRefIdeal.nD Cert.WinLowRefIdeal.τ Cert.WinLowRefIdeal.sig) → Buf (Elt Ideal) ℓ) (g : Dev Cert.WinLowRefIdeal.nD → PrngReg), Pre_WinLowRefIdeal m →
    θ_run (Cert.WinLowRefIdeal.defs (F := Ideal)) (onTc (τ := Cert.WinLowRefIdeal.τ) (Cert.WinLowRefIdeal.main (F := Ideal))) ⟨m, fun _ => 0, g⟩ (fun r => (∀ c : Dev Cert.WinLowRefIdeal.nD,
      r.2.mem ((c.tc : Thread Cert.WinLowRefIdeal.nD Cert.WinLowRefIdeal.τ).loc Cert.WinLowRefIdeal.main_arg0) = m ((c.tc : Thread Cert.WinLowRefIdeal.nD Cert.WinLowRefIdeal.τ).loc Cert.WinLowRefIdeal.main_arg0)
      ∧ r.2.mem ((c.tc : Thread Cert.WinLowRefIdeal.nD Cert.WinLowRefIdeal.τ).loc Cert.WinLowRefIdeal.main_arg1) = m ((c.tc : Thread Cert.WinLowRefIdeal.nD Cert.WinLowRefIdeal.τ).loc Cert.WinLowRefIdeal.main_arg1)
      ∧ r.2.mem ((c.tc : Thread Cert.WinLowRefIdeal.nD Cert.WinLowRefIdeal.τ).loc Cert.WinLowRefIdeal.main_arg2) = m ((c.tc : Thread Cert.WinLowRefIdeal.nD Cert.WinLowRefIdeal.τ).loc Cert.WinLowRefIdeal.main_arg2))
      ∧ r.2.sem = fun _ => 0)

def quiescent_WinHigh [hWinHigh : Cert.WinHigh.Facts] : Prop :=
  ∀ (m : (ℓ : Loc Cert.WinHigh.nD Cert.WinHigh.τ Cert.WinHigh.sig) → Buf (Elt Bits) ℓ) (g : Dev Cert.WinHigh.nD → PrngReg), Pre_WinHigh m →
    θ_run (Cert.WinHigh.defs (F := Bits)) (onTc (τ := Cert.WinHigh.τ) (Cert.WinHigh.main (F := Bits))) ⟨m, fun _ => 0, g⟩ (fun r => (∀ c : Dev Cert.WinHigh.nD,
      r.2.mem ((c.tc : Thread Cert.WinHigh.nD Cert.WinHigh.τ).loc Cert.WinHigh.main_arg0) = m ((c.tc : Thread Cert.WinHigh.nD Cert.WinHigh.τ).loc Cert.WinHigh.main_arg0)
      ∧ r.2.mem ((c.tc : Thread Cert.WinHigh.nD Cert.WinHigh.τ).loc Cert.WinHigh.main_arg1) = m ((c.tc : Thread Cert.WinHigh.nD Cert.WinHigh.τ).loc Cert.WinHigh.main_arg1)
      ∧ r.2.mem ((c.tc : Thread Cert.WinHigh.nD Cert.WinHigh.τ).loc Cert.WinHigh.main_arg2) = m ((c.tc : Thread Cert.WinHigh.nD Cert.WinHigh.τ).loc Cert.WinHigh.main_arg2))
      ∧ r.2.sem = fun _ => 0)

def quiescent_WinHighIdeal [hWinHighIdeal : Cert.WinHighIdeal.Facts] : Prop :=
  ∀ (m : (ℓ : Loc Cert.WinHighIdeal.nD Cert.WinHighIdeal.τ Cert.WinHighIdeal.sig) → Buf (Elt Ideal) ℓ) (g : Dev Cert.WinHighIdeal.nD → PrngReg), Pre_WinHighIdeal m →
    θ_run (Cert.WinHighIdeal.defs (F := Ideal)) (onTc (τ := Cert.WinHighIdeal.τ) (Cert.WinHighIdeal.main (F := Ideal))) ⟨m, fun _ => 0, g⟩ (fun r => (∀ c : Dev Cert.WinHighIdeal.nD,
      r.2.mem ((c.tc : Thread Cert.WinHighIdeal.nD Cert.WinHighIdeal.τ).loc Cert.WinHighIdeal.main_arg0) = m ((c.tc : Thread Cert.WinHighIdeal.nD Cert.WinHighIdeal.τ).loc Cert.WinHighIdeal.main_arg0)
      ∧ r.2.mem ((c.tc : Thread Cert.WinHighIdeal.nD Cert.WinHighIdeal.τ).loc Cert.WinHighIdeal.main_arg1) = m ((c.tc : Thread Cert.WinHighIdeal.nD Cert.WinHighIdeal.τ).loc Cert.WinHighIdeal.main_arg1)
      ∧ r.2.mem ((c.tc : Thread Cert.WinHighIdeal.nD Cert.WinHighIdeal.τ).loc Cert.WinHighIdeal.main_arg2) = m ((c.tc : Thread Cert.WinHighIdeal.nD Cert.WinHighIdeal.τ).loc Cert.WinHighIdeal.main_arg2))
      ∧ r.2.sem = fun _ => 0)

def quiescent_WinHighRefIdeal [hWinHighRefIdeal : Cert.WinHighRefIdeal.Facts] : Prop :=
  ∀ (m : (ℓ : Loc Cert.WinHighRefIdeal.nD Cert.WinHighRefIdeal.τ Cert.WinHighRefIdeal.sig) → Buf (Elt Ideal) ℓ) (g : Dev Cert.WinHighRefIdeal.nD → PrngReg), Pre_WinHighRefIdeal m →
    θ_run (Cert.WinHighRefIdeal.defs (F := Ideal)) (onTc (τ := Cert.WinHighRefIdeal.τ) (Cert.WinHighRefIdeal.main (F := Ideal))) ⟨m, fun _ => 0, g⟩ (fun r => (∀ c : Dev Cert.WinHighRefIdeal.nD,
      r.2.mem ((c.tc : Thread Cert.WinHighRefIdeal.nD Cert.WinHighRefIdeal.τ).loc Cert.WinHighRefIdeal.main_arg0) = m ((c.tc : Thread Cert.WinHighRefIdeal.nD Cert.WinHighRefIdeal.τ).loc Cert.WinHighRefIdeal.main_arg0)
      ∧ r.2.mem ((c.tc : Thread Cert.WinHighRefIdeal.nD Cert.WinHighRefIdeal.τ).loc Cert.WinHighRefIdeal.main_arg1) = m ((c.tc : Thread Cert.WinHighRefIdeal.nD Cert.WinHighRefIdeal.τ).loc Cert.WinHighRefIdeal.main_arg1)
      ∧ r.2.mem ((c.tc : Thread Cert.WinHighRefIdeal.nD Cert.WinHighRefIdeal.τ).loc Cert.WinHighRefIdeal.main_arg2) = m ((c.tc : Thread Cert.WinHighRefIdeal.nD Cert.WinHighRefIdeal.τ).loc Cert.WinHighRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Mixin [hMixin : Cert.Mixin.Facts] : Prop :=
  ∀ (m : (ℓ : Loc Cert.Mixin.nD Cert.Mixin.τ Cert.Mixin.sig) → Buf (Elt Bits) ℓ) (g : Dev Cert.Mixin.nD → PrngReg), Pre_Mixin m →
    θ_run (Cert.Mixin.defs (F := Bits)) (onTc (τ := Cert.Mixin.τ) (Cert.Mixin.main (F := Bits))) ⟨m, fun _ => 0, g⟩ (fun r => (∀ c : Dev Cert.Mixin.nD,
      r.2.mem ((c.tc : Thread Cert.Mixin.nD Cert.Mixin.τ).loc Cert.Mixin.main_arg0) = m ((c.tc : Thread Cert.Mixin.nD Cert.Mixin.τ).loc Cert.Mixin.main_arg0)
      ∧ r.2.mem ((c.tc : Thread Cert.Mixin.nD Cert.Mixin.τ).loc Cert.Mixin.main_arg1) = m ((c.tc : Thread Cert.Mixin.nD Cert.Mixin.τ).loc Cert.Mixin.main_arg1))
      ∧ r.2.sem = fun _ => 0)

def quiescent_MixinIdeal [hMixinIdeal : Cert.MixinIdeal.Facts] : Prop :=
  ∀ (m : (ℓ : Loc Cert.MixinIdeal.nD Cert.MixinIdeal.τ Cert.MixinIdeal.sig) → Buf (Elt Ideal) ℓ) (g : Dev Cert.MixinIdeal.nD → PrngReg), Pre_MixinIdeal m →
    θ_run (Cert.MixinIdeal.defs (F := Ideal)) (onTc (τ := Cert.MixinIdeal.τ) (Cert.MixinIdeal.main (F := Ideal))) ⟨m, fun _ => 0, g⟩ (fun r => (∀ c : Dev Cert.MixinIdeal.nD,
      r.2.mem ((c.tc : Thread Cert.MixinIdeal.nD Cert.MixinIdeal.τ).loc Cert.MixinIdeal.main_arg0) = m ((c.tc : Thread Cert.MixinIdeal.nD Cert.MixinIdeal.τ).loc Cert.MixinIdeal.main_arg0)
      ∧ r.2.mem ((c.tc : Thread Cert.MixinIdeal.nD Cert.MixinIdeal.τ).loc Cert.MixinIdeal.main_arg1) = m ((c.tc : Thread Cert.MixinIdeal.nD Cert.MixinIdeal.τ).loc Cert.MixinIdeal.main_arg1))
      ∧ r.2.sem = fun _ => 0)

def quiescent_MixinRefIdeal [hMixinRefIdeal : Cert.MixinRefIdeal.Facts] : Prop :=
  ∀ (m : (ℓ : Loc Cert.MixinRefIdeal.nD Cert.MixinRefIdeal.τ Cert.MixinRefIdeal.sig) → Buf (Elt Ideal) ℓ) (g : Dev Cert.MixinRefIdeal.nD → PrngReg), Pre_MixinRefIdeal m →
    θ_run (Cert.MixinRefIdeal.defs (F := Ideal)) (onTc (τ := Cert.MixinRefIdeal.τ) (Cert.MixinRefIdeal.main (F := Ideal))) ⟨m, fun _ => 0, g⟩ (fun r => (∀ c : Dev Cert.MixinRefIdeal.nD,
      r.2.mem ((c.tc : Thread Cert.MixinRefIdeal.nD Cert.MixinRefIdeal.τ).loc Cert.MixinRefIdeal.main_arg0) = m ((c.tc : Thread Cert.MixinRefIdeal.nD Cert.MixinRefIdeal.τ).loc Cert.MixinRefIdeal.main_arg0)
      ∧ r.2.mem ((c.tc : Thread Cert.MixinRefIdeal.nD Cert.MixinRefIdeal.τ).loc Cert.MixinRefIdeal.main_arg1) = m ((c.tc : Thread Cert.MixinRefIdeal.nD Cert.MixinRefIdeal.τ).loc Cert.MixinRefIdeal.main_arg1))
      ∧ r.2.sem = fun _ => 0)

def quiescent_MixinGrad [hMixinGrad : Cert.MixinGrad.Facts] : Prop :=
  ∀ (m : (ℓ : Loc Cert.MixinGrad.nD Cert.MixinGrad.τ Cert.MixinGrad.sig) → Buf (Elt Bits) ℓ) (g : Dev Cert.MixinGrad.nD → PrngReg), Pre_MixinGrad m →
    θ_run (Cert.MixinGrad.defs (F := Bits)) (onTc (τ := Cert.MixinGrad.τ) (Cert.MixinGrad.main (F := Bits))) ⟨m, fun _ => 0, g⟩ (fun r => (∀ c : Dev Cert.MixinGrad.nD,
      r.2.mem ((c.tc : Thread Cert.MixinGrad.nD Cert.MixinGrad.τ).loc Cert.MixinGrad.main_arg0) = m ((c.tc : Thread Cert.MixinGrad.nD Cert.MixinGrad.τ).loc Cert.MixinGrad.main_arg0)
      ∧ r.2.mem ((c.tc : Thread Cert.MixinGrad.nD Cert.MixinGrad.τ).loc Cert.MixinGrad.main_arg1) = m ((c.tc : Thread Cert.MixinGrad.nD Cert.MixinGrad.τ).loc Cert.MixinGrad.main_arg1)
      ∧ r.2.mem ((c.tc : Thread Cert.MixinGrad.nD Cert.MixinGrad.τ).loc Cert.MixinGrad.main_arg2) = m ((c.tc : Thread Cert.MixinGrad.nD Cert.MixinGrad.τ).loc Cert.MixinGrad.main_arg2)
      ∧ r.2.mem ((c.tc : Thread Cert.MixinGrad.nD Cert.MixinGrad.τ).loc Cert.MixinGrad.main_arg3) = m ((c.tc : Thread Cert.MixinGrad.nD Cert.MixinGrad.τ).loc Cert.MixinGrad.main_arg3)
      ∧ r.2.mem ((c.tc : Thread Cert.MixinGrad.nD Cert.MixinGrad.τ).loc Cert.MixinGrad.main_arg4) = m ((c.tc : Thread Cert.MixinGrad.nD Cert.MixinGrad.τ).loc Cert.MixinGrad.main_arg4)
      ∧ r.2.mem ((c.tc : Thread Cert.MixinGrad.nD Cert.MixinGrad.τ).loc Cert.MixinGrad.main_arg5) = m ((c.tc : Thread Cert.MixinGrad.nD Cert.MixinGrad.τ).loc Cert.MixinGrad.main_arg5))
      ∧ r.2.sem = fun _ => 0)

def quiescent_MixinGradIdeal [hMixinGradIdeal : Cert.MixinGradIdeal.Facts] : Prop :=
  ∀ (m : (ℓ : Loc Cert.MixinGradIdeal.nD Cert.MixinGradIdeal.τ Cert.MixinGradIdeal.sig) → Buf (Elt Ideal) ℓ) (g : Dev Cert.MixinGradIdeal.nD → PrngReg), Pre_MixinGradIdeal m →
    θ_run (Cert.MixinGradIdeal.defs (F := Ideal)) (onTc (τ := Cert.MixinGradIdeal.τ) (Cert.MixinGradIdeal.main (F := Ideal))) ⟨m, fun _ => 0, g⟩ (fun r => (∀ c : Dev Cert.MixinGradIdeal.nD,
      r.2.mem ((c.tc : Thread Cert.MixinGradIdeal.nD Cert.MixinGradIdeal.τ).loc Cert.MixinGradIdeal.main_arg0) = m ((c.tc : Thread Cert.MixinGradIdeal.nD Cert.MixinGradIdeal.τ).loc Cert.MixinGradIdeal.main_arg0)
      ∧ r.2.mem ((c.tc : Thread Cert.MixinGradIdeal.nD Cert.MixinGradIdeal.τ).loc Cert.MixinGradIdeal.main_arg1) = m ((c.tc : Thread Cert.MixinGradIdeal.nD Cert.MixinGradIdeal.τ).loc Cert.MixinGradIdeal.main_arg1)
      ∧ r.2.mem ((c.tc : Thread Cert.MixinGradIdeal.nD Cert.MixinGradIdeal.τ).loc Cert.MixinGradIdeal.main_arg2) = m ((c.tc : Thread Cert.MixinGradIdeal.nD Cert.MixinGradIdeal.τ).loc Cert.MixinGradIdeal.main_arg2)
      ∧ r.2.mem ((c.tc : Thread Cert.MixinGradIdeal.nD Cert.MixinGradIdeal.τ).loc Cert.MixinGradIdeal.main_arg3) = m ((c.tc : Thread Cert.MixinGradIdeal.nD Cert.MixinGradIdeal.τ).loc Cert.MixinGradIdeal.main_arg3)
      ∧ r.2.mem ((c.tc : Thread Cert.MixinGradIdeal.nD Cert.MixinGradIdeal.τ).loc Cert.MixinGradIdeal.main_arg4) = m ((c.tc : Thread Cert.MixinGradIdeal.nD Cert.MixinGradIdeal.τ).loc Cert.MixinGradIdeal.main_arg4)
      ∧ r.2.mem ((c.tc : Thread Cert.MixinGradIdeal.nD Cert.MixinGradIdeal.τ).loc Cert.MixinGradIdeal.main_arg5) = m ((c.tc : Thread Cert.MixinGradIdeal.nD Cert.MixinGradIdeal.τ).loc Cert.MixinGradIdeal.main_arg5))
      ∧ r.2.sem = fun _ => 0)

def quiescent_MixinGradRefIdeal [hMixinGradRefIdeal : Cert.MixinGradRefIdeal.Facts] : Prop :=
  ∀ (m : (ℓ : Loc Cert.MixinGradRefIdeal.nD Cert.MixinGradRefIdeal.τ Cert.MixinGradRefIdeal.sig) → Buf (Elt Ideal) ℓ) (g : Dev Cert.MixinGradRefIdeal.nD → PrngReg), Pre_MixinGradRefIdeal m →
    θ_run (Cert.MixinGradRefIdeal.defs (F := Ideal)) (onTc (τ := Cert.MixinGradRefIdeal.τ) (Cert.MixinGradRefIdeal.main (F := Ideal))) ⟨m, fun _ => 0, g⟩ (fun r => (∀ c : Dev Cert.MixinGradRefIdeal.nD,
      r.2.mem ((c.tc : Thread Cert.MixinGradRefIdeal.nD Cert.MixinGradRefIdeal.τ).loc Cert.MixinGradRefIdeal.main_arg0) = m ((c.tc : Thread Cert.MixinGradRefIdeal.nD Cert.MixinGradRefIdeal.τ).loc Cert.MixinGradRefIdeal.main_arg0)
      ∧ r.2.mem ((c.tc : Thread Cert.MixinGradRefIdeal.nD Cert.MixinGradRefIdeal.τ).loc Cert.MixinGradRefIdeal.main_arg1) = m ((c.tc : Thread Cert.MixinGradRefIdeal.nD Cert.MixinGradRefIdeal.τ).loc Cert.MixinGradRefIdeal.main_arg1)
      ∧ r.2.mem ((c.tc : Thread Cert.MixinGradRefIdeal.nD Cert.MixinGradRefIdeal.τ).loc Cert.MixinGradRefIdeal.main_arg2) = m ((c.tc : Thread Cert.MixinGradRefIdeal.nD Cert.MixinGradRefIdeal.τ).loc Cert.MixinGradRefIdeal.main_arg2)
      ∧ r.2.mem ((c.tc : Thread Cert.MixinGradRefIdeal.nD Cert.MixinGradRefIdeal.τ).loc Cert.MixinGradRefIdeal.main_arg3) = m ((c.tc : Thread Cert.MixinGradRefIdeal.nD Cert.MixinGradRefIdeal.τ).loc Cert.MixinGradRefIdeal.main_arg3)
      ∧ r.2.mem ((c.tc : Thread Cert.MixinGradRefIdeal.nD Cert.MixinGradRefIdeal.τ).loc Cert.MixinGradRefIdeal.main_arg4) = m ((c.tc : Thread Cert.MixinGradRefIdeal.nD Cert.MixinGradRefIdeal.τ).loc Cert.MixinGradRefIdeal.main_arg4)
      ∧ r.2.mem ((c.tc : Thread Cert.MixinGradRefIdeal.nD Cert.MixinGradRefIdeal.τ).loc Cert.MixinGradRefIdeal.main_arg5) = m ((c.tc : Thread Cert.MixinGradRefIdeal.nD Cert.MixinGradRefIdeal.τ).loc Cert.MixinGradRefIdeal.main_arg5))
      ∧ r.2.sem = fun _ => 0)

def quiescent_MixinWUv [hMixinWUv : Cert.MixinWUv.Facts] : Prop :=
  ∀ (m : (ℓ : Loc Cert.MixinWUv.nD Cert.MixinWUv.τ Cert.MixinWUv.sig) → Buf (Elt Bits) ℓ) (g : Dev Cert.MixinWUv.nD → PrngReg), Pre_MixinWUv m →
    θ_run (Cert.MixinWUv.defs (F := Bits)) (onTc (τ := Cert.MixinWUv.τ) (Cert.MixinWUv.main (F := Bits))) ⟨m, fun _ => 0, g⟩ (fun r => (∀ c : Dev Cert.MixinWUv.nD,
      r.2.mem ((c.tc : Thread Cert.MixinWUv.nD Cert.MixinWUv.τ).loc Cert.MixinWUv.main_arg0) = m ((c.tc : Thread Cert.MixinWUv.nD Cert.MixinWUv.τ).loc Cert.MixinWUv.main_arg0)
      ∧ r.2.mem ((c.tc : Thread Cert.MixinWUv.nD Cert.MixinWUv.τ).loc Cert.MixinWUv.main_arg1) = m ((c.tc : Thread Cert.MixinWUv.nD Cert.MixinWUv.τ).loc Cert.MixinWUv.main_arg1)
      ∧ r.2.mem ((c.tc : Thread Cert.MixinWUv.nD Cert.MixinWUv.τ).loc Cert.MixinWUv.main_arg2) = m ((c.tc : Thread Cert.MixinWUv.nD Cert.MixinWUv.τ).loc Cert.MixinWUv.main_arg2)
      ∧ r.2.mem ((c.tc : Thread Cert.MixinWUv.nD Cert.MixinWUv.τ).loc Cert.MixinWUv.main_arg3) = m ((c.tc : Thread Cert.MixinWUv.nD Cert.MixinWUv.τ).loc Cert.MixinWUv.main_arg3))
      ∧ r.2.sem = fun _ => 0)

def quiescent_MixinWUvIdeal [hMixinWUvIdeal : Cert.MixinWUvIdeal.Facts] : Prop :=
  ∀ (m : (ℓ : Loc Cert.MixinWUvIdeal.nD Cert.MixinWUvIdeal.τ Cert.MixinWUvIdeal.sig) → Buf (Elt Ideal) ℓ) (g : Dev Cert.MixinWUvIdeal.nD → PrngReg), Pre_MixinWUvIdeal m →
    θ_run (Cert.MixinWUvIdeal.defs (F := Ideal)) (onTc (τ := Cert.MixinWUvIdeal.τ) (Cert.MixinWUvIdeal.main (F := Ideal))) ⟨m, fun _ => 0, g⟩ (fun r => (∀ c : Dev Cert.MixinWUvIdeal.nD,
      r.2.mem ((c.tc : Thread Cert.MixinWUvIdeal.nD Cert.MixinWUvIdeal.τ).loc Cert.MixinWUvIdeal.main_arg0) = m ((c.tc : Thread Cert.MixinWUvIdeal.nD Cert.MixinWUvIdeal.τ).loc Cert.MixinWUvIdeal.main_arg0)
      ∧ r.2.mem ((c.tc : Thread Cert.MixinWUvIdeal.nD Cert.MixinWUvIdeal.τ).loc Cert.MixinWUvIdeal.main_arg1) = m ((c.tc : Thread Cert.MixinWUvIdeal.nD Cert.MixinWUvIdeal.τ).loc Cert.MixinWUvIdeal.main_arg1)
      ∧ r.2.mem ((c.tc : Thread Cert.MixinWUvIdeal.nD Cert.MixinWUvIdeal.τ).loc Cert.MixinWUvIdeal.main_arg2) = m ((c.tc : Thread Cert.MixinWUvIdeal.nD Cert.MixinWUvIdeal.τ).loc Cert.MixinWUvIdeal.main_arg2)
      ∧ r.2.mem ((c.tc : Thread Cert.MixinWUvIdeal.nD Cert.MixinWUvIdeal.τ).loc Cert.MixinWUvIdeal.main_arg3) = m ((c.tc : Thread Cert.MixinWUvIdeal.nD Cert.MixinWUvIdeal.τ).loc Cert.MixinWUvIdeal.main_arg3))
      ∧ r.2.sem = fun _ => 0)

def quiescent_MixinWUvRefIdeal [hMixinWUvRefIdeal : Cert.MixinWUvRefIdeal.Facts] : Prop :=
  ∀ (m : (ℓ : Loc Cert.MixinWUvRefIdeal.nD Cert.MixinWUvRefIdeal.τ Cert.MixinWUvRefIdeal.sig) → Buf (Elt Ideal) ℓ) (g : Dev Cert.MixinWUvRefIdeal.nD → PrngReg), Pre_MixinWUvRefIdeal m →
    θ_run (Cert.MixinWUvRefIdeal.defs (F := Ideal)) (onTc (τ := Cert.MixinWUvRefIdeal.τ) (Cert.MixinWUvRefIdeal.main (F := Ideal))) ⟨m, fun _ => 0, g⟩ (fun r => (∀ c : Dev Cert.MixinWUvRefIdeal.nD,
      r.2.mem ((c.tc : Thread Cert.MixinWUvRefIdeal.nD Cert.MixinWUvRefIdeal.τ).loc Cert.MixinWUvRefIdeal.main_arg0) = m ((c.tc : Thread Cert.MixinWUvRefIdeal.nD Cert.MixinWUvRefIdeal.τ).loc Cert.MixinWUvRefIdeal.main_arg0)
      ∧ r.2.mem ((c.tc : Thread Cert.MixinWUvRefIdeal.nD Cert.MixinWUvRefIdeal.τ).loc Cert.MixinWUvRefIdeal.main_arg1) = m ((c.tc : Thread Cert.MixinWUvRefIdeal.nD Cert.MixinWUvRefIdeal.τ).loc Cert.MixinWUvRefIdeal.main_arg1)
      ∧ r.2.mem ((c.tc : Thread Cert.MixinWUvRefIdeal.nD Cert.MixinWUvRefIdeal.τ).loc Cert.MixinWUvRefIdeal.main_arg2) = m ((c.tc : Thread Cert.MixinWUvRefIdeal.nD Cert.MixinWUvRefIdeal.τ).loc Cert.MixinWUvRefIdeal.main_arg2)
      ∧ r.2.mem ((c.tc : Thread Cert.MixinWUvRefIdeal.nD Cert.MixinWUvRefIdeal.τ).loc Cert.MixinWUvRefIdeal.main_arg3) = m ((c.tc : Thread Cert.MixinWUvRefIdeal.nD Cert.MixinWUvRefIdeal.τ).loc Cert.MixinWUvRefIdeal.main_arg3))
      ∧ r.2.sem = fun _ => 0)

def quiescent_SquareW [hSquareW : Cert.SquareW.Facts] : Prop :=
  ∀ (m : (ℓ : Loc Cert.SquareW.nD Cert.SquareW.τ Cert.SquareW.sig) → Buf (Elt Bits) ℓ) (g : Dev Cert.SquareW.nD → PrngReg), Pre_SquareW m →
    θ_run (Cert.SquareW.defs (F := Bits)) (onTc (τ := Cert.SquareW.τ) (Cert.SquareW.main (F := Bits))) ⟨m, fun _ => 0, g⟩ (fun r => (∀ c : Dev Cert.SquareW.nD,
      r.2.mem ((c.tc : Thread Cert.SquareW.nD Cert.SquareW.τ).loc Cert.SquareW.main_arg0) = m ((c.tc : Thread Cert.SquareW.nD Cert.SquareW.τ).loc Cert.SquareW.main_arg0)
      ∧ r.2.mem ((c.tc : Thread Cert.SquareW.nD Cert.SquareW.τ).loc Cert.SquareW.main_arg1) = m ((c.tc : Thread Cert.SquareW.nD Cert.SquareW.τ).loc Cert.SquareW.main_arg1)
      ∧ r.2.mem ((c.tc : Thread Cert.SquareW.nD Cert.SquareW.τ).loc Cert.SquareW.main_arg2) = m ((c.tc : Thread Cert.SquareW.nD Cert.SquareW.τ).loc Cert.SquareW.main_arg2))
      ∧ r.2.sem = fun _ => 0)

def quiescent_SquareWIdeal [hSquareWIdeal : Cert.SquareWIdeal.Facts] : Prop :=
  ∀ (m : (ℓ : Loc Cert.SquareWIdeal.nD Cert.SquareWIdeal.τ Cert.SquareWIdeal.sig) → Buf (Elt Ideal) ℓ) (g : Dev Cert.SquareWIdeal.nD → PrngReg), Pre_SquareWIdeal m →
    θ_run (Cert.SquareWIdeal.defs (F := Ideal)) (onTc (τ := Cert.SquareWIdeal.τ) (Cert.SquareWIdeal.main (F := Ideal))) ⟨m, fun _ => 0, g⟩ (fun r => (∀ c : Dev Cert.SquareWIdeal.nD,
      r.2.mem ((c.tc : Thread Cert.SquareWIdeal.nD Cert.SquareWIdeal.τ).loc Cert.SquareWIdeal.main_arg0) = m ((c.tc : Thread Cert.SquareWIdeal.nD Cert.SquareWIdeal.τ).loc Cert.SquareWIdeal.main_arg0)
      ∧ r.2.mem ((c.tc : Thread Cert.SquareWIdeal.nD Cert.SquareWIdeal.τ).loc Cert.SquareWIdeal.main_arg1) = m ((c.tc : Thread Cert.SquareWIdeal.nD Cert.SquareWIdeal.τ).loc Cert.SquareWIdeal.main_arg1)
      ∧ r.2.mem ((c.tc : Thread Cert.SquareWIdeal.nD Cert.SquareWIdeal.τ).loc Cert.SquareWIdeal.main_arg2) = m ((c.tc : Thread Cert.SquareWIdeal.nD Cert.SquareWIdeal.τ).loc Cert.SquareWIdeal.main_arg2))
      ∧ r.2.sem = fun _ => 0)

def quiescent_SquareWRefIdeal [hSquareWRefIdeal : Cert.SquareWRefIdeal.Facts] : Prop :=
  ∀ (m : (ℓ : Loc Cert.SquareWRefIdeal.nD Cert.SquareWRefIdeal.τ Cert.SquareWRefIdeal.sig) → Buf (Elt Ideal) ℓ) (g : Dev Cert.SquareWRefIdeal.nD → PrngReg), Pre_SquareWRefIdeal m →
    θ_run (Cert.SquareWRefIdeal.defs (F := Ideal)) (onTc (τ := Cert.SquareWRefIdeal.τ) (Cert.SquareWRefIdeal.main (F := Ideal))) ⟨m, fun _ => 0, g⟩ (fun r => (∀ c : Dev Cert.SquareWRefIdeal.nD,
      r.2.mem ((c.tc : Thread Cert.SquareWRefIdeal.nD Cert.SquareWRefIdeal.τ).loc Cert.SquareWRefIdeal.main_arg0) = m ((c.tc : Thread Cert.SquareWRefIdeal.nD Cert.SquareWRefIdeal.τ).loc Cert.SquareWRefIdeal.main_arg0)
      ∧ r.2.mem ((c.tc : Thread Cert.SquareWRefIdeal.nD Cert.SquareWRefIdeal.τ).loc Cert.SquareWRefIdeal.main_arg1) = m ((c.tc : Thread Cert.SquareWRefIdeal.nD Cert.SquareWRefIdeal.τ).loc Cert.SquareWRefIdeal.main_arg1)
      ∧ r.2.mem ((c.tc : Thread Cert.SquareWRefIdeal.nD Cert.SquareWRefIdeal.τ).loc Cert.SquareWRefIdeal.main_arg2) = m ((c.tc : Thread Cert.SquareWRefIdeal.nD Cert.SquareWRefIdeal.τ).loc Cert.SquareWRefIdeal.main_arg2))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1)
      ∧ r.2.mem ((c.tc : Thread Cert.UpW.nD Cert.UpW.τ).loc Cert.UpW.main_arg2) = m ((c.tc : Thread Cert.UpW.nD Cert.UpW.τ).loc Cert.UpW.main_arg2))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
      ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1)
      ∧ r.2.mem ((c.tc : Thread Cert.UpWRefIdeal.nD Cert.UpWRefIdeal.τ).loc Cert.UpWRefIdeal.main_arg2) = m ((c.tc : Thread Cert.UpWRefIdeal.nD Cert.UpWRefIdeal.τ).loc Cert.UpWRefIdeal.main_arg2))
      ∧ r.2.sem = fun _ => 0)

def quiescent_PleW [hPleW : Cert.PleW.Facts] : Prop :=
  ∀ (m : (ℓ : Loc Cert.PleW.nD Cert.PleW.τ Cert.PleW.sig) → Buf (Elt Bits) ℓ) (g : Dev Cert.PleW.nD → PrngReg), Pre_PleW m →
    θ_run (Cert.PleW.defs (F := Bits)) (onTc (τ := Cert.PleW.τ) (Cert.PleW.main (F := Bits))) ⟨m, fun _ => 0, g⟩ (fun r => (∀ c : Dev Cert.PleW.nD,
      r.2.mem ((c.tc : Thread Cert.PleW.nD Cert.PleW.τ).loc Cert.PleW.main_arg0) = m ((c.tc : Thread Cert.PleW.nD Cert.PleW.τ).loc Cert.PleW.main_arg0)
      ∧ r.2.mem ((c.tc : Thread Cert.PleW.nD Cert.PleW.τ).loc Cert.PleW.main_arg1) = m ((c.tc : Thread Cert.PleW.nD Cert.PleW.τ).loc Cert.PleW.main_arg1)
      ∧ r.2.mem ((c.tc : Thread Cert.PleW.nD Cert.PleW.τ).loc Cert.PleW.main_arg2) = m ((c.tc : Thread Cert.PleW.nD Cert.PleW.τ).loc Cert.PleW.main_arg2))
      ∧ r.2.sem = fun _ => 0)

def quiescent_PleWIdeal [hPleWIdeal : Cert.PleWIdeal.Facts] : Prop :=
  ∀ (m : (ℓ : Loc Cert.PleWIdeal.nD Cert.PleWIdeal.τ Cert.PleWIdeal.sig) → Buf (Elt Ideal) ℓ) (g : Dev Cert.PleWIdeal.nD → PrngReg), Pre_PleWIdeal m →
    θ_run (Cert.PleWIdeal.defs (F := Ideal)) (onTc (τ := Cert.PleWIdeal.τ) (Cert.PleWIdeal.main (F := Ideal))) ⟨m, fun _ => 0, g⟩ (fun r => (∀ c : Dev Cert.PleWIdeal.nD,
      r.2.mem ((c.tc : Thread Cert.PleWIdeal.nD Cert.PleWIdeal.τ).loc Cert.PleWIdeal.main_arg0) = m ((c.tc : Thread Cert.PleWIdeal.nD Cert.PleWIdeal.τ).loc Cert.PleWIdeal.main_arg0)
      ∧ r.2.mem ((c.tc : Thread Cert.PleWIdeal.nD Cert.PleWIdeal.τ).loc Cert.PleWIdeal.main_arg1) = m ((c.tc : Thread Cert.PleWIdeal.nD Cert.PleWIdeal.τ).loc Cert.PleWIdeal.main_arg1)
      ∧ r.2.mem ((c.tc : Thread Cert.PleWIdeal.nD Cert.PleWIdeal.τ).loc Cert.PleWIdeal.main_arg2) = m ((c.tc : Thread Cert.PleWIdeal.nD Cert.PleWIdeal.τ).loc Cert.PleWIdeal.main_arg2))
      ∧ r.2.sem = fun _ => 0)

def quiescent_PleWRefIdeal [hPleWRefIdeal : Cert.PleWRefIdeal.Facts] : Prop :=
  ∀ (m : (ℓ : Loc Cert.PleWRefIdeal.nD Cert.PleWRefIdeal.τ Cert.PleWRefIdeal.sig) → Buf (Elt Ideal) ℓ) (g : Dev Cert.PleWRefIdeal.nD → PrngReg), Pre_PleWRefIdeal m →
    θ_run (Cert.PleWRefIdeal.defs (F := Ideal)) (onTc (τ := Cert.PleWRefIdeal.τ) (Cert.PleWRefIdeal.main (F := Ideal))) ⟨m, fun _ => 0, g⟩ (fun r => (∀ c : Dev Cert.PleWRefIdeal.nD,
      r.2.mem ((c.tc : Thread Cert.PleWRefIdeal.nD Cert.PleWRefIdeal.τ).loc Cert.PleWRefIdeal.main_arg0) = m ((c.tc : Thread Cert.PleWRefIdeal.nD Cert.PleWRefIdeal.τ).loc Cert.PleWRefIdeal.main_arg0)
      ∧ r.2.mem ((c.tc : Thread Cert.PleWRefIdeal.nD Cert.PleWRefIdeal.τ).loc Cert.PleWRefIdeal.main_arg1) = m ((c.tc : Thread Cert.PleWRefIdeal.nD Cert.PleWRefIdeal.τ).loc Cert.PleWRefIdeal.main_arg1)
      ∧ r.2.mem ((c.tc : Thread Cert.PleWRefIdeal.nD Cert.PleWRefIdeal.τ).loc Cert.PleWRefIdeal.main_arg2) = m ((c.tc : Thread Cert.PleWRefIdeal.nD Cert.PleWRefIdeal.τ).loc Cert.PleWRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7)
      ∧ r.2.mem ((c.tc : Thread Cert.Loss.nD Cert.Loss.τ).loc Cert.Loss.main_arg8) = m ((c.tc : Thread Cert.Loss.nD Cert.Loss.τ).loc Cert.Loss.main_arg8))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8))
      ∧ r.2.sem = fun _ => 0)

def quiescent_Mixout [hMixout : Cert.Mixout.Facts] : Prop :=
  ∀ (m : (ℓ : Loc Cert.Mixout.nD Cert.Mixout.τ Cert.Mixout.sig) → Buf (Elt Bits) ℓ) (g : Dev Cert.Mixout.nD → PrngReg), Pre_Mixout m →
    θ_run (Cert.Mixout.defs (F := Bits)) (onTc (τ := Cert.Mixout.τ) (Cert.Mixout.main (F := Bits))) ⟨m, fun _ => 0, g⟩ (fun r => (∀ c : Dev Cert.Mixout.nD,
      r.2.mem ((c.tc : Thread Cert.Mixout.nD Cert.Mixout.τ).loc Cert.Mixout.main_arg0) = m ((c.tc : Thread Cert.Mixout.nD Cert.Mixout.τ).loc Cert.Mixout.main_arg0)
      ∧ r.2.mem ((c.tc : Thread Cert.Mixout.nD Cert.Mixout.τ).loc Cert.Mixout.main_arg1) = m ((c.tc : Thread Cert.Mixout.nD Cert.Mixout.τ).loc Cert.Mixout.main_arg1)
      ∧ r.2.mem ((c.tc : Thread Cert.Mixout.nD Cert.Mixout.τ).loc Cert.Mixout.main_arg2) = m ((c.tc : Thread Cert.Mixout.nD Cert.Mixout.τ).loc Cert.Mixout.main_arg2)
      ∧ r.2.mem ((c.tc : Thread Cert.Mixout.nD Cert.Mixout.τ).loc Cert.Mixout.main_arg3) = m ((c.tc : Thread Cert.Mixout.nD Cert.Mixout.τ).loc Cert.Mixout.main_arg3)
      ∧ r.2.mem ((c.tc : Thread Cert.Mixout.nD Cert.Mixout.τ).loc Cert.Mixout.main_arg4) = m ((c.tc : Thread Cert.Mixout.nD Cert.Mixout.τ).loc Cert.Mixout.main_arg4)
      ∧ r.2.mem ((c.tc : Thread Cert.Mixout.nD Cert.Mixout.τ).loc Cert.Mixout.main_arg5) = m ((c.tc : Thread Cert.Mixout.nD Cert.Mixout.τ).loc Cert.Mixout.main_arg5)
      ∧ r.2.mem ((c.tc : Thread Cert.Mixout.nD Cert.Mixout.τ).loc Cert.Mixout.main_arg6) = m ((c.tc : Thread Cert.Mixout.nD Cert.Mixout.τ).loc Cert.Mixout.main_arg6)
      ∧ r.2.mem ((c.tc : Thread Cert.Mixout.nD Cert.Mixout.τ).loc Cert.Mixout.main_arg7) = m ((c.tc : Thread Cert.Mixout.nD Cert.Mixout.τ).loc Cert.Mixout.main_arg7)
      ∧ r.2.mem ((c.tc : Thread Cert.Mixout.nD Cert.Mixout.τ).loc Cert.Mixout.main_arg8) = m ((c.tc : Thread Cert.Mixout.nD Cert.Mixout.τ).loc Cert.Mixout.main_arg8))
      ∧ r.2.sem = fun _ => 0)

def quiescent_MixoutIdeal [hMixoutIdeal : Cert.MixoutIdeal.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
      ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
      ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
      ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5)
      ∧ r.2.mem ((c.tc : Thread Cert.MixoutIdeal.nD Cert.MixoutIdeal.τ).loc Cert.MixoutIdeal.main_arg6) = m ((c.tc : Thread Cert.MixoutIdeal.nD Cert.MixoutIdeal.τ).loc Cert.MixoutIdeal.main_arg6)
      ∧ r.2.mem ((c.tc : Thread Cert.MixoutIdeal.nD Cert.MixoutIdeal.τ).loc Cert.MixoutIdeal.main_arg7) = m ((c.tc : Thread Cert.MixoutIdeal.nD Cert.MixoutIdeal.τ).loc Cert.MixoutIdeal.main_arg7)
      ∧ r.2.mem ((c.tc : Thread Cert.MixoutIdeal.nD Cert.MixoutIdeal.τ).loc Cert.MixoutIdeal.main_arg8) = m ((c.tc : Thread Cert.MixoutIdeal.nD Cert.MixoutIdeal.τ).loc Cert.MixoutIdeal.main_arg8))
      ∧ r.2.sem = fun _ => 0)

def quiescent_MixoutRefIdeal [hMixoutRefIdeal : Cert.MixoutRefIdeal.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1)
      ∧ r.2.mem ((c.tc : Thread Cert.MixoutRefIdeal.nD Cert.MixoutRefIdeal.τ).loc Cert.MixoutRefIdeal.main_arg2) = m ((c.tc : Thread Cert.MixoutRefIdeal.nD Cert.MixoutRefIdeal.τ).loc Cert.MixoutRefIdeal.main_arg2)
      ∧ r.2.mem ((c.tc : Thread Cert.MixoutRefIdeal.nD Cert.MixoutRefIdeal.τ).loc Cert.MixoutRefIdeal.main_arg3) = m ((c.tc : Thread Cert.MixoutRefIdeal.nD Cert.MixoutRefIdeal.τ).loc Cert.MixoutRefIdeal.main_arg3)
      ∧ r.2.mem ((c.tc : Thread Cert.MixoutRefIdeal.nD Cert.MixoutRefIdeal.τ).loc Cert.MixoutRefIdeal.main_arg4) = m ((c.tc : Thread Cert.MixoutRefIdeal.nD Cert.MixoutRefIdeal.τ).loc Cert.MixoutRefIdeal.main_arg4)
      ∧ r.2.mem ((c.tc : Thread Cert.MixoutRefIdeal.nD Cert.MixoutRefIdeal.τ).loc Cert.MixoutRefIdeal.main_arg5) = m ((c.tc : Thread Cert.MixoutRefIdeal.nD Cert.MixoutRefIdeal.τ).loc Cert.MixoutRefIdeal.main_arg5)
      ∧ r.2.mem ((c.tc : Thread Cert.MixoutRefIdeal.nD Cert.MixoutRefIdeal.τ).loc Cert.MixoutRefIdeal.main_arg6) = m ((c.tc : Thread Cert.MixoutRefIdeal.nD Cert.MixoutRefIdeal.τ).loc Cert.MixoutRefIdeal.main_arg6)
      ∧ r.2.mem ((c.tc : Thread Cert.MixoutRefIdeal.nD Cert.MixoutRefIdeal.τ).loc Cert.MixoutRefIdeal.main_arg7) = m ((c.tc : Thread Cert.MixoutRefIdeal.nD Cert.MixoutRefIdeal.τ).loc Cert.MixoutRefIdeal.main_arg7)
      ∧ r.2.mem ((c.tc : Thread Cert.MixoutRefIdeal.nD Cert.MixoutRefIdeal.τ).loc Cert.MixoutRefIdeal.main_arg8) = m ((c.tc : Thread Cert.MixoutRefIdeal.nD Cert.MixoutRefIdeal.τ).loc Cert.MixoutRefIdeal.main_arg8))
      ∧ r.2.sem = fun _ => 0)

def quiescent_MixoutGrad [hMixoutGrad : Cert.MixoutGrad.Facts] : Prop :=
  ∀ (m : (ℓ : Loc Cert.MixoutGrad.nD Cert.MixoutGrad.τ Cert.MixoutGrad.sig) → Buf (Elt Bits) ℓ) (g : Dev Cert.MixoutGrad.nD → PrngReg), Pre_MixoutGrad m →
    θ_run (Cert.MixoutGrad.defs (F := Bits)) (onTc (τ := Cert.MixoutGrad.τ) (Cert.MixoutGrad.main (F := Bits))) ⟨m, fun _ => 0, g⟩ (fun r => (∀ c : Dev Cert.MixoutGrad.nD,
      r.2.mem ((c.tc : Thread Cert.MixoutGrad.nD Cert.MixoutGrad.τ).loc Cert.MixoutGrad.main_arg0) = m ((c.tc : Thread Cert.MixoutGrad.nD Cert.MixoutGrad.τ).loc Cert.MixoutGrad.main_arg0)
      ∧ r.2.mem ((c.tc : Thread Cert.MixoutGrad.nD Cert.MixoutGrad.τ).loc Cert.MixoutGrad.main_arg1) = m ((c.tc : Thread Cert.MixoutGrad.nD Cert.MixoutGrad.τ).loc Cert.MixoutGrad.main_arg1)
      ∧ r.2.mem ((c.tc : Thread Cert.MixoutGrad.nD Cert.MixoutGrad.τ).loc Cert.MixoutGrad.main_arg2) = m ((c.tc : Thread Cert.MixoutGrad.nD Cert.MixoutGrad.τ).loc Cert.MixoutGrad.main_arg2)
      ∧ r.2.mem ((c.tc : Thread Cert.MixoutGrad.nD Cert.MixoutGrad.τ).loc Cert.MixoutGrad.main_arg3) = m ((c.tc : Thread Cert.MixoutGrad.nD Cert.MixoutGrad.τ).loc Cert.MixoutGrad.main_arg3)
      ∧ r.2.mem ((c.tc : Thread Cert.MixoutGrad.nD Cert.MixoutGrad.τ).loc Cert.MixoutGrad.main_arg4) = m ((c.tc : Thread Cert.MixoutGrad.nD Cert.MixoutGrad.τ).loc Cert.MixoutGrad.main_arg4)
      ∧ r.2.mem ((c.tc : Thread Cert.MixoutGrad.nD Cert.MixoutGrad.τ).loc Cert.MixoutGrad.main_arg5) = m ((c.tc : Thread Cert.MixoutGrad.nD Cert.MixoutGrad.τ).loc Cert.MixoutGrad.main_arg5)
      ∧ r.2.mem ((c.tc : Thread Cert.MixoutGrad.nD Cert.MixoutGrad.τ).loc Cert.MixoutGrad.main_arg6) = m ((c.tc : Thread Cert.MixoutGrad.nD Cert.MixoutGrad.τ).loc Cert.MixoutGrad.main_arg6)
      ∧ r.2.mem ((c.tc : Thread Cert.MixoutGrad.nD Cert.MixoutGrad.τ).loc Cert.MixoutGrad.main_arg7) = m ((c.tc : Thread Cert.MixoutGrad.nD Cert.MixoutGrad.τ).loc Cert.MixoutGrad.main_arg7)
      ∧ r.2.mem ((c.tc : Thread Cert.MixoutGrad.nD Cert.MixoutGrad.τ).loc Cert.MixoutGrad.main_arg8) = m ((c.tc : Thread Cert.MixoutGrad.nD Cert.MixoutGrad.τ).loc Cert.MixoutGrad.main_arg8)
      ∧ r.2.mem ((c.tc : Thread Cert.MixoutGrad.nD Cert.MixoutGrad.τ).loc Cert.MixoutGrad.main_arg9) = m ((c.tc : Thread Cert.MixoutGrad.nD Cert.MixoutGrad.τ).loc Cert.MixoutGrad.main_arg9))
      ∧ r.2.sem = fun _ => 0)

def quiescent_MixoutGradIdeal [hMixoutGradIdeal : Cert.MixoutGradIdeal.Facts] : Prop :=
  ∀ (m : (ℓ : Loc Cert.MixoutGradIdeal.nD Cert.MixoutGradIdeal.τ Cert.MixoutGradIdeal.sig) → Buf (Elt Ideal) ℓ) (g : Dev Cert.MixoutGradIdeal.nD → PrngReg), Pre_MixoutGradIdeal m →
    θ_run (Cert.MixoutGradIdeal.defs (F := Ideal)) (onTc (τ := Cert.MixoutGradIdeal.τ) (Cert.MixoutGradIdeal.main (F := Ideal))) ⟨m, fun _ => 0, g⟩ (fun r => (∀ c : Dev Cert.MixoutGradIdeal.nD,
      r.2.mem ((c.tc : Thread Cert.MixoutGradIdeal.nD Cert.MixoutGradIdeal.τ).loc Cert.MixoutGradIdeal.main_arg0) = m ((c.tc : Thread Cert.MixoutGradIdeal.nD Cert.MixoutGradIdeal.τ).loc Cert.MixoutGradIdeal.main_arg0)
      ∧ r.2.mem ((c.tc : Thread Cert.MixoutGradIdeal.nD Cert.MixoutGradIdeal.τ).loc Cert.MixoutGradIdeal.main_arg1) = m ((c.tc : Thread Cert.MixoutGradIdeal.nD Cert.MixoutGradIdeal.τ).loc Cert.MixoutGradIdeal.main_arg1)
      ∧ r.2.mem ((c.tc : Thread Cert.MixoutGradIdeal.nD Cert.MixoutGradIdeal.τ).loc Cert.MixoutGradIdeal.main_arg2) = m ((c.tc : Thread Cert.MixoutGradIdeal.nD Cert.MixoutGradIdeal.τ).loc Cert.MixoutGradIdeal.main_arg2)
      ∧ r.2.mem ((c.tc : Thread Cert.MixoutGradIdeal.nD Cert.MixoutGradIdeal.τ).loc Cert.MixoutGradIdeal.main_arg3) = m ((c.tc : Thread Cert.MixoutGradIdeal.nD Cert.MixoutGradIdeal.τ).loc Cert.MixoutGradIdeal.main_arg3)
      ∧ r.2.mem ((c.tc : Thread Cert.MixoutGradIdeal.nD Cert.MixoutGradIdeal.τ).loc Cert.MixoutGradIdeal.main_arg4) = m ((c.tc : Thread Cert.MixoutGradIdeal.nD Cert.MixoutGradIdeal.τ).loc Cert.MixoutGradIdeal.main_arg4)
      ∧ r.2.mem ((c.tc : Thread Cert.MixoutGradIdeal.nD Cert.MixoutGradIdeal.τ).loc Cert.MixoutGradIdeal.main_arg5) = m ((c.tc : Thread Cert.MixoutGradIdeal.nD Cert.MixoutGradIdeal.τ).loc Cert.MixoutGradIdeal.main_arg5)
      ∧ r.2.mem ((c.tc : Thread Cert.MixoutGradIdeal.nD Cert.MixoutGradIdeal.τ).loc Cert.MixoutGradIdeal.main_arg6) = m ((c.tc : Thread Cert.MixoutGradIdeal.nD Cert.MixoutGradIdeal.τ).loc Cert.MixoutGradIdeal.main_arg6)
      ∧ r.2.mem ((c.tc : Thread Cert.MixoutGradIdeal.nD Cert.MixoutGradIdeal.τ).loc Cert.MixoutGradIdeal.main_arg7) = m ((c.tc : Thread Cert.MixoutGradIdeal.nD Cert.MixoutGradIdeal.τ).loc Cert.MixoutGradIdeal.main_arg7)
      ∧ r.2.mem ((c.tc : Thread Cert.MixoutGradIdeal.nD Cert.MixoutGradIdeal.τ).loc Cert.MixoutGradIdeal.main_arg8) = m ((c.tc : Thread Cert.MixoutGradIdeal.nD Cert.MixoutGradIdeal.τ).loc Cert.MixoutGradIdeal.main_arg8)
      ∧ r.2.mem ((c.tc : Thread Cert.MixoutGradIdeal.nD Cert.MixoutGradIdeal.τ).loc Cert.MixoutGradIdeal.main_arg9) = m ((c.tc : Thread Cert.MixoutGradIdeal.nD Cert.MixoutGradIdeal.τ).loc Cert.MixoutGradIdeal.main_arg9))
      ∧ r.2.sem = fun _ => 0)

def quiescent_MixoutGradIdeal_pre_finite_mix [hMixoutGradIdeal : Cert.MixoutGradIdeal.Facts] [hPre_finite_mix : Cert.Pre_finite_mix.Facts] : Prop :=
  ∀ (m : (ℓ : Loc Cert.MixoutGradIdeal.nD Cert.MixoutGradIdeal.τ Cert.MixoutGradIdeal.sig) → Buf (Elt Ideal) ℓ) (g : Dev Cert.MixoutGradIdeal.nD → PrngReg), Pre_MixoutGradIdeal_finite_mix m →
    θ_run (Cert.MixoutGradIdeal.defs (F := Ideal)) (onTc (τ := Cert.MixoutGradIdeal.τ) (Cert.MixoutGradIdeal.main (F := Ideal))) ⟨m, fun _ => 0, g⟩ (fun r => (∀ c : Dev Cert.MixoutGradIdeal.nD,
      r.2.mem ((c.tc : Thread Cert.MixoutGradIdeal.nD Cert.MixoutGradIdeal.τ).loc Cert.MixoutGradIdeal.main_arg0) = m ((c.tc : Thread Cert.MixoutGradIdeal.nD Cert.MixoutGradIdeal.τ).loc Cert.MixoutGradIdeal.main_arg0)
      ∧ r.2.mem ((c.tc : Thread Cert.MixoutGradIdeal.nD Cert.MixoutGradIdeal.τ).loc Cert.MixoutGradIdeal.main_arg1) = m ((c.tc : Thread Cert.MixoutGradIdeal.nD Cert.MixoutGradIdeal.τ).loc Cert.MixoutGradIdeal.main_arg1)
      ∧ r.2.mem ((c.tc : Thread Cert.MixoutGradIdeal.nD Cert.MixoutGradIdeal.τ).loc Cert.MixoutGradIdeal.main_arg2) = m ((c.tc : Thread Cert.MixoutGradIdeal.nD Cert.MixoutGradIdeal.τ).loc Cert.MixoutGradIdeal.main_arg2)
      ∧ r.2.mem ((c.tc : Thread Cert.MixoutGradIdeal.nD Cert.MixoutGradIdeal.τ).loc Cert.MixoutGradIdeal.main_arg3) = m ((c.tc : Thread Cert.MixoutGradIdeal.nD Cert.MixoutGradIdeal.τ).loc Cert.MixoutGradIdeal.main_arg3)
      ∧ r.2.mem ((c.tc : Thread Cert.MixoutGradIdeal.nD Cert.MixoutGradIdeal.τ).loc Cert.MixoutGradIdeal.main_arg4) = m ((c.tc : Thread Cert.MixoutGradIdeal.nD Cert.MixoutGradIdeal.τ).loc Cert.MixoutGradIdeal.main_arg4)
      ∧ r.2.mem ((c.tc : Thread Cert.MixoutGradIdeal.nD Cert.MixoutGradIdeal.τ).loc Cert.MixoutGradIdeal.main_arg5) = m ((c.tc : Thread Cert.MixoutGradIdeal.nD Cert.MixoutGradIdeal.τ).loc Cert.MixoutGradIdeal.main_arg5)
      ∧ r.2.mem ((c.tc : Thread Cert.MixoutGradIdeal.nD Cert.MixoutGradIdeal.τ).loc Cert.MixoutGradIdeal.main_arg6) = m ((c.tc : Thread Cert.MixoutGradIdeal.nD Cert.MixoutGradIdeal.τ).loc Cert.MixoutGradIdeal.main_arg6)
      ∧ r.2.mem ((c.tc : Thread Cert.MixoutGradIdeal.nD Cert.MixoutGradIdeal.τ).loc Cert.MixoutGradIdeal.main_arg7) = m ((c.tc : Thread Cert.MixoutGradIdeal.nD Cert.MixoutGradIdeal.τ).loc Cert.MixoutGradIdeal.main_arg7)
      ∧ r.2.mem ((c.tc : Thread Cert.MixoutGradIdeal.nD Cert.MixoutGradIdeal.τ).loc Cert.MixoutGradIdeal.main_arg8) = m ((c.tc : Thread Cert.MixoutGradIdeal.nD Cert.MixoutGradIdeal.τ).loc Cert.MixoutGradIdeal.main_arg8)
      ∧ r.2.mem ((c.tc : Thread Cert.MixoutGradIdeal.nD Cert.MixoutGradIdeal.τ).loc Cert.MixoutGradIdeal.main_arg9) = m ((c.tc : Thread Cert.MixoutGradIdeal.nD Cert.MixoutGradIdeal.τ).loc Cert.MixoutGradIdeal.main_arg9))
      ∧ r.2.sem = fun _ => 0)

def quiescent_MixoutGradRefIdeal [hMixoutGradRefIdeal : Cert.MixoutGradRefIdeal.Facts] : Prop :=
  ∀ (m : (ℓ : Loc Cert.MixoutGradRefIdeal.nD Cert.MixoutGradRefIdeal.τ Cert.MixoutGradRefIdeal.sig) → Buf (Elt Ideal) ℓ) (g : Dev Cert.MixoutGradRefIdeal.nD → PrngReg), Pre_MixoutGradRefIdeal m →
    θ_run (Cert.MixoutGradRefIdeal.defs (F := Ideal)) (onTc (τ := Cert.MixoutGradRefIdeal.τ) (Cert.MixoutGradRefIdeal.main (F := Ideal))) ⟨m, fun _ => 0, g⟩ (fun r => (∀ c : Dev Cert.MixoutGradRefIdeal.nD,
      r.2.mem ((c.tc : Thread Cert.MixoutGradRefIdeal.nD Cert.MixoutGradRefIdeal.τ).loc Cert.MixoutGradRefIdeal.main_arg0) = m ((c.tc : Thread Cert.MixoutGradRefIdeal.nD Cert.MixoutGradRefIdeal.τ).loc Cert.MixoutGradRefIdeal.main_arg0)
      ∧ r.2.mem ((c.tc : Thread Cert.MixoutGradRefIdeal.nD Cert.MixoutGradRefIdeal.τ).loc Cert.MixoutGradRefIdeal.main_arg1) = m ((c.tc : Thread Cert.MixoutGradRefIdeal.nD Cert.MixoutGradRefIdeal.τ).loc Cert.MixoutGradRefIdeal.main_arg1)
      ∧ r.2.mem ((c.tc : Thread Cert.MixoutGradRefIdeal.nD Cert.MixoutGradRefIdeal.τ).loc Cert.MixoutGradRefIdeal.main_arg2) = m ((c.tc : Thread Cert.MixoutGradRefIdeal.nD Cert.MixoutGradRefIdeal.τ).loc Cert.MixoutGradRefIdeal.main_arg2)
      ∧ r.2.mem ((c.tc : Thread Cert.MixoutGradRefIdeal.nD Cert.MixoutGradRefIdeal.τ).loc Cert.MixoutGradRefIdeal.main_arg3) = m ((c.tc : Thread Cert.MixoutGradRefIdeal.nD Cert.MixoutGradRefIdeal.τ).loc Cert.MixoutGradRefIdeal.main_arg3)
      ∧ r.2.mem ((c.tc : Thread Cert.MixoutGradRefIdeal.nD Cert.MixoutGradRefIdeal.τ).loc Cert.MixoutGradRefIdeal.main_arg4) = m ((c.tc : Thread Cert.MixoutGradRefIdeal.nD Cert.MixoutGradRefIdeal.τ).loc Cert.MixoutGradRefIdeal.main_arg4)
      ∧ r.2.mem ((c.tc : Thread Cert.MixoutGradRefIdeal.nD Cert.MixoutGradRefIdeal.τ).loc Cert.MixoutGradRefIdeal.main_arg5) = m ((c.tc : Thread Cert.MixoutGradRefIdeal.nD Cert.MixoutGradRefIdeal.τ).loc Cert.MixoutGradRefIdeal.main_arg5)
      ∧ r.2.mem ((c.tc : Thread Cert.MixoutGradRefIdeal.nD Cert.MixoutGradRefIdeal.τ).loc Cert.MixoutGradRefIdeal.main_arg6) = m ((c.tc : Thread Cert.MixoutGradRefIdeal.nD Cert.MixoutGradRefIdeal.τ).loc Cert.MixoutGradRefIdeal.main_arg6)
      ∧ r.2.mem ((c.tc : Thread Cert.MixoutGradRefIdeal.nD Cert.MixoutGradRefIdeal.τ).loc Cert.MixoutGradRefIdeal.main_arg7) = m ((c.tc : Thread Cert.MixoutGradRefIdeal.nD Cert.MixoutGradRefIdeal.τ).loc Cert.MixoutGradRefIdeal.main_arg7)
      ∧ r.2.mem ((c.tc : Thread Cert.MixoutGradRefIdeal.nD Cert.MixoutGradRefIdeal.τ).loc Cert.MixoutGradRefIdeal.main_arg8) = m ((c.tc : Thread Cert.MixoutGradRefIdeal.nD Cert.MixoutGradRefIdeal.τ).loc Cert.MixoutGradRefIdeal.main_arg8)
      ∧ r.2.mem ((c.tc : Thread Cert.MixoutGradRefIdeal.nD Cert.MixoutGradRefIdeal.τ).loc Cert.MixoutGradRefIdeal.main_arg9) = m ((c.tc : Thread Cert.MixoutGradRefIdeal.nD Cert.MixoutGradRefIdeal.τ).loc Cert.MixoutGradRefIdeal.main_arg9))
      ∧ r.2.sem = fun _ => 0)

def quiescent_MixoutGradRefIdeal_pre_finite_mix [hMixoutGradRefIdeal : Cert.MixoutGradRefIdeal.Facts] [hPre_finite_mix : Cert.Pre_finite_mix.Facts] : Prop :=
  ∀ (m : (ℓ : Loc Cert.MixoutGradRefIdeal.nD Cert.MixoutGradRefIdeal.τ Cert.MixoutGradRefIdeal.sig) → Buf (Elt Ideal) ℓ) (g : Dev Cert.MixoutGradRefIdeal.nD → PrngReg), Pre_MixoutGradRefIdeal_finite_mix m →
    θ_run (Cert.MixoutGradRefIdeal.defs (F := Ideal)) (onTc (τ := Cert.MixoutGradRefIdeal.τ) (Cert.MixoutGradRefIdeal.main (F := Ideal))) ⟨m, fun _ => 0, g⟩ (fun r => (∀ c : Dev Cert.MixoutGradRefIdeal.nD,
      r.2.mem ((c.tc : Thread Cert.MixoutGradRefIdeal.nD Cert.MixoutGradRefIdeal.τ).loc Cert.MixoutGradRefIdeal.main_arg0) = m ((c.tc : Thread Cert.MixoutGradRefIdeal.nD Cert.MixoutGradRefIdeal.τ).loc Cert.MixoutGradRefIdeal.main_arg0)
      ∧ r.2.mem ((c.tc : Thread Cert.MixoutGradRefIdeal.nD Cert.MixoutGradRefIdeal.τ).loc Cert.MixoutGradRefIdeal.main_arg1) = m ((c.tc : Thread Cert.MixoutGradRefIdeal.nD Cert.MixoutGradRefIdeal.τ).loc Cert.MixoutGradRefIdeal.main_arg1)
      ∧ r.2.mem ((c.tc : Thread Cert.MixoutGradRefIdeal.nD Cert.MixoutGradRefIdeal.τ).loc Cert.MixoutGradRefIdeal.main_arg2) = m ((c.tc : Thread Cert.MixoutGradRefIdeal.nD Cert.MixoutGradRefIdeal.τ).loc Cert.MixoutGradRefIdeal.main_arg2)
      ∧ r.2.mem ((c.tc : Thread Cert.MixoutGradRefIdeal.nD Cert.MixoutGradRefIdeal.τ).loc Cert.MixoutGradRefIdeal.main_arg3) = m ((c.tc : Thread Cert.MixoutGradRefIdeal.nD Cert.MixoutGradRefIdeal.τ).loc Cert.MixoutGradRefIdeal.main_arg3)
      ∧ r.2.mem ((c.tc : Thread Cert.MixoutGradRefIdeal.nD Cert.MixoutGradRefIdeal.τ).loc Cert.MixoutGradRefIdeal.main_arg4) = m ((c.tc : Thread Cert.MixoutGradRefIdeal.nD Cert.MixoutGradRefIdeal.τ).loc Cert.MixoutGradRefIdeal.main_arg4)
      ∧ r.2.mem ((c.tc : Thread Cert.MixoutGradRefIdeal.nD Cert.MixoutGradRefIdeal.τ).loc Cert.MixoutGradRefIdeal.main_arg5) = m ((c.tc : Thread Cert.MixoutGradRefIdeal.nD Cert.MixoutGradRefIdeal.τ).loc Cert.MixoutGradRefIdeal.main_arg5)
      ∧ r.2.mem ((c.tc : Thread Cert.MixoutGradRefIdeal.nD Cert.MixoutGradRefIdeal.τ).loc Cert.MixoutGradRefIdeal.main_arg6) = m ((c.tc : Thread Cert.MixoutGradRefIdeal.nD Cert.MixoutGradRefIdeal.τ).loc Cert.MixoutGradRefIdeal.main_arg6)
      ∧ r.2.mem ((c.tc : Thread Cert.MixoutGradRefIdeal.nD Cert.MixoutGradRefIdeal.τ).loc Cert.MixoutGradRefIdeal.main_arg7) = m ((c.tc : Thread Cert.MixoutGradRefIdeal.nD Cert.MixoutGradRefIdeal.τ).loc Cert.MixoutGradRefIdeal.main_arg7)
      ∧ r.2.mem ((c.tc : Thread Cert.MixoutGradRefIdeal.nD Cert.MixoutGradRefIdeal.τ).loc Cert.MixoutGradRefIdeal.main_arg8) = m ((c.tc : Thread Cert.MixoutGradRefIdeal.nD Cert.MixoutGradRefIdeal.τ).loc Cert.MixoutGradRefIdeal.main_arg8)
      ∧ r.2.mem ((c.tc : Thread Cert.MixoutGradRefIdeal.nD Cert.MixoutGradRefIdeal.τ).loc Cert.MixoutGradRefIdeal.main_arg9) = m ((c.tc : Thread Cert.MixoutGradRefIdeal.nD Cert.MixoutGradRefIdeal.τ).loc Cert.MixoutGradRefIdeal.main_arg9))
      ∧ r.2.sem = fun _ => 0)

def quiescent_MixinWG [hMixinWG : Cert.MixinWG.Facts] : Prop :=
  ∀ (m : (ℓ : Loc Cert.MixinWG.nD Cert.MixinWG.τ Cert.MixinWG.sig) → Buf (Elt Bits) ℓ) (g : Dev Cert.MixinWG.nD → PrngReg), Pre_MixinWG m →
    θ_run (Cert.MixinWG.defs (F := Bits)) (onTc (τ := Cert.MixinWG.τ) (Cert.MixinWG.main (F := Bits))) ⟨m, fun _ => 0, g⟩ (fun r => (∀ c : Dev Cert.MixinWG.nD,
      r.2.mem ((c.tc : Thread Cert.MixinWG.nD Cert.MixinWG.τ).loc Cert.MixinWG.main_arg0) = m ((c.tc : Thread Cert.MixinWG.nD Cert.MixinWG.τ).loc Cert.MixinWG.main_arg0)
      ∧ r.2.mem ((c.tc : Thread Cert.MixinWG.nD Cert.MixinWG.τ).loc Cert.MixinWG.main_arg1) = m ((c.tc : Thread Cert.MixinWG.nD Cert.MixinWG.τ).loc Cert.MixinWG.main_arg1)
      ∧ r.2.mem ((c.tc : Thread Cert.MixinWG.nD Cert.MixinWG.τ).loc Cert.MixinWG.main_arg2) = m ((c.tc : Thread Cert.MixinWG.nD Cert.MixinWG.τ).loc Cert.MixinWG.main_arg2)
      ∧ r.2.mem ((c.tc : Thread Cert.MixinWG.nD Cert.MixinWG.τ).loc Cert.MixinWG.main_arg3) = m ((c.tc : Thread Cert.MixinWG.nD Cert.MixinWG.τ).loc Cert.MixinWG.main_arg3))
      ∧ r.2.sem = fun _ => 0)

def quiescent_MixinWGIdeal [hMixinWGIdeal : Cert.MixinWGIdeal.Facts] : Prop :=
  ∀ (m : (ℓ : Loc Cert.MixinWGIdeal.nD Cert.MixinWGIdeal.τ Cert.MixinWGIdeal.sig) → Buf (Elt Ideal) ℓ) (g : Dev Cert.MixinWGIdeal.nD → PrngReg), Pre_MixinWGIdeal m →
    θ_run (Cert.MixinWGIdeal.defs (F := Ideal)) (onTc (τ := Cert.MixinWGIdeal.τ) (Cert.MixinWGIdeal.main (F := Ideal))) ⟨m, fun _ => 0, g⟩ (fun r => (∀ c : Dev Cert.MixinWGIdeal.nD,
      r.2.mem ((c.tc : Thread Cert.MixinWGIdeal.nD Cert.MixinWGIdeal.τ).loc Cert.MixinWGIdeal.main_arg0) = m ((c.tc : Thread Cert.MixinWGIdeal.nD Cert.MixinWGIdeal.τ).loc Cert.MixinWGIdeal.main_arg0)
      ∧ r.2.mem ((c.tc : Thread Cert.MixinWGIdeal.nD Cert.MixinWGIdeal.τ).loc Cert.MixinWGIdeal.main_arg1) = m ((c.tc : Thread Cert.MixinWGIdeal.nD Cert.MixinWGIdeal.τ).loc Cert.MixinWGIdeal.main_arg1)
      ∧ r.2.mem ((c.tc : Thread Cert.MixinWGIdeal.nD Cert.MixinWGIdeal.τ).loc Cert.MixinWGIdeal.main_arg2) = m ((c.tc : Thread Cert.MixinWGIdeal.nD Cert.MixinWGIdeal.τ).loc Cert.MixinWGIdeal.main_arg2)
      ∧ r.2.mem ((c.tc : Thread Cert.MixinWGIdeal.nD Cert.MixinWGIdeal.τ).loc Cert.MixinWGIdeal.main_arg3) = m ((c.tc : Thread Cert.MixinWGIdeal.nD Cert.MixinWGIdeal.τ).loc Cert.MixinWGIdeal.main_arg3))
      ∧ r.2.sem = fun _ => 0)

def quiescent_MixinWGRefIdeal [hMixinWGRefIdeal : Cert.MixinWGRefIdeal.Facts] : Prop :=
  ∀ (m : (ℓ : Loc Cert.MixinWGRefIdeal.nD Cert.MixinWGRefIdeal.τ Cert.MixinWGRefIdeal.sig) → Buf (Elt Ideal) ℓ) (g : Dev Cert.MixinWGRefIdeal.nD → PrngReg), Pre_MixinWGRefIdeal m →
    θ_run (Cert.MixinWGRefIdeal.defs (F := Ideal)) (onTc (τ := Cert.MixinWGRefIdeal.τ) (Cert.MixinWGRefIdeal.main (F := Ideal))) ⟨m, fun _ => 0, g⟩ (fun r => (∀ c : Dev Cert.MixinWGRefIdeal.nD,
      r.2.mem ((c.tc : Thread Cert.MixinWGRefIdeal.nD Cert.MixinWGRefIdeal.τ).loc Cert.MixinWGRefIdeal.main_arg0) = m ((c.tc : Thread Cert.MixinWGRefIdeal.nD Cert.MixinWGRefIdeal.τ).loc Cert.MixinWGRefIdeal.main_arg0)
      ∧ r.2.mem ((c.tc : Thread Cert.MixinWGRefIdeal.nD Cert.MixinWGRefIdeal.τ).loc Cert.MixinWGRefIdeal.main_arg1) = m ((c.tc : Thread Cert.MixinWGRefIdeal.nD Cert.MixinWGRefIdeal.τ).loc Cert.MixinWGRefIdeal.main_arg1)
      ∧ r.2.mem ((c.tc : Thread Cert.MixinWGRefIdeal.nD Cert.MixinWGRefIdeal.τ).loc Cert.MixinWGRefIdeal.main_arg2) = m ((c.tc : Thread Cert.MixinWGRefIdeal.nD Cert.MixinWGRefIdeal.τ).loc Cert.MixinWGRefIdeal.main_arg2)
      ∧ r.2.mem ((c.tc : Thread Cert.MixinWGRefIdeal.nD Cert.MixinWGRefIdeal.τ).loc Cert.MixinWGRefIdeal.main_arg3) = m ((c.tc : Thread Cert.MixinWGRefIdeal.nD Cert.MixinWGRefIdeal.τ).loc Cert.MixinWGRefIdeal.main_arg3))
      ∧ r.2.sem = fun _ => 0)

def quiescent_SumLoss [hSumLoss : Cert.SumLoss.Facts] : Prop :=
  ∀ (m : (ℓ : Loc Cert.SumLoss.nD Cert.SumLoss.τ Cert.SumLoss.sig) → Buf (Elt Bits) ℓ) (g : Dev Cert.SumLoss.nD → PrngReg), Pre_SumLoss m →
    θ_run (Cert.SumLoss.defs (F := Bits)) (onTc (τ := Cert.SumLoss.τ) (Cert.SumLoss.main (F := Bits))) ⟨m, fun _ => 0, g⟩ (fun r => (∀ c : Dev Cert.SumLoss.nD,
      r.2.mem ((c.tc : Thread Cert.SumLoss.nD Cert.SumLoss.τ).loc Cert.SumLoss.main_arg0) = m ((c.tc : Thread Cert.SumLoss.nD Cert.SumLoss.τ).loc Cert.SumLoss.main_arg0))
      ∧ r.2.sem = fun _ => 0)

def quiescent_SumLossIdeal [hSumLossIdeal : Cert.SumLossIdeal.Facts] : Prop :=
  ∀ (m : (ℓ : Loc Cert.SumLossIdeal.nD Cert.SumLossIdeal.τ Cert.SumLossIdeal.sig) → Buf (Elt Ideal) ℓ) (g : Dev Cert.SumLossIdeal.nD → PrngReg), Pre_SumLossIdeal m →
    θ_run (Cert.SumLossIdeal.defs (F := Ideal)) (onTc (τ := Cert.SumLossIdeal.τ) (Cert.SumLossIdeal.main (F := Ideal))) ⟨m, fun _ => 0, g⟩ (fun r => (∀ c : Dev Cert.SumLossIdeal.nD,
      r.2.mem ((c.tc : Thread Cert.SumLossIdeal.nD Cert.SumLossIdeal.τ).loc Cert.SumLossIdeal.main_arg0) = m ((c.tc : Thread Cert.SumLossIdeal.nD Cert.SumLossIdeal.τ).loc Cert.SumLossIdeal.main_arg0))
      ∧ r.2.sem = fun _ => 0)

def quiescent_SumLossRefIdeal [hSumLossRefIdeal : Cert.SumLossRefIdeal.Facts] : Prop :=
  ∀ (m : (ℓ : Loc Cert.SumLossRefIdeal.nD Cert.SumLossRefIdeal.τ Cert.SumLossRefIdeal.sig) → Buf (Elt Ideal) ℓ) (g : Dev Cert.SumLossRefIdeal.nD → PrngReg), Pre_SumLossRefIdeal m →
    θ_run (Cert.SumLossRefIdeal.defs (F := Ideal)) (onTc (τ := Cert.SumLossRefIdeal.τ) (Cert.SumLossRefIdeal.main (F := Ideal))) ⟨m, fun _ => 0, g⟩ (fun r => (∀ c : Dev Cert.SumLossRefIdeal.nD,
      r.2.mem ((c.tc : Thread Cert.SumLossRefIdeal.nD Cert.SumLossRefIdeal.τ).loc Cert.SumLossRefIdeal.main_arg0) = m ((c.tc : Thread Cert.SumLossRefIdeal.nD Cert.SumLossRefIdeal.τ).loc Cert.SumLossRefIdeal.main_arg0))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3)
      ∧ r.2.mem ((c.tc : Thread Cert.AdamFfnOut.nD Cert.AdamFfnOut.τ).loc Cert.AdamFfnOut.main_arg4) = m ((c.tc : Thread Cert.AdamFfnOut.nD Cert.AdamFfnOut.τ).loc Cert.AdamFfnOut.main_arg4))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
      ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3)
      ∧ r.2.mem ((c.tc : Thread Cert.AdamFfnOutRefIdeal.nD Cert.AdamFfnOutRefIdeal.τ).loc Cert.AdamFfnOutRefIdeal.main_arg4) = m ((c.tc : Thread Cert.AdamFfnOutRefIdeal.nD Cert.AdamFfnOutRefIdeal.τ).loc Cert.AdamFfnOutRefIdeal.main_arg4))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3)
      ∧ r.2.mem ((c.tc : Thread Cert.AdamFfnIn.nD Cert.AdamFfnIn.τ).loc Cert.AdamFfnIn.main_arg4) = m ((c.tc : Thread Cert.AdamFfnIn.nD Cert.AdamFfnIn.τ).loc Cert.AdamFfnIn.main_arg4))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
      ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3)
      ∧ r.2.mem ((c.tc : Thread Cert.AdamFfnInRefIdeal.nD Cert.AdamFfnInRefIdeal.τ).loc Cert.AdamFfnInRefIdeal.main_arg4) = m ((c.tc : Thread Cert.AdamFfnInRefIdeal.nD Cert.AdamFfnInRefIdeal.τ).loc Cert.AdamFfnInRefIdeal.main_arg4))
      ∧ r.2.sem = fun _ => 0)

def quiescent_AdamMixIn [hAdamMixIn : Cert.AdamMixIn.Facts] : Prop :=
  ∀ (m : (ℓ : Loc Cert.AdamMixIn.nD Cert.AdamMixIn.τ Cert.AdamMixIn.sig) → Buf (Elt Bits) ℓ) (g : Dev Cert.AdamMixIn.nD → PrngReg), Pre_AdamMixIn m →
    θ_run (Cert.AdamMixIn.defs (F := Bits)) (onTc (τ := Cert.AdamMixIn.τ) (Cert.AdamMixIn.main (F := Bits))) ⟨m, fun _ => 0, g⟩ (fun r => (∀ c : Dev Cert.AdamMixIn.nD,
      r.2.mem ((c.tc : Thread Cert.AdamMixIn.nD Cert.AdamMixIn.τ).loc Cert.AdamMixIn.main_arg0) = m ((c.tc : Thread Cert.AdamMixIn.nD Cert.AdamMixIn.τ).loc Cert.AdamMixIn.main_arg0)
      ∧ r.2.mem ((c.tc : Thread Cert.AdamMixIn.nD Cert.AdamMixIn.τ).loc Cert.AdamMixIn.main_arg1) = m ((c.tc : Thread Cert.AdamMixIn.nD Cert.AdamMixIn.τ).loc Cert.AdamMixIn.main_arg1)
      ∧ r.2.mem ((c.tc : Thread Cert.AdamMixIn.nD Cert.AdamMixIn.τ).loc Cert.AdamMixIn.main_arg2) = m ((c.tc : Thread Cert.AdamMixIn.nD Cert.AdamMixIn.τ).loc Cert.AdamMixIn.main_arg2)
      ∧ r.2.mem ((c.tc : Thread Cert.AdamMixIn.nD Cert.AdamMixIn.τ).loc Cert.AdamMixIn.main_arg3) = m ((c.tc : Thread Cert.AdamMixIn.nD Cert.AdamMixIn.τ).loc Cert.AdamMixIn.main_arg3)
      ∧ r.2.mem ((c.tc : Thread Cert.AdamMixIn.nD Cert.AdamMixIn.τ).loc Cert.AdamMixIn.main_arg4) = m ((c.tc : Thread Cert.AdamMixIn.nD Cert.AdamMixIn.τ).loc Cert.AdamMixIn.main_arg4))
      ∧ r.2.sem = fun _ => 0)

def quiescent_AdamMixInIdeal [hAdamMixInIdeal : Cert.AdamMixInIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg), Pre_AdamMixInIdeal m →
    θ_run (Cert.AdamMixInIdeal.defs (F := Ideal)) (onTc (τ := Cert.AdamMixInIdeal.τ) (Cert.AdamMixInIdeal.main (F := Ideal))) ⟨m, fun _ => 0, g⟩ (fun r => (∀ c : Dev Cert.AdamMixInIdeal.nD,
      r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
      ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
      ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
      ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3)
      ∧ r.2.mem ((c.tc : Thread Cert.AdamMixInIdeal.nD Cert.AdamMixInIdeal.τ).loc Cert.AdamMixInIdeal.main_arg4) = m ((c.tc : Thread Cert.AdamMixInIdeal.nD Cert.AdamMixInIdeal.τ).loc Cert.AdamMixInIdeal.main_arg4))
      ∧ r.2.sem = fun _ => 0)

def quiescent_AdamMixInRefIdeal [hAdamMixInRefIdeal : Cert.AdamMixInRefIdeal.Facts] : Prop :=
  ∀ (m : (ℓ : Loc Cert.AdamMixInRefIdeal.nD Cert.AdamMixInRefIdeal.τ Cert.AdamMixInRefIdeal.sig) → Buf (Elt Ideal) ℓ) (g : Dev Cert.AdamMixInRefIdeal.nD → PrngReg), Pre_AdamMixInRefIdeal m →
    θ_run (Cert.AdamMixInRefIdeal.defs (F := Ideal)) (onTc (τ := Cert.AdamMixInRefIdeal.τ) (Cert.AdamMixInRefIdeal.main (F := Ideal))) ⟨m, fun _ => 0, g⟩ (fun r => (∀ c : Dev Cert.AdamMixInRefIdeal.nD,
      r.2.mem ((c.tc : Thread Cert.AdamMixInRefIdeal.nD Cert.AdamMixInRefIdeal.τ).loc Cert.AdamMixInRefIdeal.main_arg0) = m ((c.tc : Thread Cert.AdamMixInRefIdeal.nD Cert.AdamMixInRefIdeal.τ).loc Cert.AdamMixInRefIdeal.main_arg0)
      ∧ r.2.mem ((c.tc : Thread Cert.AdamMixInRefIdeal.nD Cert.AdamMixInRefIdeal.τ).loc Cert.AdamMixInRefIdeal.main_arg1) = m ((c.tc : Thread Cert.AdamMixInRefIdeal.nD Cert.AdamMixInRefIdeal.τ).loc Cert.AdamMixInRefIdeal.main_arg1)
      ∧ r.2.mem ((c.tc : Thread Cert.AdamMixInRefIdeal.nD Cert.AdamMixInRefIdeal.τ).loc Cert.AdamMixInRefIdeal.main_arg2) = m ((c.tc : Thread Cert.AdamMixInRefIdeal.nD Cert.AdamMixInRefIdeal.τ).loc Cert.AdamMixInRefIdeal.main_arg2)
      ∧ r.2.mem ((c.tc : Thread Cert.AdamMixInRefIdeal.nD Cert.AdamMixInRefIdeal.τ).loc Cert.AdamMixInRefIdeal.main_arg3) = m ((c.tc : Thread Cert.AdamMixInRefIdeal.nD Cert.AdamMixInRefIdeal.τ).loc Cert.AdamMixInRefIdeal.main_arg3)
      ∧ r.2.mem ((c.tc : Thread Cert.AdamMixInRefIdeal.nD Cert.AdamMixInRefIdeal.τ).loc Cert.AdamMixInRefIdeal.main_arg4) = m ((c.tc : Thread Cert.AdamMixInRefIdeal.nD Cert.AdamMixInRefIdeal.τ).loc Cert.AdamMixInRefIdeal.main_arg4))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3)
      ∧ r.2.mem ((c.tc : Thread Cert.AdamGlu.nD Cert.AdamGlu.τ).loc Cert.AdamGlu.main_arg4) = m ((c.tc : Thread Cert.AdamGlu.nD Cert.AdamGlu.τ).loc Cert.AdamGlu.main_arg4))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
      ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3)
      ∧ r.2.mem ((c.tc : Thread Cert.AdamGluRefIdeal.nD Cert.AdamGluRefIdeal.τ).loc Cert.AdamGluRefIdeal.main_arg4) = m ((c.tc : Thread Cert.AdamGluRefIdeal.nD Cert.AdamGluRefIdeal.τ).loc Cert.AdamGluRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3)
      ∧ r.2.mem ((c.tc : Thread Cert.AdamSquare.nD Cert.AdamSquare.τ).loc Cert.AdamSquare.main_arg4) = m ((c.tc : Thread Cert.AdamSquare.nD Cert.AdamSquare.τ).loc Cert.AdamSquare.main_arg4))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
      ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3)
      ∧ r.2.mem ((c.tc : Thread Cert.AdamSquareRefIdeal.nD Cert.AdamSquareRefIdeal.τ).loc Cert.AdamSquareRefIdeal.main_arg4) = m ((c.tc : Thread Cert.AdamSquareRefIdeal.nD Cert.AdamSquareRefIdeal.τ).loc Cert.AdamSquareRefIdeal.main_arg4))
      ∧ r.2.sem = fun _ => 0)

def quiescent_AdamPle [hAdamPle : Cert.AdamPle.Facts] : Prop :=
  ∀ (m : (ℓ : Loc Cert.AdamPle.nD Cert.AdamPle.τ Cert.AdamPle.sig) → Buf (Elt Bits) ℓ) (g : Dev Cert.AdamPle.nD → PrngReg), Pre_AdamPle m →
    θ_run (Cert.AdamPle.defs (F := Bits)) (onTc (τ := Cert.AdamPle.τ) (Cert.AdamPle.main (F := Bits))) ⟨m, fun _ => 0, g⟩ (fun r => (∀ c : Dev Cert.AdamPle.nD,
      r.2.mem ((c.tc : Thread Cert.AdamPle.nD Cert.AdamPle.τ).loc Cert.AdamPle.main_arg0) = m ((c.tc : Thread Cert.AdamPle.nD Cert.AdamPle.τ).loc Cert.AdamPle.main_arg0)
      ∧ r.2.mem ((c.tc : Thread Cert.AdamPle.nD Cert.AdamPle.τ).loc Cert.AdamPle.main_arg1) = m ((c.tc : Thread Cert.AdamPle.nD Cert.AdamPle.τ).loc Cert.AdamPle.main_arg1)
      ∧ r.2.mem ((c.tc : Thread Cert.AdamPle.nD Cert.AdamPle.τ).loc Cert.AdamPle.main_arg2) = m ((c.tc : Thread Cert.AdamPle.nD Cert.AdamPle.τ).loc Cert.AdamPle.main_arg2)
      ∧ r.2.mem ((c.tc : Thread Cert.AdamPle.nD Cert.AdamPle.τ).loc Cert.AdamPle.main_arg3) = m ((c.tc : Thread Cert.AdamPle.nD Cert.AdamPle.τ).loc Cert.AdamPle.main_arg3)
      ∧ r.2.mem ((c.tc : Thread Cert.AdamPle.nD Cert.AdamPle.τ).loc Cert.AdamPle.main_arg4) = m ((c.tc : Thread Cert.AdamPle.nD Cert.AdamPle.τ).loc Cert.AdamPle.main_arg4))
      ∧ r.2.sem = fun _ => 0)

def quiescent_AdamPleIdeal [hAdamPleIdeal : Cert.AdamPleIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg), Pre_AdamPleIdeal m →
    θ_run (Cert.AdamPleIdeal.defs (F := Ideal)) (onTc (τ := Cert.AdamPleIdeal.τ) (Cert.AdamPleIdeal.main (F := Ideal))) ⟨m, fun _ => 0, g⟩ (fun r => (∀ c : Dev Cert.AdamPleIdeal.nD,
      r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
      ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
      ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
      ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3)
      ∧ r.2.mem ((c.tc : Thread Cert.AdamPleIdeal.nD Cert.AdamPleIdeal.τ).loc Cert.AdamPleIdeal.main_arg4) = m ((c.tc : Thread Cert.AdamPleIdeal.nD Cert.AdamPleIdeal.τ).loc Cert.AdamPleIdeal.main_arg4))
      ∧ r.2.sem = fun _ => 0)

def quiescent_AdamPleRefIdeal [hAdamPleRefIdeal : Cert.AdamPleRefIdeal.Facts] : Prop :=
  ∀ (m : (ℓ : Loc Cert.AdamPleRefIdeal.nD Cert.AdamPleRefIdeal.τ Cert.AdamPleRefIdeal.sig) → Buf (Elt Ideal) ℓ) (g : Dev Cert.AdamPleRefIdeal.nD → PrngReg), Pre_AdamPleRefIdeal m →
    θ_run (Cert.AdamPleRefIdeal.defs (F := Ideal)) (onTc (τ := Cert.AdamPleRefIdeal.τ) (Cert.AdamPleRefIdeal.main (F := Ideal))) ⟨m, fun _ => 0, g⟩ (fun r => (∀ c : Dev Cert.AdamPleRefIdeal.nD,
      r.2.mem ((c.tc : Thread Cert.AdamPleRefIdeal.nD Cert.AdamPleRefIdeal.τ).loc Cert.AdamPleRefIdeal.main_arg0) = m ((c.tc : Thread Cert.AdamPleRefIdeal.nD Cert.AdamPleRefIdeal.τ).loc Cert.AdamPleRefIdeal.main_arg0)
      ∧ r.2.mem ((c.tc : Thread Cert.AdamPleRefIdeal.nD Cert.AdamPleRefIdeal.τ).loc Cert.AdamPleRefIdeal.main_arg1) = m ((c.tc : Thread Cert.AdamPleRefIdeal.nD Cert.AdamPleRefIdeal.τ).loc Cert.AdamPleRefIdeal.main_arg1)
      ∧ r.2.mem ((c.tc : Thread Cert.AdamPleRefIdeal.nD Cert.AdamPleRefIdeal.τ).loc Cert.AdamPleRefIdeal.main_arg2) = m ((c.tc : Thread Cert.AdamPleRefIdeal.nD Cert.AdamPleRefIdeal.τ).loc Cert.AdamPleRefIdeal.main_arg2)
      ∧ r.2.mem ((c.tc : Thread Cert.AdamPleRefIdeal.nD Cert.AdamPleRefIdeal.τ).loc Cert.AdamPleRefIdeal.main_arg3) = m ((c.tc : Thread Cert.AdamPleRefIdeal.nD Cert.AdamPleRefIdeal.τ).loc Cert.AdamPleRefIdeal.main_arg3)
      ∧ r.2.mem ((c.tc : Thread Cert.AdamPleRefIdeal.nD Cert.AdamPleRefIdeal.τ).loc Cert.AdamPleRefIdeal.main_arg4) = m ((c.tc : Thread Cert.AdamPleRefIdeal.nD Cert.AdamPleRefIdeal.τ).loc Cert.AdamPleRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)) (v4 : (c : Dev Cert.KernelIdeal.nD) → Buf (Elt Ideal) ((c.tc : Thread Cert.KernelIdeal.nD Cert.KernelIdeal.τ).loc Cert.KernelIdeal.main_v35_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_v35_3) = v3 c
          ∧ r.2.mem ((c.tc : Thread Cert.KernelIdeal.nD Cert.KernelIdeal.τ).loc Cert.KernelIdeal.main_v35_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v92) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)
      ∧ m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2)) →
    ∃ (v0 : (c : Dev Cert.WoutIdeal.nD) → Buf (Elt Ideal) ((c.tc : Thread Cert.WoutIdeal.nD Cert.WoutIdeal.τ).loc Cert.WoutIdeal.main_v2_0)) (v1 : (c : Dev Cert.WoutIdeal.nD) → Buf (Elt Ideal) ((c.tc : Thread Cert.WoutIdeal.nD Cert.WoutIdeal.τ).loc Cert.WoutIdeal.main_v2_1)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v2_0) = v0 c
          ∧ r.2.mem ((c.tc : Thread Cert.WoutIdeal.nD Cert.WoutIdeal.τ).loc Cert.WoutIdeal.main_v2_1) = v1 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v2) = v0 c
          ∧ r.2.mem ((c.tc : Thread Cert.WoutRefIdeal.nD Cert.WoutRefIdeal.τ).loc Cert.WoutRefIdeal.main_v3) = v1 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1)
          ∧ r.2.mem ((c.tc : Thread Cert.WoutRefIdeal.nD Cert.WoutRefIdeal.τ).loc Cert.WoutRefIdeal.main_arg2) = m' ((c.tc : Thread Cert.WoutRefIdeal.nD Cert.WoutRefIdeal.τ).loc Cert.WoutRefIdeal.main_arg2))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)) →
    ∃ (v0 : (c : Dev Cert.WinIdeal.nD) → Buf (Elt Ideal) ((c.tc : Thread Cert.WinIdeal.nD Cert.WinIdeal.τ).loc Cert.WinIdeal.main_v3_0)) (v1 : (c : Dev Cert.WinIdeal.nD) → Buf (Elt Ideal) ((c.tc : Thread Cert.WinIdeal.nD Cert.WinIdeal.τ).loc Cert.WinIdeal.main_v3_1)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v3_0) = v0 c
          ∧ r.2.mem ((c.tc : Thread Cert.WinIdeal.nD Cert.WinIdeal.τ).loc Cert.WinIdeal.main_v3_1) = v1 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v2) = v0 c
          ∧ r.2.mem ((c.tc : Thread Cert.WinRefIdeal.nD Cert.WinRefIdeal.τ).loc Cert.WinRefIdeal.main_v3) = v1 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2))

def preserves_WinLow_WinLowIdeal : Prop :=
  True

def algebraic_WinLowIdeal_WinLowRefIdeal [hWinLowIdeal : Cert.WinLowIdeal.Facts] [hWinLowRefIdeal : Cert.WinLowRefIdeal.Facts] : Prop :=
  ∀ (m : (ℓ : Loc Cert.WinLowIdeal.nD Cert.WinLowIdeal.τ Cert.WinLowIdeal.sig) → Buf (Elt Ideal) ℓ) (g : Dev Cert.WinLowIdeal.nD → PrngReg)
    (m' : (ℓ : Loc Cert.WinLowRefIdeal.nD Cert.WinLowRefIdeal.τ Cert.WinLowRefIdeal.sig) → Buf (Elt Ideal) ℓ) (g' : Dev Cert.WinLowRefIdeal.nD → PrngReg), Pre_WinLowIdeal m →
    (∀ c : Dev Cert.WinLowIdeal.nD,
      m' ((c.tc : Thread Cert.WinLowRefIdeal.nD Cert.WinLowRefIdeal.τ).loc Cert.WinLowRefIdeal.main_arg0) = m ((c.tc : Thread Cert.WinLowIdeal.nD Cert.WinLowIdeal.τ).loc Cert.WinLowIdeal.main_arg0)
      ∧ m' ((c.tc : Thread Cert.WinLowRefIdeal.nD Cert.WinLowRefIdeal.τ).loc Cert.WinLowRefIdeal.main_arg1) = m ((c.tc : Thread Cert.WinLowIdeal.nD Cert.WinLowIdeal.τ).loc Cert.WinLowIdeal.main_arg1)
      ∧ m' ((c.tc : Thread Cert.WinLowRefIdeal.nD Cert.WinLowRefIdeal.τ).loc Cert.WinLowRefIdeal.main_arg2) = m ((c.tc : Thread Cert.WinLowIdeal.nD Cert.WinLowIdeal.τ).loc Cert.WinLowIdeal.main_arg2)) →
    ∃ (v0 : (c : Dev Cert.WinLowIdeal.nD) → Buf (Elt Ideal) ((c.tc : Thread Cert.WinLowIdeal.nD Cert.WinLowIdeal.τ).loc Cert.WinLowIdeal.main_v3_0)) (v1 : (c : Dev Cert.WinLowIdeal.nD) → Buf (Elt Ideal) ((c.tc : Thread Cert.WinLowIdeal.nD Cert.WinLowIdeal.τ).loc Cert.WinLowIdeal.main_v3_1)),
      θ_run (Cert.WinLowIdeal.defs (F := Ideal)) (onTc (τ := Cert.WinLowIdeal.τ) (Cert.WinLowIdeal.main (F := Ideal))) ⟨m, fun _ => 0, g⟩ (fun r => ∀ c : Dev Cert.WinLowIdeal.nD,
          r.2.mem ((c.tc : Thread Cert.WinLowIdeal.nD Cert.WinLowIdeal.τ).loc Cert.WinLowIdeal.main_v3_0) = v0 c
          ∧ r.2.mem ((c.tc : Thread Cert.WinLowIdeal.nD Cert.WinLowIdeal.τ).loc Cert.WinLowIdeal.main_v3_1) = v1 c
          ∧ r.2.mem ((c.tc : Thread Cert.WinLowIdeal.nD Cert.WinLowIdeal.τ).loc Cert.WinLowIdeal.main_arg0) = m ((c.tc : Thread Cert.WinLowIdeal.nD Cert.WinLowIdeal.τ).loc Cert.WinLowIdeal.main_arg0)
          ∧ r.2.mem ((c.tc : Thread Cert.WinLowIdeal.nD Cert.WinLowIdeal.τ).loc Cert.WinLowIdeal.main_arg1) = m ((c.tc : Thread Cert.WinLowIdeal.nD Cert.WinLowIdeal.τ).loc Cert.WinLowIdeal.main_arg1)
          ∧ r.2.mem ((c.tc : Thread Cert.WinLowIdeal.nD Cert.WinLowIdeal.τ).loc Cert.WinLowIdeal.main_arg2) = m ((c.tc : Thread Cert.WinLowIdeal.nD Cert.WinLowIdeal.τ).loc Cert.WinLowIdeal.main_arg2))
      ∧ θ_run (Cert.WinLowRefIdeal.defs (F := Ideal)) (onTc (τ := Cert.WinLowRefIdeal.τ) (Cert.WinLowRefIdeal.main (F := Ideal))) ⟨m', fun _ => 0, g'⟩ (fun r => ∀ c : Dev Cert.WinLowRefIdeal.nD,
          r.2.mem ((c.tc : Thread Cert.WinLowRefIdeal.nD Cert.WinLowRefIdeal.τ).loc Cert.WinLowRefIdeal.main_v3) = v0 c
          ∧ r.2.mem ((c.tc : Thread Cert.WinLowRefIdeal.nD Cert.WinLowRefIdeal.τ).loc Cert.WinLowRefIdeal.main_v4) = v1 c
          ∧ r.2.mem ((c.tc : Thread Cert.WinLowRefIdeal.nD Cert.WinLowRefIdeal.τ).loc Cert.WinLowRefIdeal.main_arg0) = m' ((c.tc : Thread Cert.WinLowRefIdeal.nD Cert.WinLowRefIdeal.τ).loc Cert.WinLowRefIdeal.main_arg0)
          ∧ r.2.mem ((c.tc : Thread Cert.WinLowRefIdeal.nD Cert.WinLowRefIdeal.τ).loc Cert.WinLowRefIdeal.main_arg1) = m' ((c.tc : Thread Cert.WinLowRefIdeal.nD Cert.WinLowRefIdeal.τ).loc Cert.WinLowRefIdeal.main_arg1)
          ∧ r.2.mem ((c.tc : Thread Cert.WinLowRefIdeal.nD Cert.WinLowRefIdeal.τ).loc Cert.WinLowRefIdeal.main_arg2) = m' ((c.tc : Thread Cert.WinLowRefIdeal.nD Cert.WinLowRefIdeal.τ).loc Cert.WinLowRefIdeal.main_arg2))

def preserves_WinHigh_WinHighIdeal : Prop :=
  True

def algebraic_WinHighIdeal_WinHighRefIdeal [hWinHighIdeal : Cert.WinHighIdeal.Facts] [hWinHighRefIdeal : Cert.WinHighRefIdeal.Facts] : Prop :=
  ∀ (m : (ℓ : Loc Cert.WinHighIdeal.nD Cert.WinHighIdeal.τ Cert.WinHighIdeal.sig) → Buf (Elt Ideal) ℓ) (g : Dev Cert.WinHighIdeal.nD → PrngReg)
    (m' : (ℓ : Loc Cert.WinHighRefIdeal.nD Cert.WinHighRefIdeal.τ Cert.WinHighRefIdeal.sig) → Buf (Elt Ideal) ℓ) (g' : Dev Cert.WinHighRefIdeal.nD → PrngReg), Pre_WinHighIdeal m →
    (∀ c : Dev Cert.WinHighIdeal.nD,
      m' ((c.tc : Thread Cert.WinHighRefIdeal.nD Cert.WinHighRefIdeal.τ).loc Cert.WinHighRefIdeal.main_arg0) = m ((c.tc : Thread Cert.WinHighIdeal.nD Cert.WinHighIdeal.τ).loc Cert.WinHighIdeal.main_arg0)
      ∧ m' ((c.tc : Thread Cert.WinHighRefIdeal.nD Cert.WinHighRefIdeal.τ).loc Cert.WinHighRefIdeal.main_arg1) = m ((c.tc : Thread Cert.WinHighIdeal.nD Cert.WinHighIdeal.τ).loc Cert.WinHighIdeal.main_arg1)
      ∧ m' ((c.tc : Thread Cert.WinHighRefIdeal.nD Cert.WinHighRefIdeal.τ).loc Cert.WinHighRefIdeal.main_arg2) = m ((c.tc : Thread Cert.WinHighIdeal.nD Cert.WinHighIdeal.τ).loc Cert.WinHighIdeal.main_arg2)) →
    ∃ (v0 : (c : Dev Cert.WinHighIdeal.nD) → Buf (Elt Ideal) ((c.tc : Thread Cert.WinHighIdeal.nD Cert.WinHighIdeal.τ).loc Cert.WinHighIdeal.main_v3_0)) (v1 : (c : Dev Cert.WinHighIdeal.nD) → Buf (Elt Ideal) ((c.tc : Thread Cert.WinHighIdeal.nD Cert.WinHighIdeal.τ).loc Cert.WinHighIdeal.main_v3_1)),
      θ_run (Cert.WinHighIdeal.defs (F := Ideal)) (onTc (τ := Cert.WinHighIdeal.τ) (Cert.WinHighIdeal.main (F := Ideal))) ⟨m, fun _ => 0, g⟩ (fun r => ∀ c : Dev Cert.WinHighIdeal.nD,
          r.2.mem ((c.tc : Thread Cert.WinHighIdeal.nD Cert.WinHighIdeal.τ).loc Cert.WinHighIdeal.main_v3_0) = v0 c
          ∧ r.2.mem ((c.tc : Thread Cert.WinHighIdeal.nD Cert.WinHighIdeal.τ).loc Cert.WinHighIdeal.main_v3_1) = v1 c
          ∧ r.2.mem ((c.tc : Thread Cert.WinHighIdeal.nD Cert.WinHighIdeal.τ).loc Cert.WinHighIdeal.main_arg0) = m ((c.tc : Thread Cert.WinHighIdeal.nD Cert.WinHighIdeal.τ).loc Cert.WinHighIdeal.main_arg0)
          ∧ r.2.mem ((c.tc : Thread Cert.WinHighIdeal.nD Cert.WinHighIdeal.τ).loc Cert.WinHighIdeal.main_arg1) = m ((c.tc : Thread Cert.WinHighIdeal.nD Cert.WinHighIdeal.τ).loc Cert.WinHighIdeal.main_arg1)
          ∧ r.2.mem ((c.tc : Thread Cert.WinHighIdeal.nD Cert.WinHighIdeal.τ).loc Cert.WinHighIdeal.main_arg2) = m ((c.tc : Thread Cert.WinHighIdeal.nD Cert.WinHighIdeal.τ).loc Cert.WinHighIdeal.main_arg2))
      ∧ θ_run (Cert.WinHighRefIdeal.defs (F := Ideal)) (onTc (τ := Cert.WinHighRefIdeal.τ) (Cert.WinHighRefIdeal.main (F := Ideal))) ⟨m', fun _ => 0, g'⟩ (fun r => ∀ c : Dev Cert.WinHighRefIdeal.nD,
          r.2.mem ((c.tc : Thread Cert.WinHighRefIdeal.nD Cert.WinHighRefIdeal.τ).loc Cert.WinHighRefIdeal.main_v3) = v0 c
          ∧ r.2.mem ((c.tc : Thread Cert.WinHighRefIdeal.nD Cert.WinHighRefIdeal.τ).loc Cert.WinHighRefIdeal.main_v4) = v1 c
          ∧ r.2.mem ((c.tc : Thread Cert.WinHighRefIdeal.nD Cert.WinHighRefIdeal.τ).loc Cert.WinHighRefIdeal.main_arg0) = m' ((c.tc : Thread Cert.WinHighRefIdeal.nD Cert.WinHighRefIdeal.τ).loc Cert.WinHighRefIdeal.main_arg0)
          ∧ r.2.mem ((c.tc : Thread Cert.WinHighRefIdeal.nD Cert.WinHighRefIdeal.τ).loc Cert.WinHighRefIdeal.main_arg1) = m' ((c.tc : Thread Cert.WinHighRefIdeal.nD Cert.WinHighRefIdeal.τ).loc Cert.WinHighRefIdeal.main_arg1)
          ∧ r.2.mem ((c.tc : Thread Cert.WinHighRefIdeal.nD Cert.WinHighRefIdeal.τ).loc Cert.WinHighRefIdeal.main_arg2) = m' ((c.tc : Thread Cert.WinHighRefIdeal.nD Cert.WinHighRefIdeal.τ).loc Cert.WinHighRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)) (v2 : (c : Dev Cert.ProjIdeal.nD) → Buf (Elt Ideal) ((c.tc : Thread Cert.ProjIdeal.nD Cert.ProjIdeal.τ).loc Cert.ProjIdeal.main_v3_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_v3_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_v5) = v1 c
          ∧ r.2.mem ((c.tc : Thread Cert.ProjRefIdeal.nD Cert.ProjRefIdeal.τ).loc Cert.ProjRefIdeal.main_v8) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v4_0)) (v1 : (c : Dev Cert.OutIdeal.nD) → Buf (Elt Ideal) ((c.tc : Thread Cert.OutIdeal.nD Cert.OutIdeal.τ).loc Cert.OutIdeal.main_v4_1)) (v2 : (c : Dev Cert.OutIdeal.nD) → Buf (Elt Ideal) ((c.tc : Thread Cert.OutIdeal.nD Cert.OutIdeal.τ).loc Cert.OutIdeal.main_v4_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4_0) = v0 c
          ∧ r.2.mem ((c.tc : Thread Cert.OutIdeal.nD Cert.OutIdeal.τ).loc Cert.OutIdeal.main_v4_1) = v1 c
          ∧ r.2.mem ((c.tc : Thread Cert.OutIdeal.nD Cert.OutIdeal.τ).loc Cert.OutIdeal.main_v4_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v43) = v0 c
          ∧ r.2.mem ((c.tc : Thread Cert.OutRefIdeal.nD Cert.OutRefIdeal.τ).loc Cert.OutRefIdeal.main_v47) = v1 c
          ∧ r.2.mem ((c.tc : Thread Cert.OutRefIdeal.nD Cert.OutRefIdeal.τ).loc Cert.OutRefIdeal.main_v19) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Mixin_MixinIdeal : Prop :=
  True

def algebraic_MixinIdeal_MixinRefIdeal [hMixinIdeal : Cert.MixinIdeal.Facts] [hMixinRefIdeal : Cert.MixinRefIdeal.Facts] : Prop :=
  ∀ (m : (ℓ : Loc Cert.MixinIdeal.nD Cert.MixinIdeal.τ Cert.MixinIdeal.sig) → Buf (Elt Ideal) ℓ) (g : Dev Cert.MixinIdeal.nD → PrngReg)
    (m' : (ℓ : Loc Cert.MixinRefIdeal.nD Cert.MixinRefIdeal.τ Cert.MixinRefIdeal.sig) → Buf (Elt Ideal) ℓ) (g' : Dev Cert.MixinRefIdeal.nD → PrngReg), Pre_MixinIdeal m →
    (∀ c : Dev Cert.MixinIdeal.nD,
      m' ((c.tc : Thread Cert.MixinRefIdeal.nD Cert.MixinRefIdeal.τ).loc Cert.MixinRefIdeal.main_arg0) = m ((c.tc : Thread Cert.MixinIdeal.nD Cert.MixinIdeal.τ).loc Cert.MixinIdeal.main_arg0)
      ∧ m' ((c.tc : Thread Cert.MixinRefIdeal.nD Cert.MixinRefIdeal.τ).loc Cert.MixinRefIdeal.main_arg1) = m ((c.tc : Thread Cert.MixinIdeal.nD Cert.MixinIdeal.τ).loc Cert.MixinIdeal.main_arg1)) →
    ∃ (v0 : (c : Dev Cert.MixinIdeal.nD) → Buf (Elt Ideal) ((c.tc : Thread Cert.MixinIdeal.nD Cert.MixinIdeal.τ).loc Cert.MixinIdeal.main_v1_0)) (v1 : (c : Dev Cert.MixinIdeal.nD) → Buf (Elt Ideal) ((c.tc : Thread Cert.MixinIdeal.nD Cert.MixinIdeal.τ).loc Cert.MixinIdeal.main_v1_1)) (v2 : (c : Dev Cert.MixinIdeal.nD) → Buf (Elt Ideal) ((c.tc : Thread Cert.MixinIdeal.nD Cert.MixinIdeal.τ).loc Cert.MixinIdeal.main_v1_2)) (v3 : (c : Dev Cert.MixinIdeal.nD) → Buf (Elt Ideal) ((c.tc : Thread Cert.MixinIdeal.nD Cert.MixinIdeal.τ).loc Cert.MixinIdeal.main_v1_3)),
      θ_run (Cert.MixinIdeal.defs (F := Ideal)) (onTc (τ := Cert.MixinIdeal.τ) (Cert.MixinIdeal.main (F := Ideal))) ⟨m, fun _ => 0, g⟩ (fun r => ∀ c : Dev Cert.MixinIdeal.nD,
          r.2.mem ((c.tc : Thread Cert.MixinIdeal.nD Cert.MixinIdeal.τ).loc Cert.MixinIdeal.main_v1_0) = v0 c
          ∧ r.2.mem ((c.tc : Thread Cert.MixinIdeal.nD Cert.MixinIdeal.τ).loc Cert.MixinIdeal.main_v1_1) = v1 c
          ∧ r.2.mem ((c.tc : Thread Cert.MixinIdeal.nD Cert.MixinIdeal.τ).loc Cert.MixinIdeal.main_v1_2) = v2 c
          ∧ r.2.mem ((c.tc : Thread Cert.MixinIdeal.nD Cert.MixinIdeal.τ).loc Cert.MixinIdeal.main_v1_3) = v3 c
          ∧ r.2.mem ((c.tc : Thread Cert.MixinIdeal.nD Cert.MixinIdeal.τ).loc Cert.MixinIdeal.main_arg0) = m ((c.tc : Thread Cert.MixinIdeal.nD Cert.MixinIdeal.τ).loc Cert.MixinIdeal.main_arg0)
          ∧ r.2.mem ((c.tc : Thread Cert.MixinIdeal.nD Cert.MixinIdeal.τ).loc Cert.MixinIdeal.main_arg1) = m ((c.tc : Thread Cert.MixinIdeal.nD Cert.MixinIdeal.τ).loc Cert.MixinIdeal.main_arg1))
      ∧ θ_run (Cert.MixinRefIdeal.defs (F := Ideal)) (onTc (τ := Cert.MixinRefIdeal.τ) (Cert.MixinRefIdeal.main (F := Ideal))) ⟨m', fun _ => 0, g'⟩ (fun r => ∀ c : Dev Cert.MixinRefIdeal.nD,
          r.2.mem ((c.tc : Thread Cert.MixinRefIdeal.nD Cert.MixinRefIdeal.τ).loc Cert.MixinRefIdeal.main_v5) = v0 c
          ∧ r.2.mem ((c.tc : Thread Cert.MixinRefIdeal.nD Cert.MixinRefIdeal.τ).loc Cert.MixinRefIdeal.main_v6) = v1 c
          ∧ r.2.mem ((c.tc : Thread Cert.MixinRefIdeal.nD Cert.MixinRefIdeal.τ).loc Cert.MixinRefIdeal.main_v7) = v2 c
          ∧ r.2.mem ((c.tc : Thread Cert.MixinRefIdeal.nD Cert.MixinRefIdeal.τ).loc Cert.MixinRefIdeal.main_v8) = v3 c
          ∧ r.2.mem ((c.tc : Thread Cert.MixinRefIdeal.nD Cert.MixinRefIdeal.τ).loc Cert.MixinRefIdeal.main_arg0) = m' ((c.tc : Thread Cert.MixinRefIdeal.nD Cert.MixinRefIdeal.τ).loc Cert.MixinRefIdeal.main_arg0)
          ∧ r.2.mem ((c.tc : Thread Cert.MixinRefIdeal.nD Cert.MixinRefIdeal.τ).loc Cert.MixinRefIdeal.main_arg1) = m' ((c.tc : Thread Cert.MixinRefIdeal.nD Cert.MixinRefIdeal.τ).loc Cert.MixinRefIdeal.main_arg1))

def preserves_MixinGrad_MixinGradIdeal : Prop :=
  True

def algebraic_MixinGradIdeal_MixinGradRefIdeal [hMixinGradIdeal : Cert.MixinGradIdeal.Facts] [hMixinGradRefIdeal : Cert.MixinGradRefIdeal.Facts] : Prop :=
  ∀ (m : (ℓ : Loc Cert.MixinGradIdeal.nD Cert.MixinGradIdeal.τ Cert.MixinGradIdeal.sig) → Buf (Elt Ideal) ℓ) (g : Dev Cert.MixinGradIdeal.nD → PrngReg)
    (m' : (ℓ : Loc Cert.MixinGradRefIdeal.nD Cert.MixinGradRefIdeal.τ Cert.MixinGradRefIdeal.sig) → Buf (Elt Ideal) ℓ) (g' : Dev Cert.MixinGradRefIdeal.nD → PrngReg), Pre_MixinGradIdeal m →
    (∀ c : Dev Cert.MixinGradIdeal.nD,
      m' ((c.tc : Thread Cert.MixinGradRefIdeal.nD Cert.MixinGradRefIdeal.τ).loc Cert.MixinGradRefIdeal.main_arg0) = m ((c.tc : Thread Cert.MixinGradIdeal.nD Cert.MixinGradIdeal.τ).loc Cert.MixinGradIdeal.main_arg0)
      ∧ m' ((c.tc : Thread Cert.MixinGradRefIdeal.nD Cert.MixinGradRefIdeal.τ).loc Cert.MixinGradRefIdeal.main_arg1) = m ((c.tc : Thread Cert.MixinGradIdeal.nD Cert.MixinGradIdeal.τ).loc Cert.MixinGradIdeal.main_arg1)
      ∧ m' ((c.tc : Thread Cert.MixinGradRefIdeal.nD Cert.MixinGradRefIdeal.τ).loc Cert.MixinGradRefIdeal.main_arg2) = m ((c.tc : Thread Cert.MixinGradIdeal.nD Cert.MixinGradIdeal.τ).loc Cert.MixinGradIdeal.main_arg2)
      ∧ m' ((c.tc : Thread Cert.MixinGradRefIdeal.nD Cert.MixinGradRefIdeal.τ).loc Cert.MixinGradRefIdeal.main_arg3) = m ((c.tc : Thread Cert.MixinGradIdeal.nD Cert.MixinGradIdeal.τ).loc Cert.MixinGradIdeal.main_arg3)
      ∧ m' ((c.tc : Thread Cert.MixinGradRefIdeal.nD Cert.MixinGradRefIdeal.τ).loc Cert.MixinGradRefIdeal.main_arg4) = m ((c.tc : Thread Cert.MixinGradIdeal.nD Cert.MixinGradIdeal.τ).loc Cert.MixinGradIdeal.main_arg4)
      ∧ m' ((c.tc : Thread Cert.MixinGradRefIdeal.nD Cert.MixinGradRefIdeal.τ).loc Cert.MixinGradRefIdeal.main_arg5) = m ((c.tc : Thread Cert.MixinGradIdeal.nD Cert.MixinGradIdeal.τ).loc Cert.MixinGradIdeal.main_arg5)) →
    ∃ (v0 : (c : Dev Cert.MixinGradIdeal.nD) → Buf (Elt Ideal) ((c.tc : Thread Cert.MixinGradIdeal.nD Cert.MixinGradIdeal.τ).loc Cert.MixinGradIdeal.main_v4)),
      θ_run (Cert.MixinGradIdeal.defs (F := Ideal)) (onTc (τ := Cert.MixinGradIdeal.τ) (Cert.MixinGradIdeal.main (F := Ideal))) ⟨m, fun _ => 0, g⟩ (fun r => ∀ c : Dev Cert.MixinGradIdeal.nD,
          r.2.mem ((c.tc : Thread Cert.MixinGradIdeal.nD Cert.MixinGradIdeal.τ).loc Cert.MixinGradIdeal.main_v4) = v0 c
          ∧ r.2.mem ((c.tc : Thread Cert.MixinGradIdeal.nD Cert.MixinGradIdeal.τ).loc Cert.MixinGradIdeal.main_arg0) = m ((c.tc : Thread Cert.MixinGradIdeal.nD Cert.MixinGradIdeal.τ).loc Cert.MixinGradIdeal.main_arg0)
          ∧ r.2.mem ((c.tc : Thread Cert.MixinGradIdeal.nD Cert.MixinGradIdeal.τ).loc Cert.MixinGradIdeal.main_arg1) = m ((c.tc : Thread Cert.MixinGradIdeal.nD Cert.MixinGradIdeal.τ).loc Cert.MixinGradIdeal.main_arg1)
          ∧ r.2.mem ((c.tc : Thread Cert.MixinGradIdeal.nD Cert.MixinGradIdeal.τ).loc Cert.MixinGradIdeal.main_arg2) = m ((c.tc : Thread Cert.MixinGradIdeal.nD Cert.MixinGradIdeal.τ).loc Cert.MixinGradIdeal.main_arg2)
          ∧ r.2.mem ((c.tc : Thread Cert.MixinGradIdeal.nD Cert.MixinGradIdeal.τ).loc Cert.MixinGradIdeal.main_arg3) = m ((c.tc : Thread Cert.MixinGradIdeal.nD Cert.MixinGradIdeal.τ).loc Cert.MixinGradIdeal.main_arg3)
          ∧ r.2.mem ((c.tc : Thread Cert.MixinGradIdeal.nD Cert.MixinGradIdeal.τ).loc Cert.MixinGradIdeal.main_arg4) = m ((c.tc : Thread Cert.MixinGradIdeal.nD Cert.MixinGradIdeal.τ).loc Cert.MixinGradIdeal.main_arg4)
          ∧ r.2.mem ((c.tc : Thread Cert.MixinGradIdeal.nD Cert.MixinGradIdeal.τ).loc Cert.MixinGradIdeal.main_arg5) = m ((c.tc : Thread Cert.MixinGradIdeal.nD Cert.MixinGradIdeal.τ).loc Cert.MixinGradIdeal.main_arg5))
      ∧ θ_run (Cert.MixinGradRefIdeal.defs (F := Ideal)) (onTc (τ := Cert.MixinGradRefIdeal.τ) (Cert.MixinGradRefIdeal.main (F := Ideal))) ⟨m', fun _ => 0, g'⟩ (fun r => ∀ c : Dev Cert.MixinGradRefIdeal.nD,
          r.2.mem ((c.tc : Thread Cert.MixinGradRefIdeal.nD Cert.MixinGradRefIdeal.τ).loc Cert.MixinGradRefIdeal.main_v6) = v0 c
          ∧ r.2.mem ((c.tc : Thread Cert.MixinGradRefIdeal.nD Cert.MixinGradRefIdeal.τ).loc Cert.MixinGradRefIdeal.main_arg0) = m' ((c.tc : Thread Cert.MixinGradRefIdeal.nD Cert.MixinGradRefIdeal.τ).loc Cert.MixinGradRefIdeal.main_arg0)
          ∧ r.2.mem ((c.tc : Thread Cert.MixinGradRefIdeal.nD Cert.MixinGradRefIdeal.τ).loc Cert.MixinGradRefIdeal.main_arg1) = m' ((c.tc : Thread Cert.MixinGradRefIdeal.nD Cert.MixinGradRefIdeal.τ).loc Cert.MixinGradRefIdeal.main_arg1)
          ∧ r.2.mem ((c.tc : Thread Cert.MixinGradRefIdeal.nD Cert.MixinGradRefIdeal.τ).loc Cert.MixinGradRefIdeal.main_arg2) = m' ((c.tc : Thread Cert.MixinGradRefIdeal.nD Cert.MixinGradRefIdeal.τ).loc Cert.MixinGradRefIdeal.main_arg2)
          ∧ r.2.mem ((c.tc : Thread Cert.MixinGradRefIdeal.nD Cert.MixinGradRefIdeal.τ).loc Cert.MixinGradRefIdeal.main_arg3) = m' ((c.tc : Thread Cert.MixinGradRefIdeal.nD Cert.MixinGradRefIdeal.τ).loc Cert.MixinGradRefIdeal.main_arg3)
          ∧ r.2.mem ((c.tc : Thread Cert.MixinGradRefIdeal.nD Cert.MixinGradRefIdeal.τ).loc Cert.MixinGradRefIdeal.main_arg4) = m' ((c.tc : Thread Cert.MixinGradRefIdeal.nD Cert.MixinGradRefIdeal.τ).loc Cert.MixinGradRefIdeal.main_arg4)
          ∧ r.2.mem ((c.tc : Thread Cert.MixinGradRefIdeal.nD Cert.MixinGradRefIdeal.τ).loc Cert.MixinGradRefIdeal.main_arg5) = m' ((c.tc : Thread Cert.MixinGradRefIdeal.nD Cert.MixinGradRefIdeal.τ).loc Cert.MixinGradRefIdeal.main_arg5))

def preserves_MixinWUv_MixinWUvIdeal : Prop :=
  True

def algebraic_MixinWUvIdeal_MixinWUvRefIdeal [hMixinWUvIdeal : Cert.MixinWUvIdeal.Facts] [hMixinWUvRefIdeal : Cert.MixinWUvRefIdeal.Facts] : Prop :=
  ∀ (m : (ℓ : Loc Cert.MixinWUvIdeal.nD Cert.MixinWUvIdeal.τ Cert.MixinWUvIdeal.sig) → Buf (Elt Ideal) ℓ) (g : Dev Cert.MixinWUvIdeal.nD → PrngReg)
    (m' : (ℓ : Loc Cert.MixinWUvRefIdeal.nD Cert.MixinWUvRefIdeal.τ Cert.MixinWUvRefIdeal.sig) → Buf (Elt Ideal) ℓ) (g' : Dev Cert.MixinWUvRefIdeal.nD → PrngReg), Pre_MixinWUvIdeal m →
    (∀ c : Dev Cert.MixinWUvIdeal.nD,
      m' ((c.tc : Thread Cert.MixinWUvRefIdeal.nD Cert.MixinWUvRefIdeal.τ).loc Cert.MixinWUvRefIdeal.main_arg0) = m ((c.tc : Thread Cert.MixinWUvIdeal.nD Cert.MixinWUvIdeal.τ).loc Cert.MixinWUvIdeal.main_arg0)
      ∧ m' ((c.tc : Thread Cert.MixinWUvRefIdeal.nD Cert.MixinWUvRefIdeal.τ).loc Cert.MixinWUvRefIdeal.main_arg1) = m ((c.tc : Thread Cert.MixinWUvIdeal.nD Cert.MixinWUvIdeal.τ).loc Cert.MixinWUvIdeal.main_arg1)
      ∧ m' ((c.tc : Thread Cert.MixinWUvRefIdeal.nD Cert.MixinWUvRefIdeal.τ).loc Cert.MixinWUvRefIdeal.main_arg2) = m ((c.tc : Thread Cert.MixinWUvIdeal.nD Cert.MixinWUvIdeal.τ).loc Cert.MixinWUvIdeal.main_arg2)
      ∧ m' ((c.tc : Thread Cert.MixinWUvRefIdeal.nD Cert.MixinWUvRefIdeal.τ).loc Cert.MixinWUvRefIdeal.main_arg3) = m ((c.tc : Thread Cert.MixinWUvIdeal.nD Cert.MixinWUvIdeal.τ).loc Cert.MixinWUvIdeal.main_arg3)) →
    ∃ (v0 : (c : Dev Cert.MixinWUvIdeal.nD) → Buf (Elt Ideal) ((c.tc : Thread Cert.MixinWUvIdeal.nD Cert.MixinWUvIdeal.τ).loc Cert.MixinWUvIdeal.main_v4_0)) (v1 : (c : Dev Cert.MixinWUvIdeal.nD) → Buf (Elt Ideal) ((c.tc : Thread Cert.MixinWUvIdeal.nD Cert.MixinWUvIdeal.τ).loc Cert.MixinWUvIdeal.main_v4_1)),
      θ_run (Cert.MixinWUvIdeal.defs (F := Ideal)) (onTc (τ := Cert.MixinWUvIdeal.τ) (Cert.MixinWUvIdeal.main (F := Ideal))) ⟨m, fun _ => 0, g⟩ (fun r => ∀ c : Dev Cert.MixinWUvIdeal.nD,
          r.2.mem ((c.tc : Thread Cert.MixinWUvIdeal.nD Cert.MixinWUvIdeal.τ).loc Cert.MixinWUvIdeal.main_v4_0) = v0 c
          ∧ r.2.mem ((c.tc : Thread Cert.MixinWUvIdeal.nD Cert.MixinWUvIdeal.τ).loc Cert.MixinWUvIdeal.main_v4_1) = v1 c
          ∧ r.2.mem ((c.tc : Thread Cert.MixinWUvIdeal.nD Cert.MixinWUvIdeal.τ).loc Cert.MixinWUvIdeal.main_arg0) = m ((c.tc : Thread Cert.MixinWUvIdeal.nD Cert.MixinWUvIdeal.τ).loc Cert.MixinWUvIdeal.main_arg0)
          ∧ r.2.mem ((c.tc : Thread Cert.MixinWUvIdeal.nD Cert.MixinWUvIdeal.τ).loc Cert.MixinWUvIdeal.main_arg1) = m ((c.tc : Thread Cert.MixinWUvIdeal.nD Cert.MixinWUvIdeal.τ).loc Cert.MixinWUvIdeal.main_arg1)
          ∧ r.2.mem ((c.tc : Thread Cert.MixinWUvIdeal.nD Cert.MixinWUvIdeal.τ).loc Cert.MixinWUvIdeal.main_arg2) = m ((c.tc : Thread Cert.MixinWUvIdeal.nD Cert.MixinWUvIdeal.τ).loc Cert.MixinWUvIdeal.main_arg2)
          ∧ r.2.mem ((c.tc : Thread Cert.MixinWUvIdeal.nD Cert.MixinWUvIdeal.τ).loc Cert.MixinWUvIdeal.main_arg3) = m ((c.tc : Thread Cert.MixinWUvIdeal.nD Cert.MixinWUvIdeal.τ).loc Cert.MixinWUvIdeal.main_arg3))
      ∧ θ_run (Cert.MixinWUvRefIdeal.defs (F := Ideal)) (onTc (τ := Cert.MixinWUvRefIdeal.τ) (Cert.MixinWUvRefIdeal.main (F := Ideal))) ⟨m', fun _ => 0, g'⟩ (fun r => ∀ c : Dev Cert.MixinWUvRefIdeal.nD,
          r.2.mem ((c.tc : Thread Cert.MixinWUvRefIdeal.nD Cert.MixinWUvRefIdeal.τ).loc Cert.MixinWUvRefIdeal.main_v5) = v0 c
          ∧ r.2.mem ((c.tc : Thread Cert.MixinWUvRefIdeal.nD Cert.MixinWUvRefIdeal.τ).loc Cert.MixinWUvRefIdeal.main_v6) = v1 c
          ∧ r.2.mem ((c.tc : Thread Cert.MixinWUvRefIdeal.nD Cert.MixinWUvRefIdeal.τ).loc Cert.MixinWUvRefIdeal.main_arg0) = m' ((c.tc : Thread Cert.MixinWUvRefIdeal.nD Cert.MixinWUvRefIdeal.τ).loc Cert.MixinWUvRefIdeal.main_arg0)
          ∧ r.2.mem ((c.tc : Thread Cert.MixinWUvRefIdeal.nD Cert.MixinWUvRefIdeal.τ).loc Cert.MixinWUvRefIdeal.main_arg1) = m' ((c.tc : Thread Cert.MixinWUvRefIdeal.nD Cert.MixinWUvRefIdeal.τ).loc Cert.MixinWUvRefIdeal.main_arg1)
          ∧ r.2.mem ((c.tc : Thread Cert.MixinWUvRefIdeal.nD Cert.MixinWUvRefIdeal.τ).loc Cert.MixinWUvRefIdeal.main_arg2) = m' ((c.tc : Thread Cert.MixinWUvRefIdeal.nD Cert.MixinWUvRefIdeal.τ).loc Cert.MixinWUvRefIdeal.main_arg2)
          ∧ r.2.mem ((c.tc : Thread Cert.MixinWUvRefIdeal.nD Cert.MixinWUvRefIdeal.τ).loc Cert.MixinWUvRefIdeal.main_arg3) = m' ((c.tc : Thread Cert.MixinWUvRefIdeal.nD Cert.MixinWUvRefIdeal.τ).loc Cert.MixinWUvRefIdeal.main_arg3))

def preserves_SquareW_SquareWIdeal : Prop :=
  True

def algebraic_SquareWIdeal_SquareWRefIdeal [hSquareWIdeal : Cert.SquareWIdeal.Facts] [hSquareWRefIdeal : Cert.SquareWRefIdeal.Facts] : Prop :=
  ∀ (m : (ℓ : Loc Cert.SquareWIdeal.nD Cert.SquareWIdeal.τ Cert.SquareWIdeal.sig) → Buf (Elt Ideal) ℓ) (g : Dev Cert.SquareWIdeal.nD → PrngReg)
    (m' : (ℓ : Loc Cert.SquareWRefIdeal.nD Cert.SquareWRefIdeal.τ Cert.SquareWRefIdeal.sig) → Buf (Elt Ideal) ℓ) (g' : Dev Cert.SquareWRefIdeal.nD → PrngReg), Pre_SquareWIdeal m →
    (∀ c : Dev Cert.SquareWIdeal.nD,
      m' ((c.tc : Thread Cert.SquareWRefIdeal.nD Cert.SquareWRefIdeal.τ).loc Cert.SquareWRefIdeal.main_arg0) = m ((c.tc : Thread Cert.SquareWIdeal.nD Cert.SquareWIdeal.τ).loc Cert.SquareWIdeal.main_arg0)
      ∧ m' ((c.tc : Thread Cert.SquareWRefIdeal.nD Cert.SquareWRefIdeal.τ).loc Cert.SquareWRefIdeal.main_arg1) = m ((c.tc : Thread Cert.SquareWIdeal.nD Cert.SquareWIdeal.τ).loc Cert.SquareWIdeal.main_arg1)
      ∧ m' ((c.tc : Thread Cert.SquareWRefIdeal.nD Cert.SquareWRefIdeal.τ).loc Cert.SquareWRefIdeal.main_arg2) = m ((c.tc : Thread Cert.SquareWIdeal.nD Cert.SquareWIdeal.τ).loc Cert.SquareWIdeal.main_arg2)) →
    ∃ (v0 : (c : Dev Cert.SquareWIdeal.nD) → Buf (Elt Ideal) ((c.tc : Thread Cert.SquareWIdeal.nD Cert.SquareWIdeal.τ).loc Cert.SquareWIdeal.main_v3_0)) (v1 : (c : Dev Cert.SquareWIdeal.nD) → Buf (Elt Ideal) ((c.tc : Thread Cert.SquareWIdeal.nD Cert.SquareWIdeal.τ).loc Cert.SquareWIdeal.main_v3_1)),
      θ_run (Cert.SquareWIdeal.defs (F := Ideal)) (onTc (τ := Cert.SquareWIdeal.τ) (Cert.SquareWIdeal.main (F := Ideal))) ⟨m, fun _ => 0, g⟩ (fun r => ∀ c : Dev Cert.SquareWIdeal.nD,
          r.2.mem ((c.tc : Thread Cert.SquareWIdeal.nD Cert.SquareWIdeal.τ).loc Cert.SquareWIdeal.main_v3_0) = v0 c
          ∧ r.2.mem ((c.tc : Thread Cert.SquareWIdeal.nD Cert.SquareWIdeal.τ).loc Cert.SquareWIdeal.main_v3_1) = v1 c
          ∧ r.2.mem ((c.tc : Thread Cert.SquareWIdeal.nD Cert.SquareWIdeal.τ).loc Cert.SquareWIdeal.main_arg0) = m ((c.tc : Thread Cert.SquareWIdeal.nD Cert.SquareWIdeal.τ).loc Cert.SquareWIdeal.main_arg0)
          ∧ r.2.mem ((c.tc : Thread Cert.SquareWIdeal.nD Cert.SquareWIdeal.τ).loc Cert.SquareWIdeal.main_arg1) = m ((c.tc : Thread Cert.SquareWIdeal.nD Cert.SquareWIdeal.τ).loc Cert.SquareWIdeal.main_arg1)
          ∧ r.2.mem ((c.tc : Thread Cert.SquareWIdeal.nD Cert.SquareWIdeal.τ).loc Cert.SquareWIdeal.main_arg2) = m ((c.tc : Thread Cert.SquareWIdeal.nD Cert.SquareWIdeal.τ).loc Cert.SquareWIdeal.main_arg2))
      ∧ θ_run (Cert.SquareWRefIdeal.defs (F := Ideal)) (onTc (τ := Cert.SquareWRefIdeal.τ) (Cert.SquareWRefIdeal.main (F := Ideal))) ⟨m', fun _ => 0, g'⟩ (fun r => ∀ c : Dev Cert.SquareWRefIdeal.nD,
          r.2.mem ((c.tc : Thread Cert.SquareWRefIdeal.nD Cert.SquareWRefIdeal.τ).loc Cert.SquareWRefIdeal.main_v2) = v0 c
          ∧ r.2.mem ((c.tc : Thread Cert.SquareWRefIdeal.nD Cert.SquareWRefIdeal.τ).loc Cert.SquareWRefIdeal.main_v3) = v1 c
          ∧ r.2.mem ((c.tc : Thread Cert.SquareWRefIdeal.nD Cert.SquareWRefIdeal.τ).loc Cert.SquareWRefIdeal.main_arg0) = m' ((c.tc : Thread Cert.SquareWRefIdeal.nD Cert.SquareWRefIdeal.τ).loc Cert.SquareWRefIdeal.main_arg0)
          ∧ r.2.mem ((c.tc : Thread Cert.SquareWRefIdeal.nD Cert.SquareWRefIdeal.τ).loc Cert.SquareWRefIdeal.main_arg1) = m' ((c.tc : Thread Cert.SquareWRefIdeal.nD Cert.SquareWRefIdeal.τ).loc Cert.SquareWRefIdeal.main_arg1)
          ∧ r.2.mem ((c.tc : Thread Cert.SquareWRefIdeal.nD Cert.SquareWRefIdeal.τ).loc Cert.SquareWRefIdeal.main_arg2) = m' ((c.tc : Thread Cert.SquareWRefIdeal.nD Cert.SquareWRefIdeal.τ).loc Cert.SquareWRefIdeal.main_arg2))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)
      ∧ m' ((c.tc : Thread Cert.UpWRefIdeal.nD Cert.UpWRefIdeal.τ).loc Cert.UpWRefIdeal.main_arg2) = m ((c.tc : Thread Cert.UpWIdeal.nD Cert.UpWIdeal.τ).loc Cert.UpWIdeal.main_arg2)) →
    ∃ (v0 : (c : Dev Cert.UpWIdeal.nD) → Buf (Elt Ideal) ((c.tc : Thread Cert.UpWIdeal.nD Cert.UpWIdeal.τ).loc Cert.UpWIdeal.main_v3_0)) (v1 : (c : Dev Cert.UpWIdeal.nD) → Buf (Elt Ideal) ((c.tc : Thread Cert.UpWIdeal.nD Cert.UpWIdeal.τ).loc Cert.UpWIdeal.main_v3_1)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v3_0) = v0 c
          ∧ r.2.mem ((c.tc : Thread Cert.UpWIdeal.nD Cert.UpWIdeal.τ).loc Cert.UpWIdeal.main_v3_1) = v1 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
          ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v2) = v0 c
          ∧ r.2.mem ((c.tc : Thread Cert.UpWRefIdeal.nD Cert.UpWRefIdeal.τ).loc Cert.UpWRefIdeal.main_v3) = v1 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1)
          ∧ r.2.mem ((c.tc : Thread Cert.UpWRefIdeal.nD Cert.UpWRefIdeal.τ).loc Cert.UpWRefIdeal.main_arg2) = m' ((c.tc : Thread Cert.UpWRefIdeal.nD Cert.UpWRefIdeal.τ).loc Cert.UpWRefIdeal.main_arg2))

def preserves_PleW_PleWIdeal : Prop :=
  True

def algebraic_PleWIdeal_PleWRefIdeal [hPleWIdeal : Cert.PleWIdeal.Facts] [hPleWRefIdeal : Cert.PleWRefIdeal.Facts] : Prop :=
  ∀ (m : (ℓ : Loc Cert.PleWIdeal.nD Cert.PleWIdeal.τ Cert.PleWIdeal.sig) → Buf (Elt Ideal) ℓ) (g : Dev Cert.PleWIdeal.nD → PrngReg)
    (m' : (ℓ : Loc Cert.PleWRefIdeal.nD Cert.PleWRefIdeal.τ Cert.PleWRefIdeal.sig) → Buf (Elt Ideal) ℓ) (g' : Dev Cert.PleWRefIdeal.nD → PrngReg), Pre_PleWIdeal m →
    (∀ c : Dev Cert.PleWIdeal.nD,
      m' ((c.tc : Thread Cert.PleWRefIdeal.nD Cert.PleWRefIdeal.τ).loc Cert.PleWRefIdeal.main_arg0) = m ((c.tc : Thread Cert.PleWIdeal.nD Cert.PleWIdeal.τ).loc Cert.PleWIdeal.main_arg0)
      ∧ m' ((c.tc : Thread Cert.PleWRefIdeal.nD Cert.PleWRefIdeal.τ).loc Cert.PleWRefIdeal.main_arg1) = m ((c.tc : Thread Cert.PleWIdeal.nD Cert.PleWIdeal.τ).loc Cert.PleWIdeal.main_arg1)
      ∧ m' ((c.tc : Thread Cert.PleWRefIdeal.nD Cert.PleWRefIdeal.τ).loc Cert.PleWRefIdeal.main_arg2) = m ((c.tc : Thread Cert.PleWIdeal.nD Cert.PleWIdeal.τ).loc Cert.PleWIdeal.main_arg2)) →
    ∃ (v0 : (c : Dev Cert.PleWIdeal.nD) → Buf (Elt Ideal) ((c.tc : Thread Cert.PleWIdeal.nD Cert.PleWIdeal.τ).loc Cert.PleWIdeal.main_v3_0)) (v1 : (c : Dev Cert.PleWIdeal.nD) → Buf (Elt Ideal) ((c.tc : Thread Cert.PleWIdeal.nD Cert.PleWIdeal.τ).loc Cert.PleWIdeal.main_v3_1)),
      θ_run (Cert.PleWIdeal.defs (F := Ideal)) (onTc (τ := Cert.PleWIdeal.τ) (Cert.PleWIdeal.main (F := Ideal))) ⟨m, fun _ => 0, g⟩ (fun r => ∀ c : Dev Cert.PleWIdeal.nD,
          r.2.mem ((c.tc : Thread Cert.PleWIdeal.nD Cert.PleWIdeal.τ).loc Cert.PleWIdeal.main_v3_0) = v0 c
          ∧ r.2.mem ((c.tc : Thread Cert.PleWIdeal.nD Cert.PleWIdeal.τ).loc Cert.PleWIdeal.main_v3_1) = v1 c
          ∧ r.2.mem ((c.tc : Thread Cert.PleWIdeal.nD Cert.PleWIdeal.τ).loc Cert.PleWIdeal.main_arg0) = m ((c.tc : Thread Cert.PleWIdeal.nD Cert.PleWIdeal.τ).loc Cert.PleWIdeal.main_arg0)
          ∧ r.2.mem ((c.tc : Thread Cert.PleWIdeal.nD Cert.PleWIdeal.τ).loc Cert.PleWIdeal.main_arg1) = m ((c.tc : Thread Cert.PleWIdeal.nD Cert.PleWIdeal.τ).loc Cert.PleWIdeal.main_arg1)
          ∧ r.2.mem ((c.tc : Thread Cert.PleWIdeal.nD Cert.PleWIdeal.τ).loc Cert.PleWIdeal.main_arg2) = m ((c.tc : Thread Cert.PleWIdeal.nD Cert.PleWIdeal.τ).loc Cert.PleWIdeal.main_arg2))
      ∧ θ_run (Cert.PleWRefIdeal.defs (F := Ideal)) (onTc (τ := Cert.PleWRefIdeal.τ) (Cert.PleWRefIdeal.main (F := Ideal))) ⟨m', fun _ => 0, g'⟩ (fun r => ∀ c : Dev Cert.PleWRefIdeal.nD,
          r.2.mem ((c.tc : Thread Cert.PleWRefIdeal.nD Cert.PleWRefIdeal.τ).loc Cert.PleWRefIdeal.main_v2) = v0 c
          ∧ r.2.mem ((c.tc : Thread Cert.PleWRefIdeal.nD Cert.PleWRefIdeal.τ).loc Cert.PleWRefIdeal.main_v3) = v1 c
          ∧ r.2.mem ((c.tc : Thread Cert.PleWRefIdeal.nD Cert.PleWRefIdeal.τ).loc Cert.PleWRefIdeal.main_arg0) = m' ((c.tc : Thread Cert.PleWRefIdeal.nD Cert.PleWRefIdeal.τ).loc Cert.PleWRefIdeal.main_arg0)
          ∧ r.2.mem ((c.tc : Thread Cert.PleWRefIdeal.nD Cert.PleWRefIdeal.τ).loc Cert.PleWRefIdeal.main_arg1) = m' ((c.tc : Thread Cert.PleWRefIdeal.nD Cert.PleWRefIdeal.τ).loc Cert.PleWRefIdeal.main_arg1)
          ∧ r.2.mem ((c.tc : Thread Cert.PleWRefIdeal.nD Cert.PleWRefIdeal.τ).loc Cert.PleWRefIdeal.main_arg2) = m' ((c.tc : Thread Cert.PleWRefIdeal.nD Cert.PleWRefIdeal.τ).loc Cert.PleWRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)
      ∧ m' ((c.tc : Thread Cert.LossRefIdeal.nD Cert.LossRefIdeal.τ).loc Cert.LossRefIdeal.main_arg8) = m ((c.tc : Thread Cert.LossIdeal.nD Cert.LossIdeal.τ).loc Cert.LossIdeal.main_arg8)) →
    ∃ (v0 : (c : Dev Cert.LossIdeal.nD) → Buf (Elt Ideal) ((c.tc : Thread Cert.LossIdeal.nD Cert.LossIdeal.τ).loc Cert.LossIdeal.main_v6_0)) (v1 : (c : Dev Cert.LossIdeal.nD) → Buf (Elt Ideal) ((c.tc : Thread Cert.LossIdeal.nD Cert.LossIdeal.τ).loc Cert.LossIdeal.main_v6_1)) (v2 : (c : Dev Cert.LossIdeal.nD) → Buf (Elt Ideal) ((c.tc : Thread Cert.LossIdeal.nD Cert.LossIdeal.τ).loc Cert.LossIdeal.main_v6_2)) (v3 : (c : Dev Cert.LossIdeal.nD) → Buf (Elt Ideal) ((c.tc : Thread Cert.LossIdeal.nD Cert.LossIdeal.τ).loc Cert.LossIdeal.main_v6_3)) (v4 : (c : Dev Cert.LossIdeal.nD) → Buf (Elt Ideal) ((c.tc : Thread Cert.LossIdeal.nD Cert.LossIdeal.τ).loc Cert.LossIdeal.main_v6_4)) (v5 : (c : Dev Cert.LossIdeal.nD) → Buf (Elt Ideal) ((c.tc : Thread Cert.LossIdeal.nD Cert.LossIdeal.τ).loc Cert.LossIdeal.main_v6_5)) (v6 : (c : Dev Cert.LossIdeal.nD) → Buf (Elt Ideal) ((c.tc : Thread Cert.LossIdeal.nD Cert.LossIdeal.τ).loc Cert.LossIdeal.main_v6_6)) (v7 : (c : Dev Cert.LossIdeal.nD) → Buf (Elt Ideal) ((c.tc : Thread Cert.LossIdeal.nD Cert.LossIdeal.τ).loc Cert.LossIdeal.main_v6_7)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v6_0) = v0 c
          ∧ r.2.mem ((c.tc : Thread Cert.LossIdeal.nD Cert.LossIdeal.τ).loc Cert.LossIdeal.main_v6_1) = v1 c
          ∧ r.2.mem ((c.tc : Thread Cert.LossIdeal.nD Cert.LossIdeal.τ).loc Cert.LossIdeal.main_v6_2) = v2 c
          ∧ r.2.mem ((c.tc : Thread Cert.LossIdeal.nD Cert.LossIdeal.τ).loc Cert.LossIdeal.main_v6_3) = v3 c
          ∧ r.2.mem ((c.tc : Thread Cert.LossIdeal.nD Cert.LossIdeal.τ).loc Cert.LossIdeal.main_v6_4) = v4 c
          ∧ r.2.mem ((c.tc : Thread Cert.LossIdeal.nD Cert.LossIdeal.τ).loc Cert.LossIdeal.main_v6_5) = v5 c
          ∧ r.2.mem ((c.tc : Thread Cert.LossIdeal.nD Cert.LossIdeal.τ).loc Cert.LossIdeal.main_v6_6) = v6 c
          ∧ r.2.mem ((c.tc : Thread Cert.LossIdeal.nD Cert.LossIdeal.τ).loc Cert.LossIdeal.main_v6_7) = v7 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
          ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v90) = v0 c
          ∧ r.2.mem ((c.tc : Thread Cert.LossRefIdeal.nD Cert.LossRefIdeal.τ).loc Cert.LossRefIdeal.main_v19) = v1 c
          ∧ r.2.mem ((c.tc : Thread Cert.LossRefIdeal.nD Cert.LossRefIdeal.τ).loc Cert.LossRefIdeal.main_v92) = v2 c
          ∧ r.2.mem ((c.tc : Thread Cert.LossRefIdeal.nD Cert.LossRefIdeal.τ).loc Cert.LossRefIdeal.main_v94) = v3 c
          ∧ r.2.mem ((c.tc : Thread Cert.LossRefIdeal.nD Cert.LossRefIdeal.τ).loc Cert.LossRefIdeal.main_v96) = v4 c
          ∧ r.2.mem ((c.tc : Thread Cert.LossRefIdeal.nD Cert.LossRefIdeal.τ).loc Cert.LossRefIdeal.main_v97) = v5 c
          ∧ r.2.mem ((c.tc : Thread Cert.LossRefIdeal.nD Cert.LossRefIdeal.τ).loc Cert.LossRefIdeal.main_v98) = v6 c
          ∧ r.2.mem ((c.tc : Thread Cert.LossRefIdeal.nD Cert.LossRefIdeal.τ).loc Cert.LossRefIdeal.main_v86) = v7 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7)
          ∧ r.2.mem ((c.tc : Thread Cert.LossRefIdeal.nD Cert.LossRefIdeal.τ).loc Cert.LossRefIdeal.main_arg8) = m' ((c.tc : Thread Cert.LossRefIdeal.nD Cert.LossRefIdeal.τ).loc Cert.LossRefIdeal.main_arg8))

def preserves_Mixout_MixoutIdeal : Prop :=
  True

def algebraic_MixoutIdeal_MixoutRefIdeal [hMixoutIdeal : Cert.MixoutIdeal.Facts] [hMixoutRefIdeal : Cert.MixoutRefIdeal.Facts] : Prop :=
  ∀ (m : (ℓ : Loc Cert.MixoutIdeal.nD Cert.MixoutIdeal.τ Cert.MixoutIdeal.sig) → Buf (Elt Ideal) ℓ) (g : Dev Cert.MixoutIdeal.nD → PrngReg)
    (m' : (ℓ : Loc Cert.MixoutRefIdeal.nD Cert.MixoutRefIdeal.τ Cert.MixoutRefIdeal.sig) → Buf (Elt Ideal) ℓ) (g' : Dev Cert.MixoutRefIdeal.nD → PrngReg), Pre_MixoutIdeal m →
    (∀ c : Dev Cert.MixoutIdeal.nD,
      m' ((c.tc : Thread Cert.MixoutRefIdeal.nD Cert.MixoutRefIdeal.τ).loc Cert.MixoutRefIdeal.main_arg0) = m ((c.tc : Thread Cert.MixoutIdeal.nD Cert.MixoutIdeal.τ).loc Cert.MixoutIdeal.main_arg0)
      ∧ m' ((c.tc : Thread Cert.MixoutRefIdeal.nD Cert.MixoutRefIdeal.τ).loc Cert.MixoutRefIdeal.main_arg1) = m ((c.tc : Thread Cert.MixoutIdeal.nD Cert.MixoutIdeal.τ).loc Cert.MixoutIdeal.main_arg1)
      ∧ m' ((c.tc : Thread Cert.MixoutRefIdeal.nD Cert.MixoutRefIdeal.τ).loc Cert.MixoutRefIdeal.main_arg2) = m ((c.tc : Thread Cert.MixoutIdeal.nD Cert.MixoutIdeal.τ).loc Cert.MixoutIdeal.main_arg2)
      ∧ m' ((c.tc : Thread Cert.MixoutRefIdeal.nD Cert.MixoutRefIdeal.τ).loc Cert.MixoutRefIdeal.main_arg3) = m ((c.tc : Thread Cert.MixoutIdeal.nD Cert.MixoutIdeal.τ).loc Cert.MixoutIdeal.main_arg3)
      ∧ m' ((c.tc : Thread Cert.MixoutRefIdeal.nD Cert.MixoutRefIdeal.τ).loc Cert.MixoutRefIdeal.main_arg4) = m ((c.tc : Thread Cert.MixoutIdeal.nD Cert.MixoutIdeal.τ).loc Cert.MixoutIdeal.main_arg4)
      ∧ m' ((c.tc : Thread Cert.MixoutRefIdeal.nD Cert.MixoutRefIdeal.τ).loc Cert.MixoutRefIdeal.main_arg5) = m ((c.tc : Thread Cert.MixoutIdeal.nD Cert.MixoutIdeal.τ).loc Cert.MixoutIdeal.main_arg5)
      ∧ m' ((c.tc : Thread Cert.MixoutRefIdeal.nD Cert.MixoutRefIdeal.τ).loc Cert.MixoutRefIdeal.main_arg6) = m ((c.tc : Thread Cert.MixoutIdeal.nD Cert.MixoutIdeal.τ).loc Cert.MixoutIdeal.main_arg6)
      ∧ m' ((c.tc : Thread Cert.MixoutRefIdeal.nD Cert.MixoutRefIdeal.τ).loc Cert.MixoutRefIdeal.main_arg7) = m ((c.tc : Thread Cert.MixoutIdeal.nD Cert.MixoutIdeal.τ).loc Cert.MixoutIdeal.main_arg7)
      ∧ m' ((c.tc : Thread Cert.MixoutRefIdeal.nD Cert.MixoutRefIdeal.τ).loc Cert.MixoutRefIdeal.main_arg8) = m ((c.tc : Thread Cert.MixoutIdeal.nD Cert.MixoutIdeal.τ).loc Cert.MixoutIdeal.main_arg8)) →
    ∃ (v0 : (c : Dev Cert.MixoutIdeal.nD) → Buf (Elt Ideal) ((c.tc : Thread Cert.MixoutIdeal.nD Cert.MixoutIdeal.τ).loc Cert.MixoutIdeal.main_v8_0)) (v1 : (c : Dev Cert.MixoutIdeal.nD) → Buf (Elt Ideal) ((c.tc : Thread Cert.MixoutIdeal.nD Cert.MixoutIdeal.τ).loc Cert.MixoutIdeal.main_v8_1)) (v2 : (c : Dev Cert.MixoutIdeal.nD) → Buf (Elt Ideal) ((c.tc : Thread Cert.MixoutIdeal.nD Cert.MixoutIdeal.τ).loc Cert.MixoutIdeal.main_v8_2)),
      θ_run (Cert.MixoutIdeal.defs (F := Ideal)) (onTc (τ := Cert.MixoutIdeal.τ) (Cert.MixoutIdeal.main (F := Ideal))) ⟨m, fun _ => 0, g⟩ (fun r => ∀ c : Dev Cert.MixoutIdeal.nD,
          r.2.mem ((c.tc : Thread Cert.MixoutIdeal.nD Cert.MixoutIdeal.τ).loc Cert.MixoutIdeal.main_v8_0) = v0 c
          ∧ r.2.mem ((c.tc : Thread Cert.MixoutIdeal.nD Cert.MixoutIdeal.τ).loc Cert.MixoutIdeal.main_v8_1) = v1 c
          ∧ r.2.mem ((c.tc : Thread Cert.MixoutIdeal.nD Cert.MixoutIdeal.τ).loc Cert.MixoutIdeal.main_v8_2) = v2 c
          ∧ r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
          ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
          ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
          ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
          ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
          ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5)
          ∧ r.2.mem ((c.tc : Thread Cert.MixoutIdeal.nD Cert.MixoutIdeal.τ).loc Cert.MixoutIdeal.main_arg6) = m ((c.tc : Thread Cert.MixoutIdeal.nD Cert.MixoutIdeal.τ).loc Cert.MixoutIdeal.main_arg6)
          ∧ r.2.mem ((c.tc : Thread Cert.MixoutIdeal.nD Cert.MixoutIdeal.τ).loc Cert.MixoutIdeal.main_arg7) = m ((c.tc : Thread Cert.MixoutIdeal.nD Cert.MixoutIdeal.τ).loc Cert.MixoutIdeal.main_arg7)
          ∧ r.2.mem ((c.tc : Thread Cert.MixoutIdeal.nD Cert.MixoutIdeal.τ).loc Cert.MixoutIdeal.main_arg8) = m ((c.tc : Thread Cert.MixoutIdeal.nD Cert.MixoutIdeal.τ).loc Cert.MixoutIdeal.main_arg8))
      ∧ θ_run (Cert.MixoutRefIdeal.defs (F := Ideal)) (onTc (τ := Cert.MixoutRefIdeal.τ) (Cert.MixoutRefIdeal.main (F := Ideal))) ⟨m', fun _ => 0, g'⟩ (fun r => ∀ c : Dev Cert.MixoutRefIdeal.nD,
          r.2.mem ((c.tc : Thread Cert.MixoutRefIdeal.nD Cert.MixoutRefIdeal.τ).loc Cert.MixoutRefIdeal.main_v60) = v0 c
          ∧ r.2.mem ((c.tc : Thread Cert.MixoutRefIdeal.nD Cert.MixoutRefIdeal.τ).loc Cert.MixoutRefIdeal.main_v64) = v1 c
          ∧ r.2.mem ((c.tc : Thread Cert.MixoutRefIdeal.nD Cert.MixoutRefIdeal.τ).loc Cert.MixoutRefIdeal.main_v36) = v2 c
          ∧ r.2.mem ((c.tc : Thread Cert.MixoutRefIdeal.nD Cert.MixoutRefIdeal.τ).loc Cert.MixoutRefIdeal.main_arg0) = m' ((c.tc : Thread Cert.MixoutRefIdeal.nD Cert.MixoutRefIdeal.τ).loc Cert.MixoutRefIdeal.main_arg0)
          ∧ r.2.mem ((c.tc : Thread Cert.MixoutRefIdeal.nD Cert.MixoutRefIdeal.τ).loc Cert.MixoutRefIdeal.main_arg1) = m' ((c.tc : Thread Cert.MixoutRefIdeal.nD Cert.MixoutRefIdeal.τ).loc Cert.MixoutRefIdeal.main_arg1)
          ∧ r.2.mem ((c.tc : Thread Cert.MixoutRefIdeal.nD Cert.MixoutRefIdeal.τ).loc Cert.MixoutRefIdeal.main_arg2) = m' ((c.tc : Thread Cert.MixoutRefIdeal.nD Cert.MixoutRefIdeal.τ).loc Cert.MixoutRefIdeal.main_arg2)
          ∧ r.2.mem ((c.tc : Thread Cert.MixoutRefIdeal.nD Cert.MixoutRefIdeal.τ).loc Cert.MixoutRefIdeal.main_arg3) = m' ((c.tc : Thread Cert.MixoutRefIdeal.nD Cert.MixoutRefIdeal.τ).loc Cert.MixoutRefIdeal.main_arg3)
          ∧ r.2.mem ((c.tc : Thread Cert.MixoutRefIdeal.nD Cert.MixoutRefIdeal.τ).loc Cert.MixoutRefIdeal.main_arg4) = m' ((c.tc : Thread Cert.MixoutRefIdeal.nD Cert.MixoutRefIdeal.τ).loc Cert.MixoutRefIdeal.main_arg4)
          ∧ r.2.mem ((c.tc : Thread Cert.MixoutRefIdeal.nD Cert.MixoutRefIdeal.τ).loc Cert.MixoutRefIdeal.main_arg5) = m' ((c.tc : Thread Cert.MixoutRefIdeal.nD Cert.MixoutRefIdeal.τ).loc Cert.MixoutRefIdeal.main_arg5)
          ∧ r.2.mem ((c.tc : Thread Cert.MixoutRefIdeal.nD Cert.MixoutRefIdeal.τ).loc Cert.MixoutRefIdeal.main_arg6) = m' ((c.tc : Thread Cert.MixoutRefIdeal.nD Cert.MixoutRefIdeal.τ).loc Cert.MixoutRefIdeal.main_arg6)
          ∧ r.2.mem ((c.tc : Thread Cert.MixoutRefIdeal.nD Cert.MixoutRefIdeal.τ).loc Cert.MixoutRefIdeal.main_arg7) = m' ((c.tc : Thread Cert.MixoutRefIdeal.nD Cert.MixoutRefIdeal.τ).loc Cert.MixoutRefIdeal.main_arg7)
          ∧ r.2.mem ((c.tc : Thread Cert.MixoutRefIdeal.nD Cert.MixoutRefIdeal.τ).loc Cert.MixoutRefIdeal.main_arg8) = m' ((c.tc : Thread Cert.MixoutRefIdeal.nD Cert.MixoutRefIdeal.τ).loc Cert.MixoutRefIdeal.main_arg8))

def preserves_MixoutGrad_MixoutGradIdeal : Prop :=
  True

def algebraic_MixoutGradIdeal_MixoutGradRefIdeal_pre_finite_mix [hMixoutGradIdeal : Cert.MixoutGradIdeal.Facts] [hMixoutGradRefIdeal : Cert.MixoutGradRefIdeal.Facts] [hPre_finite_mix : Cert.Pre_finite_mix.Facts] : Prop :=
  ∀ (m : (ℓ : Loc Cert.MixoutGradIdeal.nD Cert.MixoutGradIdeal.τ Cert.MixoutGradIdeal.sig) → Buf (Elt Ideal) ℓ) (g : Dev Cert.MixoutGradIdeal.nD → PrngReg)
    (m' : (ℓ : Loc Cert.MixoutGradRefIdeal.nD Cert.MixoutGradRefIdeal.τ Cert.MixoutGradRefIdeal.sig) → Buf (Elt Ideal) ℓ) (g' : Dev Cert.MixoutGradRefIdeal.nD → PrngReg), Pre_MixoutGradIdeal_finite_mix m →
    (∀ c : Dev Cert.MixoutGradIdeal.nD,
      m' ((c.tc : Thread Cert.MixoutGradRefIdeal.nD Cert.MixoutGradRefIdeal.τ).loc Cert.MixoutGradRefIdeal.main_arg0) = m ((c.tc : Thread Cert.MixoutGradIdeal.nD Cert.MixoutGradIdeal.τ).loc Cert.MixoutGradIdeal.main_arg0)
      ∧ m' ((c.tc : Thread Cert.MixoutGradRefIdeal.nD Cert.MixoutGradRefIdeal.τ).loc Cert.MixoutGradRefIdeal.main_arg1) = m ((c.tc : Thread Cert.MixoutGradIdeal.nD Cert.MixoutGradIdeal.τ).loc Cert.MixoutGradIdeal.main_arg1)
      ∧ m' ((c.tc : Thread Cert.MixoutGradRefIdeal.nD Cert.MixoutGradRefIdeal.τ).loc Cert.MixoutGradRefIdeal.main_arg2) = m ((c.tc : Thread Cert.MixoutGradIdeal.nD Cert.MixoutGradIdeal.τ).loc Cert.MixoutGradIdeal.main_arg2)
      ∧ m' ((c.tc : Thread Cert.MixoutGradRefIdeal.nD Cert.MixoutGradRefIdeal.τ).loc Cert.MixoutGradRefIdeal.main_arg3) = m ((c.tc : Thread Cert.MixoutGradIdeal.nD Cert.MixoutGradIdeal.τ).loc Cert.MixoutGradIdeal.main_arg3)
      ∧ m' ((c.tc : Thread Cert.MixoutGradRefIdeal.nD Cert.MixoutGradRefIdeal.τ).loc Cert.MixoutGradRefIdeal.main_arg4) = m ((c.tc : Thread Cert.MixoutGradIdeal.nD Cert.MixoutGradIdeal.τ).loc Cert.MixoutGradIdeal.main_arg4)
      ∧ m' ((c.tc : Thread Cert.MixoutGradRefIdeal.nD Cert.MixoutGradRefIdeal.τ).loc Cert.MixoutGradRefIdeal.main_arg5) = m ((c.tc : Thread Cert.MixoutGradIdeal.nD Cert.MixoutGradIdeal.τ).loc Cert.MixoutGradIdeal.main_arg5)
      ∧ m' ((c.tc : Thread Cert.MixoutGradRefIdeal.nD Cert.MixoutGradRefIdeal.τ).loc Cert.MixoutGradRefIdeal.main_arg6) = m ((c.tc : Thread Cert.MixoutGradIdeal.nD Cert.MixoutGradIdeal.τ).loc Cert.MixoutGradIdeal.main_arg6)
      ∧ m' ((c.tc : Thread Cert.MixoutGradRefIdeal.nD Cert.MixoutGradRefIdeal.τ).loc Cert.MixoutGradRefIdeal.main_arg7) = m ((c.tc : Thread Cert.MixoutGradIdeal.nD Cert.MixoutGradIdeal.τ).loc Cert.MixoutGradIdeal.main_arg7)
      ∧ m' ((c.tc : Thread Cert.MixoutGradRefIdeal.nD Cert.MixoutGradRefIdeal.τ).loc Cert.MixoutGradRefIdeal.main_arg8) = m ((c.tc : Thread Cert.MixoutGradIdeal.nD Cert.MixoutGradIdeal.τ).loc Cert.MixoutGradIdeal.main_arg8)
      ∧ m' ((c.tc : Thread Cert.MixoutGradRefIdeal.nD Cert.MixoutGradRefIdeal.τ).loc Cert.MixoutGradRefIdeal.main_arg9) = m ((c.tc : Thread Cert.MixoutGradIdeal.nD Cert.MixoutGradIdeal.τ).loc Cert.MixoutGradIdeal.main_arg9)) →
    ∃ (v0 : (c : Dev Cert.MixoutGradIdeal.nD) → Buf (Elt Ideal) ((c.tc : Thread Cert.MixoutGradIdeal.nD Cert.MixoutGradIdeal.τ).loc Cert.MixoutGradIdeal.main_v72_0)) (v1 : (c : Dev Cert.MixoutGradIdeal.nD) → Buf (Elt Ideal) ((c.tc : Thread Cert.MixoutGradIdeal.nD Cert.MixoutGradIdeal.τ).loc Cert.MixoutGradIdeal.main_v72_1)) (v2 : (c : Dev Cert.MixoutGradIdeal.nD) → Buf (Elt Ideal) ((c.tc : Thread Cert.MixoutGradIdeal.nD Cert.MixoutGradIdeal.τ).loc Cert.MixoutGradIdeal.main_v72_2)) (v3 : (c : Dev Cert.MixoutGradIdeal.nD) → Buf (Elt Ideal) ((c.tc : Thread Cert.MixoutGradIdeal.nD Cert.MixoutGradIdeal.τ).loc Cert.MixoutGradIdeal.main_v72_3)) (v4 : (c : Dev Cert.MixoutGradIdeal.nD) → Buf (Elt Ideal) ((c.tc : Thread Cert.MixoutGradIdeal.nD Cert.MixoutGradIdeal.τ).loc Cert.MixoutGradIdeal.main_v72_4)) (v5 : (c : Dev Cert.MixoutGradIdeal.nD) → Buf (Elt Ideal) ((c.tc : Thread Cert.MixoutGradIdeal.nD Cert.MixoutGradIdeal.τ).loc Cert.MixoutGradIdeal.main_v72_5)) (v6 : (c : Dev Cert.MixoutGradIdeal.nD) → Buf (Elt Ideal) ((c.tc : Thread Cert.MixoutGradIdeal.nD Cert.MixoutGradIdeal.τ).loc Cert.MixoutGradIdeal.main_v72_6)) (v7 : (c : Dev Cert.MixoutGradIdeal.nD) → Buf (Elt Ideal) ((c.tc : Thread Cert.MixoutGradIdeal.nD Cert.MixoutGradIdeal.τ).loc Cert.MixoutGradIdeal.main_v72_7)) (v8 : (c : Dev Cert.MixoutGradIdeal.nD) → Buf (Elt Ideal) ((c.tc : Thread Cert.MixoutGradIdeal.nD Cert.MixoutGradIdeal.τ).loc Cert.MixoutGradIdeal.main_v72_8)) (v9 : (c : Dev Cert.MixoutGradIdeal.nD) → Buf (Elt Ideal) ((c.tc : Thread Cert.MixoutGradIdeal.nD Cert.MixoutGradIdeal.τ).loc Cert.MixoutGradIdeal.main_v72_9)),
      θ_run (Cert.MixoutGradIdeal.defs (F := Ideal)) (onTc (τ := Cert.MixoutGradIdeal.τ) (Cert.MixoutGradIdeal.main (F := Ideal))) ⟨m, fun _ => 0, g⟩ (fun r => ∀ c : Dev Cert.MixoutGradIdeal.nD,
          r.2.mem ((c.tc : Thread Cert.MixoutGradIdeal.nD Cert.MixoutGradIdeal.τ).loc Cert.MixoutGradIdeal.main_v72_0) = v0 c
          ∧ r.2.mem ((c.tc : Thread Cert.MixoutGradIdeal.nD Cert.MixoutGradIdeal.τ).loc Cert.MixoutGradIdeal.main_v72_1) = v1 c
          ∧ r.2.mem ((c.tc : Thread Cert.MixoutGradIdeal.nD Cert.MixoutGradIdeal.τ).loc Cert.MixoutGradIdeal.main_v72_2) = v2 c
          ∧ r.2.mem ((c.tc : Thread Cert.MixoutGradIdeal.nD Cert.MixoutGradIdeal.τ).loc Cert.MixoutGradIdeal.main_v72_3) = v3 c
          ∧ r.2.mem ((c.tc : Thread Cert.MixoutGradIdeal.nD Cert.MixoutGradIdeal.τ).loc Cert.MixoutGradIdeal.main_v72_4) = v4 c
          ∧ r.2.mem ((c.tc : Thread Cert.MixoutGradIdeal.nD Cert.MixoutGradIdeal.τ).loc Cert.MixoutGradIdeal.main_v72_5) = v5 c
          ∧ r.2.mem ((c.tc : Thread Cert.MixoutGradIdeal.nD Cert.MixoutGradIdeal.τ).loc Cert.MixoutGradIdeal.main_v72_6) = v6 c
          ∧ r.2.mem ((c.tc : Thread Cert.MixoutGradIdeal.nD Cert.MixoutGradIdeal.τ).loc Cert.MixoutGradIdeal.main_v72_7) = v7 c
          ∧ r.2.mem ((c.tc : Thread Cert.MixoutGradIdeal.nD Cert.MixoutGradIdeal.τ).loc Cert.MixoutGradIdeal.main_v72_8) = v8 c
          ∧ r.2.mem ((c.tc : Thread Cert.MixoutGradIdeal.nD Cert.MixoutGradIdeal.τ).loc Cert.MixoutGradIdeal.main_v72_9) = v9 c
          ∧ r.2.mem ((c.tc : Thread Cert.MixoutGradIdeal.nD Cert.MixoutGradIdeal.τ).loc Cert.MixoutGradIdeal.main_arg0) = m ((c.tc : Thread Cert.MixoutGradIdeal.nD Cert.MixoutGradIdeal.τ).loc Cert.MixoutGradIdeal.main_arg0)
          ∧ r.2.mem ((c.tc : Thread Cert.MixoutGradIdeal.nD Cert.MixoutGradIdeal.τ).loc Cert.MixoutGradIdeal.main_arg1) = m ((c.tc : Thread Cert.MixoutGradIdeal.nD Cert.MixoutGradIdeal.τ).loc Cert.MixoutGradIdeal.main_arg1)
          ∧ r.2.mem ((c.tc : Thread Cert.MixoutGradIdeal.nD Cert.MixoutGradIdeal.τ).loc Cert.MixoutGradIdeal.main_arg2) = m ((c.tc : Thread Cert.MixoutGradIdeal.nD Cert.MixoutGradIdeal.τ).loc Cert.MixoutGradIdeal.main_arg2)
          ∧ r.2.mem ((c.tc : Thread Cert.MixoutGradIdeal.nD Cert.MixoutGradIdeal.τ).loc Cert.MixoutGradIdeal.main_arg3) = m ((c.tc : Thread Cert.MixoutGradIdeal.nD Cert.MixoutGradIdeal.τ).loc Cert.MixoutGradIdeal.main_arg3)
          ∧ r.2.mem ((c.tc : Thread Cert.MixoutGradIdeal.nD Cert.MixoutGradIdeal.τ).loc Cert.MixoutGradIdeal.main_arg4) = m ((c.tc : Thread Cert.MixoutGradIdeal.nD Cert.MixoutGradIdeal.τ).loc Cert.MixoutGradIdeal.main_arg4)
          ∧ r.2.mem ((c.tc : Thread Cert.MixoutGradIdeal.nD Cert.MixoutGradIdeal.τ).loc Cert.MixoutGradIdeal.main_arg5) = m ((c.tc : Thread Cert.MixoutGradIdeal.nD Cert.MixoutGradIdeal.τ).loc Cert.MixoutGradIdeal.main_arg5)
          ∧ r.2.mem ((c.tc : Thread Cert.MixoutGradIdeal.nD Cert.MixoutGradIdeal.τ).loc Cert.MixoutGradIdeal.main_arg6) = m ((c.tc : Thread Cert.MixoutGradIdeal.nD Cert.MixoutGradIdeal.τ).loc Cert.MixoutGradIdeal.main_arg6)
          ∧ r.2.mem ((c.tc : Thread Cert.MixoutGradIdeal.nD Cert.MixoutGradIdeal.τ).loc Cert.MixoutGradIdeal.main_arg7) = m ((c.tc : Thread Cert.MixoutGradIdeal.nD Cert.MixoutGradIdeal.τ).loc Cert.MixoutGradIdeal.main_arg7)
          ∧ r.2.mem ((c.tc : Thread Cert.MixoutGradIdeal.nD Cert.MixoutGradIdeal.τ).loc Cert.MixoutGradIdeal.main_arg8) = m ((c.tc : Thread Cert.MixoutGradIdeal.nD Cert.MixoutGradIdeal.τ).loc Cert.MixoutGradIdeal.main_arg8)
          ∧ r.2.mem ((c.tc : Thread Cert.MixoutGradIdeal.nD Cert.MixoutGradIdeal.τ).loc Cert.MixoutGradIdeal.main_arg9) = m ((c.tc : Thread Cert.MixoutGradIdeal.nD Cert.MixoutGradIdeal.τ).loc Cert.MixoutGradIdeal.main_arg9))
      ∧ θ_run (Cert.MixoutGradRefIdeal.defs (F := Ideal)) (onTc (τ := Cert.MixoutGradRefIdeal.τ) (Cert.MixoutGradRefIdeal.main (F := Ideal))) ⟨m', fun _ => 0, g'⟩ (fun r => ∀ c : Dev Cert.MixoutGradRefIdeal.nD,
          r.2.mem ((c.tc : Thread Cert.MixoutGradRefIdeal.nD Cert.MixoutGradRefIdeal.τ).loc Cert.MixoutGradRefIdeal.main_v93) = v0 c
          ∧ r.2.mem ((c.tc : Thread Cert.MixoutGradRefIdeal.nD Cert.MixoutGradRefIdeal.τ).loc Cert.MixoutGradRefIdeal.main_v102) = v1 c
          ∧ r.2.mem ((c.tc : Thread Cert.MixoutGradRefIdeal.nD Cert.MixoutGradRefIdeal.τ).loc Cert.MixoutGradRefIdeal.main_v104) = v2 c
          ∧ r.2.mem ((c.tc : Thread Cert.MixoutGradRefIdeal.nD Cert.MixoutGradRefIdeal.τ).loc Cert.MixoutGradRefIdeal.main_v105) = v3 c
          ∧ r.2.mem ((c.tc : Thread Cert.MixoutGradRefIdeal.nD Cert.MixoutGradRefIdeal.τ).loc Cert.MixoutGradRefIdeal.main_v106) = v4 c
          ∧ r.2.mem ((c.tc : Thread Cert.MixoutGradRefIdeal.nD Cert.MixoutGradRefIdeal.τ).loc Cert.MixoutGradRefIdeal.main_v107) = v5 c
          ∧ r.2.mem ((c.tc : Thread Cert.MixoutGradRefIdeal.nD Cert.MixoutGradRefIdeal.τ).loc Cert.MixoutGradRefIdeal.main_v108) = v6 c
          ∧ r.2.mem ((c.tc : Thread Cert.MixoutGradRefIdeal.nD Cert.MixoutGradRefIdeal.τ).loc Cert.MixoutGradRefIdeal.main_v109) = v7 c
          ∧ r.2.mem ((c.tc : Thread Cert.MixoutGradRefIdeal.nD Cert.MixoutGradRefIdeal.τ).loc Cert.MixoutGradRefIdeal.main_v110) = v8 c
          ∧ r.2.mem ((c.tc : Thread Cert.MixoutGradRefIdeal.nD Cert.MixoutGradRefIdeal.τ).loc Cert.MixoutGradRefIdeal.main_v111) = v9 c
          ∧ r.2.mem ((c.tc : Thread Cert.MixoutGradRefIdeal.nD Cert.MixoutGradRefIdeal.τ).loc Cert.MixoutGradRefIdeal.main_arg0) = m' ((c.tc : Thread Cert.MixoutGradRefIdeal.nD Cert.MixoutGradRefIdeal.τ).loc Cert.MixoutGradRefIdeal.main_arg0)
          ∧ r.2.mem ((c.tc : Thread Cert.MixoutGradRefIdeal.nD Cert.MixoutGradRefIdeal.τ).loc Cert.MixoutGradRefIdeal.main_arg1) = m' ((c.tc : Thread Cert.MixoutGradRefIdeal.nD Cert.MixoutGradRefIdeal.τ).loc Cert.MixoutGradRefIdeal.main_arg1)
          ∧ r.2.mem ((c.tc : Thread Cert.MixoutGradRefIdeal.nD Cert.MixoutGradRefIdeal.τ).loc Cert.MixoutGradRefIdeal.main_arg2) = m' ((c.tc : Thread Cert.MixoutGradRefIdeal.nD Cert.MixoutGradRefIdeal.τ).loc Cert.MixoutGradRefIdeal.main_arg2)
          ∧ r.2.mem ((c.tc : Thread Cert.MixoutGradRefIdeal.nD Cert.MixoutGradRefIdeal.τ).loc Cert.MixoutGradRefIdeal.main_arg3) = m' ((c.tc : Thread Cert.MixoutGradRefIdeal.nD Cert.MixoutGradRefIdeal.τ).loc Cert.MixoutGradRefIdeal.main_arg3)
          ∧ r.2.mem ((c.tc : Thread Cert.MixoutGradRefIdeal.nD Cert.MixoutGradRefIdeal.τ).loc Cert.MixoutGradRefIdeal.main_arg4) = m' ((c.tc : Thread Cert.MixoutGradRefIdeal.nD Cert.MixoutGradRefIdeal.τ).loc Cert.MixoutGradRefIdeal.main_arg4)
          ∧ r.2.mem ((c.tc : Thread Cert.MixoutGradRefIdeal.nD Cert.MixoutGradRefIdeal.τ).loc Cert.MixoutGradRefIdeal.main_arg5) = m' ((c.tc : Thread Cert.MixoutGradRefIdeal.nD Cert.MixoutGradRefIdeal.τ).loc Cert.MixoutGradRefIdeal.main_arg5)
          ∧ r.2.mem ((c.tc : Thread Cert.MixoutGradRefIdeal.nD Cert.MixoutGradRefIdeal.τ).loc Cert.MixoutGradRefIdeal.main_arg6) = m' ((c.tc : Thread Cert.MixoutGradRefIdeal.nD Cert.MixoutGradRefIdeal.τ).loc Cert.MixoutGradRefIdeal.main_arg6)
          ∧ r.2.mem ((c.tc : Thread Cert.MixoutGradRefIdeal.nD Cert.MixoutGradRefIdeal.τ).loc Cert.MixoutGradRefIdeal.main_arg7) = m' ((c.tc : Thread Cert.MixoutGradRefIdeal.nD Cert.MixoutGradRefIdeal.τ).loc Cert.MixoutGradRefIdeal.main_arg7)
          ∧ r.2.mem ((c.tc : Thread Cert.MixoutGradRefIdeal.nD Cert.MixoutGradRefIdeal.τ).loc Cert.MixoutGradRefIdeal.main_arg8) = m' ((c.tc : Thread Cert.MixoutGradRefIdeal.nD Cert.MixoutGradRefIdeal.τ).loc Cert.MixoutGradRefIdeal.main_arg8)
          ∧ r.2.mem ((c.tc : Thread Cert.MixoutGradRefIdeal.nD Cert.MixoutGradRefIdeal.τ).loc Cert.MixoutGradRefIdeal.main_arg9) = m' ((c.tc : Thread Cert.MixoutGradRefIdeal.nD Cert.MixoutGradRefIdeal.τ).loc Cert.MixoutGradRefIdeal.main_arg9))

def preserves_MixinWG_MixinWGIdeal : Prop :=
  True

def algebraic_MixinWGIdeal_MixinWGRefIdeal [hMixinWGIdeal : Cert.MixinWGIdeal.Facts] [hMixinWGRefIdeal : Cert.MixinWGRefIdeal.Facts] : Prop :=
  ∀ (m : (ℓ : Loc Cert.MixinWGIdeal.nD Cert.MixinWGIdeal.τ Cert.MixinWGIdeal.sig) → Buf (Elt Ideal) ℓ) (g : Dev Cert.MixinWGIdeal.nD → PrngReg)
    (m' : (ℓ : Loc Cert.MixinWGRefIdeal.nD Cert.MixinWGRefIdeal.τ Cert.MixinWGRefIdeal.sig) → Buf (Elt Ideal) ℓ) (g' : Dev Cert.MixinWGRefIdeal.nD → PrngReg), Pre_MixinWGIdeal m →
    (∀ c : Dev Cert.MixinWGIdeal.nD,
      m' ((c.tc : Thread Cert.MixinWGRefIdeal.nD Cert.MixinWGRefIdeal.τ).loc Cert.MixinWGRefIdeal.main_arg0) = m ((c.tc : Thread Cert.MixinWGIdeal.nD Cert.MixinWGIdeal.τ).loc Cert.MixinWGIdeal.main_arg0)
      ∧ m' ((c.tc : Thread Cert.MixinWGRefIdeal.nD Cert.MixinWGRefIdeal.τ).loc Cert.MixinWGRefIdeal.main_arg1) = m ((c.tc : Thread Cert.MixinWGIdeal.nD Cert.MixinWGIdeal.τ).loc Cert.MixinWGIdeal.main_arg1)
      ∧ m' ((c.tc : Thread Cert.MixinWGRefIdeal.nD Cert.MixinWGRefIdeal.τ).loc Cert.MixinWGRefIdeal.main_arg2) = m ((c.tc : Thread Cert.MixinWGIdeal.nD Cert.MixinWGIdeal.τ).loc Cert.MixinWGIdeal.main_arg2)
      ∧ m' ((c.tc : Thread Cert.MixinWGRefIdeal.nD Cert.MixinWGRefIdeal.τ).loc Cert.MixinWGRefIdeal.main_arg3) = m ((c.tc : Thread Cert.MixinWGIdeal.nD Cert.MixinWGIdeal.τ).loc Cert.MixinWGIdeal.main_arg3)) →
    ∃ (v0 : (c : Dev Cert.MixinWGIdeal.nD) → Buf (Elt Ideal) ((c.tc : Thread Cert.MixinWGIdeal.nD Cert.MixinWGIdeal.τ).loc Cert.MixinWGIdeal.main_v4_0)) (v1 : (c : Dev Cert.MixinWGIdeal.nD) → Buf (Elt Ideal) ((c.tc : Thread Cert.MixinWGIdeal.nD Cert.MixinWGIdeal.τ).loc Cert.MixinWGIdeal.main_v4_1)),
      θ_run (Cert.MixinWGIdeal.defs (F := Ideal)) (onTc (τ := Cert.MixinWGIdeal.τ) (Cert.MixinWGIdeal.main (F := Ideal))) ⟨m, fun _ => 0, g⟩ (fun r => ∀ c : Dev Cert.MixinWGIdeal.nD,
          r.2.mem ((c.tc : Thread Cert.MixinWGIdeal.nD Cert.MixinWGIdeal.τ).loc Cert.MixinWGIdeal.main_v4_0) = v0 c
          ∧ r.2.mem ((c.tc : Thread Cert.MixinWGIdeal.nD Cert.MixinWGIdeal.τ).loc Cert.MixinWGIdeal.main_v4_1) = v1 c
          ∧ r.2.mem ((c.tc : Thread Cert.MixinWGIdeal.nD Cert.MixinWGIdeal.τ).loc Cert.MixinWGIdeal.main_arg0) = m ((c.tc : Thread Cert.MixinWGIdeal.nD Cert.MixinWGIdeal.τ).loc Cert.MixinWGIdeal.main_arg0)
          ∧ r.2.mem ((c.tc : Thread Cert.MixinWGIdeal.nD Cert.MixinWGIdeal.τ).loc Cert.MixinWGIdeal.main_arg1) = m ((c.tc : Thread Cert.MixinWGIdeal.nD Cert.MixinWGIdeal.τ).loc Cert.MixinWGIdeal.main_arg1)
          ∧ r.2.mem ((c.tc : Thread Cert.MixinWGIdeal.nD Cert.MixinWGIdeal.τ).loc Cert.MixinWGIdeal.main_arg2) = m ((c.tc : Thread Cert.MixinWGIdeal.nD Cert.MixinWGIdeal.τ).loc Cert.MixinWGIdeal.main_arg2)
          ∧ r.2.mem ((c.tc : Thread Cert.MixinWGIdeal.nD Cert.MixinWGIdeal.τ).loc Cert.MixinWGIdeal.main_arg3) = m ((c.tc : Thread Cert.MixinWGIdeal.nD Cert.MixinWGIdeal.τ).loc Cert.MixinWGIdeal.main_arg3))
      ∧ θ_run (Cert.MixinWGRefIdeal.defs (F := Ideal)) (onTc (τ := Cert.MixinWGRefIdeal.τ) (Cert.MixinWGRefIdeal.main (F := Ideal))) ⟨m', fun _ => 0, g'⟩ (fun r => ∀ c : Dev Cert.MixinWGRefIdeal.nD,
          r.2.mem ((c.tc : Thread Cert.MixinWGRefIdeal.nD Cert.MixinWGRefIdeal.τ).loc Cert.MixinWGRefIdeal.main_v5) = v0 c
          ∧ r.2.mem ((c.tc : Thread Cert.MixinWGRefIdeal.nD Cert.MixinWGRefIdeal.τ).loc Cert.MixinWGRefIdeal.main_v6) = v1 c
          ∧ r.2.mem ((c.tc : Thread Cert.MixinWGRefIdeal.nD Cert.MixinWGRefIdeal.τ).loc Cert.MixinWGRefIdeal.main_arg0) = m' ((c.tc : Thread Cert.MixinWGRefIdeal.nD Cert.MixinWGRefIdeal.τ).loc Cert.MixinWGRefIdeal.main_arg0)
          ∧ r.2.mem ((c.tc : Thread Cert.MixinWGRefIdeal.nD Cert.MixinWGRefIdeal.τ).loc Cert.MixinWGRefIdeal.main_arg1) = m' ((c.tc : Thread Cert.MixinWGRefIdeal.nD Cert.MixinWGRefIdeal.τ).loc Cert.MixinWGRefIdeal.main_arg1)
          ∧ r.2.mem ((c.tc : Thread Cert.MixinWGRefIdeal.nD Cert.MixinWGRefIdeal.τ).loc Cert.MixinWGRefIdeal.main_arg2) = m' ((c.tc : Thread Cert.MixinWGRefIdeal.nD Cert.MixinWGRefIdeal.τ).loc Cert.MixinWGRefIdeal.main_arg2)
          ∧ r.2.mem ((c.tc : Thread Cert.MixinWGRefIdeal.nD Cert.MixinWGRefIdeal.τ).loc Cert.MixinWGRefIdeal.main_arg3) = m' ((c.tc : Thread Cert.MixinWGRefIdeal.nD Cert.MixinWGRefIdeal.τ).loc Cert.MixinWGRefIdeal.main_arg3))

def preserves_SumLoss_SumLossIdeal : Prop :=
  True

def algebraic_SumLossIdeal_SumLossRefIdeal [hSumLossIdeal : Cert.SumLossIdeal.Facts] [hSumLossRefIdeal : Cert.SumLossRefIdeal.Facts] : Prop :=
  ∀ (m : (ℓ : Loc Cert.SumLossIdeal.nD Cert.SumLossIdeal.τ Cert.SumLossIdeal.sig) → Buf (Elt Ideal) ℓ) (g : Dev Cert.SumLossIdeal.nD → PrngReg)
    (m' : (ℓ : Loc Cert.SumLossRefIdeal.nD Cert.SumLossRefIdeal.τ Cert.SumLossRefIdeal.sig) → Buf (Elt Ideal) ℓ) (g' : Dev Cert.SumLossRefIdeal.nD → PrngReg), Pre_SumLossIdeal m →
    (∀ c : Dev Cert.SumLossIdeal.nD,
      m' ((c.tc : Thread Cert.SumLossRefIdeal.nD Cert.SumLossRefIdeal.τ).loc Cert.SumLossRefIdeal.main_arg0) = m ((c.tc : Thread Cert.SumLossIdeal.nD Cert.SumLossIdeal.τ).loc Cert.SumLossIdeal.main_arg0)) →
    ∃ (v0 : (c : Dev Cert.SumLossIdeal.nD) → Buf (Elt Ideal) ((c.tc : Thread Cert.SumLossIdeal.nD Cert.SumLossIdeal.τ).loc Cert.SumLossIdeal.main_v0)),
      θ_run (Cert.SumLossIdeal.defs (F := Ideal)) (onTc (τ := Cert.SumLossIdeal.τ) (Cert.SumLossIdeal.main (F := Ideal))) ⟨m, fun _ => 0, g⟩ (fun r => ∀ c : Dev Cert.SumLossIdeal.nD,
          r.2.mem ((c.tc : Thread Cert.SumLossIdeal.nD Cert.SumLossIdeal.τ).loc Cert.SumLossIdeal.main_v0) = v0 c
          ∧ r.2.mem ((c.tc : Thread Cert.SumLossIdeal.nD Cert.SumLossIdeal.τ).loc Cert.SumLossIdeal.main_arg0) = m ((c.tc : Thread Cert.SumLossIdeal.nD Cert.SumLossIdeal.τ).loc Cert.SumLossIdeal.main_arg0))
      ∧ θ_run (Cert.SumLossRefIdeal.defs (F := Ideal)) (onTc (τ := Cert.SumLossRefIdeal.τ) (Cert.SumLossRefIdeal.main (F := Ideal))) ⟨m', fun _ => 0, g'⟩ (fun r => ∀ c : Dev Cert.SumLossRefIdeal.nD,
          r.2.mem ((c.tc : Thread Cert.SumLossRefIdeal.nD Cert.SumLossRefIdeal.τ).loc Cert.SumLossRefIdeal.main_v3) = v0 c
          ∧ r.2.mem ((c.tc : Thread Cert.SumLossRefIdeal.nD Cert.SumLossRefIdeal.τ).loc Cert.SumLossRefIdeal.main_arg0) = m' ((c.tc : Thread Cert.SumLossRefIdeal.nD Cert.SumLossRefIdeal.τ).loc Cert.SumLossRefIdeal.main_arg0))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)
      ∧ m' ((c.tc : Thread Cert.AdamFfnOutRefIdeal.nD Cert.AdamFfnOutRefIdeal.τ).loc Cert.AdamFfnOutRefIdeal.main_arg4) = m ((c.tc : Thread Cert.AdamFfnOutIdeal.nD Cert.AdamFfnOutIdeal.τ).loc Cert.AdamFfnOutIdeal.main_arg4)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)) (v3 : (c : Dev Cert.AdamFfnOutIdeal.nD) → Buf (Elt Ideal) ((c.tc : Thread Cert.AdamFfnOutIdeal.nD Cert.AdamFfnOutIdeal.τ).loc Cert.AdamFfnOutIdeal.main_v0_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_v0_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
          ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v0) = v0 c
          ∧ r.2.mem ((c.tc : Thread Cert.AdamFfnOutRefIdeal.nD Cert.AdamFfnOutRefIdeal.τ).loc Cert.AdamFfnOutRefIdeal.main_v24) = v1 c
          ∧ r.2.mem ((c.tc : Thread Cert.AdamFfnOutRefIdeal.nD Cert.AdamFfnOutRefIdeal.τ).loc Cert.AdamFfnOutRefIdeal.main_v5) = v2 c
          ∧ r.2.mem ((c.tc : Thread Cert.AdamFfnOutRefIdeal.nD Cert.AdamFfnOutRefIdeal.τ).loc Cert.AdamFfnOutRefIdeal.main_v11) = v3 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3)
          ∧ r.2.mem ((c.tc : Thread Cert.AdamFfnOutRefIdeal.nD Cert.AdamFfnOutRefIdeal.τ).loc Cert.AdamFfnOutRefIdeal.main_arg4) = m' ((c.tc : Thread Cert.AdamFfnOutRefIdeal.nD Cert.AdamFfnOutRefIdeal.τ).loc Cert.AdamFfnOutRefIdeal.main_arg4))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)
      ∧ m' ((c.tc : Thread Cert.AdamFfnInRefIdeal.nD Cert.AdamFfnInRefIdeal.τ).loc Cert.AdamFfnInRefIdeal.main_arg4) = m ((c.tc : Thread Cert.AdamFfnInIdeal.nD Cert.AdamFfnInIdeal.τ).loc Cert.AdamFfnInIdeal.main_arg4)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)) (v3 : (c : Dev Cert.AdamFfnInIdeal.nD) → Buf (Elt Ideal) ((c.tc : Thread Cert.AdamFfnInIdeal.nD Cert.AdamFfnInIdeal.τ).loc Cert.AdamFfnInIdeal.main_v0_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_v0_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
          ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v0) = v0 c
          ∧ r.2.mem ((c.tc : Thread Cert.AdamFfnInRefIdeal.nD Cert.AdamFfnInRefIdeal.τ).loc Cert.AdamFfnInRefIdeal.main_v24) = v1 c
          ∧ r.2.mem ((c.tc : Thread Cert.AdamFfnInRefIdeal.nD Cert.AdamFfnInRefIdeal.τ).loc Cert.AdamFfnInRefIdeal.main_v5) = v2 c
          ∧ r.2.mem ((c.tc : Thread Cert.AdamFfnInRefIdeal.nD Cert.AdamFfnInRefIdeal.τ).loc Cert.AdamFfnInRefIdeal.main_v11) = v3 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3)
          ∧ r.2.mem ((c.tc : Thread Cert.AdamFfnInRefIdeal.nD Cert.AdamFfnInRefIdeal.τ).loc Cert.AdamFfnInRefIdeal.main_arg4) = m' ((c.tc : Thread Cert.AdamFfnInRefIdeal.nD Cert.AdamFfnInRefIdeal.τ).loc Cert.AdamFfnInRefIdeal.main_arg4))

def preserves_AdamMixIn_AdamMixInIdeal : Prop :=
  True

def algebraic_AdamMixInIdeal_AdamMixInRefIdeal [hAdamMixInIdeal : Cert.AdamMixInIdeal.Facts] [hAdamMixInRefIdeal : Cert.AdamMixInRefIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg)
    (m' : (ℓ : Loc Cert.AdamMixInRefIdeal.nD Cert.AdamMixInRefIdeal.τ Cert.AdamMixInRefIdeal.sig) → Buf (Elt Ideal) ℓ) (g' : Dev Cert.AdamMixInRefIdeal.nD → PrngReg), Pre_AdamMixInIdeal m →
    (∀ c : Dev Cert.AdamMixInIdeal.nD,
      m' ((c.tc : Thread Cert.AdamMixInRefIdeal.nD Cert.AdamMixInRefIdeal.τ).loc Cert.AdamMixInRefIdeal.main_arg0) = m ((c.tc : Thread Cert.AdamMixInIdeal.nD Cert.AdamMixInIdeal.τ).loc Cert.AdamMixInIdeal.main_arg0)
      ∧ m' ((c.tc : Thread Cert.AdamMixInRefIdeal.nD Cert.AdamMixInRefIdeal.τ).loc Cert.AdamMixInRefIdeal.main_arg1) = m ((c.tc : Thread Cert.AdamMixInIdeal.nD Cert.AdamMixInIdeal.τ).loc Cert.AdamMixInIdeal.main_arg1)
      ∧ m' ((c.tc : Thread Cert.AdamMixInRefIdeal.nD Cert.AdamMixInRefIdeal.τ).loc Cert.AdamMixInRefIdeal.main_arg2) = m ((c.tc : Thread Cert.AdamMixInIdeal.nD Cert.AdamMixInIdeal.τ).loc Cert.AdamMixInIdeal.main_arg2)
      ∧ m' ((c.tc : Thread Cert.AdamMixInRefIdeal.nD Cert.AdamMixInRefIdeal.τ).loc Cert.AdamMixInRefIdeal.main_arg3) = m ((c.tc : Thread Cert.AdamMixInIdeal.nD Cert.AdamMixInIdeal.τ).loc Cert.AdamMixInIdeal.main_arg3)
      ∧ m' ((c.tc : Thread Cert.AdamMixInRefIdeal.nD Cert.AdamMixInRefIdeal.τ).loc Cert.AdamMixInRefIdeal.main_arg4) = m ((c.tc : Thread Cert.AdamMixInIdeal.nD Cert.AdamMixInIdeal.τ).loc Cert.AdamMixInIdeal.main_arg4)) →
    ∃ (v0 : (c : Dev Cert.AdamMixInIdeal.nD) → Buf (Elt Ideal) ((c.tc : Thread Cert.AdamMixInIdeal.nD Cert.AdamMixInIdeal.τ).loc Cert.AdamMixInIdeal.main_v0_0)) (v1 : (c : Dev Cert.AdamMixInIdeal.nD) → Buf (Elt Ideal) ((c.tc : Thread Cert.AdamMixInIdeal.nD Cert.AdamMixInIdeal.τ).loc Cert.AdamMixInIdeal.main_v0_1)) (v2 : (c : Dev Cert.AdamMixInIdeal.nD) → Buf (Elt Ideal) ((c.tc : Thread Cert.AdamMixInIdeal.nD Cert.AdamMixInIdeal.τ).loc Cert.AdamMixInIdeal.main_v0_2)) (v3 : (c : Dev Cert.AdamMixInIdeal.nD) → Buf (Elt Ideal) ((c.tc : Thread Cert.AdamMixInIdeal.nD Cert.AdamMixInIdeal.τ).loc Cert.AdamMixInIdeal.main_v0_3)),
      θ_run (Cert.AdamMixInIdeal.defs (F := Ideal)) (onTc (τ := Cert.AdamMixInIdeal.τ) (Cert.AdamMixInIdeal.main (F := Ideal))) ⟨m, fun _ => 0, g⟩ (fun r => ∀ c : Dev Cert.AdamMixInIdeal.nD,
          r.2.mem ((c.tc : Thread Cert.AdamMixInIdeal.nD Cert.AdamMixInIdeal.τ).loc Cert.AdamMixInIdeal.main_v0_0) = v0 c
          ∧ r.2.mem ((c.tc : Thread Cert.AdamMixInIdeal.nD Cert.AdamMixInIdeal.τ).loc Cert.AdamMixInIdeal.main_v0_1) = v1 c
          ∧ r.2.mem ((c.tc : Thread Cert.AdamMixInIdeal.nD Cert.AdamMixInIdeal.τ).loc Cert.AdamMixInIdeal.main_v0_2) = v2 c
          ∧ r.2.mem ((c.tc : Thread Cert.AdamMixInIdeal.nD Cert.AdamMixInIdeal.τ).loc Cert.AdamMixInIdeal.main_v0_3) = v3 c
          ∧ r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
          ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
          ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
          ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3)
          ∧ r.2.mem ((c.tc : Thread Cert.AdamMixInIdeal.nD Cert.AdamMixInIdeal.τ).loc Cert.AdamMixInIdeal.main_arg4) = m ((c.tc : Thread Cert.AdamMixInIdeal.nD Cert.AdamMixInIdeal.τ).loc Cert.AdamMixInIdeal.main_arg4))
      ∧ θ_run (Cert.AdamMixInRefIdeal.defs (F := Ideal)) (onTc (τ := Cert.AdamMixInRefIdeal.τ) (Cert.AdamMixInRefIdeal.main (F := Ideal))) ⟨m', fun _ => 0, g'⟩ (fun r => ∀ c : Dev Cert.AdamMixInRefIdeal.nD,
          r.2.mem ((c.tc : Thread Cert.AdamMixInRefIdeal.nD Cert.AdamMixInRefIdeal.τ).loc Cert.AdamMixInRefIdeal.main_v0) = v0 c
          ∧ r.2.mem ((c.tc : Thread Cert.AdamMixInRefIdeal.nD Cert.AdamMixInRefIdeal.τ).loc Cert.AdamMixInRefIdeal.main_v24) = v1 c
          ∧ r.2.mem ((c.tc : Thread Cert.AdamMixInRefIdeal.nD Cert.AdamMixInRefIdeal.τ).loc Cert.AdamMixInRefIdeal.main_v5) = v2 c
          ∧ r.2.mem ((c.tc : Thread Cert.AdamMixInRefIdeal.nD Cert.AdamMixInRefIdeal.τ).loc Cert.AdamMixInRefIdeal.main_v11) = v3 c
          ∧ r.2.mem ((c.tc : Thread Cert.AdamMixInRefIdeal.nD Cert.AdamMixInRefIdeal.τ).loc Cert.AdamMixInRefIdeal.main_arg0) = m' ((c.tc : Thread Cert.AdamMixInRefIdeal.nD Cert.AdamMixInRefIdeal.τ).loc Cert.AdamMixInRefIdeal.main_arg0)
          ∧ r.2.mem ((c.tc : Thread Cert.AdamMixInRefIdeal.nD Cert.AdamMixInRefIdeal.τ).loc Cert.AdamMixInRefIdeal.main_arg1) = m' ((c.tc : Thread Cert.AdamMixInRefIdeal.nD Cert.AdamMixInRefIdeal.τ).loc Cert.AdamMixInRefIdeal.main_arg1)
          ∧ r.2.mem ((c.tc : Thread Cert.AdamMixInRefIdeal.nD Cert.AdamMixInRefIdeal.τ).loc Cert.AdamMixInRefIdeal.main_arg2) = m' ((c.tc : Thread Cert.AdamMixInRefIdeal.nD Cert.AdamMixInRefIdeal.τ).loc Cert.AdamMixInRefIdeal.main_arg2)
          ∧ r.2.mem ((c.tc : Thread Cert.AdamMixInRefIdeal.nD Cert.AdamMixInRefIdeal.τ).loc Cert.AdamMixInRefIdeal.main_arg3) = m' ((c.tc : Thread Cert.AdamMixInRefIdeal.nD Cert.AdamMixInRefIdeal.τ).loc Cert.AdamMixInRefIdeal.main_arg3)
          ∧ r.2.mem ((c.tc : Thread Cert.AdamMixInRefIdeal.nD Cert.AdamMixInRefIdeal.τ).loc Cert.AdamMixInRefIdeal.main_arg4) = m' ((c.tc : Thread Cert.AdamMixInRefIdeal.nD Cert.AdamMixInRefIdeal.τ).loc Cert.AdamMixInRefIdeal.main_arg4))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)
      ∧ m' ((c.tc : Thread Cert.AdamGluRefIdeal.nD Cert.AdamGluRefIdeal.τ).loc Cert.AdamGluRefIdeal.main_arg4) = m ((c.tc : Thread Cert.AdamGluIdeal.nD Cert.AdamGluIdeal.τ).loc Cert.AdamGluIdeal.main_arg4)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
          ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v0) = v0 c
          ∧ r.2.mem ((c.tc : Thread Cert.AdamGluRefIdeal.nD Cert.AdamGluRefIdeal.τ).loc Cert.AdamGluRefIdeal.main_v24) = v1 c
          ∧ r.2.mem ((c.tc : Thread Cert.AdamGluRefIdeal.nD Cert.AdamGluRefIdeal.τ).loc Cert.AdamGluRefIdeal.main_v5) = v2 c
          ∧ r.2.mem ((c.tc : Thread Cert.AdamGluRefIdeal.nD Cert.AdamGluRefIdeal.τ).loc Cert.AdamGluRefIdeal.main_v11) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3)
          ∧ r.2.mem ((c.tc : Thread Cert.AdamGluRefIdeal.nD Cert.AdamGluRefIdeal.τ).loc Cert.AdamGluRefIdeal.main_arg4) = m' ((c.tc : Thread Cert.AdamGluRefIdeal.nD Cert.AdamGluRefIdeal.τ).loc Cert.AdamGluRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v0) = v0 c
          ∧ r.2.mem ((c.tc : Thread Cert.AdamUpRefIdeal.nD Cert.AdamUpRefIdeal.τ).loc Cert.AdamUpRefIdeal.main_v24) = v1 c
          ∧ r.2.mem ((c.tc : Thread Cert.AdamUpRefIdeal.nD Cert.AdamUpRefIdeal.τ).loc Cert.AdamUpRefIdeal.main_v5) = v2 c
          ∧ r.2.mem ((c.tc : Thread Cert.AdamUpRefIdeal.nD Cert.AdamUpRefIdeal.τ).loc Cert.AdamUpRefIdeal.main_v11) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)
      ∧ m' ((c.tc : Thread Cert.AdamSquareRefIdeal.nD Cert.AdamSquareRefIdeal.τ).loc Cert.AdamSquareRefIdeal.main_arg4) = m ((c.tc : Thread Cert.AdamSquareIdeal.nD Cert.AdamSquareIdeal.τ).loc Cert.AdamSquareIdeal.main_arg4)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)) (v3 : (c : Dev Cert.AdamSquareIdeal.nD) → Buf (Elt Ideal) ((c.tc : Thread Cert.AdamSquareIdeal.nD Cert.AdamSquareIdeal.τ).loc Cert.AdamSquareIdeal.main_v0_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_v0_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
          ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v0) = v0 c
          ∧ r.2.mem ((c.tc : Thread Cert.AdamSquareRefIdeal.nD Cert.AdamSquareRefIdeal.τ).loc Cert.AdamSquareRefIdeal.main_v24) = v1 c
          ∧ r.2.mem ((c.tc : Thread Cert.AdamSquareRefIdeal.nD Cert.AdamSquareRefIdeal.τ).loc Cert.AdamSquareRefIdeal.main_v5) = v2 c
          ∧ r.2.mem ((c.tc : Thread Cert.AdamSquareRefIdeal.nD Cert.AdamSquareRefIdeal.τ).loc Cert.AdamSquareRefIdeal.main_v11) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3)
          ∧ r.2.mem ((c.tc : Thread Cert.AdamSquareRefIdeal.nD Cert.AdamSquareRefIdeal.τ).loc Cert.AdamSquareRefIdeal.main_arg4) = m' ((c.tc : Thread Cert.AdamSquareRefIdeal.nD Cert.AdamSquareRefIdeal.τ).loc Cert.AdamSquareRefIdeal.main_arg4))

def preserves_AdamPle_AdamPleIdeal : Prop :=
  True

def algebraic_AdamPleIdeal_AdamPleRefIdeal [hAdamPleIdeal : Cert.AdamPleIdeal.Facts] [hAdamPleRefIdeal : Cert.AdamPleRefIdeal.Facts] : Prop :=
  ∀ (m : (ℓ : Loc Cert.AdamPleIdeal.nD Cert.AdamPleIdeal.τ Cert.AdamPleIdeal.sig) → Buf (Elt Ideal) ℓ) (g : Dev Cert.AdamPleIdeal.nD → PrngReg)
    (m' : (ℓ : Loc Cert.AdamPleRefIdeal.nD Cert.AdamPleRefIdeal.τ Cert.AdamPleRefIdeal.sig) → Buf (Elt Ideal) ℓ) (g' : Dev Cert.AdamPleRefIdeal.nD → PrngReg), Pre_AdamPleIdeal m →
    (∀ c : Dev Cert.AdamPleIdeal.nD,
      m' ((c.tc : Thread Cert.AdamPleRefIdeal.nD Cert.AdamPleRefIdeal.τ).loc Cert.AdamPleRefIdeal.main_arg0) = m ((c.tc : Thread Cert.AdamPleIdeal.nD Cert.AdamPleIdeal.τ).loc Cert.AdamPleIdeal.main_arg0)
      ∧ m' ((c.tc : Thread Cert.AdamPleRefIdeal.nD Cert.AdamPleRefIdeal.τ).loc Cert.AdamPleRefIdeal.main_arg1) = m ((c.tc : Thread Cert.AdamPleIdeal.nD Cert.AdamPleIdeal.τ).loc Cert.AdamPleIdeal.main_arg1)
      ∧ m' ((c.tc : Thread Cert.AdamPleRefIdeal.nD Cert.AdamPleRefIdeal.τ).loc Cert.AdamPleRefIdeal.main_arg2) = m ((c.tc : Thread Cert.AdamPleIdeal.nD Cert.AdamPleIdeal.τ).loc Cert.AdamPleIdeal.main_arg2)
      ∧ m' ((c.tc : Thread Cert.AdamPleRefIdeal.nD Cert.AdamPleRefIdeal.τ).loc Cert.AdamPleRefIdeal.main_arg3) = m ((c.tc : Thread Cert.AdamPleIdeal.nD Cert.AdamPleIdeal.τ).loc Cert.AdamPleIdeal.main_arg3)
      ∧ m' ((c.tc : Thread Cert.AdamPleRefIdeal.nD Cert.AdamPleRefIdeal.τ).loc Cert.AdamPleRefIdeal.main_arg4) = m ((c.tc : Thread Cert.AdamPleIdeal.nD Cert.AdamPleIdeal.τ).loc Cert.AdamPleIdeal.main_arg4)) →
    ∃ (v0 : (c : Dev Cert.AdamPleIdeal.nD) → Buf (Elt Ideal) ((c.tc : Thread Cert.AdamPleIdeal.nD Cert.AdamPleIdeal.τ).loc Cert.AdamPleIdeal.main_v0_0)) (v1 : (c : Dev Cert.AdamPleIdeal.nD) → Buf (Elt Ideal) ((c.tc : Thread Cert.AdamPleIdeal.nD Cert.AdamPleIdeal.τ).loc Cert.AdamPleIdeal.main_v0_1)) (v2 : (c : Dev Cert.AdamPleIdeal.nD) → Buf (Elt Ideal) ((c.tc : Thread Cert.AdamPleIdeal.nD Cert.AdamPleIdeal.τ).loc Cert.AdamPleIdeal.main_v0_2)) (v3 : (c : Dev Cert.AdamPleIdeal.nD) → Buf (Elt Ideal) ((c.tc : Thread Cert.AdamPleIdeal.nD Cert.AdamPleIdeal.τ).loc Cert.AdamPleIdeal.main_v0_3)),
      θ_run (Cert.AdamPleIdeal.defs (F := Ideal)) (onTc (τ := Cert.AdamPleIdeal.τ) (Cert.AdamPleIdeal.main (F := Ideal))) ⟨m, fun _ => 0, g⟩ (fun r => ∀ c : Dev Cert.AdamPleIdeal.nD,
          r.2.mem ((c.tc : Thread Cert.AdamPleIdeal.nD Cert.AdamPleIdeal.τ).loc Cert.AdamPleIdeal.main_v0_0) = v0 c
          ∧ r.2.mem ((c.tc : Thread Cert.AdamPleIdeal.nD Cert.AdamPleIdeal.τ).loc Cert.AdamPleIdeal.main_v0_1) = v1 c
          ∧ r.2.mem ((c.tc : Thread Cert.AdamPleIdeal.nD Cert.AdamPleIdeal.τ).loc Cert.AdamPleIdeal.main_v0_2) = v2 c
          ∧ r.2.mem ((c.tc : Thread Cert.AdamPleIdeal.nD Cert.AdamPleIdeal.τ).loc Cert.AdamPleIdeal.main_v0_3) = v3 c
          ∧ r.2.mem ((c.tc : Thread Cert.AdamPleIdeal.nD Cert.AdamPleIdeal.τ).loc Cert.AdamPleIdeal.main_arg0) = m ((c.tc : Thread Cert.AdamPleIdeal.nD Cert.AdamPleIdeal.τ).loc Cert.AdamPleIdeal.main_arg0)
          ∧ r.2.mem ((c.tc : Thread Cert.AdamPleIdeal.nD Cert.AdamPleIdeal.τ).loc Cert.AdamPleIdeal.main_arg1) = m ((c.tc : Thread Cert.AdamPleIdeal.nD Cert.AdamPleIdeal.τ).loc Cert.AdamPleIdeal.main_arg1)
          ∧ r.2.mem ((c.tc : Thread Cert.AdamPleIdeal.nD Cert.AdamPleIdeal.τ).loc Cert.AdamPleIdeal.main_arg2) = m ((c.tc : Thread Cert.AdamPleIdeal.nD Cert.AdamPleIdeal.τ).loc Cert.AdamPleIdeal.main_arg2)
          ∧ r.2.mem ((c.tc : Thread Cert.AdamPleIdeal.nD Cert.AdamPleIdeal.τ).loc Cert.AdamPleIdeal.main_arg3) = m ((c.tc : Thread Cert.AdamPleIdeal.nD Cert.AdamPleIdeal.τ).loc Cert.AdamPleIdeal.main_arg3)
          ∧ r.2.mem ((c.tc : Thread Cert.AdamPleIdeal.nD Cert.AdamPleIdeal.τ).loc Cert.AdamPleIdeal.main_arg4) = m ((c.tc : Thread Cert.AdamPleIdeal.nD Cert.AdamPleIdeal.τ).loc Cert.AdamPleIdeal.main_arg4))
      ∧ θ_run (Cert.AdamPleRefIdeal.defs (F := Ideal)) (onTc (τ := Cert.AdamPleRefIdeal.τ) (Cert.AdamPleRefIdeal.main (F := Ideal))) ⟨m', fun _ => 0, g'⟩ (fun r => ∀ c : Dev Cert.AdamPleRefIdeal.nD,
          r.2.mem ((c.tc : Thread Cert.AdamPleRefIdeal.nD Cert.AdamPleRefIdeal.τ).loc Cert.AdamPleRefIdeal.main_v0) = v0 c
          ∧ r.2.mem ((c.tc : Thread Cert.AdamPleRefIdeal.nD Cert.AdamPleRefIdeal.τ).loc Cert.AdamPleRefIdeal.main_v24) = v1 c
          ∧ r.2.mem ((c.tc : Thread Cert.AdamPleRefIdeal.nD Cert.AdamPleRefIdeal.τ).loc Cert.AdamPleRefIdeal.main_v5) = v2 c
          ∧ r.2.mem ((c.tc : Thread Cert.AdamPleRefIdeal.nD Cert.AdamPleRefIdeal.τ).loc Cert.AdamPleRefIdeal.main_v11) = v3 c
          ∧ r.2.mem ((c.tc : Thread Cert.AdamPleRefIdeal.nD Cert.AdamPleRefIdeal.τ).loc Cert.AdamPleRefIdeal.main_arg0) = m' ((c.tc : Thread Cert.AdamPleRefIdeal.nD Cert.AdamPleRefIdeal.τ).loc Cert.AdamPleRefIdeal.main_arg0)
          ∧ r.2.mem ((c.tc : Thread Cert.AdamPleRefIdeal.nD Cert.AdamPleRefIdeal.τ).loc Cert.AdamPleRefIdeal.main_arg1) = m' ((c.tc : Thread Cert.AdamPleRefIdeal.nD Cert.AdamPleRefIdeal.τ).loc Cert.AdamPleRefIdeal.main_arg1)
          ∧ r.2.mem ((c.tc : Thread Cert.AdamPleRefIdeal.nD Cert.AdamPleRefIdeal.τ).loc Cert.AdamPleRefIdeal.main_arg2) = m' ((c.tc : Thread Cert.AdamPleRefIdeal.nD Cert.AdamPleRefIdeal.τ).loc Cert.AdamPleRefIdeal.main_arg2)
          ∧ r.2.mem ((c.tc : Thread Cert.AdamPleRefIdeal.nD Cert.AdamPleRefIdeal.τ).loc Cert.AdamPleRefIdeal.main_arg3) = m' ((c.tc : Thread Cert.AdamPleRefIdeal.nD Cert.AdamPleRefIdeal.τ).loc Cert.AdamPleRefIdeal.main_arg3)
          ∧ r.2.mem ((c.tc : Thread Cert.AdamPleRefIdeal.nD Cert.AdamPleRefIdeal.τ).loc Cert.AdamPleRefIdeal.main_arg4) = m' ((c.tc : Thread Cert.AdamPleRefIdeal.nD Cert.AdamPleRefIdeal.τ).loc Cert.AdamPleRefIdeal.main_arg4))

def Claim : Prop :=
  ∃ (hKernel : Cert.Kernel.Facts) (hKernelIdeal : Cert.KernelIdeal.Facts) (hReferenceIdeal : Cert.ReferenceIdeal.Facts) (hWout : Cert.Wout.Facts) (hWoutIdeal : Cert.WoutIdeal.Facts) (hWoutRefIdeal : Cert.WoutRefIdeal.Facts) (hWin : Cert.Win.Facts) (hWinIdeal : Cert.WinIdeal.Facts) (hWinRefIdeal : Cert.WinRefIdeal.Facts) (hWinLow : Cert.WinLow.Facts) (hWinLowIdeal : Cert.WinLowIdeal.Facts) (hWinLowRefIdeal : Cert.WinLowRefIdeal.Facts) (hWinHigh : Cert.WinHigh.Facts) (hWinHighIdeal : Cert.WinHighIdeal.Facts) (hWinHighRefIdeal : Cert.WinHighRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hMixin : Cert.Mixin.Facts) (hMixinIdeal : Cert.MixinIdeal.Facts) (hMixinRefIdeal : Cert.MixinRefIdeal.Facts) (hMixinGrad : Cert.MixinGrad.Facts) (hMixinGradIdeal : Cert.MixinGradIdeal.Facts) (hMixinGradRefIdeal : Cert.MixinGradRefIdeal.Facts) (hMixinWUv : Cert.MixinWUv.Facts) (hMixinWUvIdeal : Cert.MixinWUvIdeal.Facts) (hMixinWUvRefIdeal : Cert.MixinWUvRefIdeal.Facts) (hSquareW : Cert.SquareW.Facts) (hSquareWIdeal : Cert.SquareWIdeal.Facts) (hSquareWRefIdeal : Cert.SquareWRefIdeal.Facts) (hUpW : Cert.UpW.Facts) (hUpWIdeal : Cert.UpWIdeal.Facts) (hUpWRefIdeal : Cert.UpWRefIdeal.Facts) (hPleW : Cert.PleW.Facts) (hPleWIdeal : Cert.PleWIdeal.Facts) (hPleWRefIdeal : Cert.PleWRefIdeal.Facts) (hLoss : Cert.Loss.Facts) (hLossIdeal : Cert.LossIdeal.Facts) (hLossRefIdeal : Cert.LossRefIdeal.Facts) (hMixout : Cert.Mixout.Facts) (hMixoutIdeal : Cert.MixoutIdeal.Facts) (hMixoutRefIdeal : Cert.MixoutRefIdeal.Facts) (hMixoutGrad : Cert.MixoutGrad.Facts) (hMixoutGradIdeal : Cert.MixoutGradIdeal.Facts) (hMixoutGradRefIdeal : Cert.MixoutGradRefIdeal.Facts) (hMixinWG : Cert.MixinWG.Facts) (hMixinWGIdeal : Cert.MixinWGIdeal.Facts) (hMixinWGRefIdeal : Cert.MixinWGRefIdeal.Facts) (hSumLoss : Cert.SumLoss.Facts) (hSumLossIdeal : Cert.SumLossIdeal.Facts) (hSumLossRefIdeal : Cert.SumLossRefIdeal.Facts) (hAdamFfnOut : Cert.AdamFfnOut.Facts) (hAdamFfnOutIdeal : Cert.AdamFfnOutIdeal.Facts) (hAdamFfnOutRefIdeal : Cert.AdamFfnOutRefIdeal.Facts) (hAdamFfnIn : Cert.AdamFfnIn.Facts) (hAdamFfnInIdeal : Cert.AdamFfnInIdeal.Facts) (hAdamFfnInRefIdeal : Cert.AdamFfnInRefIdeal.Facts) (hAdamMixIn : Cert.AdamMixIn.Facts) (hAdamMixInIdeal : Cert.AdamMixInIdeal.Facts) (hAdamMixInRefIdeal : Cert.AdamMixInRefIdeal.Facts) (hAdamGlu : Cert.AdamGlu.Facts) (hAdamGluIdeal : Cert.AdamGluIdeal.Facts) (hAdamGluRefIdeal : Cert.AdamGluRefIdeal.Facts) (hAdamUp : Cert.AdamUp.Facts) (hAdamUpIdeal : Cert.AdamUpIdeal.Facts) (hAdamUpRefIdeal : Cert.AdamUpRefIdeal.Facts) (hAdamSquare : Cert.AdamSquare.Facts) (hAdamSquareIdeal : Cert.AdamSquareIdeal.Facts) (hAdamSquareRefIdeal : Cert.AdamSquareRefIdeal.Facts) (hAdamPle : Cert.AdamPle.Facts) (hAdamPleIdeal : Cert.AdamPleIdeal.Facts) (hAdamPleRefIdeal : Cert.AdamPleRefIdeal.Facts) (hPre_finite : Cert.Pre_finite.Facts) (hPre_finite_mix : Cert.Pre_finite_mix.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Wout (hWout := hWout)
    ∧ quiescent_WoutIdeal (hWoutIdeal := hWoutIdeal)
    ∧ quiescent_WoutRefIdeal (hWoutRefIdeal := hWoutRefIdeal)
    ∧ quiescent_Win (hWin := hWin)
    ∧ quiescent_WinIdeal (hWinIdeal := hWinIdeal)
    ∧ quiescent_WinRefIdeal (hWinRefIdeal := hWinRefIdeal)
    ∧ quiescent_WinLow (hWinLow := hWinLow)
    ∧ quiescent_WinLowIdeal (hWinLowIdeal := hWinLowIdeal)
    ∧ quiescent_WinLowRefIdeal (hWinLowRefIdeal := hWinLowRefIdeal)
    ∧ quiescent_WinHigh (hWinHigh := hWinHigh)
    ∧ quiescent_WinHighIdeal (hWinHighIdeal := hWinHighIdeal)
    ∧ quiescent_WinHighRefIdeal (hWinHighRefIdeal := hWinHighRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Mixin (hMixin := hMixin)
    ∧ quiescent_MixinIdeal (hMixinIdeal := hMixinIdeal)
    ∧ quiescent_MixinRefIdeal (hMixinRefIdeal := hMixinRefIdeal)
    ∧ quiescent_MixinGrad (hMixinGrad := hMixinGrad)
    ∧ quiescent_MixinGradIdeal (hMixinGradIdeal := hMixinGradIdeal)
    ∧ quiescent_MixinGradRefIdeal (hMixinGradRefIdeal := hMixinGradRefIdeal)
    ∧ quiescent_MixinWUv (hMixinWUv := hMixinWUv)
    ∧ quiescent_MixinWUvIdeal (hMixinWUvIdeal := hMixinWUvIdeal)
    ∧ quiescent_MixinWUvRefIdeal (hMixinWUvRefIdeal := hMixinWUvRefIdeal)
    ∧ quiescent_SquareW (hSquareW := hSquareW)
    ∧ quiescent_SquareWIdeal (hSquareWIdeal := hSquareWIdeal)
    ∧ quiescent_SquareWRefIdeal (hSquareWRefIdeal := hSquareWRefIdeal)
    ∧ quiescent_UpW (hUpW := hUpW)
    ∧ quiescent_UpWIdeal (hUpWIdeal := hUpWIdeal)
    ∧ quiescent_UpWRefIdeal (hUpWRefIdeal := hUpWRefIdeal)
    ∧ quiescent_PleW (hPleW := hPleW)
    ∧ quiescent_PleWIdeal (hPleWIdeal := hPleWIdeal)
    ∧ quiescent_PleWRefIdeal (hPleWRefIdeal := hPleWRefIdeal)
    ∧ quiescent_Loss (hLoss := hLoss)
    ∧ quiescent_LossIdeal (hLossIdeal := hLossIdeal)
    ∧ quiescent_LossRefIdeal (hLossRefIdeal := hLossRefIdeal)
    ∧ quiescent_Mixout (hMixout := hMixout)
    ∧ quiescent_MixoutIdeal (hMixoutIdeal := hMixoutIdeal)
    ∧ quiescent_MixoutRefIdeal (hMixoutRefIdeal := hMixoutRefIdeal)
    ∧ quiescent_MixoutGrad (hMixoutGrad := hMixoutGrad)
    ∧ quiescent_MixoutGradIdeal (hMixoutGradIdeal := hMixoutGradIdeal)
    ∧ quiescent_MixoutGradIdeal_pre_finite_mix (hMixoutGradIdeal := hMixoutGradIdeal) (hPre_finite_mix := hPre_finite_mix)
    ∧ quiescent_MixoutGradRefIdeal (hMixoutGradRefIdeal := hMixoutGradRefIdeal)
    ∧ quiescent_MixoutGradRefIdeal_pre_finite_mix (hMixoutGradRefIdeal := hMixoutGradRefIdeal) (hPre_finite_mix := hPre_finite_mix)
    ∧ quiescent_MixinWG (hMixinWG := hMixinWG)
    ∧ quiescent_MixinWGIdeal (hMixinWGIdeal := hMixinWGIdeal)
    ∧ quiescent_MixinWGRefIdeal (hMixinWGRefIdeal := hMixinWGRefIdeal)
    ∧ quiescent_SumLoss (hSumLoss := hSumLoss)
    ∧ quiescent_SumLossIdeal (hSumLossIdeal := hSumLossIdeal)
    ∧ quiescent_SumLossRefIdeal (hSumLossRefIdeal := hSumLossRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamMixIn (hAdamMixIn := hAdamMixIn)
    ∧ quiescent_AdamMixInIdeal (hAdamMixInIdeal := hAdamMixInIdeal)
    ∧ quiescent_AdamMixInRefIdeal (hAdamMixInRefIdeal := hAdamMixInRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamPle (hAdamPle := hAdamPle)
    ∧ quiescent_AdamPleIdeal (hAdamPleIdeal := hAdamPleIdeal)
    ∧ quiescent_AdamPleRefIdeal (hAdamPleRefIdeal := hAdamPleRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Wout_WoutIdeal
    ∧ algebraic_WoutIdeal_WoutRefIdeal (hWoutIdeal := hWoutIdeal) (hWoutRefIdeal := hWoutRefIdeal)
    ∧ preserves_Win_WinIdeal
    ∧ algebraic_WinIdeal_WinRefIdeal (hWinIdeal := hWinIdeal) (hWinRefIdeal := hWinRefIdeal)
    ∧ preserves_WinLow_WinLowIdeal
    ∧ algebraic_WinLowIdeal_WinLowRefIdeal (hWinLowIdeal := hWinLowIdeal) (hWinLowRefIdeal := hWinLowRefIdeal)
    ∧ preserves_WinHigh_WinHighIdeal
    ∧ algebraic_WinHighIdeal_WinHighRefIdeal (hWinHighIdeal := hWinHighIdeal) (hWinHighRefIdeal := hWinHighRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Mixin_MixinIdeal
    ∧ algebraic_MixinIdeal_MixinRefIdeal (hMixinIdeal := hMixinIdeal) (hMixinRefIdeal := hMixinRefIdeal)
    ∧ preserves_MixinGrad_MixinGradIdeal
    ∧ algebraic_MixinGradIdeal_MixinGradRefIdeal (hMixinGradIdeal := hMixinGradIdeal) (hMixinGradRefIdeal := hMixinGradRefIdeal)
    ∧ preserves_MixinWUv_MixinWUvIdeal
    ∧ algebraic_MixinWUvIdeal_MixinWUvRefIdeal (hMixinWUvIdeal := hMixinWUvIdeal) (hMixinWUvRefIdeal := hMixinWUvRefIdeal)
    ∧ preserves_SquareW_SquareWIdeal
    ∧ algebraic_SquareWIdeal_SquareWRefIdeal (hSquareWIdeal := hSquareWIdeal) (hSquareWRefIdeal := hSquareWRefIdeal)
    ∧ preserves_UpW_UpWIdeal
    ∧ algebraic_UpWIdeal_UpWRefIdeal (hUpWIdeal := hUpWIdeal) (hUpWRefIdeal := hUpWRefIdeal)
    ∧ preserves_PleW_PleWIdeal
    ∧ algebraic_PleWIdeal_PleWRefIdeal (hPleWIdeal := hPleWIdeal) (hPleWRefIdeal := hPleWRefIdeal)
    ∧ preserves_Loss_LossIdeal
    ∧ algebraic_LossIdeal_LossRefIdeal (hLossIdeal := hLossIdeal) (hLossRefIdeal := hLossRefIdeal)
    ∧ preserves_Mixout_MixoutIdeal
    ∧ algebraic_MixoutIdeal_MixoutRefIdeal (hMixoutIdeal := hMixoutIdeal) (hMixoutRefIdeal := hMixoutRefIdeal)
    ∧ preserves_MixoutGrad_MixoutGradIdeal
    ∧ algebraic_MixoutGradIdeal_MixoutGradRefIdeal_pre_finite_mix (hMixoutGradIdeal := hMixoutGradIdeal) (hMixoutGradRefIdeal := hMixoutGradRefIdeal) (hPre_finite_mix := hPre_finite_mix)
    ∧ preserves_MixinWG_MixinWGIdeal
    ∧ algebraic_MixinWGIdeal_MixinWGRefIdeal (hMixinWGIdeal := hMixinWGIdeal) (hMixinWGRefIdeal := hMixinWGRefIdeal)
    ∧ preserves_SumLoss_SumLossIdeal
    ∧ algebraic_SumLossIdeal_SumLossRefIdeal (hSumLossIdeal := hSumLossIdeal) (hSumLossRefIdeal := hSumLossRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamMixIn_AdamMixInIdeal
    ∧ algebraic_AdamMixInIdeal_AdamMixInRefIdeal (hAdamMixInIdeal := hAdamMixInIdeal) (hAdamMixInRefIdeal := hAdamMixInRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamPle_AdamPleIdeal
    ∧ algebraic_AdamPleIdeal_AdamPleRefIdeal (hAdamPleIdeal := hAdamPleIdeal) (hAdamPleRefIdeal := hAdamPleRefIdeal)
-- ==== Pre_finite.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S4096x1024 .f32 := Host.absf main_arg5
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1024x5632 .f32) (main_arg2 : FVec F S2816x1024 .f32) (main_arg3 : FVec F S1024 .f32) (main_arg4 : FVec F S1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_v13 main_v16
-- ==== Pre_finite_mix.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg9 : FVec F S4096x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S4096x1024 .f32 := Host.absf main_arg9
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  main_v43

def fn_part1 {F : FTy → Type} [FloatOps F] (main_arg4 : FVec F S512x1024 .f32) (main_arg5 : FVec F S512x1024 .f32) (main_arg6 : FVec F S1024x1024 .f32) (main_arg7 : FVec F S1024 .f32) (main_arg9 : FVec F S4096x1024 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg9 main_v33

def fn {F : FTy → Type} [FloatOps F] (main_arg0 : FVec F S4096x1024 .f32) (main_arg1 : FVec F S4096x512 .f32) (main_arg2 : FVec F S4096x512 .f32) (main_arg3 : FVec F S4096x2048 .f32) (main_arg4 : FVec F S512x1024 .f32) (main_arg5 : FVec F S512x1024 .f32) (main_arg6 : FVec F S1024x1024 .f32) (main_arg7 : FVec F S1024 .f32) (main_arg8 : FVec F S1024 .f32) (main_arg9 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg9 main_v13 main_v16
-- ==== Kernel.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S4096x5632 : Shape := ⟨2, ![4096, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024x4x1408 : Shape := ⟨3, ![1024, 4, 1408]⟩
abbrev S4x1024x1408 : Shape := ⟨3, ![4, 1024, 1408]⟩
abbrev S1x1024 : Shape := ⟨2, ![1, 1024]⟩
abbrev S256x1024 : Shape := ⟨2, ![256, 1024]⟩
abbrev S256x1 : Shape := ⟨2, ![256, 1]⟩
abbrev S256x5632 : Shape := ⟨2, ![256, 5632]⟩
abbrev S256 : Shape := ⟨1, ![256]⟩
abbrev S1408x1024 : Shape := ⟨2, ![1408, 1024]⟩
abbrev S256x1408 : Shape := ⟨2, ![256, 1408]⟩
abbrev S1x1024x1408 : Shape := ⟨3, ![1, 1024, 1408]⟩
abbrev S1024x1408 : Shape := ⟨2, ![1024, 1408]⟩

abbrev nBuf : Space → Nat
  | .hbm => 61
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1024x5632, .bf16⟩
  | .hbm, ⟨51, _⟩ => ⟨S1024x4x1408, .bf16⟩
  | .hbm, ⟨52, _⟩ => ⟨S4x1024x1408, .bf16⟩
  | .hbm, ⟨53, _⟩ => ⟨S4096x5632, .bf16⟩
  | .hbm, ⟨54, _⟩ => ⟨S2816x1024, .bf16⟩
  | .hbm, ⟨55, _⟩ => ⟨S1x1024, .f32⟩
  | .hbm, ⟨56, _⟩ => ⟨S4096x1024, .f32⟩
  | .hbm, ⟨57, _⟩ => ⟨S4096x5632, .bf16⟩
  | .hbm, ⟨58, _⟩ => ⟨S4096x1024, .bf16⟩
  | .hbm, ⟨59, _⟩ => ⟨S1x1024, .f32⟩
  | .hbm, ⟨60, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1, .f32⟩
  | .local _ .vmem, ⟨5, _⟩ => ⟨S256x1, .f32⟩
  | .local _ .vmem, ⟨6, _⟩ => ⟨S256x5632, .bf16⟩
  | .local _ .vmem, ⟨7, _⟩ => ⟨S256x5632, .bf16⟩
  | .local _ .vmem, ⟨8, _⟩ => ⟨S4x1024x1408, .bf16⟩
  | .local _ .vmem, ⟨9, _⟩ => ⟨S2816x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x5632, .bf16⟩
  | .local _ .vmem, ⟨14, _⟩ => ⟨S256x5632, .bf16⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35_0 : Ref sig .tc := ⟨.hbm, 56, rfl⟩
abbrev main_v35_1 : Ref sig .tc := ⟨.hbm, 57, rfl⟩
abbrev main_v35_2 : Ref sig .tc := ⟨.hbm, 58, rfl⟩
abbrev main_v35_3 : Ref sig .tc := ⟨.hbm, 59, rfl⟩
abbrev main_v35_4 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x1024 : Shape := ⟨2, ![4096, 1024]⟩
abbrev S1024x5632 : Shape := ⟨2, ![1024, 5632]⟩
abbrev S2816x1024 : Shape := ⟨2, ![2816, 1024]⟩
abbrev S1024 : Shape := ⟨1, ![1024]⟩
abbrev S4096x5632 : Shape := ⟨2, ![4096, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2816 : Shape := ⟨2, ![1024, 2816]⟩
abbrev S5632x1024 : Shape := ⟨2, ![5632, 1024]⟩

abbrev nBuf : Space → Nat
  | .hbm => 136
  | .vmem => 0
  | .smem => 0
  | _ => 0

abbrev hbmTy0_0 (i : Nat) : BufTy := match i % 128 with
  | 0 => ⟨S4096x1024, .f32⟩
  | 1 => ⟨S1024x5632, .f32⟩
  | 2 => ⟨S2816x1024, .f32⟩
  | 3 => ⟨S1024, .f32⟩
  | 4 => ⟨S1024, .f32⟩
  | 5 => ⟨S4096x1024, .f32⟩
  | 6 => ⟨S4096x5632, .f32⟩
  | 7 => ⟨S4096x2816, .f32⟩
  | 8 => ⟨S4096x2816, .f32⟩
  | 9 => ⟨S4096x2816, .f32⟩
  | 10 => ⟨S4096x2816, .f32⟩
  | 11 => ⟨S_, .f32⟩
  | 12 => ⟨S4096x2816, .f32⟩
  | 13 => ⟨S4096x2816, .f32⟩
  | 14 => ⟨S_, .f32⟩
  | 15 => ⟨S4096x2816, .f32⟩
  | 16 => ⟨S4096x2816, .f32⟩
  | 17 => ⟨S_, .f32⟩
  | 18 => ⟨S4096x2816, .f32⟩
  | 19 => ⟨S4096x2816, .f32⟩
  | 20 => ⟨S4096x2816, .f32⟩
  | 21 => ⟨S4096x2816, .f32⟩
  | 22 => ⟨S4096x2816, .f32⟩
  | 23 => ⟨S4096x1024, .f32⟩
  | 24 => ⟨S_, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S4096x1024, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .f32⟩
  | 49 => ⟨S4096x1024, .f32⟩
  | 50 => ⟨S4096x1024, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S1x1024, .f32⟩
  | 62 => ⟨S4096x1024, .f32⟩
  | 63 => ⟨S4096x1024, .f32⟩
  | 64 => ⟨S1x1024, .f32⟩
  | 65 => ⟨S4096x1024, .f32⟩
  | 66 => ⟨S4096x1024, .f32⟩
  | 67 => ⟨S4096x1024, .f32⟩
  | 68 => ⟨S_, .f32⟩
  | 69 => ⟨S1024, .f32⟩
  | 70 => ⟨S1x1024, .f32⟩
  | 71 => ⟨S_, .f32⟩
  | 72 => ⟨S1024, .f32⟩
  | 73 => ⟨S4096x1024, .f32⟩
  | 74 => ⟨S_, .f32⟩
  | 75 => ⟨S1024, .f32⟩
  | 76 => ⟨S1x1024, .f32⟩
  | 77 => ⟨S4096x1024, .f32⟩
  | 78 => ⟨S4096x1024, .f32⟩
  | 79 => ⟨S_, .f32⟩
  | 80 => ⟨S1024, .f32⟩
  | 81 => ⟨S4096x1024, .f32⟩
  | 82 => ⟨S_, .f32⟩
  | 83 => ⟨S4096, .f32⟩
  | 84 => ⟨S4096x1, .f32⟩
  | 85 => ⟨S4096x1024, .f32⟩
  | 86 => ⟨S4096x1024, .f32⟩
  | 87 => ⟨S4096x1, .f32⟩
  | 88 => ⟨S4096x1024, .f32⟩
  | 89 => ⟨S_, .f32⟩
  | 90 => ⟨S4096, .f32⟩
  | 91 => ⟨S4096x1, .f32⟩
  | 92 => ⟨S_, .f32⟩
  | 93 => ⟨S4096x1, .f32⟩
  | 94 => ⟨S4096x1, .f32⟩
  | 95 => ⟨S_, .f32⟩
  | 96 => ⟨S4096, .f32⟩
  | 97 => ⟨S4096x1024, .f32⟩
  | 98 => ⟨S4096x1024, .f32⟩
  | 99 => ⟨S4096x1024, .f32⟩
  | 100 => ⟨S_, .f32⟩
  | 101 => ⟨S4096, .f32⟩
  | 102 => ⟨S4096x1, .f32⟩
  | 103 => ⟨S4096x1024, .f32⟩
  | 104 => ⟨S4096x1, .f32⟩
  | 105 => ⟨S_, .f32⟩
  | 106 => ⟨S4096x1, .f32⟩
  | 107 => ⟨S4096x1, .f32⟩
  | 108 => ⟨S_, .f32⟩
  | 109 => ⟨S4096, .f32⟩
  | 110 => ⟨S4096x1024, .f32⟩
  | 111 => ⟨S4096x1024, .f32⟩
  | 112 => ⟨S_, .f32⟩
  | 113 => ⟨S4096x1024, .f32⟩
  | 114 => ⟨S4096x1024, .f32⟩
  | 115 => ⟨S_, .f32⟩
  | 116 => ⟨S4096x1024, .f32⟩
  | 117 => ⟨S4096x1024, .f32⟩
  | 118 => ⟨S1024x2816, .f32⟩
  | 119 => ⟨S2816x1024, .f32⟩
  | 120 => ⟨S4096x2816, .f32⟩
  | 121 => ⟨S4096x2816, .f32⟩
  | 122 => ⟨S4096x2816, .f32⟩
  | 123 => ⟨S4096x2816, .f32⟩
  | 124 => ⟨S4096x2816, .f32⟩
  | 125 => ⟨S4096x2816, .f32⟩
  | 126 => ⟨S4096x2816, .f32⟩
  | 127 => ⟨S4096x5632, .f32⟩
  | _ => ⟨S4096x1024, .f32⟩

abbrev hbmTy0_1 (i : Nat) : BufTy := match i % 128 with
  | 0 => ⟨S5632x1024, .f32⟩
  | 1 => ⟨S1024x5632, .f32⟩
  | 2 => ⟨S4096x1024, .f32⟩
  | 3 => ⟨S4096x1024, .f32⟩
  | 4 => ⟨S4096x5632, .bf16⟩
  | 5 => ⟨S4096x1024, .bf16⟩
  | 6 => ⟨S1x1024, .f32⟩
  | 7 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_13 : Ref sig .tc := ⟨.hbm, 89, rfl⟩
abbrev main_v57 : Ref sig .tc := ⟨.hbm, 90, rfl⟩
abbrev main_v58 : Ref sig .tc := ⟨.hbm, 91, rfl⟩
abbrev main_cst_14 : Ref sig .tc := ⟨.hbm, 92, rfl⟩
abbrev main_v59 : Ref sig .tc := ⟨.hbm, 93, rfl⟩
abbrev main_v60 : Ref sig .tc := ⟨.hbm, 94, rfl⟩
abbrev main_cst_15 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_16 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_17 : Ref sig .tc := ⟨.hbm, 105, rfl⟩
abbrev main_v69 : Ref sig .tc := ⟨.hbm, 106, rfl⟩
abbrev main_v70 : Ref sig .tc := ⟨.hbm, 107, rfl⟩
abbrev main_cst_18 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_19 : Ref sig .tc := ⟨.hbm, 112, rfl⟩
abbrev main_v74 : Ref sig .tc := ⟨.hbm, 113, rfl⟩
abbrev main_v75 : Ref sig .tc := ⟨.hbm, 114, rfl⟩
abbrev main_cst_20 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩

abbrev nD : Nat := 1
abbrev τ : Topo := Topo.v7x

variable {F : FTy → Type} [FloatOps F]
-- ==== Wout.lean ====
abbrev S4096x2816 : Shape := ⟨2, ![4096, 2816]⟩
abbrev S2816x1024 : Shape := ⟨2, ![2816, 1024]⟩
abbrev S4096x1024 : Shape := ⟨2, ![4096, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S4096x1024, .bf16⟩
  | .hbm, ⟨5, _⟩ => ⟨S2816x1024, .f32⟩
  | .hbm, ⟨6, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WoutRefIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Win.lean ====
abbrev S4096x1024 : Shape := ⟨2, ![4096, 1024]⟩
abbrev S1024x5632 : Shape := ⟨2, ![1024, 5632]⟩
abbrev S4096x5632 : Shape := ⟨2, ![4096, 5632]⟩
abbrev S1024x4096 : Shape := ⟨2, ![1024, 4096]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x1024, .bf16⟩
  | .hbm, ⟨4, _⟩ => ⟨S1024x4096, .bf16⟩
  | .hbm, ⟨5, _⟩ => ⟨S4096x5632, .bf16⟩
  | .hbm, ⟨6, _⟩ => ⟨S1024x5632, .f32⟩
  | .hbm, ⟨7, _⟩ => ⟨S1024x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .bf16⟩
  | .local _ .vmem, ⟨7, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WinRefIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S1024x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WinLow.lean ====
abbrev S4096x1024 : Shape := ⟨2, ![4096, 1024]⟩
abbrev S1024x5632 : Shape := ⟨2, ![1024, 5632]⟩
abbrev S4096x5632 : Shape := ⟨2, ![4096, 5632]⟩
abbrev S1024x4096 : Shape := ⟨2, ![1024, 4096]⟩
abbrev S512x5632 : Shape := ⟨2, ![512, 5632]⟩
abbrev S512x4096 : Shape := ⟨2, ![512, 4096]⟩
abbrev S4096x1408 : Shape := ⟨2, ![4096, 1408]⟩
abbrev S512x1408 : Shape := ⟨2, ![512, 1408]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x1024, .bf16⟩
  | .hbm, ⟨4, _⟩ => ⟨S1024x4096, .bf16⟩
  | .hbm, ⟨5, _⟩ => ⟨S4096x5632, .bf16⟩
  | .hbm, ⟨6, _⟩ => ⟨S512x5632, .f32⟩
  | .hbm, ⟨7, _⟩ => ⟨S512x5632, .bf16⟩
  | .local _ .vmem, ⟨0, _⟩ => ⟨S512x4096, .bf16⟩
  | .local _ .vmem, ⟨1, _⟩ => ⟨S4096x1408, .bf16⟩
  | .local _ .vmem, ⟨2, _⟩ => ⟨S4096x1408, .bf16⟩
  | .local _ .vmem, ⟨3, _⟩ => ⟨S512x1408, .f32⟩
  | .local _ .vmem, ⟨4, _⟩ => ⟨S512x1408, .f32⟩
  | .local _ .vmem, ⟨5, _⟩ => ⟨S512x1408, .bf16⟩
  | .local _ .vmem, ⟨6, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WinLowRefIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩
abbrev S512x5632 : Shape := ⟨2, ![512, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S512x5632, .f32⟩
  | .hbm, ⟨7, _⟩ => ⟨S512x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WinHigh.lean ====
abbrev S4096x1024 : Shape := ⟨2, ![4096, 1024]⟩
abbrev S1024x5632 : Shape := ⟨2, ![1024, 5632]⟩
abbrev S4096x5632 : Shape := ⟨2, ![4096, 5632]⟩
abbrev S1024x4096 : Shape := ⟨2, ![1024, 4096]⟩
abbrev S512x5632 : Shape := ⟨2, ![512, 5632]⟩
abbrev S512x4096 : Shape := ⟨2, ![512, 4096]⟩
abbrev S4096x1408 : Shape := ⟨2, ![4096, 1408]⟩
abbrev S512x1408 : Shape := ⟨2, ![512, 1408]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x1024, .bf16⟩
  | .hbm, ⟨4, _⟩ => ⟨S1024x4096, .bf16⟩
  | .hbm, ⟨5, _⟩ => ⟨S4096x5632, .bf16⟩
  | .hbm, ⟨6, _⟩ => ⟨S512x5632, .f32⟩
  | .hbm, ⟨7, _⟩ => ⟨S512x5632, .bf16⟩
  | .local _ .vmem, ⟨0, _⟩ => ⟨S512x4096, .bf16⟩
  | .local _ .vmem, ⟨1, _⟩ => ⟨S4096x1408, .bf16⟩
  | .local _ .vmem, ⟨2, _⟩ => ⟨S4096x1408, .bf16⟩
  | .local _ .vmem, ⟨3, _⟩ => ⟨S512x1408, .f32⟩
  | .local _ .vmem, ⟨4, _⟩ => ⟨S512x1408, .f32⟩
  | .local _ .vmem, ⟨5, _⟩ => ⟨S512x1408, .bf16⟩
  | .local _ .vmem, ⟨6, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WinHighRefIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩
abbrev S512x5632 : Shape := ⟨2, ![512, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S512x5632, .f32⟩
  | .hbm, ⟨7, _⟩ => ⟨S512x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proj.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S1024x4096 : Shape := ⟨2, ![1024, 4096]⟩
abbrev S4096x5632 : Shape := ⟨2, ![4096, 5632]⟩
abbrev S4096x2816 : Shape := ⟨2, ![4096, 2816]⟩
abbrev S512x1024 : Shape := ⟨2, ![512, 1024]⟩
abbrev S1024x512 : Shape := ⟨2, ![1024, 512]⟩
abbrev S512x5632 : Shape := ⟨2, ![512, 5632]⟩
abbrev S512x2816 : Shape := ⟨2, ![512, 2816]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S1024x4096, .bf16⟩
  | .hbm, ⟨6, _⟩ => ⟨S4096x5632, .bf16⟩
  | .hbm, ⟨7, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S4x1024x1408, .bf16⟩
  | .local _ .vmem, ⟨3, _⟩ => ⟨S1024x512, .bf16⟩
  | .local _ .vmem, ⟨4, _⟩ => ⟨S1024x512, .bf16⟩
  | .local _ .vmem, ⟨5, _⟩ => ⟨S512x5632, .bf16⟩
  | .local _ .vmem, ⟨6, _⟩ => ⟨S512x5632, .bf16⟩
  | .local _ .vmem, ⟨7, _⟩ => ⟨S512x2816, .bf16⟩
  | .local _ .vmem, ⟨8, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S1024x4096 : Shape := ⟨2, ![1024, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S1024x4096, .f32⟩
  | .hbm, ⟨6, _⟩ => ⟨S1024x4096, .bf16⟩
  | .hbm, ⟨7, _⟩ => ⟨S4096x5632, .bf16⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Out.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S1x1024 : Shape := ⟨2, ![1, 1024]⟩
abbrev S4096x1 : Shape := ⟨2, ![4096, 1]⟩
abbrev S1024x1024 : Shape := ⟨2, ![1024, 1024]⟩
abbrev S1024x2816 : Shape := ⟨2, ![1024, 2816]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S4096x2816, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1, .f32⟩
  | .local _ .vmem, ⟨12, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Mixin.lean ====
abbrev S4096x1024 : Shape := ⟨2, ![4096, 1024]⟩
abbrev S1024x3584 : Shape := ⟨2, ![1024, 3584]⟩
abbrev S1024x4096 : Shape := ⟨2, ![1024, 4096]⟩
abbrev S4096x512 : Shape := ⟨2, ![4096, 512]⟩
abbrev S4096x2048 : Shape := ⟨2, ![4096, 2048]⟩
abbrev S512x1024 : Shape := ⟨2, ![512, 1024]⟩
abbrev S1024x512 : Shape := ⟨2, ![1024, 512]⟩
abbrev S512x512 : Shape := ⟨2, ![512, 512]⟩
abbrev S512x2048 : Shape := ⟨2, ![512, 2048]⟩
abbrev S1024x1024 : Shape := ⟨2, ![1024, 1024]⟩
abbrev S1024x2048 : Shape := ⟨2, ![1024, 2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x3584, .f32⟩
  | .hbm, ⟨2, _⟩ => ⟨S1024x3584, .bf16⟩
  | .hbm, ⟨3, _⟩ => ⟨S1024x4096, .bf16⟩
  | .hbm, ⟨4, _⟩ => ⟨S4096x512, .bf16⟩
  | .hbm, ⟨5, _⟩ => ⟨S4096x1024, .bf16⟩
  | .hbm, ⟨6, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1024x3584, .bf16⟩
  | .local _ .vmem, ⟨3, _⟩ => ⟨S1024x512, .bf16⟩
  | .local _ .vmem, ⟨4, _⟩ => ⟨S1024x512, .bf16⟩
  | .local _ .vmem, ⟨5, _⟩ => ⟨S512x512, .bf16⟩
  | .local _ .vmem, ⟨6, _⟩ => ⟨S512x512, .bf16⟩
  | .local _ .vmem, ⟨7, _⟩ => ⟨S512x1024, .bf16⟩
  | .local _ .vmem, ⟨8, _⟩ => ⟨S512x1024, .bf16⟩
  | .local _ .vmem, ⟨9, _⟩ => ⟨S512x2048, .bf16⟩
  | .local _ .vmem, ⟨10, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixinRefIdeal.lean ====
abbrev S4096x1024 : Shape := ⟨2, ![4096, 1024]⟩
abbrev S1024x3584 : Shape := ⟨2, ![1024, 3584]⟩
abbrev S4096x3584 : Shape := ⟨2, ![4096, 3584]⟩
abbrev S4096x512 : Shape := ⟨2, ![4096, 512]⟩
abbrev S4096x2048 : Shape := ⟨2, ![4096, 2048]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3584, .f32⟩
  | .hbm, ⟨2, _⟩ => ⟨S4096x3584, .f32⟩
  | .hbm, ⟨3, _⟩ => ⟨S4096x512, .f32⟩
  | .hbm, ⟨4, _⟩ => ⟨S4096x1024, .f32⟩
  | .hbm, ⟨5, _⟩ => ⟨S4096x2048, .f32⟩
  | .hbm, ⟨6, _⟩ => ⟨S1024x4096, .f32⟩
  | .hbm, ⟨7, _⟩ => ⟨S1024x4096, .bf16⟩
  | .hbm, ⟨8, _⟩ => ⟨S4096x512, .bf16⟩
  | .hbm, ⟨9, _⟩ => ⟨S4096x1024, .bf16⟩
  | .hbm, ⟨10, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== MixinGrad.lean ====
abbrev S4096x1024 : Shape := ⟨2, ![4096, 1024]⟩
abbrev S1024x3584 : Shape := ⟨2, ![1024, 3584]⟩
abbrev S4096x512 : Shape := ⟨2, ![4096, 512]⟩
abbrev S4096x2048 : Shape := ⟨2, ![4096, 2048]⟩
abbrev S512x1024 : Shape := ⟨2, ![512, 1024]⟩
abbrev S512x512 : Shape := ⟨2, ![512, 512]⟩
abbrev S512x2048 : Shape := ⟨2, ![512, 2048]⟩
abbrev S1024x512 : Shape := ⟨2, ![1024, 512]⟩
abbrev S1024x1024 : Shape := ⟨2, ![1024, 1024]⟩
abbrev S1024x2048 : Shape := ⟨2, ![1024, 2048]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x3584, .f32⟩
  | .hbm, ⟨2, _⟩ => ⟨S4096x1024, .f32⟩
  | .hbm, ⟨3, _⟩ => ⟨S4096x512, .f32⟩
  | .hbm, ⟨4, _⟩ => ⟨S4096x1024, .f32⟩
  | .hbm, ⟨5, _⟩ => ⟨S4096x2048, .f32⟩
  | .hbm, ⟨6, _⟩ => ⟨S4096x512, .bf16⟩
  | .hbm, ⟨7, _⟩ => ⟨S4096x1024, .bf16⟩
  | .hbm, ⟨8, _⟩ => ⟨S4096x2048, .bf16⟩
  | .hbm, ⟨9, _⟩ => ⟨S1024x3584, .bf16⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S1024x3584, .bf16⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixinGradRefIdeal.lean ====
abbrev S4096x1024 : Shape := ⟨2, ![4096, 1024]⟩
abbrev S1024x3584 : Shape := ⟨2, ![1024, 3584]⟩
abbrev S4096x512 : Shape := ⟨2, ![4096, 512]⟩
abbrev S4096x2048 : Shape := ⟨2, ![4096, 2048]⟩
abbrev S4096x3584 : Shape := ⟨2, ![4096, 3584]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3584, .f32⟩
  | .hbm, ⟨2, _⟩ => ⟨S4096x1024, .f32⟩
  | .hbm, ⟨3, _⟩ => ⟨S4096x512, .f32⟩
  | .hbm, ⟨4, _⟩ => ⟨S4096x1024, .f32⟩
  | .hbm, ⟨5, _⟩ => ⟨S4096x2048, .f32⟩
  | .hbm, ⟨6, _⟩ => ⟨S4096x3584, .f32⟩
  | .hbm, ⟨7, _⟩ => ⟨S4096x512, .f32⟩
  | .hbm, ⟨8, _⟩ => ⟨S4096x1024, .f32⟩
  | .hbm, ⟨9, _⟩ => ⟨S4096x2048, .f32⟩
  | .hbm, ⟨10, _⟩ => ⟨S4096x3584, .f32⟩
  | .hbm, ⟨11, _⟩ => ⟨S4096x1024, .f32⟩
  | .hbm, ⟨12, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== MixinWUv.lean ====
abbrev S4096x1024 : Shape := ⟨2, ![4096, 1024]⟩
abbrev S1024x1024 : Shape := ⟨2, ![1024, 1024]⟩
abbrev S1024x3584 : Shape := ⟨2, ![1024, 3584]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x3584, .f32⟩
  | .hbm, ⟨4, _⟩ => ⟨S4096x1024, .bf16⟩
  | .hbm, ⟨5, _⟩ => ⟨S1024x4096, .bf16⟩
  | .hbm, ⟨6, _⟩ => ⟨S4096x1024, .bf16⟩
  | .hbm, ⟨7, _⟩ => ⟨S1024x3584, .bf16⟩
  | .hbm, ⟨8, _⟩ => ⟨S1024x3584, .f32⟩
  | .hbm, ⟨9, _⟩ => ⟨S1024x3584, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg0.toNat, v0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixinWUvRefIdeal.lean ====
abbrev S4096x1024 : Shape := ⟨2, ![4096, 1024]⟩
abbrev S1024x1024 : Shape := ⟨2, ![1024, 1024]⟩
abbrev S1024x3584 : Shape := ⟨2, ![1024, 3584]⟩
abbrev S1024x512 : Shape := ⟨2, ![1024, 512]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x3584, .f32⟩
  | .hbm, ⟨4, _⟩ => ⟨S1024x512, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x2048, .f32⟩
  | .hbm, ⟨9, _⟩ => ⟨S1024x3584, .f32⟩
  | .hbm, ⟨10, _⟩ => ⟨S1024x3584, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== SquareW.lean ====
abbrev S4096x1024 : Shape := ⟨2, ![4096, 1024]⟩
abbrev S1024x1024 : Shape := ⟨2, ![1024, 1024]⟩
abbrev S1024x4096 : Shape := ⟨2, ![1024, 4096]⟩
abbrev S1024x2048 : Shape := ⟨2, ![1024, 2048]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x4096, .bf16⟩
  | .hbm, ⟨5, _⟩ => ⟨S4096x1024, .bf16⟩
  | .hbm, ⟨6, _⟩ => ⟨S1024x1024, .f32⟩
  | .hbm, ⟨7, _⟩ => ⟨S1024x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== SquareWRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpW.lean ====
abbrev S4096x512 : Shape := ⟨2, ![4096, 512]⟩
abbrev S512x1024 : Shape := ⟨2, ![512, 1024]⟩
abbrev S4096x1024 : Shape := ⟨2, ![4096, 1024]⟩
abbrev S512x4096 : Shape := ⟨2, ![512, 4096]⟩
abbrev S512x2048 : Shape := ⟨2, ![512, 2048]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x512, .bf16⟩
  | .hbm, ⟨4, _⟩ => ⟨S512x4096, .bf16⟩
  | .hbm, ⟨5, _⟩ => ⟨S4096x1024, .bf16⟩
  | .hbm, ⟨6, _⟩ => ⟨S512x1024, .f32⟩
  | .hbm, ⟨7, _⟩ => ⟨S512x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== UpWRefIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PleW.lean ====
abbrev S4096x256 : Shape := ⟨2, ![4096, 256]⟩
abbrev S256x1024 : Shape := ⟨2, ![256, 1024]⟩
abbrev S4096x1024 : Shape := ⟨2, ![4096, 1024]⟩
abbrev S256x4096 : Shape := ⟨2, ![256, 4096]⟩
abbrev S256x2048 : Shape := ⟨2, ![256, 2048]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x256, .bf16⟩
  | .hbm, ⟨4, _⟩ => ⟨S256x4096, .bf16⟩
  | .hbm, ⟨5, _⟩ => ⟨S4096x1024, .bf16⟩
  | .hbm, ⟨6, _⟩ => ⟨S256x1024, .f32⟩
  | .hbm, ⟨7, _⟩ => ⟨S256x1024, .bf16⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== PleWRefIdeal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .f32⟩
  | .hbm, ⟨2, _⟩ => ⟨S4096x1024, .f32⟩
  | .hbm, ⟨3, _⟩ => ⟨S4096x1024, .f32⟩
  | .hbm, ⟨4, _⟩ => ⟨S1024x256, .f32⟩
  | .hbm, ⟨5, _⟩ => ⟨S256x1024, .f32⟩
  | .hbm, ⟨6, _⟩ => ⟨S256x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Loss.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S4096x256 : Shape := ⟨2, ![4096, 256]⟩
abbrev S1024x1024 : Shape := ⟨2, ![1024, 1024]⟩
abbrev S256x1024 : Shape := ⟨2, ![256, 1024]⟩
abbrev S1x1024 : Shape := ⟨2, ![1, 1024]⟩
abbrev S4096x1 : Shape := ⟨2, ![4096, 1]⟩
abbrev S1024x4096 : Shape := ⟨2, ![1024, 4096]⟩
abbrev S256x4096 : Shape := ⟨2, ![256, 4096]⟩
abbrev S512x1024 : Shape := ⟨2, ![512, 1024]⟩
abbrev S512x2816 : Shape := ⟨2, ![512, 2816]⟩
abbrev S512x256 : Shape := ⟨2, ![512, 256]⟩
abbrev S512x1 : Shape := ⟨2, ![512, 1]⟩
abbrev S1024x512 : Shape := ⟨2, ![1024, 512]⟩
abbrev S256x512 : Shape := ⟨2, ![256, 512]⟩
abbrev S512 : Shape := ⟨1, ![512]⟩

abbrev nBuf : Space → Nat
  | .hbm => 23
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S4096x256, .f32⟩
  | .hbm, ⟨6, _⟩ => ⟨S4096x1024, .f32⟩
  | .hbm, ⟨7, _⟩ => ⟨S1024x1024, .f32⟩
  | .hbm, ⟨8, _⟩ => ⟨S256x1024, .f32⟩
  | .hbm, ⟨9, _⟩ => ⟨S4096x2816, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S1024x1024, .bf16⟩
  | .hbm, ⟨14, _⟩ => ⟨S256x1024, .bf16⟩
  | .hbm, ⟨15, _⟩ => ⟨S4096x1024, .f32⟩
  | .hbm, ⟨16, _⟩ => ⟨S4096x1, .f32⟩
  | .hbm, ⟨17, _⟩ => ⟨S4096x1024, .f32⟩
  | .hbm, ⟨18, _⟩ => ⟨S1024x4096, .bf16⟩
  | .hbm, ⟨19, _⟩ => ⟨S256x4096, .bf16⟩
  | .hbm, ⟨20, _⟩ => ⟨S4096x1024, .bf16⟩
  | .hbm, ⟨21, _⟩ => ⟨S4096x1024, .bf16⟩
  | .hbm, ⟨22, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x256, .f32⟩
  | .local _ .vmem, ⟨8, _⟩ => ⟨S512x256, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S256x1024, .bf16⟩
  | .local _ .vmem, ⟨13, _⟩ => ⟨S512x1024, .f32⟩
  | .local _ .vmem, ⟨14, _⟩ => ⟨S512x1024, .f32⟩
  | .local _ .vmem, ⟨15, _⟩ => ⟨S512x1, .f32⟩
  | .local _ .vmem, ⟨16, _⟩ => ⟨S512x1, .f32⟩
  | .local _ .vmem, ⟨17, _⟩ => ⟨S512x1024, .f32⟩
  | .local _ .vmem, ⟨18, _⟩ => ⟨S512x1024, .f32⟩
  | .local _ .vmem, ⟨19, _⟩ => ⟨S1024x512, .bf16⟩
  | .local _ .vmem, ⟨20, _⟩ => ⟨S1024x512, .bf16⟩
  | .local _ .vmem, ⟨21, _⟩ => ⟨S256x512, .bf16⟩
  | .local _ .vmem, ⟨22, _⟩ => ⟨S256x512, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev main_v6_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== LossRefIdeal.lean ====
abbrev S4096x1024 : Shape := ⟨2, ![4096, 1024]⟩
abbrev S4096x2816 : Shape := ⟨2, ![4096, 2816]⟩
abbrev S2816x1024 : Shape := ⟨2, ![2816, 1024]⟩
abbrev S1024 : Shape := ⟨1, ![1024]⟩
abbrev S4096x256 : Shape := ⟨2, ![4096, 256]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩
abbrev S256x4096 : Shape := ⟨2, ![256, 4096]⟩

abbrev nBuf : Space → Nat
  | .hbm => 134
  | .vmem => 0
  | .smem => 0
  | _ => 0

abbrev hbmTy0_0 (i : Nat) : BufTy := match i % 128 with
  | 0 => ⟨S4096x1024, .f32⟩
  | 1 => ⟨S4096x2816, .f32⟩
  | 2 => ⟨S2816x1024, .f32⟩
  | 3 => ⟨S1024, .f32⟩
  | 4 => ⟨S1024, .f32⟩
  | 5 => ⟨S4096x256, .f32⟩
  | 6 => ⟨S4096x1024, .f32⟩
  | 7 => ⟨S1024x1024, .f32⟩
  | 8 => ⟨S256x1024, .f32⟩
  | 9 => ⟨S_, .f32⟩
  | 10 => ⟨S4096x1024, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S4096x1024, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x1, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S4096x1024, .f32⟩
  | 43 => ⟨S4096x1024, .f32⟩
  | 44 => ⟨S4096x1024, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S4096x1024, .f32⟩
  | 52 => ⟨S4096x1024, .f32⟩
  | 53 => ⟨S_, .f32⟩
  | 54 => ⟨S4096x1, .f32⟩
  | 55 => ⟨S4096x1, .f32⟩
  | 56 => ⟨S4096x1, .f32⟩
  | 57 => ⟨S4096x1024, .f32⟩
  | 58 => ⟨S4096x1024, .f32⟩
  | 59 => ⟨S1x1024, .f32⟩
  | 60 => ⟨S4096x1024, .f32⟩
  | 61 => ⟨S4096x1024, .f32⟩
  | 62 => ⟨S1x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S_, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S_, .f32⟩
  | 87 => ⟨S4096, .f32⟩
  | 88 => ⟨S_, .f32⟩
  | 89 => ⟨S4096, .f32⟩
  | 90 => ⟨S4096, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S4096, .f32⟩
  | 99 => ⟨S_, .f32⟩
  | 100 => ⟨S4096, .f32⟩
  | 101 => ⟨S4096, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S_, .f32⟩
  | 110 => ⟨S4096x1024, .f32⟩
  | 111 => ⟨S4096x1024, .f32⟩
  | 112 => ⟨S_, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S_, .f32⟩
  | 120 => ⟨S1024, .f32⟩
  | 121 => ⟨S1x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S1024x4096, .f32⟩
  | 1 => ⟨S1024x4096, .bf16⟩
  | 2 => ⟨S256x4096, .f32⟩
  | 3 => ⟨S256x4096, .bf16⟩
  | 4 => ⟨S4096x1024, .bf16⟩
  | 5 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_cst_15 : Ref sig .tc := ⟨.hbm, 86, rfl⟩
abbrev main_v61 : Ref sig .tc := ⟨.hbm, 87, rfl⟩
abbrev main_cst_16 : Ref sig .tc := ⟨.hbm, 88, rfl⟩
abbrev main_v62 : Ref sig .tc := ⟨.hbm, 89, rfl⟩
abbrev main_v63 : Ref sig .tc := ⟨.hbm, 90, rfl⟩
abbrev main_cst_17 : Ref sig .tc := ⟨.hbm, 91, rfl⟩
abbrev main_v64 : Ref sig .tc := ⟨.hbm, 92, rfl⟩
abbrev main_cst_18 : Ref sig .tc := ⟨.hbm, 93, rfl⟩
abbrev main_v65 : Ref sig .tc := ⟨.hbm, 94, rfl⟩
abbrev main_cst_19 : Ref sig .tc := ⟨.hbm, 95, rfl⟩
abbrev main_cst_20 : Ref sig .tc := ⟨.hbm, 96, rfl⟩
abbrev main_v66 : Ref sig .tc := ⟨.hbm, 97, rfl⟩
abbrev main_v67 : Ref sig .tc := ⟨.hbm, 98, rfl⟩
abbrev main_cst_21 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_22 : Ref sig .tc := ⟨.hbm, 109, rfl⟩
abbrev main_v77 : Ref sig .tc := ⟨.hbm, 110, rfl⟩
abbrev main_v78 : Ref sig .tc := ⟨.hbm, 111, rfl⟩
abbrev main_cst_23 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_24 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]
-- ==== Mixout.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S4096x1 : Shape := ⟨2, ![4096, 1]⟩
abbrev S512x512 : Shape := ⟨2, ![512, 512]⟩
abbrev S512x2048 : Shape := ⟨2, ![512, 2048]⟩
abbrev S512x1 : Shape := ⟨2, ![512, 1]⟩
abbrev S512 : Shape := ⟨1, ![512]⟩

abbrev nBuf : Space → Nat
  | .hbm => 20
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S4096x512, .bf16⟩
  | .hbm, ⟨10, _⟩ => ⟨S4096x512, .bf16⟩
  | .hbm, ⟨11, _⟩ => ⟨S4096x2048, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1, .f32⟩
  | .local _ .vmem, ⟨18, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixoutRefIdeal.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S1x1024, .f32⟩
  | .hbm, ⟨80, _⟩ => ⟨S4096x1024, .f32⟩
  | .hbm, ⟨81, _⟩ => ⟨S4096x1024, .f32⟩
  | .hbm, ⟨82, _⟩ => ⟨S1x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_13 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== MixoutGrad.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩
abbrev S512x1 : Shape := ⟨2, ![512, 1]⟩
abbrev S512x512 : Shape := ⟨2, ![512, 512]⟩
abbrev S512x2048 : Shape := ⟨2, ![512, 2048]⟩
abbrev S1024x512 : Shape := ⟨2, ![1024, 512]⟩
abbrev S512 : Shape := ⟨1, ![512]⟩

abbrev nBuf : Space → Nat
  | .hbm => 107
  | .vmem => 34
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x512, .bf16⟩
  | .hbm, ⟨91, _⟩ => ⟨S4096x512, .bf16⟩
  | .hbm, ⟨92, _⟩ => ⟨S4096x2048, .bf16⟩
  | .hbm, ⟨93, _⟩ => ⟨S512x1024, .bf16⟩
  | .hbm, ⟨94, _⟩ => ⟨S512x1024, .bf16⟩
  | .hbm, ⟨95, _⟩ => ⟨S1024x1024, .bf16⟩
  | .hbm, ⟨96, _⟩ => ⟨S1x1024, .f32⟩
  | .hbm, ⟨97, _⟩ => ⟨S4096x1024, .f32⟩
  | .hbm, ⟨98, _⟩ => ⟨S4096x1024, .bf16⟩
  | .hbm, ⟨99, _⟩ => ⟨S1024x4096, .bf16⟩
  | .hbm, ⟨100, _⟩ => ⟨S4096x1024, .bf16⟩
  | .hbm, ⟨101, _⟩ => ⟨S4096x1024, .bf16⟩
  | .hbm, ⟨102, _⟩ => ⟨S4096x512, .f32⟩
  | .hbm, ⟨103, _⟩ => ⟨S4096x512, .f32⟩
  | .hbm, ⟨104, _⟩ => ⟨S4096x2048, .bf16⟩
  | .hbm, ⟨105, _⟩ => ⟨S1x1024, .f32⟩
  | .hbm, ⟨106, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1024x512, .bf16⟩
  | .local _ .vmem, ⟨21, _⟩ => ⟨S1024x512, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x2048, .bf16⟩
  | .local _ .vmem, ⟨31, _⟩ => ⟨S512x2048, .bf16⟩
  | .local _ .vmem, ⟨32, _⟩ => ⟨S1x1024, .f32⟩
  | .local _ .vmem, ⟨33, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72_0 : Ref sig .tc := ⟨.hbm, 97, rfl⟩
abbrev main_v72_1 : Ref sig .tc := ⟨.hbm, 98, rfl⟩
abbrev main_v72_2 : Ref sig .tc := ⟨.hbm, 99, rfl⟩
abbrev main_v72_3 : Ref sig .tc := ⟨.hbm, 100, rfl⟩
abbrev main_v72_4 : Ref sig .tc := ⟨.hbm, 101, rfl⟩
abbrev main_v72_5 : Ref sig .tc := ⟨.hbm, 102, rfl⟩
abbrev main_v72_6 : Ref sig .tc := ⟨.hbm, 103, rfl⟩
abbrev main_v72_7 : Ref sig .tc := ⟨.hbm, 104, rfl⟩
abbrev main_v72_8 : Ref sig .tc := ⟨.hbm, 105, rfl⟩
abbrev main_v72_9 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg19_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem19_0 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== MixoutGradRefIdeal.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩

abbrev nBuf : Space → Nat
  | .hbm => 148
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S4096x2048, .f32⟩
  | 4 => ⟨S512x1024, .f32⟩
  | 5 => ⟨S512x1024, .f32⟩
  | 6 => ⟨S1024x1024, .f32⟩
  | 7 => ⟨S1024, .f32⟩
  | 8 => ⟨S1024, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S4096x1024, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S4096x1024, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S4096x1024, .f32⟩
  | 65 => ⟨S4096x1024, .f32⟩
  | 66 => ⟨S_, .f32⟩
  | 67 => ⟨S4096x1, .f32⟩
  | 68 => ⟨S4096x1, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S4096x1024, .f32⟩
  | 75 => ⟨S4096x1024, .f32⟩
  | 76 => ⟨S1x1024, .f32⟩
  | 77 => ⟨S4096x1024, .f32⟩
  | 78 => ⟨S4096x1024, .f32⟩
  | 79 => ⟨S1x1024, .f32⟩
  | 80 => ⟨S4096x1024, .f32⟩
  | 81 => ⟨S4096x1024, .f32⟩
  | 82 => ⟨S4096x1024, .f32⟩
  | 83 => ⟨S_, .f32⟩
  | 84 => ⟨S1024, .f32⟩
  | 85 => ⟨S1x1024, .f32⟩
  | 86 => ⟨S_, .f32⟩
  | 87 => ⟨S1024, .f32⟩
  | 88 => ⟨S4096x1024, .f32⟩
  | 89 => ⟨S_, .f32⟩
  | 90 => ⟨S1024, .f32⟩
  | 91 => ⟨S1x1024, .f32⟩
  | 92 => ⟨S4096x1024, .f32⟩
  | 93 => ⟨S4096x1024, .f32⟩
  | 94 => ⟨S_, .f32⟩
  | 95 => ⟨S1024, .f32⟩
  | 96 => ⟨S4096x1024, .f32⟩
  | 97 => ⟨S_, .f32⟩
  | 98 => ⟨S4096, .f32⟩
  | 99 => ⟨S4096x1, .f32⟩
  | 100 => ⟨S4096x1024, .f32⟩
  | 101 => ⟨S4096x1024, .f32⟩
  | 102 => ⟨S4096x1, .f32⟩
  | 103 => ⟨S4096x1024, .f32⟩
  | 104 => ⟨S_, .f32⟩
  | 105 => ⟨S4096, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096, .f32⟩
  | 112 => ⟨S4096x1024, .f32⟩
  | 113 => ⟨S4096x1024, .f32⟩
  | 114 => ⟨S4096x1024, .f32⟩
  | 115 => ⟨S_, .f32⟩
  | 116 => ⟨S4096, .f32⟩
  | 117 => ⟨S4096x1, .f32⟩
  | 118 => ⟨S4096x1024, .f32⟩
  | 119 => ⟨S4096x1, .f32⟩
  | 120 => ⟨S_, .f32⟩
  | 121 => ⟨S4096x1, .f32⟩
  | 122 => ⟨S4096x1, .f32⟩
  | 123 => ⟨S_, .f32⟩
  | 124 => ⟨S4096, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S4096x2048, .f32⟩
  | 10 => ⟨S4096x1024, .bf16⟩
  | 11 => ⟨S1024x4096, .f32⟩
  | 12 => ⟨S1024x4096, .bf16⟩
  | 13 => ⟨S4096x1024, .bf16⟩
  | 14 => ⟨S4096x1024, .bf16⟩
  | 15 => ⟨S4096x512, .f32⟩
  | 16 => ⟨S4096x512, .f32⟩
  | 17 => ⟨S4096x2048, .bf16⟩
  | 18 => ⟨S1x1024, .f32⟩
  | 19 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_12 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_cst_15 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_16 : Ref sig .tc := ⟨.hbm, 94, rfl⟩
abbrev main_v67 : Ref sig .tc := ⟨.hbm, 95, rfl⟩
abbrev main_v68 : Ref sig .tc := ⟨.hbm, 96, rfl⟩
abbrev main_cst_17 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_18 : Ref sig .tc := ⟨.hbm, 104, rfl⟩
abbrev main_v75 : Ref sig .tc := ⟨.hbm, 105, rfl⟩
abbrev main_v76 : Ref sig .tc := ⟨.hbm, 106, rfl⟩
abbrev main_cst_19 : Ref sig .tc := ⟨.hbm, 107, rfl⟩
abbrev main_v77 : Ref sig .tc := ⟨.hbm, 108, rfl⟩
abbrev main_v78 : Ref sig .tc := ⟨.hbm, 109, rfl⟩
abbrev main_cst_20 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_21 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_22 : Ref sig .tc := ⟨.hbm, 120, rfl⟩
abbrev main_v87 : Ref sig .tc := ⟨.hbm, 121, rfl⟩
abbrev main_v88 : Ref sig .tc := ⟨.hbm, 122, rfl⟩
abbrev main_cst_23 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_24 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩

abbrev nD : Nat := 1
abbrev τ : Topo := Topo.v7x

variable {F : FTy → Type} [FloatOps F]
-- ==== MixinWG.lean ====
abbrev S4096x1024 : Shape := ⟨2, ![4096, 1024]⟩
abbrev S1024x2048 : Shape := ⟨2, ![1024, 2048]⟩
abbrev S4096x2048 : Shape := ⟨2, ![4096, 2048]⟩
abbrev S1024x3584 : Shape := ⟨2, ![1024, 3584]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S1024x3584, .f32⟩
  | .hbm, ⟨4, _⟩ => ⟨S4096x1024, .bf16⟩
  | .hbm, ⟨5, _⟩ => ⟨S1024x4096, .bf16⟩
  | .hbm, ⟨6, _⟩ => ⟨S4096x2048, .bf16⟩
  | .hbm, ⟨7, _⟩ => ⟨S1024x3584, .bf16⟩
  | .hbm, ⟨8, _⟩ => ⟨S1024x3584, .f32⟩
  | .hbm, ⟨9, _⟩ => ⟨S1024x3584, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg0.toNat, v0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixinWGRefIdeal.lean ====
abbrev S4096x1024 : Shape := ⟨2, ![4096, 1024]⟩
abbrev S1024x2048 : Shape := ⟨2, ![1024, 2048]⟩
abbrev S4096x2048 : Shape := ⟨2, ![4096, 2048]⟩
abbrev S1024x3584 : Shape := ⟨2, ![1024, 3584]⟩
abbrev S1024x1536 : Shape := ⟨2, ![1024, 1536]⟩
abbrev S2048x1024 : Shape := ⟨2, ![2048, 1024]⟩
abbrev S1024x0 : Shape := ⟨2, ![1024, 0]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | .hbm, ⟨3, _⟩ => ⟨S1024x3584, .f32⟩
  | .hbm, ⟨4, _⟩ => ⟨S1024x1536, .f32⟩
  | .hbm, ⟨5, _⟩ => ⟨S4096x2048, .f32⟩
  | .hbm, ⟨6, _⟩ => ⟨S2048x1024, .f32⟩
  | .hbm, ⟨7, _⟩ => ⟨S1024x2048, .f32⟩
  | .hbm, ⟨8, _⟩ => ⟨S1024x0, .f32⟩
  | .hbm, ⟨9, _⟩ => ⟨S1024x3584, .f32⟩
  | .hbm, ⟨10, _⟩ => ⟨S1024x3584, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== SumLoss.lean ====
abbrev S8x1x1024 : Shape := ⟨3, ![8, 1, 1024]⟩
abbrev S1x1 : Shape := ⟨2, ![1, 1]⟩
abbrev S1x1x1024 : Shape := ⟨3, ![1, 1, 1024]⟩
abbrev S1x1024 : Shape := ⟨2, ![1, 1024]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S8x1x1024, .f32⟩
  | .hbm, ⟨1, _⟩ => ⟨S1x1, .f32⟩
  | .local _ .vmem, ⟨0, _⟩ => ⟨S8x1x1024, .f32⟩
  | .local _ .vmem, ⟨1, _⟩ => ⟨S1x1, .f32⟩
  | _, _ => ⟨S8x1x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumLossRefIdeal.lean ====
abbrev S8x1x1024 : Shape := ⟨3, ![8, 1, 1024]⟩
abbrev S_ : Shape := ⟨0, ![]⟩
abbrev S1x1 : Shape := ⟨2, ![1, 1]⟩

abbrev nBuf : Space → Nat
  | .hbm => 8
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x1, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== AdamFfnOut.lean ====
abbrev S704x1024 : Shape := ⟨2, ![704, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfnOutIdeal.lean ====
abbrev S704x1024 : Shape := ⟨2, ![704, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfnOutRefIdeal.lean ====
abbrev S704x1024 : Shape := ⟨2, ![704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamFfnIn.lean ====
abbrev S1024x1408 : Shape := ⟨2, ![1024, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfnInIdeal.lean ====
abbrev S1024x1408 : Shape := ⟨2, ![1024, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfnInRefIdeal.lean ====
abbrev S1024x1408 : Shape := ⟨2, ![1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S_, .f32⟩
  | .hbm, ⟨7, _⟩ => ⟨S1024x1408, .f32⟩
  | .hbm, ⟨8, _⟩ => ⟨S1024x1408, .f32⟩
  | .hbm, ⟨9, _⟩ => ⟨S_, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S_, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S_, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S_, .f32⟩
  | .hbm, ⟨22, _⟩ => ⟨S1024x1408, .f32⟩
  | .hbm, ⟨23, _⟩ => ⟨S1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S1024x1408, .f32⟩
  | .hbm, ⟨28, _⟩ => ⟨S_, .f32⟩
  | .hbm, ⟨29, _⟩ => ⟨S1024x1408, .f32⟩
  | .hbm, ⟨30, _⟩ => ⟨S1024x1408, .f32⟩
  | .hbm, ⟨31, _⟩ => ⟨S1024x1408, .f32⟩
  | .hbm, ⟨32, _⟩ => ⟨S_, .f32⟩
  | .hbm, ⟨33, _⟩ => ⟨S1024x1408, .f32⟩
  | .hbm, ⟨34, _⟩ => ⟨S1024x1408, .f32⟩
  | .hbm, ⟨35, _⟩ => ⟨S1024x1408, .f32⟩
  | .hbm, ⟨36, _⟩ => ⟨S_, .f32⟩
  | .hbm, ⟨37, _⟩ => ⟨S1024x1408, .f32⟩
  | .hbm, ⟨38, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamMixIn.lean ====
abbrev S1024x896 : Shape := ⟨2, ![1024, 896]⟩
abbrev S256x896 : Shape := ⟨2, ![256, 896]⟩

abbrev nBuf : Space → Nat
  | .hbm => 9
  | .vmem => 18
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .hbm, ⟨7, _⟩ => ⟨S1024x896, .f32⟩
  | .hbm, ⟨8, _⟩ => ⟨S1024x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | .local _ .vmem, ⟨16, _⟩ => ⟨S256x896, .f32⟩
  | .local _ .vmem, ⟨17, _⟩ => ⟨S256x896, .f32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamMixInIdeal.lean ====
abbrev S1024x896 : Shape := ⟨2, ![1024, 896]⟩
abbrev S256x896 : Shape := ⟨2, ![256, 896]⟩

abbrev nBuf : Space → Nat
  | .hbm => 9
  | .vmem => 18
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .hbm, ⟨7, _⟩ => ⟨S1024x896, .f32⟩
  | .hbm, ⟨8, _⟩ => ⟨S1024x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | .local _ .vmem, ⟨16, _⟩ => ⟨S256x896, .f32⟩
  | .local _ .vmem, ⟨17, _⟩ => ⟨S256x896, .f32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamMixInRefIdeal.lean ====
abbrev S1024x896 : Shape := ⟨2, ![1024, 896]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S_, .f32⟩
  | .hbm, ⟨7, _⟩ => ⟨S1024x896, .f32⟩
  | .hbm, ⟨8, _⟩ => ⟨S1024x896, .f32⟩
  | .hbm, ⟨9, _⟩ => ⟨S_, .f32⟩
  | .hbm, ⟨10, _⟩ => ⟨S1024x896, .f32⟩
  | .hbm, ⟨11, _⟩ => ⟨S1024x896, .f32⟩
  | .hbm, ⟨12, _⟩ => ⟨S1024x896, .f32⟩
  | .hbm, ⟨13, _⟩ => ⟨S_, .f32⟩
  | .hbm, ⟨14, _⟩ => ⟨S1024x896, .f32⟩
  | .hbm, ⟨15, _⟩ => ⟨S1024x896, .f32⟩
  | .hbm, ⟨16, _⟩ => ⟨S1024x896, .f32⟩
  | .hbm, ⟨17, _⟩ => ⟨S_, .f32⟩
  | .hbm, ⟨18, _⟩ => ⟨S1024x896, .f32⟩
  | .hbm, ⟨19, _⟩ => ⟨S1024x896, .f32⟩
  | .hbm, ⟨20, _⟩ => ⟨S1024x896, .f32⟩
  | .hbm, ⟨21, _⟩ => ⟨S_, .f32⟩
  | .hbm, ⟨22, _⟩ => ⟨S1024x896, .f32⟩
  | .hbm, ⟨23, _⟩ => ⟨S1024x896, .f32⟩
  | .hbm, ⟨24, _⟩ => ⟨S_, .f32⟩
  | .hbm, ⟨25, _⟩ => ⟨S1024x896, .f32⟩
  | .hbm, ⟨26, _⟩ => ⟨S1024x896, .f32⟩
  | .hbm, ⟨27, _⟩ => ⟨S1024x896, .f32⟩
  | .hbm, ⟨28, _⟩ => ⟨S_, .f32⟩
  | .hbm, ⟨29, _⟩ => ⟨S1024x896, .f32⟩
  | .hbm, ⟨30, _⟩ => ⟨S1024x896, .f32⟩
  | .hbm, ⟨31, _⟩ => ⟨S1024x896, .f32⟩
  | .hbm, ⟨32, _⟩ => ⟨S_, .f32⟩
  | .hbm, ⟨33, _⟩ => ⟨S1024x896, .f32⟩
  | .hbm, ⟨34, _⟩ => ⟨S1024x896, .f32⟩
  | .hbm, ⟨35, _⟩ => ⟨S1024x896, .f32⟩
  | .hbm, ⟨36, _⟩ => ⟨S_, .f32⟩
  | .hbm, ⟨37, _⟩ => ⟨S1024x896, .f32⟩
  | .hbm, ⟨38, _⟩ => ⟨S1024x896, .f32⟩
  | _, _ => ⟨S1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamGlu.lean ====
abbrev S128x512 : Shape := ⟨2, ![128, 512]⟩
abbrev S32x512 : Shape := ⟨2, ![32, 512]⟩

abbrev nBuf : Space → Nat
  | .hbm => 9
  | .vmem => 18
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x512, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | .local _ .vmem, ⟨15, _⟩ => ⟨S32x512, .f32⟩
  | .local _ .vmem, ⟨16, _⟩ => ⟨S32x512, .f32⟩
  | .local _ .vmem, ⟨17, _⟩ => ⟨S32x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamGluIdeal.lean ====
abbrev S128x512 : Shape := ⟨2, ![128, 512]⟩
abbrev S32x512 : Shape := ⟨2, ![32, 512]⟩

abbrev nBuf : Space → Nat
  | .hbm => 9
  | .vmem => 18
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x512, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | .local _ .vmem, ⟨15, _⟩ => ⟨S32x512, .f32⟩
  | .local _ .vmem, ⟨16, _⟩ => ⟨S32x512, .f32⟩
  | .local _ .vmem, ⟨17, _⟩ => ⟨S32x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamGluRefIdeal.lean ====
abbrev S128x512 : Shape := ⟨2, ![128, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S_, .f32⟩
  | .hbm, ⟨7, _⟩ => ⟨S128x512, .f32⟩
  | .hbm, ⟨8, _⟩ => ⟨S128x512, .f32⟩
  | .hbm, ⟨9, _⟩ => ⟨S_, .f32⟩
  | .hbm, ⟨10, _⟩ => ⟨S128x512, .f32⟩
  | .hbm, ⟨11, _⟩ => ⟨S128x512, .f32⟩
  | .hbm, ⟨12, _⟩ => ⟨S128x512, .f32⟩
  | .hbm, ⟨13, _⟩ => ⟨S_, .f32⟩
  | .hbm, ⟨14, _⟩ => ⟨S128x512, .f32⟩
  | .hbm, ⟨15, _⟩ => ⟨S128x512, .f32⟩
  | .hbm, ⟨16, _⟩ => ⟨S128x512, .f32⟩
  | .hbm, ⟨17, _⟩ => ⟨S_, .f32⟩
  | .hbm, ⟨18, _⟩ => ⟨S128x512, .f32⟩
  | .hbm, ⟨19, _⟩ => ⟨S128x512, .f32⟩
  | .hbm, ⟨20, _⟩ => ⟨S128x512, .f32⟩
  | .hbm, ⟨21, _⟩ => ⟨S_, .f32⟩
  | .hbm, ⟨22, _⟩ => ⟨S128x512, .f32⟩
  | .hbm, ⟨23, _⟩ => ⟨S128x512, .f32⟩
  | .hbm, ⟨24, _⟩ => ⟨S_, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S_, .f32⟩
  | .hbm, ⟨29, _⟩ => ⟨S128x512, .f32⟩
  | .hbm, ⟨30, _⟩ => ⟨S128x512, .f32⟩
  | .hbm, ⟨31, _⟩ => ⟨S128x512, .f32⟩
  | .hbm, ⟨32, _⟩ => ⟨S_, .f32⟩
  | .hbm, ⟨33, _⟩ => ⟨S128x512, .f32⟩
  | .hbm, ⟨34, _⟩ => ⟨S128x512, .f32⟩
  | .hbm, ⟨35, _⟩ => ⟨S128x512, .f32⟩
  | .hbm, ⟨36, _⟩ => ⟨S_, .f32⟩
  | .hbm, ⟨37, _⟩ => ⟨S128x512, .f32⟩
  | .hbm, ⟨38, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamUp.lean ====
abbrev S512x256 : Shape := ⟨2, ![512, 256]⟩
abbrev S128x256 : Shape := ⟨2, ![128, 256]⟩

abbrev nBuf : Space → Nat
  | .hbm => 9
  | .vmem => 18
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpIdeal.lean ====
abbrev S512x256 : Shape := ⟨2, ![512, 256]⟩
abbrev S128x256 : Shape := ⟨2, ![128, 256]⟩

abbrev nBuf : Space → Nat
  | .hbm => 9
  | .vmem => 18
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S512x256 : Shape := ⟨2, ![512, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S_, .f32⟩
  | .hbm, ⟨7, _⟩ => ⟨S512x256, .f32⟩
  | .hbm, ⟨8, _⟩ => ⟨S512x256, .f32⟩
  | .hbm, ⟨9, _⟩ => ⟨S_, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S_, .f32⟩
  | .hbm, ⟨14, _⟩ => ⟨S512x256, .f32⟩
  | .hbm, ⟨15, _⟩ => ⟨S512x256, .f32⟩
  | .hbm, ⟨16, _⟩ => ⟨S512x256, .f32⟩
  | .hbm, ⟨17, _⟩ => ⟨S_, .f32⟩
  | .hbm, ⟨18, _⟩ => ⟨S512x256, .f32⟩
  | .hbm, ⟨19, _⟩ => ⟨S512x256, .f32⟩
  | .hbm, ⟨20, _⟩ => ⟨S512x256, .f32⟩
  | .hbm, ⟨21, _⟩ => ⟨S_, .f32⟩
  | .hbm, ⟨22, _⟩ => ⟨S512x256, .f32⟩
  | .hbm, ⟨23, _⟩ => ⟨S512x256, .f32⟩
  | .hbm, ⟨24, _⟩ => ⟨S_, .f32⟩
  | .hbm, ⟨25, _⟩ => ⟨S512x256, .f32⟩
  | .hbm, ⟨26, _⟩ => ⟨S512x256, .f32⟩
  | .hbm, ⟨27, _⟩ => ⟨S512x256, .f32⟩
  | .hbm, ⟨28, _⟩ => ⟨S_, .f32⟩
  | .hbm, ⟨29, _⟩ => ⟨S512x256, .f32⟩
  | .hbm, ⟨30, _⟩ => ⟨S512x256, .f32⟩
  | .hbm, ⟨31, _⟩ => ⟨S512x256, .f32⟩
  | .hbm, ⟨32, _⟩ => ⟨S_, .f32⟩
  | .hbm, ⟨33, _⟩ => ⟨S512x256, .f32⟩
  | .hbm, ⟨34, _⟩ => ⟨S512x256, .f32⟩
  | .hbm, ⟨35, _⟩ => ⟨S512x256, .f32⟩
  | .hbm, ⟨36, _⟩ => ⟨S_, .f32⟩
  | .hbm, ⟨37, _⟩ => ⟨S512x256, .f32⟩
  | .hbm, ⟨38, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSquare.lean ====
abbrev S256x1024 : Shape := ⟨2, ![256, 1024]⟩
abbrev S64x1024 : Shape := ⟨2, ![64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamSquareIdeal.lean ====
abbrev S256x1024 : Shape := ⟨2, ![256, 1024]⟩
abbrev S64x1024 : Shape := ⟨2, ![64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamSquareRefIdeal.lean ====
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamPle.lean ====
abbrev S256x256 : Shape := ⟨2, ![256, 256]⟩
abbrev S64x256 : Shape := ⟨2, ![64, 256]⟩

abbrev nBuf : Space → Nat
  | .hbm => 9
  | .vmem => 18
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | .local _ .vmem, ⟨16, _⟩ => ⟨S64x256, .f32⟩
  | .local _ .vmem, ⟨17, _⟩ => ⟨S64x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamPleRefIdeal.lean ====
abbrev S256x256 : Shape := ⟨2, ![256, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S_, .f32⟩
  | .hbm, ⟨7, _⟩ => ⟨S256x256, .f32⟩
  | .hbm, ⟨8, _⟩ => ⟨S256x256, .f32⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Lift.lean ====
/-
  Real numbers inside the extended reals. The programs compute over the extended reals, where a product does not
  distribute over a sum; every number they meet here is a real one, so each operation is read as the same operation on
  the reals, and the equations are proved there. This file holds those readings and the float words of the two programs.
-/
module

public import Idealize.ShloMosaic.PureOps.Ideal

@[expose] public section

noncomputable section

namespace Cert.Lift

open Idealize.ShloMosaic

/-- A finite sum of real numbers, read in the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The residual's factor, the float nearest to the fourth root of two. -/
def alpha : ℝ := 9975792 / 8388608

/-- The float nearest to `1e-5`, added to a variance. -/
def eps : ℝ := 10995116 / 1099511627776

theorem eps_pos : 0 < eps := by unfold eps; norm_num

theorem word_zero : Ideal.ofBits .f32 0x00000000#32 = ((0 : ℝ) : EReal) := by simp [Ideal.ofBits, Ideal.ieee]
theorem word_one : Ideal.ofBits .f32 0x3F800000#32 = ((1 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_inv_1024 : Ideal.ofBits .f32 0x3A800000#32 = ((1 / 1024 : ℝ) : EReal) := by
  simp [Ideal.ofBits, Ideal.ieee, -EReal.coe_mul]; norm_num
theorem word_alpha : Ideal.ofBits .f32 0x3F9837F0#32 = (alpha : EReal) := by
  simp [Ideal.ofBits, Ideal.ieee, alpha, -EReal.coe_mul]; norm_num
theorem word_eps : Ideal.ofBits .f32 0x3727C5AC#32 = (eps : EReal) := by
  simp [Ideal.ofBits, Ideal.ieee, eps, -EReal.coe_mul]; norm_num
theorem word_top : Ideal.ofBits .f32 0x7F800000#32 = ⊤ := by simp [Ideal.ofBits, Ideal.ieee]

/-- A quotient of real numbers whose divisor is not zero. -/
theorem coe_div (a : ℝ) {b : ℝ} (hb : b ≠ 0) : Ideal.div (a : EReal) (b : EReal) = ((a / b : ℝ) : EReal) := by
  rw [Ideal.div_coe hb, ← EReal.coe_mul, mul_one_div]

theorem coe_div_1024 (a : ℝ) : Ideal.div (a : EReal) ((1024 : ℝ) : EReal) = ((a / 1024 : ℝ) : EReal) :=
  coe_div a (by norm_num)

/-- The reciprocal square root of a positive number. -/
theorem coe_rsqrt {r : ℝ} (h : 0 < r) : Ideal.rsqrt (r : EReal) = (((Real.sqrt r)⁻¹ : ℝ) : EReal) := by
  rw [Ideal.rsqrt_coe, if_neg (not_lt.mpr h.le), if_neg h.ne']

/-- An extended real below `⊤` in absolute value is a real number. -/
theorem exists_real_of_abs_lt_top {x : EReal} (h : max x (-x) < ⊤) : ∃ r : ℝ, x = r := by
  induction x using EReal.rec with
  | bot => simp at h
  | coe r => exact ⟨r, rfl⟩
  | top => simp at h

end Cert.Lift

end
-- ==== Proof.Spec.lean ====
/-
  The gradient of one feed-forward block over the reals: `layer_norm (α x + ½ (silu(gate) · up) W₂)` where
  `[gate, up] = x W₁`. The functions below are what both programs compute; the equations say that the derivative of
  the normalisation, in the order differentiation gives it, is the short form with two means, and that the derivative
  of `silu` in its two orders is one number.
-/
module

public import Mathlib.Analysis.SpecialFunctions.Trigonometric.DerivHyp
public import Mathlib.Analysis.SpecialFunctions.Pow.Real

@[expose] public section

noncomputable section

namespace Cert.Spec

/-- The logistic function. -/
def sgm (z : ℝ) : ℝ := (1 + Real.exp (-z))⁻¹

/-- The logistic function by way of the hyperbolic tangent. -/
theorem sgm_eq_tanh (z : ℝ) : 1 / 2 * Real.tanh (1 / 2 * z) + 1 / 2 = sgm z := by
  have e : Real.exp (-z) = Real.exp (-(1 / 2 * z)) * Real.exp (-(1 / 2 * z)) := by rw [← Real.exp_add]; ring_nf
  have h : Real.exp (1 / 2 * z) * Real.exp (-(1 / 2 * z)) = 1 := by rw [← Real.exp_add]; simp
  have p := Real.exp_pos (1 / 2 * z)
  have q := Real.exp_pos (-(1 / 2 * z))
  rw [sgm, Real.tanh_eq_sinh_div_cosh, Real.sinh_eq, Real.cosh_eq, e]
  generalize Real.exp (1 / 2 * z) = a at *
  generalize Real.exp (-(1 / 2 * z)) = b at *
  have n : 1 + b * b ≠ 0 := by positivity
  have n' : a + b ≠ 0 := by positivity
  field_simp
  linear_combination (2 * b) * h

/-- The gradient of a normalised row with gain `g`: `rs` the reciprocal deviation, `xh` the normalised row, `ct` the
    gradient of what the normalisation returns. -/
def normGrad {n : ℕ} (rs : ℝ) (ct xh g : Fin n → ℝ) (d : Fin n) : ℝ :=
  rs * (ct d * g d - (∑ e, ct e * g e) / 1024 - xh d * ((∑ e, ct e * g e * xh e) / 1024))

/-- The same gradient as differentiating mean, variance and reciprocal root one after another gives it. -/
theorem normGrad_eq {n : ℕ} (rs v : ℝ) (ct c g : Fin n → ℝ) (d : Fin n) (hv : v ≠ 0) (hr : rs * rs * v = 1)
    (hc : ∑ e, c e = 0) :
    ct d * g d * rs + (∑ e, c e * (ct e * g e)) * (-(1 / 2) * (rs / v)) / 1024 * (2 * c d)
      + (∑ e, -(ct e * g e * rs) + ∑ e, -((∑ e, c e * (ct e * g e)) * (-(1 / 2) * (rs / v)) / 1024 * (2 * c e))) / 1024
      = normGrad rs ct (fun e => c e * rs) g d := by
  have hz : ∑ e, -((∑ e, c e * (ct e * g e)) * (-(1 / 2) * (rs / v)) / 1024 * (2 * c e)) = 0 := by
    have : ∀ e, -((∑ e, c e * (ct e * g e)) * (-(1 / 2) * (rs / v)) / 1024 * (2 * c e))
        = -((∑ e, c e * (ct e * g e)) * (-(1 / 2) * (rs / v)) / 1024 * 2) * c e := fun e => by ring
    simp only [this]
    rw [← Finset.mul_sum, hc, mul_zero]
  have h1 : ∑ e, -(ct e * g e * rs) = -(rs * ∑ e, ct e * g e) := by
    rw [Finset.mul_sum, ← Finset.sum_neg_distrib]; exact Finset.sum_congr rfl fun e _ => by ring
  have h2 : ∑ e, ct e * g e * (c e * rs) = rs * ∑ e, c e * (ct e * g e) := by
    rw [Finset.mul_sum]; exact Finset.sum_congr rfl fun e _ => by ring
  have h3 : rs / v = rs * rs * rs := by rw [div_eq_iff hv]; linear_combination -rs * hr
  rw [hz, h1, normGrad, h2, h3]
  ring

/-- The gradient that reaches the gate: `a` that of `silu(gate) · up`. -/
def gateGrad (z u a : ℝ) : ℝ := a * u * (sgm z * (1 + z * (1 - sgm z)))

/-- The same gradient as differentiating the logistic function gives it. -/
theorem gateGrad_eq (z u a : ℝ) :
    a * u * sgm z + z * (a * u) * (sgm z * (1 - sgm z)) = gateGrad z u a := by
  unfold gateGrad; ring

/-- The gradient that reaches `up`. -/
def upGrad (z a : ℝ) : ℝ := a * (z * sgm z)

/-- A mean over a row of 1024. -/
def mean (f : Fin 1024 → ℝ) : ℝ := (∑ e, f e) / 1024

theorem sum_sub_mean (f : Fin 1024 → ℝ) : ∑ e, (f e - mean f) = 0 := by
  rw [Finset.sum_sub_distrib, Finset.sum_const, Finset.card_univ, Fintype.card_fin, mean]
  simp only [nsmul_eq_mul]; push_cast; ring

/-- The reciprocal deviation is the reciprocal root of variance and `ε`. -/
theorem rsqrt_sq_mul {v : ℝ} (h : 0 < v) : (Real.sqrt v)⁻¹ * (Real.sqrt v)⁻¹ * v = 1 := by
  rw [← mul_inv, Real.mul_self_sqrt h.le, inv_mul_cancel₀ h.ne']

/-- A matrix of real numbers. -/
abbrev Mat (a b : ℕ) := Fin a → Fin b → ℝ

section Block

variable (CT XH : Mat 4096 1024) (RS : Fin 4096 → ℝ) (G : Fin 1024 → ℝ) (H : Mat 4096 5632) (W₁ : Mat 1024 5632)
  (W₂ : Mat 2816 1024)

/-- The gradient of the residual sum that the normalisation reads. -/
def resGrad : Mat 4096 1024 := fun t d => normGrad (RS t) (CT t) (XH t) G d

/-- The gradient of the gated product. -/
def actGrad (DR : Mat 4096 1024) : Mat 4096 2816 := fun t j => ∑ d, 1 / 2 * DR t d * W₂ j d

/-- The gradient of the gate's half and of the `up` half of the hidden row. -/
def hidGrad (DA : Mat 4096 2816) : Mat 4096 5632 := fun t c =>
  if h : c.val < 2816 then gateGrad (H t c) (H t ⟨2816 + c.val, by omega⟩) (DA t ⟨c.val, h⟩)
  else upGrad (H t ⟨c.val - 2816, by omega⟩) (DA t ⟨c.val - 2816, by omega⟩)

/-- The gradient of the block's argument, by the residual path and by the branch, `a` the residual's factor. -/
def argGrad (a : ℝ) (DR : Mat 4096 1024) (DH : Mat 4096 5632) : Mat 4096 1024 := fun t d =>
  a * DR t d + ∑ c, DH t c * W₁ d c

/-- The gain's gradient. -/
def gainGrad : Fin 1024 → ℝ := fun d => ∑ t, CT t d * XH t d

/-- The shift's gradient. -/
def shiftGrad : Fin 1024 → ℝ := fun d => ∑ t, CT t d

end Block

/-- A sum over the hidden columns, by the four chunks. -/
theorem sum_chunks (f : Fin 5632 → ℝ) : ∑ c, f c = ∑ j : Fin 1408, f ⟨j.val, by omega⟩
    + ∑ j : Fin 1408, f ⟨1408 + j.val, by omega⟩ + ∑ j : Fin 1408, f ⟨2816 + j.val, by omega⟩
    + ∑ j : Fin 1408, f ⟨4224 + j.val, by omega⟩ := by
  rw [show ∑ c, f c = _ from Fin.sum_univ_add (a := 4224) (b := 1408) f,
    show ∑ i : Fin 4224, f (Fin.castAdd 1408 i) = _ from
      Fin.sum_univ_add (a := 2816) (b := 1408) fun i => f (Fin.castAdd 1408 i),
    show ∑ i : Fin 2816, f (Fin.castAdd 1408 (Fin.castAdd 1408 i)) = _ from
      Fin.sum_univ_add (a := 1408) (b := 1408) fun i => f (Fin.castAdd 1408 (Fin.castAdd 1408 i))]
  rfl

end Cert.Spec

end
-- ==== Proof.Payload.lean ====
/-
  What the kernel's block computes, at an index and over the reals: each value the body stores is, on blocks of real
  numbers, the function of Proof/Spec.lean named beside it.
-/
module

public import proofs.«01_k».proof.Proof.Lift
public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Block

open Idealize.ShloMosaic Cert.KernelIdeal Cert.KernelIdeal.Gen Cert.Lift Cert.Spec

variable {CT XH DR : Mat 256 1024} {RS : Fin 256 → ℝ} {G : Fin 1024 → ℝ} {H U A : Mat 256 1408} {W : Mat 1408 1024}

/-- The gradient that leaves the normalisation. -/
theorem pay6 {ct xh : Vec Ideal S256x1024 .f32} {rs : Vec Ideal S256x1 .f32} {g : Vec Ideal S1x1024 .f32}
    (hct : ∀ r d, ct (ix2 r d) = (CT r d : EReal)) (hxh : ∀ r d, xh (ix2 r d) = (XH r d : EReal))
    (hrs : ∀ r, rs (ix2 r 0) = (RS r : EReal)) (hg : ∀ d, g (ix2 0 d) = (G d : EReal)) (r : Fin 256) (d : Fin 1024) :
    k0_pay6 ct xh rs g (ix2 r d) = (normGrad (RS r) (CT r) (XH r) G d : EReal) := by
  pointwise [k0_pay6, k0_pay5]
  simp only [hct, hxh, hrs, hg, word_1024, ← EReal.coe_mul, coe_sum, coe_div_1024, ← EReal.coe_sub]
  rfl

/-- Half of it, the gradient that enters the branch. -/
theorem pay9 {dr : FVec Ideal S256x1024 .f32} (h : ∀ r d, dr (ix2 r d) = (DR r d : EReal)) (r : Fin 256) (d : Fin 1024) :
    k0_pay9 dr (ix2 r d) = ((1 / 2 * DR r d : ℝ) : EReal) := by
  pointwise [k0_pay9]
  simp only [h, word_half, ← EReal.coe_mul]

/-- What the residual path carries. -/
theorem pay10 {dr : FVec Ideal S256x1024 .f32} (h : ∀ r d, dr (ix2 r d) = (DR r d : EReal)) (r : Fin 256)
    (d : Fin 1024) : k0_pay10 dr (ix2 r d) = ((alpha * DR r d : ℝ) : EReal) := by
  pointwise [k0_pay10]
  simp only [h, word_alpha, ← EReal.coe_mul]

/-- The gradient of the gated product, one chunk of columns. -/
theorem pay11 {dr : FVec Ideal S256x1024 .f32} {w : Vec Ideal S1408x1024 .bf16}
    (h : ∀ r d, dr (ix2 r d) = (DR r d : EReal)) (hw : ∀ j d, w (ix2 j d) = (W j d : EReal)) (r : Fin 256) (j : Fin 1408) :
    k0_pay11 dr w (ix2 r j) = ((∑ d, 1 / 2 * DR r d * W j d : ℝ) : EReal) := by
  pointwise [k0_pay11, k0_pay9]
  simp only [h, hw, word_half, ← EReal.coe_mul, coe_sum]

theorem pay12_eq (dr : FVec Ideal S256x1024 .f32) (w : Vec Ideal S1408x1024 .bf16) : k0_pay12 dr w = k0_pay11 dr w := rfl

/-- The logistic function of the gate. -/
theorem pay14 {z : Vec Ideal S256x1408 .bf16} (h : ∀ r j, z (ix2 r j) = (H r j : EReal)) (r : Fin 256) (j : Fin 1408) :
    k0_pay14 z (ix2 r j) = (sgm (H r j) : EReal) := by
  pointwise [k0_pay14, k0_pay13]
  simp only [h, word_half, ← EReal.coe_mul, Ideal.tanh_coe, ← EReal.coe_add, sgm_eq_tanh]

theorem pay21_eq (z : Vec Ideal S256x1408 .bf16) : k0_pay21 z = k0_pay14 z := rfl

/-- The gate times what is left of one. -/
theorem pay17 {z : Vec Ideal S256x1408 .bf16} (h : ∀ r j, z (ix2 r j) = (H r j : EReal)) (r : Fin 256) (j : Fin 1408) :
    k0_pay17 z (ix2 r j) = ((H r j * (1 - sgm (H r j)) : ℝ) : EReal) := by
  pointwise [k0_pay17, k0_pay13]
  simp only [h, pay14 h]
  norm_cast

theorem pay24_eq (z : Vec Ideal S256x1408 .bf16) : k0_pay24 z = k0_pay17 z := rfl

/-- The gradient that reaches `up`. -/
theorem pay22 {a : FVec Ideal S256x1408 .f32} {z : Vec Ideal S256x1408 .bf16} (ha : ∀ r j, a (ix2 r j) = (A r j : EReal))
    (h : ∀ r j, z (ix2 r j) = (H r j : EReal)) (r : Fin 256) (j : Fin 1408) :
    k0_pay22 a z (ix2 r j) = (upGrad (H r j) (A r j) : EReal) := by
  pointwise [k0_pay22, k0_pay20]
  simp only [h, ha, pay21_eq, pay14 h, ← EReal.coe_mul]
  rfl

theorem pay15_eq (dr : FVec Ideal S256x1024 .f32) (w : Vec Ideal S1408x1024 .bf16) (z : Vec Ideal S256x1408 .bf16) :
    k0_pay15 dr w z = k0_pay22 (k0_pay11 dr w) z := rfl

/-- The gradient of the gated product, times `up`. -/
theorem pay23 {a : FVec Ideal S256x1408 .f32} {u : Vec Ideal S256x1408 .bf16} (ha : ∀ r j, a (ix2 r j) = (A r j : EReal))
    (hu : ∀ r j, u (ix2 r j) = (U r j : EReal)) (r : Fin 256) (j : Fin 1408) :
    k0_pay23 a u (ix2 r j) = ((A r j * U r j : ℝ) : EReal) := by
  pointwise [k0_pay23]
  simp only [hu, ha, ← EReal.coe_mul]

theorem pay16_eq (dr : FVec Ideal S256x1024 .f32) (w : Vec Ideal S1408x1024 .bf16) (u : Vec Ideal S256x1408 .bf16) :
    k0_pay16 dr w u = k0_pay23 (k0_pay11 dr w) u := rfl

/-- The gradient that reaches the gate. -/
theorem pay18 {a : FVec Ideal S256x1408 .f32} {z u : Vec Ideal S256x1408 .bf16} (ha : ∀ r j, a (ix2 r j) = (A r j : EReal))
    (h : ∀ r j, z (ix2 r j) = (H r j : EReal)) (hu : ∀ r j, u (ix2 r j) = (U r j : EReal)) (r : Fin 256) (j : Fin 1408) :
    k0_pay18 (k0_pay14 z) (k0_pay23 a u) (k0_pay17 z) (ix2 r j) = (gateGrad (H r j) (U r j) (A r j) : EReal) := by
  pointwise [k0_pay18]
  simp only [pay14 h, pay23 ha hu, pay17 h, word_one, ← EReal.coe_mul, ← EReal.coe_add]
  rfl

theorem pay1_eq (s a q : FVec Ideal S256x1408 .f32) : k0_pay1 s a q k0_pay25 = k0_pay18 s a q := rfl

/-- One chunk's two products, added to what came before. -/
theorem pay19 {x : FVec Ideal S256x1024 .f32} {s a q : FVec Ideal S256x1408 .f32} {p : FVec Ideal S256x1408 .bf16}
    {w₁ w₂ : Vec Ideal S1x1024x1408 .bf16} {X : Mat 256 1024} {P Q : Mat 256 1408} {W₁ W₂ : Mat 1024 1408}
    (hx : ∀ r d, x (ix2 r d) = (X r d : EReal)) (hq : ∀ r j, k0_pay18 s a q (ix2 r j) = (Q r j : EReal))
    (hp : ∀ r j, p (ix2 r j) = (P r j : EReal)) (hw₁ : ∀ d j, w₁ (ix3 0 d j) = (W₁ d j : EReal))
    (hw₂ : ∀ d j, w₂ (ix3 0 d j) = (W₂ d j : EReal)) (r : Fin 256) (d : Fin 1024) :
    k0_pay19 x s p a q w₁ w₂ (ix2 r d) = ((X r d + ∑ j, Q r j * W₁ d j + ∑ j, P r j * W₂ d j : ℝ) : EReal) := by
  pointwise [k0_pay19]
  simp only [hx, hq, hp, hw₁, hw₂, ← EReal.coe_mul, coe_sum, ← EReal.coe_add]

theorem pay2_eq (x : FVec Ideal S256x1024 .f32) (s a q : FVec Ideal S256x1408 .f32) (p : FVec Ideal S256x1408 .bf16)
    (w₁ w₂ : Vec Ideal S1x1024x1408 .bf16) : k0_pay2 x s p a q k0_pay25 w₁ w₂ = k0_pay19 x s p a q w₁ w₂ := rfl

/-- The gain's gradient: what one block of rows adds. -/
theorem pay7 {ct xh : Vec Ideal S256x1024 .f32} (acc : Vec Ideal S1x1024 .f32) (j : S1x1024.Idx) :
    k0_pay7 ct xh acc j = acc j + ∑ r : Fin 256, ct (ix2 r (j 1)) * xh (ix2 r (j 1)) := by
  idx_vars j
  pointwise [k0_pay7, k0_pay5]

/-- The shift's gradient: what one block of rows adds. -/
theorem pay8 {ct : Vec Ideal S256x1024 .f32} (acc : Vec Ideal S1x1024 .f32) (j : S1x1024.Idx) :
    k0_pay8 ct acc j = acc j + ∑ r : Fin 256, ct (ix2 r (j 1)) := by
  idx_vars j
  pointwise [k0_pay8]

theorem pay3 (j : S1x1024.Idx) : k0_pay3 (F := Ideal) j = (0 : EReal) := by
  pointwise [k0_pay3]
theorem pay4 (j : S1x1024.Idx) : k0_pay4 (F := Ideal) j = (0 : EReal) := by
  pointwise [k0_pay4]

end Cert.KernelIdeal.Block

end
-- ==== Proof.Blocks.lean ====
/-
  The kernel's blocks, when the arrays its pipeline reads hold real numbers: each is read at its rows of the array, and
  what the body computes from them are the gradients of Proof/Spec.lean at those rows.
-/
module

public import proofs.«01_k».proof.Proof.Payload
public import proofs.«01_k».proof.Proof.Gen.KernelIdeal.Value
public import Idealize.ShloMosaic.Lib.Pipeline.ValueKit

@[expose] public section

set_option maxRecDepth 16384

noncomputable section

namespace Cert.KernelIdeal.Arrays

open Idealize.ShloMosaic Idealize.SL.Sem Cert.KernelIdeal Cert.KernelIdeal.Gen Cert.Lift Cert.Spec Cert.KernelIdeal.Block

variable (m : (ℓ : Loc nD τ sig) → Buf (Elt Ideal) ℓ) (c : Dev nD)

/-- The arrays the pipeline reads hold these real numbers. -/
structure Entry (CT XH : Mat 4096 1024) (RS : Fin 4096 → ℝ) (G : Fin 1024 → ℝ) (H : Mat 4096 5632) (W₁ : Mat 1024 5632)
    (W₂ : Mat 2816 1024) : Prop where
  ct : ∀ t d, V m c main_arg5 (ix2 t d) = (CT t d : EReal)
  xh : ∀ t d, V m c main_v28 (ix2 t d) = (XH t d : EReal)
  rs : ∀ t, V m c main_v24 (ix2 t 0) = (RS t : EReal)
  hid : ∀ t j, V m c main_v32 (ix2 t j) = (H t j : EReal)
  win : ∀ (k : Fin 4) (d : Fin 1024) (j : Fin 1408),
    V m c main_v31 (ix3 k d j) = (W₁ d ⟨1408 * k.val + j.val, by omega⟩ : EReal)
  wout : ∀ j d, V m c main_v33 (ix2 j d) = (W₂ j d : EReal)
  gain : ∀ d, V m c main_v34 (ix2 0 d) = (G d : EReal)

/-- An array of real numbers. -/
def ofMat {a b : ℕ} (f : Mat a b) : (⟨2, ![a, b]⟩ : Shape).Idx → EReal := fun i => f (i 0) (i 1)

/-- The array row that row `r` of block `t` is. -/
def row (t : Fin cfg0.N) (r : Fin 256) : Fin 4096 := ⟨t.val * 256 + r.val, by have : cfg0.N = 16 := rfl; omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)

variable {m c}
variable {CT XH : Mat 4096 1024} {RS : Fin 4096 → ℝ} {G : Fin 1024 → ℝ} {H : Mat 4096 5632} {W₁ : Mat 1024 5632}
  {W₂ : Mat 2816 1024}

namespace Entry

variable (E : Entry m c CT XH RS G H W₁ W₂) (t : Fin cfg0.N)
include E

/-! ### The blocks -/

theorem blk_ct (r : Fin 256) (d : Fin 1024) : iblk m c 0 t (ix2 r d) = (CT (row t r) d : EReal) := by
  rw [← E.ct]; blk_ext [iblk, row, idx0 t]
theorem blk_xh (r : Fin 256) (d : Fin 1024) : iblk m c 1 t (ix2 r d) = (XH (row t r) d : EReal) := by
  rw [← E.xh]; blk_ext [iblk, row, idx1 t]
theorem blk_rs (r : Fin 256) : iblk m c 2 t (ix2 r 0) = (RS (row t r) : EReal) := by
  rw [← E.rs]; blk_ext [iblk, row, idx2 t]
theorem blk_hid (r : Fin 256) (j : Fin 5632) : iblk m c 3 t (ix2 r j) = (H (row t r) j : EReal) := by
  rw [← E.hid]; blk_ext [iblk, row, idx3 t]
theorem blk_win (k : Fin 4) (d : Fin 1024) (j : Fin 1408) :
    iblk m c 4 t (ix3 k d j) = (W₁ d ⟨1408 * k.val + j.val, by omega⟩ : EReal) := by
  rw [← E.win]; blk_ext [iblk, idx4 t]
theorem blk_wout (j : Fin 2816) (d : Fin 1024) : iblk m c 5 t (ix2 j d) = (W₂ j d : EReal) := by
  rw [← E.wout]; blk_ext [iblk, idx5 t]
theorem blk_gain (d : Fin 1024) : iblk m c 6 t (ix2 0 d) = (G d : EReal) := by
  rw [← E.gain]; blk_ext [iblk, idx6 t]

/-! ### The slices of the hidden rows and of the weights that the body loads -/

theorem gate0 (r : Fin 256) (j : Fin 1408) :
    View.ld (iblk m c 3 t) (Rect.unit ![0, 0] ![256, 1408] inb_S256x5632_S256x1408_0_0) (ix2 r j)
      = (H (row t r) ⟨j.val, by omega⟩ : EReal) := by
  rw [← E.blk_hid]; pointwise
theorem gate1 (r : Fin 256) (j : Fin 1408) :
    View.ld (iblk m c 3 t) (Rect.unit ![0, 1408] ![256, 1408] inb_S256x5632_S256x1408_0_1408) (ix2 r j)
      = (H (row t r) ⟨1408 + j.val, by omega⟩ : EReal) := by
  rw [← E.blk_hid]; pointwise
theorem up0 (r : Fin 256) (j : Fin 1408) :
    View.ld (iblk m c 3 t) (Rect.unit ![0, 2816] ![256, 1408] inb_S256x5632_S256x1408_0_2816) (ix2 r j)
      = (H (row t r) ⟨2816 + j.val, by omega⟩ : EReal) := by
  rw [← E.blk_hid]; pointwise
theorem up1 (r : Fin 256) (j : Fin 1408) :
    View.ld (iblk m c 3 t) (Rect.unit ![0, 4224] ![256, 1408] inb_S256x5632_S256x1408_0_4224) (ix2 r j)
      = (H (row t r) ⟨2816 + (1408 + j.val), by omega⟩ : EReal) := by
  simp only [show 2816 + (1408 + j.val) = 4224 + j.val by omega]
  rw [← E.blk_hid]; pointwise
theorem wout0 (j : Fin 1408) (d : Fin 1024) :
    View.ld (iblk m c 5 t) (Rect.unit ![0, 0] ![1408, 1024] inb_S2816x1024_S1408x1024_0_0) (ix2 j d)
      = (W₂ ⟨j.val, by omega⟩ d : EReal) := by
  rw [← E.blk_wout t]; pointwise
theorem wout1 (j : Fin 1408) (d : Fin 1024) :
    View.ld (iblk m c 5 t) (Rect.unit ![1408, 0] ![1408, 1024] inb_S2816x1024_S1408x1024_1408_0) (ix2 j d)
      = (W₂ ⟨1408 + j.val, by omega⟩ d : EReal) := by
  rw [← E.blk_wout t]; pointwise
theorem win0 (d : Fin 1024) (j : Fin 1408) :
    View.ld (iblk m c 4 t) (Rect.unit ![0, 0, 0] ![1, 1024, 1408] inb_S4x1024x1408_S1x1024x1408_0_0_0) (ix3 0 d j)
      = (W₁ d ⟨1408 * (0 : Fin 4).val + j.val, by omega⟩ : EReal) := by
  rw [← E.blk_win t]; pointwise
theorem win1 (d : Fin 1024) (j : Fin 1408) :
    View.ld (iblk m c 4 t) (Rect.unit ![1, 0, 0] ![1, 1024, 1408] inb_S4x1024x1408_S1x1024x1408_1_0_0) (ix3 0 d j)
      = (W₁ d ⟨1408 * (1 : Fin 4).val + j.val, by omega⟩ : EReal) := by
  rw [← E.blk_win t]; pointwise
theorem win2 (d : Fin 1024) (j : Fin 1408) :
    View.ld (iblk m c 4 t) (Rect.unit ![2, 0, 0] ![1, 1024, 1408] inb_S4x1024x1408_S1x1024x1408_2_0_0) (ix3 0 d j)
      = (W₁ d ⟨1408 * (2 : Fin 4).val + j.val, by omega⟩ : EReal) := by
  rw [← E.blk_win t]; pointwise
theorem win3 (d : Fin 1024) (j : Fin 1408) :
    View.ld (iblk m c 4 t) (Rect.unit ![3, 0, 0] ![1, 1024, 1408] inb_S4x1024x1408_S1x1024x1408_3_0_0) (ix3 0 d j)
      = (W₁ d ⟨1408 * (3 : Fin 4).val + j.val, by omega⟩ : EReal) := by
  rw [← E.blk_win t]; pointwise

/-! ### What a block's body leaves -/

/-- The gradient that leaves the normalisation, on the block's rows. -/
theorem dr (r : Fin 256) (d : Fin 1024) : k0_pay6 (iblk m c 0 t) (iblk m c 1 t) (iblk m c 2 t) (iblk m c 6 t) (ix2 r d)
    = (resGrad CT XH RS G (row t r) d : EReal) :=
  pay6 (E.blk_ct t) (E.blk_xh t) (E.blk_rs t) (E.blk_gain t) r d

theorem da0 (r : Fin 256) (j : Fin 1408) :
    k0_pay11 (k0_pay6 (iblk m c 0 t) (iblk m c 1 t) (iblk m c 2 t) (iblk m c 6 t))
        (View.ld (iblk m c 5 t) (Rect.unit ![0, 0] ![1408, 1024] inb_S2816x1024_S1408x1024_0_0)) (ix2 r j)
      = (actGrad W₂ (resGrad CT XH RS G) (row t r) ⟨j.val, by omega⟩ : EReal) :=
  pay11 (E.dr t) (E.wout0 t) r j

theorem da1 (r : Fin 256) (j : Fin 1408) :
    k0_pay11 (k0_pay6 (iblk m c 0 t) (iblk m c 1 t) (iblk m c 2 t) (iblk m c 6 t))
        (View.ld (iblk m c 5 t) (Rect.unit ![1408, 0] ![1408, 1024] inb_S2816x1024_S1408x1024_1408_0)) (ix2 r j)
      = (actGrad W₂ (resGrad CT XH RS G) (row t r) ⟨1408 + j.val, by omega⟩ : EReal) :=
  pay11 (E.dr t) (E.wout1 t) r j

theorem dgate0 (r : Fin 256) (j : Fin 1408) :
    k0_pay18 (k0_pay14 (View.ld (iblk m c 3 t) (Rect.unit ![0, 0] ![256, 1408] inb_S256x5632_S256x1408_0_0)))
        (k0_pay16 (k0_pay6 (iblk m c 0 t) (iblk m c 1 t) (iblk m c 2 t) (iblk m c 6 t))
          (View.ld (iblk m c 5 t) (Rect.unit ![0, 0] ![1408, 1024] inb_S2816x1024_S1408x1024_0_0))
          (View.ld (iblk m c 3 t) (Rect.unit ![0, 2816] ![256, 1408] inb_S256x5632_S256x1408_0_2816)))
        (k0_pay17 (View.ld (iblk m c 3 t) (Rect.unit ![0, 0] ![256, 1408] inb_S256x5632_S256x1408_0_0))) (ix2 r j)
      = (hidGrad H (actGrad W₂ (resGrad CT XH RS G)) (row t r) ⟨j.val, by omega⟩ : EReal) := by
  rw [pay16_eq, pay18 (E.da0 t) (E.gate0 t) (E.up0 t), hidGrad, dif_pos (show j.val < 2816 by omega)]

theorem dgate1 (r : Fin 256) (j : Fin 1408) :
    k0_pay18 (k0_pay14 (View.ld (iblk m c 3 t) (Rect.unit ![0, 1408] ![256, 1408] inb_S256x5632_S256x1408_0_1408)))
        (k0_pay23 (k0_pay12 (k0_pay6 (iblk m c 0 t) (iblk m c 1 t) (iblk m c 2 t) (iblk m c 6 t))
            (View.ld (iblk m c 5 t) (Rect.unit ![1408, 0] ![1408, 1024] inb_S2816x1024_S1408x1024_1408_0)))
          (View.ld (iblk m c 3 t) (Rect.unit ![0, 4224] ![256, 1408] inb_S256x5632_S256x1408_0_4224)))
        (k0_pay17 (View.ld (iblk m c 3 t) (Rect.unit ![0, 1408] ![256, 1408] inb_S256x5632_S256x1408_0_1408))) (ix2 r j)
      = (hidGrad H (actGrad W₂ (resGrad CT XH RS G)) (row t r) ⟨1408 + j.val, by omega⟩ : EReal) := by
  rw [pay12_eq, pay18 (E.da1 t) (E.gate1 t) (E.up1 t), hidGrad, dif_pos (show 1408 + j.val < 2816 by omega)]

theorem dup0 (r : Fin 256) (j : Fin 1408) :
    k0_pay15 (k0_pay6 (iblk m c 0 t) (iblk m c 1 t) (iblk m c 2 t) (iblk m c 6 t))
        (View.ld (iblk m c 5 t) (Rect.unit ![0, 0] ![1408, 1024] inb_S2816x1024_S1408x1024_0_0))
        (View.ld (iblk m c 3 t) (Rect.unit ![0, 0] ![256, 1408] inb_S256x5632_S256x1408_0_0)) (ix2 r j)
      = (hidGrad H (actGrad W₂ (resGrad CT XH RS G)) (row t r) ⟨2816 + j.val, by omega⟩ : EReal) := by
  rw [pay15_eq, pay22 (E.da0 t) (E.gate0 t), hidGrad, dif_neg (show ¬2816 + j.val < 2816 by omega)]
  simp only [Nat.add_sub_cancel_left]

theorem dup1 (r : Fin 256) (j : Fin 1408) :
    k0_pay22 (k0_pay12 (k0_pay6 (iblk m c 0 t) (iblk m c 1 t) (iblk m c 2 t) (iblk m c 6 t))
          (View.ld (iblk m c 5 t) (Rect.unit ![1408, 0] ![1408, 1024] inb_S2816x1024_S1408x1024_1408_0)))
        (View.ld (iblk m c 3 t) (Rect.unit ![0, 1408] ![256, 1408] inb_S256x5632_S256x1408_0_1408)) (ix2 r j)
      = (hidGrad H (actGrad W₂ (resGrad CT XH RS G)) (row t r) ⟨4224 + j.val, by omega⟩ : EReal) := by
  rw [pay12_eq, pay22 (E.da1 t) (E.gate1 t), hidGrad, dif_neg (show ¬4224 + j.val < 2816 by omega)]
  simp only [show 4224 + j.val - 2816 = 1408 + j.val by omega]

end Entry

end Cert.KernelIdeal.Arrays

end
-- ==== Proof.Arrays.lean ====
/-
  What the kernel's five result arrays hold, when the arrays its pipeline reads hold real numbers: the gradients of
  Proof/Spec.lean. The two row sums are added up over the sixteen points of the grid.
-/
module

public import proofs.«01_k».proof.Proof.Blocks

@[expose] public section

set_option maxRecDepth 16384

noncomputable section

namespace Cert.KernelIdeal.Arrays

open Idealize.ShloMosaic Idealize.SL.Sem Cert.KernelIdeal Cert.KernelIdeal.Gen Cert.Lift Cert.Spec Cert.KernelIdeal.Block

variable {m : (ℓ : Loc nD τ sig) → Buf (Elt Ideal) ℓ} {c : Dev nD}
variable {CT XH : Mat 4096 1024} {RS : Fin 4096 → ℝ} {G : Fin 1024 → ℝ} {H : Mat 4096 5632} {W₁ : Mat 1024 5632}
  {W₂ : Mat 2816 1024}

namespace Entry

variable (E : Entry m c CT XH RS G H W₁ W₂)
include E

theorem array_df : (dats m 0 c).arrAt 9 cfg0.N = ofMat (a := 4096) (b := 1024) fun t d => 1 / 2 * resGrad CT XH RS G t d := by
  refine (dats m 0 c).arrAt_eq_of_covers 9 _ (by decide +kernel) fun t hf y => ?_
  blk_simp
  idx_vars y
  have e : (win0_9.blk t).view.emb (ix2 y0 y1) = ix2 (row t y0) y1 := by blk_ext [row, idx9 t]
  rw [e, after0_9]
  by_cases h : t.val % 16 = 0
  · rw [outsAt0_A m c t h]; frame_out; exact pay9 (E.dr t) y0 y1
  · rw [outsAt0_B m c t h]; frame_out; exact pay9 (E.dr t) y0 y1

/-- What a point leaves in the hidden gradient's block, by the four stores. -/
theorem block_dh (t : Fin cfg0.N) (y0 : Fin 256) (y1 : Fin 5632) : (outsAt0 m c t.val t.isLt).2.1 (ix2 y0 y1)
    = (hidGrad H (actGrad W₂ (resGrad CT XH RS G)) (row t y0) y1 : EReal) := by
  have at_col : ∀ (n : ℕ) (r : Fin 256) (j : Fin 1408) (h : n + j.val < 5632), y0.val = r.val → y1.val = n + j.val →
      (hidGrad H (actGrad W₂ (resGrad CT XH RS G)) (row t r) ⟨n + j.val, h⟩ : EReal)
        = (hidGrad H (actGrad W₂ (resGrad CT XH RS G)) (row t y0) y1 : EReal) := fun n r j h h0 h1 => by
    obtain rfl : y0 = r := Fin.ext h0
    obtain rfl : y1 = ⟨n + j.val, h⟩ := Fin.ext h1
    rfl
  by_cases h : t.val % 16 = 0
  · rw [outsAt0_A m c t h]; frame_out; canon_tiles x hx <;> idx_vars x
    · exact (E.dup1 t x0 x1).trans (at_col 4224 x0 x1 (by omega) hx0 hx1)
    · exact (E.dgate1 t x0 x1).trans (at_col 1408 x0 x1 (by omega) hx0 hx1)
    · exact (E.dup0 t x0 x1).trans (at_col 2816 x0 x1 (by omega) hx0 hx1)
    · exact (E.dgate0 t x0 x1).trans
        (by simpa only [Nat.zero_add] using at_col 0 x0 x1 (by omega) hx0 (hx1.trans (Nat.zero_add _).symm))
  · rw [outsAt0_B m c t h]; frame_out; canon_tiles x hx <;> idx_vars x
    · exact (E.dup1 t x0 x1).trans (at_col 4224 x0 x1 (by omega) hx0 hx1)
    · exact (E.dgate1 t x0 x1).trans (at_col 1408 x0 x1 (by omega) hx0 hx1)
    · exact (E.dup0 t x0 x1).trans (at_col 2816 x0 x1 (by omega) hx0 hx1)
    · exact (E.dgate0 t x0 x1).trans
        (by simpa only [Nat.zero_add] using at_col 0 x0 x1 (by omega) hx0 (hx1.trans (Nat.zero_add _).symm))

theorem array_dh : (dats m 0 c).arrAt 8 cfg0.N
    = ofMat (a := 4096) (b := 5632) (hidGrad H (actGrad W₂ (resGrad CT XH RS G))) := by
  refine (dats m 0 c).arrAt_eq_of_covers 8 _ (by decide +kernel) fun t hf y => ?_
  blk_simp
  idx_vars y
  have e : (win0_8.blk t).view.emb (ix2 y0 y1) = ix2 (row t y0) y1 := by blk_ext [row, idx8 t]
  rw [e, after0_8]
  exact E.block_dh t y0 y1

/-- What a point leaves in the argument gradient's block. -/
theorem body_dx (t : Fin cfg0.N) (r : Fin 256) (d : Fin 1024) :
    k0_pay19
      (k0_pay19 (k0_pay10 (k0_pay6 (iblk m c 0 t) (iblk m c 1 t) (iblk m c 2 t) (iblk m c 6 t)))
        (k0_pay14 (View.ld (iblk m c 3 t) (Rect.unit ![0, 0] ![256, 1408] inb_S256x5632_S256x1408_0_0)))
        (k0_pay15 (k0_pay6 (iblk m c 0 t) (iblk m c 1 t) (iblk m c 2 t) (iblk m c 6 t))
          (View.ld (iblk m c 5 t) (Rect.unit ![0, 0] ![1408, 1024] inb_S2816x1024_S1408x1024_0_0))
          (View.ld (iblk m c 3 t) (Rect.unit ![0, 0] ![256, 1408] inb_S256x5632_S256x1408_0_0)))
        (k0_pay16 (k0_pay6 (iblk m c 0 t) (iblk m c 1 t) (iblk m c 2 t) (iblk m c 6 t))
          (View.ld (iblk m c 5 t) (Rect.unit ![0, 0] ![1408, 1024] inb_S2816x1024_S1408x1024_0_0))
          (View.ld (iblk m c 3 t) (Rect.unit ![0, 2816] ![256, 1408] inb_S256x5632_S256x1408_0_2816)))
        (k0_pay17 (View.ld (iblk m c 3 t) (Rect.unit ![0, 0] ![256, 1408] inb_S256x5632_S256x1408_0_0)))
        (View.ld (iblk m c 4 t) (Rect.unit ![0, 0, 0] ![1, 1024, 1408] inb_S4x1024x1408_S1x1024x1408_0_0_0))
        (View.ld (iblk m c 4 t) (Rect.unit ![2, 0, 0] ![1, 1024, 1408] inb_S4x1024x1408_S1x1024x1408_2_0_0)))
      (k0_pay14 (View.ld (iblk m c 3 t) (Rect.unit ![0, 1408] ![256, 1408] inb_S256x5632_S256x1408_0_1408)))
      (k0_pay22 (k0_pay12 (k0_pay6 (iblk m c 0 t) (iblk m c 1 t) (iblk m c 2 t) (iblk m c 6 t))
          (View.ld (iblk m c 5 t) (Rect.unit ![1408, 0] ![1408, 1024] inb_S2816x1024_S1408x1024_1408_0)))
        (View.ld (iblk m c 3 t) (Rect.unit ![0, 1408] ![256, 1408] inb_S256x5632_S256x1408_0_1408)))
      (k0_pay23 (k0_pay12 (k0_pay6 (iblk m c 0 t) (iblk m c 1 t) (iblk m c 2 t) (iblk m c 6 t))
          (View.ld (iblk m c 5 t) (Rect.unit ![1408, 0] ![1408, 1024] inb_S2816x1024_S1408x1024_1408_0)))
        (View.ld (iblk m c 3 t) (Rect.unit ![0, 4224] ![256, 1408] inb_S256x5632_S256x1408_0_4224)))
      (k0_pay17 (View.ld (iblk m c 3 t) (Rect.unit ![0, 1408] ![256, 1408] inb_S256x5632_S256x1408_0_1408)))
      (View.ld (iblk m c 4 t) (Rect.unit ![1, 0, 0] ![1, 1024, 1408] inb_S4x1024x1408_S1x1024x1408_1_0_0))
      (View.ld (iblk m c 4 t) (Rect.unit ![3, 0, 0] ![1, 1024, 1408] inb_S4x1024x1408_S1x1024x1408_3_0_0)) (ix2 r d)
      = (argGrad W₁ alpha (resGrad CT XH RS G) (hidGrad H (actGrad W₂ (resGrad CT XH RS G))) (row t r) d : EReal) := by
  rw [pay19 (pay19 (pay10 (E.dr t)) (E.dgate0 t) (E.dup0 t) (E.win0 t) (E.win2 t)) (E.dgate1 t) (E.dup1 t) (E.win1 t)
    (E.win3 t), argGrad, sum_chunks]
  congr 1
  simp only [Fin.val_zero, Fin.val_one, Fin.val_two, Nat.mul_zero, Nat.zero_add, Nat.mul_one,
    show (3 : Fin 4).val = 3 from rfl, Nat.reduceMul]
  ring

theorem array_dx : (dats m 0 c).arrAt 7 cfg0.N = ofMat (a := 4096) (b := 1024)
    (argGrad W₁ alpha (resGrad CT XH RS G) (hidGrad H (actGrad W₂ (resGrad CT XH RS G)))) := by
  refine (dats m 0 c).arrAt_eq_of_covers 7 _ (by decide +kernel) fun t hf y => ?_
  blk_simp
  idx_vars y
  have e : (win0_7.blk t).view.emb (ix2 y0 y1) = ix2 (row t y0) y1 := by blk_ext [row, idx7 t]
  rw [e, after0_7]
  by_cases h : t.val % 16 = 0
  · rw [outsAt0_A m c t h]; frame_out; rw [pay2_eq]; exact E.body_dx t y0 y1
  · rw [outsAt0_B m c t h]; frame_out; rw [pay2_eq]; exact E.body_dx t y0 y1

theorem array_dg : (dats m 0 c).arrAt 10 cfg0.N = ofMat (a := 1) (b := 1024) fun _ d => gainGrad CT XH d := by
  refine (dats m 0 c).arrAt_eq_of_after_last 10 t0_15 (by decide +kernel) _ fun j => ?_
  blk_simp
  idx_vars j
  rw [after0_10, Pipeline.eq_sum_fin_of_reset_step_apply_last (fun n h => (outsAt0 m c n h).2.2.2.1) 16
    (fun _ => (0 : EReal)) _
    (fun t h j => by rw [outsAt0_A m c t h]; frame_out; rw [pay7, pay3])
    (fun t h j => by rw [outsAt0_B m c t h]; frame_out; rw [pay7]) (by decide) t0_15 rfl (ix2 j0 j1), zero_add]
  refine (Fin.sum_mul_add_congr (L := 4096) (f := fun t => ((CT t j1 : EReal) * (XH t j1 : EReal))) fun s k hl =>
    congrArg₂ (· * ·) (E.blk_ct s k j1) (E.blk_xh s k j1)).trans ?_
  simp only [← EReal.coe_mul, coe_sum]
  rfl

theorem array_db : (dats m 0 c).arrAt 11 cfg0.N = ofMat (a := 1) (b := 1024) fun _ d => shiftGrad CT d := by
  refine (dats m 0 c).arrAt_eq_of_after_last 11 t0_15 (by decide +kernel) _ fun j => ?_
  blk_simp
  idx_vars j
  rw [after0_11, Pipeline.eq_sum_fin_of_reset_step_apply_last (fun n h => (outsAt0 m c n h).2.2.2.2) 16
    (fun _ => (0 : EReal)) _
    (fun t h j => by rw [outsAt0_A m c t h]; frame_out; rw [pay8, pay4])
    (fun t h j => by rw [outsAt0_B m c t h]; frame_out; rw [pay8]) (by decide) t0_15 rfl (ix2 j0 j1), zero_add]
  refine (Fin.sum_mul_add_congr (L := 4096) (f := fun t => (CT t j1 : EReal)) fun s k hl => E.blk_ct s k j1).trans ?_
  simp only [coe_sum]
  rfl

end Entry

end Cert.KernelIdeal.Arrays

end
-- ==== Proof.Forward.lean ====
/-
  What the forward pass of one feed-forward block computes over the reals, as far as its gradient needs it: the hidden
  row, the residual sum before the normalisation, its centred row, the reciprocal deviation and the normalised row.
-/
module

public import proofs.«01_k».proof.Proof.Lift
public import proofs.«01_k».proof.Proof.Spec

@[expose] public section

noncomputable section

namespace Cert.Spec

open Cert.Lift Idealize.ShloMosaic

/-- The logistic function as both programs' hosts write it. -/
theorem coe_logistic (z : ℝ) : Ideal.div 1 (1 + Ideal.exp (-(z : EReal))) = (sgm z : EReal) := by
  show Ideal.div ((1 : ℝ) : EReal) (((1 : ℝ) : EReal) + (Real.exp (-z) : EReal)) = _
  rw [← EReal.coe_add, coe_div 1 (by positivity), one_div]
  rfl

variable (X : Mat 4096 1024) (W₁ : Mat 1024 5632) (W₂ : Mat 2816 1024)

/-- The hidden row, gate and `up` side by side. -/
def hid : Mat 4096 5632 := fun t j => ∑ k, X t k * W₁ k j

/-- The gate's half of a hidden row. -/
def gate (t : Fin 4096) (j : Fin 2816) : ℝ := hid X W₁ t ⟨j.val, by omega⟩

/-- The `up` half. -/
def up (t : Fin 4096) (j : Fin 2816) : ℝ := hid X W₁ t ⟨2816 + j.val, by omega⟩

/-- The residual sum. -/
def res : Mat 4096 1024 := fun t d =>
  alpha * X t d + 1 / 2 * ∑ j, gate X W₁ t j * sgm (gate X W₁ t j) * up X W₁ t j * W₂ j d

/-- The residual sum less its row's mean. -/
def cen : Mat 4096 1024 := fun t d => res X W₁ W₂ t d - mean (res X W₁ W₂ t)

/-- The row's variance and `ε`. -/
def var (t : Fin 4096) : ℝ := mean (fun d => cen X W₁ W₂ t d * cen X W₁ W₂ t d) + eps

theorem var_pos (t : Fin 4096) : 0 < var X W₁ W₂ t :=
  add_pos_of_nonneg_of_pos (div_nonneg (Finset.sum_nonneg fun _ _ => mul_self_nonneg _) (by norm_num)) eps_pos

/-- The reciprocal deviation. -/
def rdev (t : Fin 4096) : ℝ := (Real.sqrt (var X W₁ W₂ t))⁻¹

/-- The normalised row. -/
def nrm : Mat 4096 1024 := fun t d => cen X W₁ W₂ t d * rdev X W₁ W₂ t

end Cert.Spec

end
-- ==== Proof.RefValues.lean ====
/-
  What the reference's operations compute on real arguments: the forward pass of Proof/Forward.lean and the gradients
  of Proof/Spec.lean.
-/
module

public import proofs.«01_k».proof.Proof.Forward
public import proofs.«01_k».proof.Proof.Gen.ReferenceIdeal.Read
public import Idealize.ShloMosaic.Lib.Pointwise

@[expose] public section

set_option maxRecDepth 16384

noncomputable section

namespace Cert.ReferenceIdeal.Real

open Idealize.ShloMosaic Cert.ReferenceIdeal Cert.ReferenceIdeal.Gen Cert.ReferenceIdeal.Read Cert.Lift Cert.Spec

/-- The arguments are these real arrays. -/
structure Args (x0 : Vec Ideal S4096x1024 .f32) (x1 : Vec Ideal S1024x5632 .f32) (x2 : Vec Ideal S2816x1024 .f32)
    (x3 : Vec Ideal S1024 .f32) (x5 : Vec Ideal S4096x1024 .f32) (X : Mat 4096 1024) (W₁ : Mat 1024 5632)
    (W₂ : Mat 2816 1024) (G : Fin 1024 → ℝ) (CT : Mat 4096 1024) : Prop where
  x : ∀ t d, x0 (ix2 t d) = (X t d : EReal)
  win : ∀ k j, x1 (ix2 k j) = (W₁ k j : EReal)
  wout : ∀ j d, x2 (ix2 j d) = (W₂ j d : EReal)
  gain : ∀ d, x3 (ix1 d) = (G d : EReal)
  ct : ∀ t d, x5 (ix2 t d) = (CT t d : EReal)

/-- Arrays whose elements are real are real arrays. -/
theorem exists_args {x0 : Vec Ideal S4096x1024 .f32} {x1 : Vec Ideal S1024x5632 .f32} {x2 : Vec Ideal S2816x1024 .f32}
    {x3 : Vec Ideal S1024 .f32} {x5 : Vec Ideal S4096x1024 .f32}
    (h : (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x5 i = (r : EReal))) :
    ∃ X W₁ W₂ G CT, Args x0 x1 x2 x3 x5 X W₁ W₂ G CT := by
  obtain ⟨h0, h1, h2, h3, h5⟩ := h
  choose y0 e0 using h0
  choose y1 e1 using h1
  choose y2 e2 using h2
  choose y3 e3 using h3
  choose y5 e5 using h5
  exact ⟨fun t d => y0 (ix2 t d), fun k j => y1 (ix2 k j), fun j d => y2 (ix2 j d), fun d => y3 (ix1 d),
    fun t d => y5 (ix2 t d), fun _ _ => e0 _, fun _ _ => e1 _, fun _ _ => e2 _, fun _ => e3 _, fun _ _ => e5 _⟩

namespace Args

variable {x0 : Vec Ideal S4096x1024 .f32} {x1 : Vec Ideal S1024x5632 .f32} {x2 : Vec Ideal S2816x1024 .f32}
    {x3 : Vec Ideal S1024 .f32} {x5 : Vec Ideal S4096x1024 .f32} {X : Mat 4096 1024} {W₁ : Mat 1024 5632}
    {W₂ : Mat 2816 1024} {G : Fin 1024 → ℝ} {CT : Mat 4096 1024}
variable (A : Args x0 x1 x2 x3 x5 X W₁ W₂ G CT) (t : Fin 4096)
include A

theorem hid (j : Fin 5632) : val_main_v0 x0 x1 (ix2 t j) = (Spec.hid X W₁ t j : EReal) := by
  pointwise [val_main_v0]
  simp only [A.x, A.win, ← EReal.coe_mul, coe_sum]
  rfl

theorem gate (j : Fin 2816) : val_main_v1 x0 x1 (ix2 t j) = (Spec.gate X W₁ t j : EReal) := by
  pointwise [val_main_v1]
  exact A.hid t _

theorem up (j : Fin 2816) : val_main_v2 x0 x1 (ix2 t j) = (Spec.up X W₁ t j : EReal) := by
  pointwise [val_main_v2]
  exact A.hid t _

theorem sgm_gate (j : Fin 2816) : val_main_v3_2 x0 x1 (ix2 t j) = (sgm (Spec.gate X W₁ t j) : EReal) := by
  pointwise [val_main_v3_2, val_main_call0_v4, val_main_call0_cst_0, val_main_call0_v3, val_main_call0_v2,
    val_main_call0_cst, val_main_call0_v1, val_main_call0_v0]
  rw [A.gate, coe_logistic]

theorem silu (j : Fin 2816) : val_main_v3_0 x0 x1 (ix2 t j)
    = ((Spec.gate X W₁ t j * sgm (Spec.gate X W₁ t j) : ℝ) : EReal) := by
  pointwise [val_main_v3_0]
  rw [A.gate, A.sgm_gate, ← EReal.coe_mul]

theorem sgm' (j : Fin 2816) : val_main_v3_1 x0 x1 (ix2 t j)
    = ((sgm (Spec.gate X W₁ t j) * (1 - sgm (Spec.gate X W₁ t j)) : ℝ) : EReal) := by
  pointwise [val_main_v3_1, val_main_call0_v7, val_main_call0_v6, val_main_call0_cst_1]
  rw [A.sgm_gate]
  norm_cast

theorem res (d : Fin 1024) : val_main_v10 x0 x1 x2 (ix2 t d) = (Spec.res X W₁ W₂ t d : EReal) := by
  pointwise [val_main_v10, val_main_v9, val_main_v8, val_main_cst_0, val_main_v7, val_main_v6, val_main_cst, val_main_v5,
    val_main_v4]
  simp only [A.x, A.silu, A.up, A.wout, word_half, word_alpha, ← EReal.coe_mul, coe_sum, ← EReal.coe_add]
  rfl

theorem mean_res : val_main_v14 x0 x1 x2 (ix2 t 0) = (mean (Spec.res X W₁ W₂ t) : EReal) := by
  pointwise [val_main_v14, val_main_v13, val_main_cst_2, val_main_v12, val_main_v11, val_main_cst_1]
  simp only [A.res, word_1024, coe_sum, coe_div_1024]
  rfl

theorem cen (d : Fin 1024) : val_main_v16 x0 x1 x2 (ix2 t d) = (Spec.cen X W₁ W₂ t d : EReal) := by
  pointwise [val_main_v16, val_main_v15]
  rw [A.res, A.mean_res, ← EReal.coe_sub]
  rfl

theorem cen' (d : Fin 1024) : val_main_v25 x0 x1 x2 (ix2 t d) = (Spec.cen X W₁ W₂ t d : EReal) := A.cen t d

theorem var : val_main_v27 x0 x1 x2 (ix2 t 0) = (Spec.var X W₁ W₂ t : EReal) := by
  pointwise [val_main_v27, val_main_v26, val_main_cst_6, val_main_v23, val_main_v22, val_main_cst_5, val_main_v21,
    val_main_v20, val_main_cst_4, val_main_v17]
  simp only [A.cen, word_1024, word_eps, ← EReal.coe_mul, coe_sum, coe_div_1024, ← EReal.coe_add]
  rfl

theorem rdev : val_main_v28 x0 x1 x2 (ix2 t 0) = (Spec.rdev X W₁ W₂ t : EReal) := by
  pointwise [val_main_v28]
  rw [A.var, coe_rsqrt (var_pos X W₁ W₂ t)]
  rfl

theorem nrm (d : Fin 1024) : val_main_v33 x0 x1 x2 (ix2 t d) = (Spec.nrm X W₁ W₂ t d : EReal) := by
  pointwise [val_main_v33, val_main_v32]
  rw [A.cen', A.rdev, ← EReal.coe_mul]
  rfl

/-- The gradient by the gain. -/
theorem dy (d : Fin 1024) : val_main_v48 x3 x5 (ix2 t d) = ((CT t d * G d : ℝ) : EReal) := by
  pointwise [val_main_v48, val_main_v47, val_main_v40, val_main_v34]
  rw [A.ct, A.gain, ← EReal.coe_mul]

/-- The gradient of the variance. -/
theorem dvar : val_main_v60 x0 x1 x2 x3 x5 (ix2 t 0) = (((∑ e, Spec.cen X W₁ W₂ t e * (CT t e * G e))
    * (-(1 / 2) * (Spec.rdev X W₁ W₂ t / Spec.var X W₁ W₂ t)) / 1024 : ℝ) : EReal) := by
  pointwise [val_main_v60, val_main_v59, val_main_cst_14, val_main_v55, val_main_v52, val_main_v51, val_main_cst_12,
    val_main_v50, val_main_v31, val_main_v30, val_main_cst_7, val_main_v29]
  simp only [A.cen', A.dy, A.rdev, A.var, word_neg_half, word_1024, coe_div _ (var_pos X W₁ W₂ t).ne', ← EReal.coe_mul, coe_sum,
    coe_div_1024]

theorem dcen (d : Fin 1024) : val_main_v63 x0 x1 x2 x3 x5 (ix2 t d) = (((∑ e, Spec.cen X W₁ W₂ t e * (CT t e * G e))
    * (-(1 / 2) * (Spec.rdev X W₁ W₂ t / Spec.var X W₁ W₂ t)) / 1024 * (2 * Spec.cen X W₁ W₂ t d) : ℝ) : EReal) := by
  pointwise [val_main_v63, val_main_v62, val_main_v61, val_main_cst_15, val_main_v19, val_main_v18, val_main_cst_3]
  simp only [Finset.univ_unique, Fin.default_eq_zero, Finset.sum_singleton, A.dvar, A.cen, word_two]
  norm_cast

theorem dnrm (d : Fin 1024) : val_main_v54 x0 x1 x2 x3 x5 (ix2 t d)
    = ((CT t d * G d * Spec.rdev X W₁ W₂ t : ℝ) : EReal) := by
  pointwise [val_main_v54, val_main_v53]
  rw [A.dy, A.rdev, ← EReal.coe_mul]

/-- The gradient of the residual sum. -/
theorem dres (d : Fin 1024) : val_main_v73 x0 x1 x2 x3 x5 (ix2 t d)
    = (resGrad CT (Spec.nrm X W₁ W₂) (Spec.rdev X W₁ W₂) G t d : EReal) := by
  have e := normGrad_eq (Spec.rdev X W₁ W₂ t) (Spec.var X W₁ W₂ t) (CT t) (Spec.cen X W₁ W₂ t) G d (var_pos X W₁ W₂ t).ne'
    (rsqrt_sq_mul (var_pos X W₁ W₂ t)) (sum_sub_mean _)
  pointwise [val_main_v73, val_main_v72, val_main_v71, val_main_cst_18, val_main_v70, val_main_v69, val_main_cst_17,
    val_main_v68, val_main_v67, val_main_v66, val_main_v65, val_main_cst_16, val_main_v64, val_main_v58, val_main_v57,
    val_main_cst_13, val_main_v56]
  simp only [Finset.univ_unique, Finset.sum_singleton, A.dcen, A.dnrm, word_1024, ← EReal.coe_neg, coe_sum, coe_div_1024, ← EReal.coe_add]
  exact congrArg _ e

theorem df (d : Fin 1024) : val_main_v75 x0 x1 x2 x3 x5 (ix2 t d)
    = ((1 / 2 * resGrad CT (Spec.nrm X W₁ W₂) (Spec.rdev X W₁ W₂) G t d : ℝ) : EReal) := by
  pointwise [val_main_v75, val_main_v74, val_main_cst_19]
  rw [A.dres, word_half, ← EReal.coe_mul]

/-- The gradient of the gated product. -/
theorem dact (j : Fin 2816) : val_main_v80 x0 x1 x2 x3 x5 (ix2 t j)
    = (actGrad W₂ (resGrad CT (Spec.nrm X W₁ W₂) (Spec.rdev X W₁ W₂) G) t j : EReal) := by
  pointwise [val_main_v80]
  simp only [A.df, A.wout, ← EReal.coe_mul, coe_sum]
  rfl

/-- The gradient of the hidden row. -/
theorem dhid (j : Fin 5632) : val_main_v84 x0 x1 x2 x3 x5 (ix2 t j)
    = (hidGrad (Spec.hid X W₁) (actGrad W₂ (resGrad CT (Spec.nrm X W₁ W₂) (Spec.rdev X W₁ W₂) G)) t j : EReal) := by
  pointwise [val_main_v84, hidGrad]
  split
  · pointwise [val_main_v83, val_main_call1_v1, val_main_call1_v2, val_main_call1_v0, val_main_v82]
    rw [A.dact, A.up, A.sgm_gate, A.gate, A.sgm', ← gateGrad_eq]
    norm_cast
  · pointwise [val_main_v81]
    rw [A.silu, A.dact, ← EReal.coe_mul, upGrad, mul_comm]
    rfl

/-- The gradient of the argument. -/
theorem dx (d : Fin 1024) : val_main_v88 x0 x1 x2 x3 x5 (ix2 t d)
    = (argGrad W₁ alpha (resGrad CT (Spec.nrm X W₁ W₂) (Spec.rdev X W₁ W₂) G) (hidGrad (Spec.hid X W₁) (actGrad W₂
      (resGrad CT (Spec.nrm X W₁ W₂) (Spec.rdev X W₁ W₂) G))) t d : EReal) := by
  pointwise [val_main_v88, val_main_v77, val_main_v76, val_main_cst_20, val_main_v87]
  simp only [A.dres, A.dhid, A.win, word_alpha, ← EReal.coe_mul, coe_sum, ← EReal.coe_add]
  rfl

theorem dg (d : Fin 1024) : val_main_v91 x0 x1 x2 x5 (ix2 0 d) = (gainGrad CT (Spec.nrm X W₁ W₂) d : EReal) := by
  pointwise [val_main_v91, val_main_v49, val_main_cst_11, val_main_v46, val_main_v45, val_main_cst_10, val_main_v44,
    val_main_v40]
  simp only [A.nrm, A.ct, ← EReal.coe_mul, coe_sum, gainGrad, mul_comm,
    Finset.univ_unique, Finset.sum_singleton]

theorem db (d : Fin 1024) : val_main_v92 x5 (ix2 0 d) = (shiftGrad CT d : EReal) := by
  pointwise [val_main_v92, val_main_v43, val_main_cst_9, val_main_v42, val_main_v41, val_main_cst_8]
  simp only [A.ct, coe_sum, shiftGrad, Finset.univ_unique, Finset.sum_singleton]

end Args

end Cert.ReferenceIdeal.Real

end
-- ==== Proof.Entry.lean ====
/-
  What the arrays that the kernel's pipeline reads hold when it starts, on real arguments: the forward pass of
  Proof/Forward.lean. The host operations before the pipeline are those the reference begins with, so the two are one
  term, and the reference's values say what it is.
-/
module

public import proofs.«01_k».proof.Proof.Arrays
public import proofs.«01_k».proof.Proof.RefValues
public import Idealize.ShloMosaic.Lib.Claim
public import Idealize.ShloMosaic.Lib.StableHlo.ReadAt

@[expose] public section

set_option maxRecDepth 16384

noncomputable section

namespace Cert.KernelIdeal.Arrays

open Idealize.ShloMosaic Idealize.ShloMosaic.TcCoe Idealize.SL.Sem Cert.KernelIdeal Cert.KernelIdeal.Gen Cert.Lift Cert.Spec

variable (m : (ℓ : Loc nD τ sig) → Buf (Elt Ideal) ℓ) (c : Dev nD)

theorem V_nrm : V m c main_v28 = Cert.ReferenceIdeal.Read.val_main_v33 (m ((c : Thread nD τ).loc main_arg0))
    (m ((c : Thread nD τ).loc main_arg1)) (m ((c : Thread nD τ).loc main_arg2)) := by
  entry_read
  rfl

theorem V_rdev : V m c main_v24 = Cert.ReferenceIdeal.Read.val_main_v28 (m ((c : Thread nD τ).loc main_arg0))
    (m ((c : Thread nD τ).loc main_arg1)) (m ((c : Thread nD τ).loc main_arg2)) := by
  entry_read
  rfl

theorem V_hid : V m c main_v32 = Cert.ReferenceIdeal.Read.val_main_v0 (m ((c : Thread nD τ).loc main_arg0))
    (m ((c : Thread nD τ).loc main_arg1)) := by
  entry_read
  rfl

theorem V_wout (j : Fin 2816) (d : Fin 1024) : V m c main_v33 (ix2 j d) = m ((c : Thread nD τ).loc main_arg2) (ix2 j d) := by
  unfold V
  after_reads_at

theorem V_win (k : Fin 4) (d : Fin 1024) (j : Fin 1408) : V m c main_v31 (ix3 k d j)
    = m ((c : Thread nD τ).loc main_arg1) (ix2 d ⟨1408 * k.val + j.val, by omega⟩) := by
  unfold V
  after_reads_at
  congr 2
  apply Fin.ext
  dsimp only
  omega

theorem V_gain (d : Fin 1024) : V m c main_v34 (ix2 0 d) = m ((c : Thread nD τ).loc main_arg3) (ix1 d) := by
  unfold V
  after_reads_at

variable {m c}
variable {X : Mat 4096 1024} {W₁ : Mat 1024 5632} {W₂ : Mat 2816 1024} {G : Fin 1024 → ℝ} {CT : Mat 4096 1024}

/-- On real arguments the pipeline starts from the forward pass. -/
theorem entry (A : Cert.ReferenceIdeal.Real.Args (m ((c : Thread nD τ).loc main_arg0)) (m ((c : Thread nD τ).loc main_arg1))
    (m ((c : Thread nD τ).loc main_arg2)) (m ((c : Thread nD τ).loc main_arg3)) (m ((c : Thread nD τ).loc main_arg5))
    X W₁ W₂ G CT) : Entry m c CT (nrm X W₁ W₂) (rdev X W₁ W₂) G (hid X W₁) W₁ W₂ where
  ct t d := (congrFun (V_main_arg5 m c) _).trans (A.ct t d)
  xh t d := (congrFun (V_nrm m c) _).trans (A.nrm t d)
  rs t := (congrFun (V_rdev m c) _).trans (A.rdev t)
  hid t j := (congrFun (V_hid m c) _).trans (A.hid t j)
  win k d j := (V_win m c k d j).trans (A.win d _)
  wout j d := (V_wout m c j d).trans (A.wout j d)
  gain d := (V_gain m c d).trans (A.gain d)

end Cert.KernelIdeal.Arrays

end
-- ==== Proof.Finite.lean ====
/-
  The precondition says that every number the kernel reads is finite: each element of the five arrays is a real number.
-/
module

public import proofs.«01_k».proof.Pre_finite
public import proofs.«01_k».proof.Proof.Lift
public import Idealize.ShloMosaic.Lib.Pointwise
public import Idealize.ShloMosaic.Lib.ReduceAll
public import Idealize.ShloMosaic.Lib.Affine

@[expose] public section

set_option maxRecDepth 16384

noncomputable section

namespace Cert.Pre_finite

open Idealize.ShloMosaic Cert.Lift

instance facts : Facts where
  bcast_S_S4096x1024 := by decide
  reducesTo_S4096x1024_S_d0_1 := by decide
  h_S_ := by decide
  bcast_S_S1024x5632 := by decide
  reducesTo_S1024x5632_S_d0_1 := by decide
  bcast_S_S2816x1024 := by decide
  reducesTo_S2816x1024_S_d0_1 := by decide
  bcast_S_S1024 := by decide
  reducesTo_S1024_S_d0 := by decide

/-- Every absolute value is below `⊤`: every element is a real number. -/
theorem real_of_all {s : Shape} {axes : List (Fin s.rank)} (x : FVec Ideal s .f32)
    (hb : S_.BroadcastsInDim s (![] : Fin 0 → Fin s.rank)) (init : IVec S_ 1) (h : s.ReducesTo axes S_)
    (hu : 0 < S_.numel) (j : S_.Idx)
    (e : Host.reduce IntOp.andi (cmpf .olt (Host.absf x) (broadcastInDim s ![] hb (constant S_ .f32 0x7F800000#32)))
      init h hu j = 1#1) (i : s.Idx) : ∃ r : ℝ, x i = (r : EReal) := by
  have hi := Host.reduce_andi_all _ init h hu j e i
  apply exists_real_of_abs_lt_top
  have : BitVec.ofBool (decide (max (x i) (-x i) < Ideal.ofBits .f32 0x7F800000#32)) = 1#1 := hi
  rw [word_top] at this
  by_contra hn
  rw [decide_eq_false hn] at this
  exact absurd this (by decide)

/-- The precondition, element by element. -/
theorem real {x0 : FVec Ideal S4096x1024 .f32} {x1 : FVec Ideal S1024x5632 .f32} {x2 : FVec Ideal S2816x1024 .f32}
    {x3 x4 : FVec Ideal S1024 .f32} {x5 : FVec Ideal S4096x1024 .f32} (h : fn x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x5 i = (r : EReal)) := by
  have e := congrFun h (fun a => a.elim0)
  dsimp only [fn, fn_part1] at e
  obtain ⟨e, e5⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all _ _ _ _ _ _ e1, real_of_all _ _ _ _ _ _ e2,
    real_of_all _ _ _ _ _ _ e3, real_of_all _ _ _ _ _ _ e5⟩

end Cert.Pre_finite

end
-- ==== Proof.Algebraic.lean ====
/-
  The value claim: on finite arguments the kernel's five result arrays are the reference's.
-/
module

public import proofs.«01_k».proof.Defs
public import proofs.«01_k».proof.Proof.Entry
public import proofs.«01_k».proof.Proof.Finite

@[expose] public section

set_option maxRecDepth 16384

noncomputable section

namespace Cert.Proof

open Idealize.ShloMosaic Idealize.SL.Sem Idealize.ShloMosaic.StableHlo Cert.KernelIdeal.Arrays

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  refine ⟨_, _, _, _, _, Cert.KernelIdeal.Value.run_blocks m g,
    (θ_run Cert.ReferenceIdeal.defs _ _).mono (fun r h c => ?_) (Cert.ReferenceIdeal.Value.run m' g')⟩
  obtain ⟨X, W₁, W₂, G, CT, A⟩ := Cert.ReferenceIdeal.Real.exists_args (Cert.Pre_finite.real (hpre c))
  have E := entry A
  obtain ⟨e0, e1, e2, e3, -, e5⟩ := hargs c
  have A' : Cert.ReferenceIdeal.Real.Args (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg5)) X W₁ W₂ G CT := by
    rw [e0, e1, e2, e3, e5]; exact A
  obtain ⟨h0, h1, h2, h3, h4, hk⟩ := h c
  refine ⟨h0.trans ?_, h1.trans ?_, h2.trans ?_, h3.trans ?_, h4.trans ?_, hk⟩
  · rw [Cert.ReferenceIdeal.Read.val_main_v88_eq, E.array_dx]
    funext i; idx_vars i; exact A'.dx i0 i1
  · rw [Cert.ReferenceIdeal.Read.val_main_v89_eq, E.array_dh]
    funext i; idx_vars i; exact A'.dhid i0 i1
  · rw [Cert.ReferenceIdeal.Read.val_main_v90_eq, E.array_df]
    funext i; idx_vars i; exact A'.df i0 i1
  · rw [Cert.ReferenceIdeal.Read.val_main_v91_eq, E.array_dg]
    funext i; idx_vars i; obtain rfl : i0 = 0 := Subsingleton.elim _ _; exact A'.dg i1
  · rw [Cert.ReferenceIdeal.Read.val_main_v92_eq, E.array_db]
    funext i; idx_vars i; obtain rfl : i0 = 0 := Subsingleton.elim _ _; exact A'.db i1

end Cert.Proof

end
-- ==== Proof.Sums.lean ====
/-
  What the further calls' proofs share: an array written as a function of its two coordinates, and a sum over the rows
  taken in two halves.
-/
module

public import Idealize.ShloMosaic.PureOps.Ideal
public import Idealize.ShloMosaic.Lib.Pointwise

@[expose] public section

noncomputable section

namespace Cert.Sums

open Idealize.ShloMosaic

/-- An array of extended reals, by its two coordinates. -/
def arr {a b : ℕ} (f : Fin a → Fin b → EReal) : (⟨2, ![a, b]⟩ : Shape).Idx → EReal := fun i => f (i 0) (i 1)

/-- Row `k`'s part of an element of `xᵀ y`. -/
def term {p q : ℕ} (x : (⟨2, ![4096, p]⟩ : Shape).Idx → EReal) (y : (⟨2, ![4096, q]⟩ : Shape).Idx → EReal) (i : Fin p)
    (j : Fin q) (k : Fin 4096) : EReal := x (ix2 k i) * y (ix2 k j)

/-- `xᵀ y`, summed over the 4096 rows. -/
def tnMul {p q : ℕ} (x : (⟨2, ![4096, p]⟩ : Shape).Idx → EReal) (y : (⟨2, ![4096, q]⟩ : Shape).Idx → EReal) (i : Fin p)
    (j : Fin q) : EReal := ∑ k, term x y i j k

/-- A sum over the rows, begun at zero and taken in two halves. -/
theorem sum_halves (f : Fin 4096 → EReal) :
    0 + ∑ k : Fin 2048, f ⟨0 * 2048 + k.val, by omega⟩ + ∑ k : Fin 2048, f ⟨1 * 2048 + k.val, by omega⟩ = ∑ k, f k := by
  rw [zero_add, show ∑ k, f k = _ from Fin.sum_univ_add (a := 2048) (b := 2048) f]
  refine congrArg₂ (· + ·) (Finset.sum_congr rfl fun k _ => congrArg f (Fin.ext ?_))
    (Finset.sum_congr rfl fun k _ => congrArg f (Fin.ext ?_)) <;> simp [Nat.add_comm]

/-- A run of columns from column `lo` on, written over an array. -/
def put {p q n : ℕ} (lo : ℕ) (f : Fin p → Fin n → EReal) (prev : (⟨2, ![p, q]⟩ : Shape).Idx → EReal) (i : Fin p)
    (j : Fin q) : EReal := if h : lo ≤ j.val ∧ j.val < lo + n then f i ⟨j.val - lo, by omega⟩ else prev (ix2 i j)

theorem put_in {p q n lo : ℕ} {f : Fin p → Fin n → EReal} {prev : (⟨2, ![p, q]⟩ : Shape).Idx → EReal} {i : Fin p}
    {j : Fin q} (j' : Fin n) (h : j.val = lo + j'.val) : put lo f prev i j = f i j' := by
  rw [put, dif_pos (by omega)]
  exact congrArg (f i) (Fin.ext (by simp only; omega))

theorem put_out {p q n lo : ℕ} {f : Fin p → Fin n → EReal} {prev : (⟨2, ![p, q]⟩ : Shape).Idx → EReal} {i : Fin p}
    {j : Fin q} (h : ¬(lo ≤ j.val ∧ j.val < lo + n)) : put lo f prev i j = prev (ix2 i j) := dif_neg h

/-- The first `n` terms of a sum over the 4096 rows. -/
def upto (f : Fin 4096 → EReal) (n : ℕ) : EReal := ∑ k ∈ Finset.range n, if h : k < 4096 then f ⟨k, h⟩ else 0

theorem upto_zero (f : Fin 4096 → EReal) : upto f 0 = 0 := by simp [upto]

theorem upto_add (f : Fin 4096 → EReal) (n b : ℕ) (h : n + b ≤ 4096) :
    upto f n + ∑ k : Fin b, f ⟨n + k.val, by omega⟩ = upto f (n + b) := by
  rw [upto, upto, Finset.sum_range_add, Finset.sum_range (n := b)]
  exact congrArg _ (Finset.sum_congr rfl fun k _ => by rw [dif_pos (show n + k.val < 4096 by omega)])

theorem upto_all (f : Fin 4096 → EReal) : upto f 4096 = ∑ k, f k := by
  rw [upto, Finset.sum_range]
  exact Finset.sum_congr rfl fun k _ => dif_pos k.isLt

end Cert.Sums

end
-- ==== Proof.WoutGrad.lean ====
/-
  The gradient of the second weight matrix: the kernel adds, block by block, the products over two halves of the rows.
-/
module

public import proofs.«01_k».proof.Defs
public import proofs.«01_k».proof.Proof.Sums
public import proofs.«01_k».proof.Proof.Gen.WoutIdeal.Value
public import proofs.«01_k».proof.Proof.Gen.WoutRefIdeal.Run
public import proofs.«01_k».proof.Proof.Gen.WoutRefIdeal.Read
public import Idealize.ShloMosaic.Lib.Pipeline.ValueKit
public import Idealize.ShloMosaic.Lib.Claim
public import Idealize.ShloMosaic.Lib.StableHlo.ReadAt

@[expose] public section

set_option maxRecDepth 16384

noncomputable section

namespace Cert.WoutIdeal.Grad

open Idealize.ShloMosaic Idealize.ShloMosaic.TcCoe Idealize.SL.Sem Cert.WoutIdeal Cert.WoutIdeal.Gen Cert.Sums

variable (m : (ℓ : Loc nD τ sig) → Buf (Elt Ideal) ℓ) (c : Dev nD)

theorem idx0 : ∀ t : Fin cfg0.N, win0_0.index t = ![t.val % 2, t.val / 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)
theorem idx3 : ∀ t : Fin cfg0.N, win0_3.index t = ![t.val / 2, 0] := (by decide +kernel : ∀ t : Fin grid0.N, _)

/-- The row of the result that row `r` of block `t` is. -/
def row (t : Fin cfg0.N) (r : Fin 1408) : Fin 2816 := ⟨t.val / 2 * 1408 + r.val, by have : cfg0.N = 4 := rfl; omega⟩

theorem blk_a (t : Fin cfg0.N) (k : Fin 2048) (r : Fin 1408) : iblk m c 0 t (ix2 k r)
    = m ((c : Thread nD τ).loc main_arg0) (ix2 ⟨t.val % 2 * 2048 + k.val, by omega⟩ (row t r)) := by
  trans V m c main_v0 (ix2 ⟨t.val % 2 * 2048 + k.val, by omega⟩ (row t r))
  · blk_ext [iblk, row, idx0 t]
  · unfold V; after_reads_at

theorem blk_df (t : Fin cfg0.N) (k : Fin 2048) (d : Fin 1024) : iblk m c 1 t (ix2 k d)
    = m ((c : Thread nD τ).loc main_arg2) (ix2 ⟨t.val % 2 * 2048 + k.val, by omega⟩ d) := by
  trans V m c main_v1 (ix2 ⟨t.val % 2 * 2048 + k.val, by omega⟩ d)
  · blk_ext [iblk, idx1 t]
  · unfold V; after_reads_at

/-- What one point adds. -/
theorem pay2 (acc : Vec Ideal S1408x1024 .f32) (a : Vec Ideal S2048x1408 .bf16) (b : Vec Ideal S2048x1024 .bf16)
    (r : Fin 1408) (d : Fin 1024) : k0_pay2 acc a b (ix2 r d) = acc (ix2 r d) + ∑ k, a (ix2 k r) * b (ix2 k d) := by
  pointwise [k0_pay2]

theorem pay1 (j : S1408x1024.Idx) : k0_pay1 (F := Ideal) j = (0 : EReal) := by
  pointwise [k0_pay1]

theorem pay3 (v : Vec Ideal S1408x1024 .f32) : k0_pay3 v = v := by
  funext j
  idx_vars j
  pointwise [k0_pay3]

/-- What the second point of a block leaves. -/
theorem after_last (t : Fin cfg0.N) (h : t.val % 2 = 1) (r : Fin 1408) (d : Fin 1024) :
    (outsAt0 m c t.val t.isLt).1 (ix2 r d)
      = tnMul (m ((c : Thread nD τ).loc main_arg0)) (m ((c : Thread nD τ).loc main_arg2)) (row t r) d := by
  have hlt : t.val - 1 < cfg0.N := Nat.lt_of_le_of_lt (Nat.sub_le _ _) t.isLt
  have h' : (⟨t.val - 1, hlt⟩ : Fin cfg0.N).val % 2 = 0 := by dsimp only; omega
  have hr : row ⟨t.val - 1, hlt⟩ r = row t r := Fin.ext (by simp only [row]; omega)
  have first : (outsAt0 m c (t.val - 1) hlt).1 (ix2 r d)
      = 0 + ∑ k : Fin 2048, term (m ((c : Thread nD τ).loc main_arg0)) (m ((c : Thread nD τ).loc main_arg2)) (row t r) d
          ⟨0 * 2048 + k.val, by omega⟩ := by
    rw [outsAt0_A m c ⟨t.val - 1, hlt⟩ h' (by omega)]
    frame_out
    simp only [pay2, pay1, blk_a, blk_df, h', hr]
    rfl
  rw [outsAt0_B m c t (by omega) h]
  frame_out
  simp only [pay2, first, blk_a, blk_df, h]
  exact sum_halves (term (m ((c : Thread nD τ).loc main_arg0)) (m ((c : Thread nD τ).loc main_arg2)) (row t r) d)

/-- What the second point of a block rounds is what it leaves. -/
theorem rounded (t : Fin cfg0.N) (h : t.val % 2 = 1) : (outsAt0 m c t.val t.isLt).2 = (outsAt0 m c t.val t.isLt).1 := by
  rw [outsAt0_B m c t (by omega) h]
  frame_out
  exact pay3 _

/-- The gradient, at the precision of the sum. -/
theorem array_f32 : (dats m 0 c).arrAt 2 cfg0.N = arr (a := 2816) (b := 1024)
    (tnMul (m ((c : Thread nD τ).loc main_arg0)) (m ((c : Thread nD τ).loc main_arg2))) := by
  refine (dats m 0 c).arrAt_eq_of_covers 2 _ (by decide +kernel) fun t hf y => ?_
  blk_simp
  idx_vars y
  have e : (win0_2.blk t).view.emb (ix2 y0 y1) = ix2 (row t y0) y1 := by blk_ext [row, idx2 t]
  rw [e, after0_2]
  exact after_last m c t ((by decide +kernel : ∀ t : Fin cfg0.N, win0_2.flush t = true → t.val % 2 = 1) t hf) y0 y1

/-- The same gradient, rounded. -/
theorem array_bf16 : (dats m 0 c).arrAt 3 cfg0.N = arr (a := 2816) (b := 1024)
    (tnMul (m ((c : Thread nD τ).loc main_arg0)) (m ((c : Thread nD τ).loc main_arg2))) := by
  refine (dats m 0 c).arrAt_eq_of_covers 3 _ (by decide +kernel) fun t hf y => ?_
  blk_simp
  idx_vars y
  have e : (win0_3.blk t).view.emb (ix2 y0 y1) = ix2 (row t y0) y1 := by blk_ext [row, idx3 t]
  have h := (by decide +kernel : ∀ t : Fin cfg0.N, win0_3.flush t = true → t.val % 2 = 1) t hf
  rw [e, after0_3, rounded m c t h]
  exact after_last m c t h y0 y1

end Cert.WoutIdeal.Grad

namespace Cert.Proof

open Idealize.ShloMosaic Idealize.SL.Sem Cert.Sums

theorem algebraic_wout : Cert.algebraic_WoutIdeal_WoutRefIdeal (hWoutIdeal := Cert.WoutIdeal.Gen.facts)
    (hWoutRefIdeal := Cert.WoutRefIdeal.Gen.facts) := by
  intro m g m' g' hpre hargs
  refine ⟨_, _, Cert.WoutIdeal.Value.run_blocks m g,
    (θ_run Cert.WoutRefIdeal.defs _ _).mono (fun r h c => ?_) (Cert.WoutRefIdeal.Value.run m' g')⟩
  obtain ⟨e0, -, e2⟩ := hargs c
  obtain ⟨h0, h1, hk⟩ := h c
  have value : ∀ i j, Cert.WoutRefIdeal.Read.val_main_v2
      (m' ((c.tc : Thread Cert.WoutRefIdeal.nD Cert.WoutRefIdeal.τ).loc Cert.WoutRefIdeal.main_arg0))
      (m' ((c.tc : Thread Cert.WoutRefIdeal.nD Cert.WoutRefIdeal.τ).loc Cert.WoutRefIdeal.main_arg2)) (ix2 i j)
      = tnMul (m ((c.tc : Thread Cert.WoutIdeal.nD Cert.WoutIdeal.τ).loc Cert.WoutIdeal.main_arg0))
        (m ((c.tc : Thread Cert.WoutIdeal.nD Cert.WoutIdeal.τ).loc Cert.WoutIdeal.main_arg2)) i j := fun i j => by
    rw [e0, e2]
    pointwise [Cert.WoutRefIdeal.Read.val_main_v2, Cert.WoutRefIdeal.Read.val_main_v1]
    exact Finset.sum_congr rfl fun k _ => mul_comm _ _
  refine ⟨h0.trans ?_, h1.trans ?_, hk⟩
  · rw [Cert.WoutRefIdeal.Read.val_main_v2_eq, Cert.WoutIdeal.Grad.array_f32]
    funext i; idx_vars i; exact value i0 i1
  · rw [Cert.WoutRefIdeal.Read.val_main_v3_eq, Cert.WoutIdeal.Grad.array_bf16]
    funext i; idx_vars i; exact value i0 i1

end Cert.Proof

end
-- ==== Proof.WinGrad.lean ====
/-
  The gradient of the first weight matrix, whole: the kernel adds, block by block, the products over two halves of the rows.
-/
module

public import proofs.«01_k».proof.Defs
public import proofs.«01_k».proof.Proof.Sums
public import proofs.«01_k».proof.Proof.Gen.WinIdeal.Value
public import proofs.«01_k».proof.Proof.Gen.WinRefIdeal.Run
public import proofs.«01_k».proof.Proof.Gen.WinRefIdeal.Read
public import Idealize.ShloMosaic.Lib.Pipeline.ValueKit
public import Idealize.ShloMosaic.Lib.Claim
public import Idealize.ShloMosaic.Lib.StableHlo.ReadAt

@[expose] public section

set_option maxRecDepth 16384

noncomputable section

namespace Cert.WinIdeal.Grad

open Idealize.ShloMosaic Idealize.ShloMosaic.TcCoe Idealize.SL.Sem Cert.WinIdeal Cert.WinIdeal.Gen Cert.Sums

variable (m : (ℓ : Loc nD τ sig) → Buf (Elt Ideal) ℓ) (c : Dev nD)

theorem idx0 : ∀ t : Fin cfg0.N, win0_0.index t = ![0, t.val % 2] := (by decide +kernel : ∀ t : Fin grid0.N, _)
theorem idx1 : ∀ t : Fin cfg0.N, win0_1.index t = ![t.val % 2, t.val / 2] := (by decide +kernel : ∀ t : Fin grid0.N, _)
theorem idx2 : ∀ t : Fin cfg0.N, win0_2.index t = ![0, t.val / 2] := (by decide +kernel : ∀ t : Fin grid0.N, _)
theorem idx3 : ∀ t : Fin cfg0.N, win0_3.index t = ![0, t.val / 2] := (by decide +kernel : ∀ t : Fin grid0.N, _)

/-- The column of the result that column `j` of block `t` is. -/
def col (t : Fin cfg0.N) (j : Fin 1408) : Fin 5632 := ⟨t.val / 2 * 1408 + j.val, by have : cfg0.N = 8 := rfl; omega⟩

theorem blk_x (t : Fin cfg0.N) (d : Fin 1024) (k : Fin 2048) : iblk m c 0 t (ix2 d k)
    = m ((c : Thread nD τ).loc main_arg0) (ix2 ⟨t.val % 2 * 2048 + k.val, by omega⟩ d) := by
  trans V m c main_v1 (ix2 d ⟨t.val % 2 * 2048 + k.val, by omega⟩)
  · blk_ext [iblk, idx0 t]
  · unfold V; after_reads_at

theorem blk_dh (t : Fin cfg0.N) (k : Fin 2048) (j : Fin 1408) : iblk m c 1 t (ix2 k j)
    = m ((c : Thread nD τ).loc main_arg2) (ix2 ⟨t.val % 2 * 2048 + k.val, by omega⟩ (col t j)) := by
  trans V m c main_v2 (ix2 ⟨t.val % 2 * 2048 + k.val, by omega⟩ (col t j))
  · blk_ext [iblk, col, idx1 t]
  · unfold V; after_reads_at

/-- What one point adds. -/
theorem pay2 (acc : Vec Ideal S1024x1408 .f32) (a : Vec Ideal S1024x2048 .bf16) (b : Vec Ideal S2048x1408 .bf16)
    (d : Fin 1024) (j : Fin 1408) : k0_pay2 acc a b (ix2 d j) = acc (ix2 d j) + ∑ k, a (ix2 d k) * b (ix2 k j) := by
  pointwise [k0_pay2]

theorem pay1 (j : S1024x1408.Idx) : k0_pay1 (F := Ideal) j = (0 : EReal) := by
  pointwise [k0_pay1]

theorem pay3 (v : Vec Ideal S1024x1408 .f32) : k0_pay3 v = v := by
  funext j
  idx_vars j
  pointwise [k0_pay3]

/-- What the second point of a block leaves. -/
theorem after_last (t : Fin cfg0.N) (h : t.val % 2 = 1) (d : Fin 1024) (j : Fin 1408) :
    (outsAt0 m c t.val t.isLt).1 (ix2 d j)
      = tnMul (m ((c : Thread nD τ).loc main_arg0)) (m ((c : Thread nD τ).loc main_arg2)) d (col t j) := by
  have hlt : t.val - 1 < cfg0.N := Nat.lt_of_le_of_lt (Nat.sub_le _ _) t.isLt
  have h' : (⟨t.val - 1, hlt⟩ : Fin cfg0.N).val % 2 = 0 := by dsimp only; omega
  have hr : col ⟨t.val - 1, hlt⟩ j = col t j := Fin.ext (by simp only [col]; omega)
  have first : (outsAt0 m c (t.val - 1) hlt).1 (ix2 d j)
      = 0 + ∑ k : Fin 2048, term (m ((c : Thread nD τ).loc main_arg0)) (m ((c : Thread nD τ).loc main_arg2)) d (col t j)
          ⟨0 * 2048 + k.val, by omega⟩ := by
    rw [outsAt0_A m c ⟨t.val - 1, hlt⟩ h' (by omega)]
    frame_out
    simp only [pay2, pay1, blk_x, blk_dh, h', hr]
    rfl
  rw [outsAt0_B m c t (by omega) h]
  frame_out
  simp only [pay2, first, blk_x, blk_dh, h]
  exact sum_halves (term (m ((c : Thread nD τ).loc main_arg0)) (m ((c : Thread nD τ).loc main_arg2)) d (col t j))

/-- What the second point of a block rounds is what it leaves. -/
theorem rounded (t : Fin cfg0.N) (h : t.val % 2 = 1) : (outsAt0 m c t.val t.isLt).2 = (outsAt0 m c t.val t.isLt).1 := by
  rw [outsAt0_B m c t (by omega) h]
  frame_out
  exact pay3 _

/-- The gradient, at the precision of the sum. -/
theorem array_f32 : (dats m 0 c).arrAt 2 cfg0.N = arr (a := 1024) (b := 5632)
    (tnMul (m ((c : Thread nD τ).loc main_arg0)) (m ((c : Thread nD τ).loc main_arg2))) := by
  refine (dats m 0 c).arrAt_eq_of_covers 2 _ (by decide +kernel) fun t hf y => ?_
  blk_simp
  idx_vars y
  have e : (win0_2.blk t).view.emb (ix2 y0 y1) = ix2 y0 (col t y1) := by blk_ext [col, idx2 t]
  rw [e, after0_2]
  exact after_last m c t ((by decide +kernel : ∀ t : Fin cfg0.N, win0_2.flush t = true → t.val % 2 = 1) t hf) y0 y1

/-- The same gradient, rounded. -/
theorem array_bf16 : (dats m 0 c).arrAt 3 cfg0.N = arr (a := 1024) (b := 5632)
    (tnMul (m ((c : Thread nD τ).loc main_arg0)) (m ((c : Thread nD τ).loc main_arg2))) := by
  refine (dats m 0 c).arrAt_eq_of_covers 3 _ (by decide +kernel) fun t hf y => ?_
  blk_simp
  idx_vars y
  have e : (win0_3.blk t).view.emb (ix2 y0 y1) = ix2 y0 (col t y1) := by blk_ext [col, idx3 t]
  have h := (by decide +kernel : ∀ t : Fin cfg0.N, win0_3.flush t = true → t.val % 2 = 1) t hf
  rw [e, after0_3, rounded m c t h]
  exact after_last m c t h y0 y1

end Cert.WinIdeal.Grad

namespace Cert.Proof

open Idealize.ShloMosaic Idealize.SL.Sem Cert.Sums

theorem algebraic_win : Cert.algebraic_WinIdeal_WinRefIdeal (hWinIdeal := Cert.WinIdeal.Gen.facts)
    (hWinRefIdeal := Cert.WinRefIdeal.Gen.facts) := by
  intro m g m' g' hpre hargs
  refine ⟨_, _, Cert.WinIdeal.Value.run_blocks m g,
    (θ_run Cert.WinRefIdeal.defs _ _).mono (fun r h c => ?_) (Cert.WinRefIdeal.Value.run m' g')⟩
  obtain ⟨e0, -, e2⟩ := hargs c
  obtain ⟨h0, h1, hk⟩ := h c
  have value : ∀ i j, Cert.WinRefIdeal.Read.val_main_v2
      (m' ((c.tc : Thread Cert.WinRefIdeal.nD Cert.WinRefIdeal.τ).loc Cert.WinRefIdeal.main_arg0))
      (m' ((c.tc : Thread Cert.WinRefIdeal.nD Cert.WinRefIdeal.τ).loc Cert.WinRefIdeal.main_arg2)) (ix2 i j)
      = tnMul (m ((c.tc : Thread Cert.WinIdeal.nD Cert.WinIdeal.τ).loc Cert.WinIdeal.main_arg0))
        (m ((c.tc : Thread Cert.WinIdeal.nD Cert.WinIdeal.τ).loc Cert.WinIdeal.main_arg2)) i j := fun i j => by
    rw [e0, e2]
    pointwise [Cert.WinRefIdeal.Read.val_main_v2, Cert.WinRefIdeal.Read.val_main_v1]
    exact Finset.sum_congr rfl fun k _ => mul_comm _ _
  refine ⟨h0.trans ?_, h1.trans ?_, hk⟩
  · rw [Cert.WinRefIdeal.Read.val_main_v2_eq, Cert.WinIdeal.Grad.array_f32]
    funext i; idx_vars i; exact value i0 i1
  · rw [Cert.WinRefIdeal.Read.val_main_v3_eq, Cert.WinIdeal.Grad.array_bf16]
    funext i; idx_vars i; exact value i0 i1

end Cert.Proof

end
-- ==== Proof.WinLowGrad.lean ====
/-
  The gradient of the first weight matrix, the first half of its rows: each block is one product over all the rows.
-/
module

public import proofs.«01_k».proof.Defs
public import proofs.«01_k».proof.Proof.Sums
public import proofs.«01_k».proof.Proof.Gen.WinLowIdeal.Value
public import proofs.«01_k».proof.Proof.Gen.WinLowRefIdeal.Run
public import proofs.«01_k».proof.Proof.Gen.WinLowRefIdeal.Read
public import Idealize.ShloMosaic.Lib.Pipeline.ValueKit
public import Idealize.ShloMosaic.Lib.Claim
public import Idealize.ShloMosaic.Lib.StableHlo.ReadAt

@[expose] public section

set_option maxRecDepth 16384

noncomputable section

namespace Cert.WinLowIdeal.Grad

open Idealize.ShloMosaic Idealize.ShloMosaic.TcCoe Idealize.SL.Sem Cert.WinLowIdeal Cert.WinLowIdeal.Gen Cert.Sums

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)

/-- The row of the whole gradient that row `i` of this half is. -/
def row (i : Fin 512) : Fin 1024 := ⟨i.val, by omega⟩

/-- The column of the result that column `j` of block `t` is. -/
def col (t : Fin cfg0.N) (j : Fin 1408) : Fin 5632 := ⟨t.val * 1408 + j.val, by have : cfg0.N = 4 := rfl; omega⟩

theorem blk_x (t : Fin cfg0.N) (i : Fin 512) (k : Fin 4096) : iblk m c 0 t (ix2 i k)
    = m ((c : Thread nD τ).loc main_arg0) (ix2 k (row i)) := by
  trans V m c main_v1 (ix2 (row i) k)
  · blk_ext [iblk, row, idx0 t]
  · unfold V; after_reads_at

theorem blk_dh (t : Fin cfg0.N) (k : Fin 4096) (j : Fin 1408) : iblk m c 1 t (ix2 k j)
    = m ((c : Thread nD τ).loc main_arg2) (ix2 k (col t j)) := by
  trans V m c main_v2 (ix2 k (col t j))
  · blk_ext [iblk, col, idx1 t]
  · unfold V; after_reads_at

/-- What a point stores: zero and the product. -/
theorem pay2 (a : Vec Ideal S512x4096 .bf16) (b : Vec Ideal S4096x1408 .bf16) (i : Fin 512) (j : Fin 1408) :
    k0_pay2 (k0_pay1 (F := Ideal)) a b (ix2 i j) = ∑ k, a (ix2 i k) * b (ix2 k j) := by
  pointwise [k0_pay2, k0_pay1]

theorem pay3 (v : Vec Ideal S512x1408 .f32) : k0_pay3 v = v := by
  funext j
  idx_vars j
  pointwise [k0_pay3]

/-- What a point leaves. -/
theorem after_point (t : Fin cfg0.N) (i : Fin 512) (j : Fin 1408) : (outsAt0 m c t).1 (ix2 i j)
    = tnMul (m ((c : Thread nD τ).loc main_arg0)) (m ((c : Thread nD τ).loc main_arg2)) (row i) (col t j) := by
  unfold outsAt0
  frame_out
  simp only [pay2, blk_x, blk_dh]
  rfl

theorem rounded (t : Fin cfg0.N) : (outsAt0 m c t).2 = (outsAt0 m c t).1 := by
  unfold outsAt0
  frame_out
  exact pay3 _

/-- The half of the gradient, at the precision of the sum. -/
theorem array_f32 : (dats m 0 c).arrAt 2 cfg0.N = arr (a := 512) (b := 5632) fun i =>
    tnMul (m ((c : Thread nD τ).loc main_arg0)) (m ((c : Thread nD τ).loc main_arg2)) (row i) := by
  refine (dats m 0 c).arrAt_eq_of_covers 2 _ (by decide +kernel) fun t hf y => ?_
  blk_simp
  idx_vars y
  have e : (win0_2.blk t).view.emb (ix2 y0 y1) = ix2 y0 (col t y1) := by blk_ext [col, idx2 t]
  rw [e, after0_2]
  exact after_point m c t y0 y1

/-- The same half, rounded. -/
theorem array_bf16 : (dats m 0 c).arrAt 3 cfg0.N = arr (a := 512) (b := 5632) fun i =>
    tnMul (m ((c : Thread nD τ).loc main_arg0)) (m ((c : Thread nD τ).loc main_arg2)) (row i) := by
  refine (dats m 0 c).arrAt_eq_of_covers 3 _ (by decide +kernel) fun t hf y => ?_
  blk_simp
  idx_vars y
  have e : (win0_3.blk t).view.emb (ix2 y0 y1) = ix2 y0 (col t y1) := by blk_ext [col, idx3 t]
  rw [e, after0_3, rounded]
  exact after_point m c t y0 y1

end Cert.WinLowIdeal.Grad

namespace Cert.Proof

open Idealize.ShloMosaic Idealize.SL.Sem Cert.Sums

theorem algebraic_win_low : Cert.algebraic_WinLowIdeal_WinLowRefIdeal (hWinLowIdeal := Cert.WinLowIdeal.Gen.facts)
    (hWinLowRefIdeal := Cert.WinLowRefIdeal.Gen.facts) := by
  intro m g m' g' hpre hargs
  refine ⟨_, _, Cert.WinLowIdeal.Value.run_blocks m g,
    (θ_run Cert.WinLowRefIdeal.defs _ _).mono (fun r h c => ?_) (Cert.WinLowRefIdeal.Value.run m' g')⟩
  obtain ⟨e0, -, e2⟩ := hargs c
  obtain ⟨h0, h1, hk⟩ := h c
  have value : ∀ i j, Cert.WinLowRefIdeal.Read.val_main_v3
      (m' ((c.tc : Thread Cert.WinLowRefIdeal.nD Cert.WinLowRefIdeal.τ).loc Cert.WinLowRefIdeal.main_arg0))
      (m' ((c.tc : Thread Cert.WinLowRefIdeal.nD Cert.WinLowRefIdeal.τ).loc Cert.WinLowRefIdeal.main_arg2)) (ix2 i j)
      = tnMul (m ((c.tc : Thread Cert.WinLowIdeal.nD Cert.WinLowIdeal.τ).loc Cert.WinLowIdeal.main_arg0))
        (m ((c.tc : Thread Cert.WinLowIdeal.nD Cert.WinLowIdeal.τ).loc Cert.WinLowIdeal.main_arg2)) (Cert.WinLowIdeal.Grad.row i) j := fun i j => by
    rw [e0, e2]
    pointwise [Cert.WinLowRefIdeal.Read.val_main_v3, Cert.WinLowRefIdeal.Read.val_main_v2, Cert.WinLowRefIdeal.Read.val_main_v1]
    exact Finset.sum_congr rfl fun k _ => mul_comm _ _
  refine ⟨h0.trans ?_, h1.trans ?_, hk⟩
  · rw [Cert.WinLowRefIdeal.Read.val_main_v3_eq, Cert.WinLowIdeal.Grad.array_f32]
    funext i; idx_vars i; exact value i0 i1
  · rw [Cert.WinLowRefIdeal.Read.val_main_v4_eq, Cert.WinLowIdeal.Grad.array_bf16]
    funext i; idx_vars i; exact value i0 i1

end Cert.Proof

end
-- ==== Proof.WinHighGrad.lean ====
/-
  The gradient of the first weight matrix, the second half of its rows: each block is one product over all the rows.
-/
module

public import proofs.«01_k».proof.Defs
public import proofs.«01_k».proof.Proof.Sums
public import proofs.«01_k».proof.Proof.Gen.WinHighIdeal.Value
public import proofs.«01_k».proof.Proof.Gen.WinHighRefIdeal.Run
public import proofs.«01_k».proof.Proof.Gen.WinHighRefIdeal.Read
public import Idealize.ShloMosaic.Lib.Pipeline.ValueKit
public import Idealize.ShloMosaic.Lib.Claim
public import Idealize.ShloMosaic.Lib.StableHlo.ReadAt

@[expose] public section

set_option maxRecDepth 16384

noncomputable section

namespace Cert.WinHighIdeal.Grad

open Idealize.ShloMosaic Idealize.ShloMosaic.TcCoe Idealize.SL.Sem Cert.WinHighIdeal Cert.WinHighIdeal.Gen Cert.Sums

variable (m : (ℓ : Loc nD τ sig) → Buf (Elt Ideal) ℓ) (c : Dev nD)

theorem idx0 : ∀ t : Fin cfg0.N, win0_0.index t = ![1, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)

/-- The row of the whole gradient that row `i` of this half is. -/
def row (i : Fin 512) : Fin 1024 := ⟨512 + i.val, by omega⟩

/-- The column of the result that column `j` of block `t` is. -/
def col (t : Fin cfg0.N) (j : Fin 1408) : Fin 5632 := ⟨t.val * 1408 + j.val, by have : cfg0.N = 4 := rfl; omega⟩

theorem blk_x (t : Fin cfg0.N) (i : Fin 512) (k : Fin 4096) : iblk m c 0 t (ix2 i k)
    = m ((c : Thread nD τ).loc main_arg0) (ix2 k (row i)) := by
  trans V m c main_v1 (ix2 (row i) k)
  · blk_ext [iblk, row, idx0 t]
  · unfold V; after_reads_at

theorem blk_dh (t : Fin cfg0.N) (k : Fin 4096) (j : Fin 1408) : iblk m c 1 t (ix2 k j)
    = m ((c : Thread nD τ).loc main_arg2) (ix2 k (col t j)) := by
  trans V m c main_v2 (ix2 k (col t j))
  · blk_ext [iblk, col, idx1 t]
  · unfold V; after_reads_at

/-- What a point stores: zero and the product. -/
theorem pay2 (a : Vec Ideal S512x4096 .bf16) (b : Vec Ideal S4096x1408 .bf16) (i : Fin 512) (j : Fin 1408) :
    k0_pay2 (k0_pay1 (F := Ideal)) a b (ix2 i j) = ∑ k, a (ix2 i k) * b (ix2 k j) := by
  pointwise [k0_pay2, k0_pay1]

theorem pay3 (v : Vec Ideal S512x1408 .f32) : k0_pay3 v = v := by
  funext j
  idx_vars j
  pointwise [k0_pay3]

/-- What a point leaves. -/
theorem after_point (t : Fin cfg0.N) (i : Fin 512) (j : Fin 1408) : (outsAt0 m c t).1 (ix2 i j)
    = tnMul (m ((c : Thread nD τ).loc main_arg0)) (m ((c : Thread nD τ).loc main_arg2)) (row i) (col t j) := by
  unfold outsAt0
  frame_out
  simp only [pay2, blk_x, blk_dh]
  rfl

theorem rounded (t : Fin cfg0.N) : (outsAt0 m c t).2 = (outsAt0 m c t).1 := by
  unfold outsAt0
  frame_out
  exact pay3 _

/-- The half of the gradient, at the precision of the sum. -/
theorem array_f32 : (dats m 0 c).arrAt 2 cfg0.N = arr (a := 512) (b := 5632) fun i =>
    tnMul (m ((c : Thread nD τ).loc main_arg0)) (m ((c : Thread nD τ).loc main_arg2)) (row i) := by
  refine (dats m 0 c).arrAt_eq_of_covers 2 _ (by decide +kernel) fun t hf y => ?_
  blk_simp
  idx_vars y
  have e : (win0_2.blk t).view.emb (ix2 y0 y1) = ix2 y0 (col t y1) := by blk_ext [col, idx2 t]
  rw [e, after0_2]
  exact after_point m c t y0 y1

/-- The same half, rounded. -/
theorem array_bf16 : (dats m 0 c).arrAt 3 cfg0.N = arr (a := 512) (b := 5632) fun i =>
    tnMul (m ((c : Thread nD τ).loc main_arg0)) (m ((c : Thread nD τ).loc main_arg2)) (row i) := by
  refine (dats m 0 c).arrAt_eq_of_covers 3 _ (by decide +kernel) fun t hf y => ?_
  blk_simp
  idx_vars y
  have e : (win0_3.blk t).view.emb (ix2 y0 y1) = ix2 y0 (col t y1) := by blk_ext [col, idx3 t]
  rw [e, after0_3, rounded]
  exact after_point m c t y0 y1

end Cert.WinHighIdeal.Grad

namespace Cert.Proof

open Idealize.ShloMosaic Idealize.SL.Sem Cert.Sums

theorem algebraic_win_high : Cert.algebraic_WinHighIdeal_WinHighRefIdeal (hWinHighIdeal := Cert.WinHighIdeal.Gen.facts)
    (hWinHighRefIdeal := Cert.WinHighRefIdeal.Gen.facts) := by
  intro m g m' g' hpre hargs
  refine ⟨_, _, Cert.WinHighIdeal.Value.run_blocks m g,
    (θ_run Cert.WinHighRefIdeal.defs _ _).mono (fun r h c => ?_) (Cert.WinHighRefIdeal.Value.run m' g')⟩
  obtain ⟨e0, -, e2⟩ := hargs c
  obtain ⟨h0, h1, hk⟩ := h c
  have value : ∀ i j, Cert.WinHighRefIdeal.Read.val_main_v3
      (m' ((c.tc : Thread Cert.WinHighRefIdeal.nD Cert.WinHighRefIdeal.τ).loc Cert.WinHighRefIdeal.main_arg0))
      (m' ((c.tc : Thread Cert.WinHighRefIdeal.nD Cert.WinHighRefIdeal.τ).loc Cert.WinHighRefIdeal.main_arg2)) (ix2 i j)
      = tnMul (m ((c.tc : Thread Cert.WinHighIdeal.nD Cert.WinHighIdeal.τ).loc Cert.WinHighIdeal.main_arg0))
        (m ((c.tc : Thread Cert.WinHighIdeal.nD Cert.WinHighIdeal.τ).loc Cert.WinHighIdeal.main_arg2)) (Cert.WinHighIdeal.Grad.row i) j := fun i j => by
    rw [e0, e2]
    pointwise [Cert.WinHighRefIdeal.Read.val_main_v3, Cert.WinHighRefIdeal.Read.val_main_v2, Cert.WinHighRefIdeal.Read.val_main_v1]
    exact Finset.sum_congr rfl fun k _ => mul_comm _ _
  refine ⟨h0.trans ?_, h1.trans ?_, hk⟩
  · rw [Cert.WinHighRefIdeal.Read.val_main_v3_eq, Cert.WinHighIdeal.Grad.array_f32]
    funext i; idx_vars i; exact value i0 i1
  · rw [Cert.WinHighRefIdeal.Read.val_main_v4_eq, Cert.WinHighIdeal.Grad.array_bf16]
    funext i; idx_vars i; exact value i0 i1

end Cert.Proof

end
-- ==== Proof.Logistic.lean ====
/-
  The logistic function over the extended reals, in the two forms the programs write: by way of the hyperbolic tangent
  and by way of the exponential. They are one function, at the infinities too.
-/
module

public import proofs.«01_k».proof.Proof.Forward

@[expose] public section

noncomputable section

namespace Cert.Lift

open Idealize.ShloMosaic

/-- The logistic function. -/
def lgs (z : EReal) : EReal := Ideal.div 1 (1 + Ideal.exp (-z))

theorem lgs_eq (z : EReal) : ((1 / 2 : ℝ) : EReal) * Ideal.tanh (((1 / 2 : ℝ) : EReal) * z) + ((1 / 2 : ℝ) : EReal) = lgs z := by
  induction z using EReal.rec with
  | bot =>
    rw [EReal.coe_mul_bot_of_pos (by norm_num), Ideal.tanh_bot, lgs, EReal.neg_bot, Ideal.exp_top, EReal.add_top_of_ne_bot (x := 1) (EReal.coe_ne_bot 1)]
    show _ = Ideal.div 1 ⊤
    rw [← EReal.coe_one, ← EReal.coe_neg, ← EReal.coe_mul, ← EReal.coe_add]
    norm_num [Ideal.div]
  | coe r => rw [← EReal.coe_mul, Ideal.tanh_coe, ← EReal.coe_mul, ← EReal.coe_add, Spec.sgm_eq_tanh, lgs, Spec.coe_logistic]
  | top =>
    rw [EReal.coe_mul_top_of_pos (by norm_num), Ideal.tanh_top, lgs, EReal.neg_top, Ideal.exp_bot, add_zero, mul_one, ← EReal.coe_add,
      ← EReal.coe_one, coe_div 1 one_ne_zero]
    norm_num

end Cert.Lift

end
-- ==== Proof.ProjValues.lean ====
/-
  The forward pass's first half of a feed-forward block: the argument transposed, the hidden row, and the gated product.
-/
module

public import proofs.«01_k».proof.Defs
public import proofs.«01_k».proof.Proof.Sums
public import proofs.«01_k».proof.Proof.Logistic
public import proofs.«01_k».proof.Proof.Gen.ProjIdeal.Value
public import proofs.«01_k».proof.Proof.Gen.ProjRefIdeal.Run
public import proofs.«01_k».proof.Proof.Gen.ProjRefIdeal.Read
public import Idealize.ShloMosaic.Lib.Pipeline.ValueKit
public import Idealize.ShloMosaic.Lib.Claim
public import Idealize.ShloMosaic.Lib.StableHlo.ReadAt

@[expose] public section

set_option maxRecDepth 16384

noncomputable section

namespace Cert.ProjIdeal.Values

open Idealize.ShloMosaic Idealize.ShloMosaic.TcCoe Idealize.SL.Sem Cert.ProjIdeal Cert.ProjIdeal.Gen Cert.Sums Cert.Lift

/-! ### What is computed -/

section Spec

variable (x : S4096x1024.Idx → EReal) (w : S1024x5632.Idx → EReal)

/-- The hidden row. -/
def hid (t : Fin 4096) (j : Fin 5632) : EReal := ∑ k : Fin 1024, x (ix2 t k) * w (ix2 k j)

/-- The gated product: the gate by the logistic function of the gate, by `up`. -/
def act (t : Fin 4096) (j : Fin 2816) : EReal :=
  hid x w t ⟨j.val, by omega⟩ * lgs (hid x w t ⟨j.val, by omega⟩) * hid x w t ⟨2816 + j.val, by omega⟩

end Spec

/-! ### The body's values, at an index -/

section Body

variable {x : Vec Ideal S512x1024 .f32} {w u : Vec Ideal S1x1024x1408 .bf16} {H U : Fin 512 → Fin 1408 → EReal}

/-- One chunk of the hidden row. -/
def IsHid (x : Vec Ideal S512x1024 .f32) (w : Vec Ideal S1x1024x1408 .bf16) (H : Fin 512 → Fin 1408 → EReal) : Prop :=
  ∀ r j, ∑ k : Fin 1024, x (ix2 r k) * w (ix3 0 k j) = H r j

theorem isHid {X : S4096x1024.Idx → EReal} {W : S1024x5632.Idx → EReal} {row : Fin 512 → Fin 4096} {col : Fin 1408 → Fin 5632}
    (hx : ∀ r k, x (ix2 r k) = X (ix2 (row r) k)) (hw : ∀ k j, w (ix3 0 k j) = W (ix2 k (col j))) :
    IsHid x w fun r j => hid X W (row r) (col j) := fun r j =>
  Finset.sum_congr rfl fun k _ => congrArg₂ (· * ·) (hx r k) (hw k j)

theorem pay6 (d : Fin 1024) (r : Fin 512) : k0_pay6 x (ix2 d r) = x (ix2 r d) := by
  pointwise [k0_pay6, k0_pay5]

theorem pay7 (h : IsHid x w H) (r : Fin 512) (j : Fin 1408) : k0_pay7 x w (ix2 r j) = H r j := by
  pointwise [k0_pay7, k0_pay5]
  exact h r j

theorem pay9 (h : IsHid x w H) (r : Fin 512) (j : Fin 1408) : k0_pay9 x w (ix2 r j) = H r j := by
  pointwise [k0_pay9]
  exact pay7 h r j

theorem pay11 (h : IsHid x w H) (g : IsHid x u U) (r : Fin 512) (j : Fin 1408) :
    k0_pay11 x w u (ix2 r j) = H r j * lgs (H r j) * U r j := by
  pointwise [k0_pay11]
  rw [show k0_pay8 x u = k0_pay7 x u from rfl, pay7 h, pay7 g, word_half, lgs_eq]

theorem pay10_eq : k0_pay10 x w = k0_pay9 x w := rfl

theorem ld_whole (x : Vec Ideal S512x1024 .f32) : View.ld x r0_0 = x := by
  funext j
  idx_vars j
  pointwise

variable (v : Vec Ideal S4x1024x1408 .bf16)

theorem pay13_eq : k0_pay13 x v = k0_pay5 x := by rw [k0_pay13, ld_whole]
theorem pay2_eq : k0_pay2 (k0_pay14 x v) = k0_pay9 x (View.ld v r0_7) := by rw [k0_pay14, ld_whole]; rfl
theorem pay3_eq : k0_pay3 (k0_pay13 x v) w = k0_pay9 x w := by rw [pay13_eq]; rfl
theorem pay4_eq : k0_pay4 (k0_pay13 x v) (k0_pay14 x v) u = k0_pay11 x (View.ld v r0_7) u := by
  rw [pay13_eq, k0_pay14, ld_whole]; rfl

end Body

/-! ### The blocks -/

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

/-- The array row that row `r` of block `t` is. -/
def row (t : Fin cfg0.N) (r : Fin 512) : Fin 4096 := ⟨t.val * 512 + r.val, by have : cfg0.N = 8 := rfl; omega⟩

theorem blk_x (t : Fin cfg0.N) (r : Fin 512) (k : Fin 1024) : iblk m c 0 t (ix2 r k)
    = m ((c : Thread nD τ).loc main_arg0) (ix2 (row t r) k) := by
  trans V m c main_arg0 (ix2 (row t r) k)
  · blk_ext [iblk, row, idx0 t]
  · rw [V_main_arg0 m c]

theorem V_win (q : Fin 4) (d : Fin 1024) (j : Fin 1408) : V m c main_v2 (ix3 q d j)
    = m ((c : Thread nD τ).loc main_arg1) (ix2 d ⟨1408 * q.val + j.val, by omega⟩) := by
  unfold V
  after_reads_at
  congr 2
  apply Fin.ext
  dsimp only
  omega

theorem blk_w (t : Fin cfg0.N) (q : Fin 4) (d : Fin 1024) (j : Fin 1408) : iblk m c 1 t (ix3 q d j)
    = m ((c : Thread nD τ).loc main_arg1) (ix2 d ⟨1408 * q.val + j.val, by omega⟩) := by
  rw [← V_win m c q]; blk_ext [iblk, idx1 t]

/-- A chunk's columns, from the array's column `n`. -/
def chunk (t : Fin cfg0.N) (n : ℕ) (h : n ≤ 4224) (r : Fin 512) (j : Fin 1408) : EReal :=
  hid (m ((c : Thread nD τ).loc main_arg0)) (m ((c : Thread nD τ).loc main_arg1)) (row t r) ⟨n + j.val, by omega⟩

theorem hid0 (t : Fin cfg0.N) : IsHid (iblk m c 0 t) (View.ld (iblk m c 1 t) r0_2) (chunk m c t 0 (by omega)) :=
  isHid (blk_x m c t) fun k j => by
    trans iblk m c 1 t (ix3 0 k j)
    · pointwise
    · exact blk_w m c t 0 k j
theorem hid1 (t : Fin cfg0.N) : IsHid (iblk m c 0 t) (View.ld (iblk m c 1 t) r0_7) (chunk m c t 1408 (by omega)) :=
  isHid (blk_x m c t) fun k j => by
    trans iblk m c 1 t (ix3 1 k j)
    · pointwise
    · exact blk_w m c t 1 k j
theorem hid2 (t : Fin cfg0.N) : IsHid (iblk m c 0 t) (View.ld (iblk m c 1 t) r0_3) (chunk m c t 2816 (by omega)) :=
  isHid (blk_x m c t) fun k j => by
    trans iblk m c 1 t (ix3 2 k j)
    · pointwise
    · exact blk_w m c t 2 k j
theorem hid3 (t : Fin cfg0.N) : IsHid (iblk m c 0 t) (View.ld (iblk m c 1 t) r0_8) (chunk m c t 4224 (by omega)) :=
  isHid (blk_x m c t) fun k j => by
    trans iblk m c 1 t (ix3 3 k j)
    · pointwise
    · exact blk_w m c t 3 k j

/-! ### The result arrays -/

/-- The argument transposed. -/
theorem array_xt : (dats m 0 c).arrAt 2 cfg0.N = arr (a := 1024) (b := 4096) fun d t =>
    m ((c : Thread nD τ).loc main_arg0) (ix2 t d) := by
  refine (dats m 0 c).arrAt_eq_of_covers 2 _ (by decide +kernel) fun t hf y => ?_
  blk_simp
  idx_vars y
  have e : (win0_2.blk t).view.emb (ix2 y0 y1) = ix2 y0 (row t y1) := by blk_ext [row, idx2 t]
  rw [e, after0_2]
  frame_out
  rw [pay6, blk_x]
  rfl

/-- The hidden row. -/
theorem array_h : (dats m 0 c).arrAt 3 cfg0.N = arr (a := 4096) (b := 5632)
    (hid (m ((c : Thread nD τ).loc main_arg0)) (m ((c : Thread nD τ).loc main_arg1))) := by
  refine (dats m 0 c).arrAt_eq_of_covers 3 _ (by decide +kernel) fun t hf y => ?_
  blk_simp
  idx_vars y
  have e : (win0_3.blk t).view.emb (ix2 y0 y1) = ix2 (row t y0) y1 := by blk_ext [row, idx3 t]
  have at_col : ∀ (n : ℕ) (hn : n ≤ 4224) (r : Fin 512) (j : Fin 1408) (_ : n + j.val < 5632), y0.val = r.val → y1.val = n + j.val →
      chunk m c t n hn r j = hid (m ((c : Thread nD τ).loc main_arg0)) (m ((c : Thread nD τ).loc main_arg1)) (row t y0) y1 :=
    fun n hn r j h h0 h1 => by
      obtain rfl : y0 = r := Fin.ext h0
      obtain rfl : y1 = ⟨n + j.val, h⟩ := Fin.ext h1
      rfl
  rw [e, after0_3]
  frame_out
  canon_tiles x hx <;> idx_vars x
  · rw [pay3_eq]; exact (pay9 (hid3 m c t) x0 x1).trans (at_col 4224 (by omega) x0 x1 (by omega) hx0 hx1)
  · rw [pay2_eq]; exact (pay9 (hid1 m c t) x0 x1).trans (at_col 1408 (by omega) x0 x1 (by omega) hx0 hx1)
  · rw [pay10_eq]; exact (pay9 (hid2 m c t) x0 x1).trans (at_col 2816 (by omega) x0 x1 (by omega) hx0 hx1)
  · exact (pay9 (hid0 m c t) x0 x1).trans (at_col 0 (by omega) x0 x1 (by omega) hx0 (hx1.trans (Nat.zero_add _).symm))

/-- The gated product. -/
theorem array_a : (dats m 0 c).arrAt 4 cfg0.N = arr (a := 4096) (b := 2816)
    (act (m ((c : Thread nD τ).loc main_arg0)) (m ((c : Thread nD τ).loc main_arg1))) := by
  refine (dats m 0 c).arrAt_eq_of_covers 4 _ (by decide +kernel) fun t hf y => ?_
  blk_simp
  idx_vars y
  have e : (win0_4.blk t).view.emb (ix2 y0 y1) = ix2 (row t y0) y1 := by blk_ext [row, idx4 t]
  have at_col : ∀ (n : ℕ) (hn : n ≤ 1408) (r : Fin 512) (j : Fin 1408) (_ : n + j.val < 2816), y0.val = r.val → y1.val = n + j.val →
      chunk m c t n (by omega) r j * lgs (chunk m c t n (by omega) r j) * chunk m c t (2816 + n) (by omega) r j
        = act (m ((c : Thread nD τ).loc main_arg0)) (m ((c : Thread nD τ).loc main_arg1)) (row t y0) y1 :=
    fun n hn r j h h0 h1 => by
      obtain rfl : y0 = r := Fin.ext h0
      obtain rfl : y1 = ⟨n + j.val, h⟩ := Fin.ext h1
      simp only [chunk, act, Nat.add_assoc]
  rw [e, after0_4]
  frame_out
  canon_tiles x hx <;> idx_vars x
  · rw [pay4_eq]; exact (pay11 (hid1 m c t) (hid3 m c t) x0 x1).trans (at_col 1408 (by omega) x0 x1 (by omega) hx0 hx1)
  · exact (pay11 (hid0 m c t) (hid2 m c t) x0 x1).trans (at_col 0 (by omega) x0 x1 (by omega) hx0 (hx1.trans (Nat.zero_add _).symm))

end Cert.ProjIdeal.Values

namespace Cert.ProjRefIdeal.Values

open Idealize.ShloMosaic Cert.ProjRefIdeal Cert.ProjRefIdeal.Gen Cert.ProjRefIdeal.Read Cert.Lift Cert.ProjIdeal.Values

variable (x : Vec Ideal S4096x1024 .f32) (w : Vec Ideal S1024x5632 .f32) (t : Fin 4096)

theorem xt (d : Fin 1024) : val_main_v4 x (ix2 d t) = x (ix2 t d) := by
  pointwise [val_main_v4, val_main_v3]

theorem hid (j : Fin 5632) : val_main_v0 x w (ix2 t j) = Cert.ProjIdeal.Values.hid x w t j := by
  pointwise [val_main_v0]
  rfl

theorem act (j : Fin 2816) : val_main_v8 x w (ix2 t j) = Cert.ProjIdeal.Values.act x w t j := by
  pointwise [val_main_v8, val_main_v7, val_main_v6, val_main_call0_v5, val_main_call0_v4, val_main_call0_cst_0, val_main_call0_v3,
    val_main_call0_v2, val_main_call0_cst, val_main_call0_v1, val_main_call0_v0, val_main_v1, val_main_v2]
  simp only [hid]
  rfl

end Cert.ProjRefIdeal.Values

namespace Cert.Proof

open Idealize.ShloMosaic Idealize.SL.Sem

theorem algebraic_proj : Cert.algebraic_ProjIdeal_ProjRefIdeal (hProjIdeal := Cert.ProjIdeal.Gen.facts)
    (hProjRefIdeal := Cert.ProjRefIdeal.Gen.facts) := by
  intro m g m' g' hpre hargs
  refine ⟨_, _, _, Cert.ProjIdeal.Value.run_blocks m g,
    (θ_run Cert.ProjRefIdeal.defs _ _).mono (fun r h c => ?_) (Cert.ProjRefIdeal.Value.run m' g')⟩
  obtain ⟨e0, e1⟩ := hargs c
  obtain ⟨h0, h1, h2, hk⟩ := h c
  refine ⟨h0.trans ?_, h1.trans ?_, h2.trans ?_, hk⟩
  · rw [Cert.ProjRefIdeal.Read.val_main_v4_eq, Cert.ProjIdeal.Values.array_xt, e0]
    funext i; idx_vars i; exact Cert.ProjRefIdeal.Values.xt _ i1 i0
  · rw [Cert.ProjRefIdeal.Read.val_main_v5_eq, Cert.ProjIdeal.Values.array_h, e0, e1]
    funext i; idx_vars i; exact Cert.ProjRefIdeal.Values.hid _ _ i0 i1
  · rw [Cert.ProjRefIdeal.Read.val_main_v8_eq, Cert.ProjIdeal.Values.array_a, e0, e1]
    funext i; idx_vars i; exact Cert.ProjRefIdeal.Values.act _ _ i0 i1

end Cert.Proof

end
-- ==== Proof.Norm.lean ====
/-
  A row of 1024 extended reals normalised: its mean, the row less its mean, the reciprocal deviation, the normalised row,
  and the row scaled and shifted.
-/
module

public import proofs.«01_k».proof.Proof.Lift

@[expose] public section

noncomputable section

namespace Cert.Norm

open Idealize.ShloMosaic Cert.Lift

variable (f : Fin 1024 → EReal)

/-- The row's mean. -/
def rmean : EReal := Ideal.div (∑ k, f k) ((1024 : ℝ) : EReal)

/-- The row less its mean. -/
def rcen (d : Fin 1024) : EReal := f d - rmean f

/-- The reciprocal square root of the variance and `ε`. -/
def rdev : EReal := Ideal.rsqrt (rmean (fun d => rcen f d * rcen f d) + (eps : EReal))

/-- The normalised row. -/
def rnrm (d : Fin 1024) : EReal := rcen f d * rdev f

/-- The normalised row, scaled and shifted. -/
def rln (g b : Fin 1024 → EReal) (d : Fin 1024) : EReal := rnrm f d * g d + b d

end Cert.Norm

end
-- ==== Proof.OutValues.lean ====
/-
  The forward pass's second half of a feed-forward block: the residual sum normalised, scaled and shifted, with the
  normalised row and the reciprocal deviation that the backward pass reads.
-/
module

public import proofs.«01_k».proof.Defs
public import proofs.«01_k».proof.Proof.Sums
public import proofs.«01_k».proof.Proof.Norm
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Claim
public import Idealize.ShloMosaic.Lib.StableHlo.ReadAt

@[expose] public section

set_option maxRecDepth 16384

noncomputable section

namespace Cert.OutIdeal.Values

open Idealize.ShloMosaic Idealize.ShloMosaic.TcCoe Idealize.SL.Sem Cert.OutIdeal Cert.OutIdeal.Gen Cert.Sums Cert.Lift Cert.Norm

/-- The residual sum: the argument by `α` and half of the gated product by the second weight. -/
def res (x : S4096x1024.Idx → EReal) (a : S4096x2816.Idx → EReal) (w : S2816x1024.Idx → EReal) (t : Fin 4096)
    (d : Fin 1024) : EReal :=
  (alpha : EReal) * x (ix2 t d) + ((1 / 2 : ℝ) : EReal) * ∑ k : Fin 2816, a (ix2 t k) * w (ix2 k d)

/-! ### The body's values, at an index -/

section Body

variable {a : Vec Ideal S1024x2816 .bf16} {w : Vec Ideal S2816x1024 .bf16} {x : Vec Ideal S1024x1024 .f32}
variable {F : Fin 1024 → Fin 1024 → EReal}

/-- The block's residual sums. -/
def IsRes (a : Vec Ideal S1024x2816 .bf16) (w : Vec Ideal S2816x1024 .bf16) (x : Vec Ideal S1024x1024 .f32)
    (F : Fin 1024 → Fin 1024 → EReal) : Prop :=
  ∀ r d, (alpha : EReal) * x (ix2 r d) + ((1 / 2 : ℝ) : EReal) * ∑ k : Fin 2816, a (ix2 r k) * w (ix2 k d) = F r d

theorem pay1 (h : IsRes a w x F) (r d : Fin 1024) : k0_pay1 a w x (ix2 r d) = rcen (F r) d := by
  pointwise [k0_pay1]
  simp only [word_alpha, word_half, word_1024, h r]
  rfl

theorem pay2 (h : IsRes a w x F) (r : Fin 1024) : k0_pay2 a w x (ix2 r 0) = rdev (F r) := by
  pointwise [k0_pay2]
  simp only [word_1024, word_eps, pay1 h]
  rfl

theorem pay3 (h : IsRes a w x F) (r d : Fin 1024) : k0_pay3 a w x (ix2 r d) = rnrm (F r) d := by
  pointwise [k0_pay3]
  rw [pay1 h, pay2 h]
  rfl

theorem pay4 (h : IsRes a w x F) (g b : Vec Ideal S1x1024 .f32) (r d : Fin 1024) : k0_pay4 a w x g b (ix2 r d)
    = rln (F r) (fun d => g (ix2 0 d)) (fun d => b (ix2 0 d)) d := by
  pointwise [k0_pay4]
  rw [pay3 h]
  rfl

end Body

/-! ### The blocks -/

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The array row that row `r` of block `t` is. -/
def row (t : Fin cfg0.N) (r : Fin 1024) : Fin 4096 := ⟨t.val * 1024 + r.val, by have : cfg0.N = 4 := rfl; omega⟩

theorem blk_x (t : Fin cfg0.N) (r d : Fin 1024) : iblk m c 0 t (ix2 r d)
    = m ((c : Thread nD τ).loc main_arg0) (ix2 (row t r) d) := by
  trans V m c main_arg0 (ix2 (row t r) d)
  · blk_ext [iblk, row, idx0 t]
  · rw [V_main_arg0 m c]

theorem blk_a (t : Fin cfg0.N) (r : Fin 1024) (k : Fin 2816) : iblk m c 1 t (ix2 r k)
    = m ((c : Thread nD τ).loc main_arg1) (ix2 (row t r) k) := by
  trans V m c main_v0 (ix2 (row t r) k)
  · blk_ext [iblk, row, idx1 t]
  · unfold V; after_reads_at

theorem blk_w (t : Fin cfg0.N) (k : Fin 2816) (d : Fin 1024) : iblk m c 2 t (ix2 k d)
    = m ((c : Thread nD τ).loc main_arg2) (ix2 k d) := by
  trans V m c main_v1 (ix2 k d)
  · blk_ext [iblk, idx2 t]
  · unfold V; after_reads_at

theorem blk_g (t : Fin cfg0.N) (d : Fin 1024) : iblk m c 3 t (ix2 0 d) = m ((c : Thread nD τ).loc main_arg3) (ix1 d) := by
  trans V m c main_v2 (ix2 0 d)
  · blk_ext [iblk, idx3 t]
  · unfold V; after_reads_at

theorem blk_b (t : Fin cfg0.N) (d : Fin 1024) : iblk m c 4 t (ix2 0 d) = m ((c : Thread nD τ).loc main_arg4) (ix1 d) := by
  trans V m c main_v3 (ix2 0 d)
  · blk_ext [iblk, idx4 t]
  · unfold V; after_reads_at

/-- The residual sums of the arguments. -/
def argRes (t : Fin 4096) : Fin 1024 → EReal :=
  res (m ((c : Thread nD τ).loc main_arg0)) (m ((c : Thread nD τ).loc main_arg1)) (m ((c : Thread nD τ).loc main_arg2)) t

theorem isRes (t : Fin cfg0.N) : IsRes (iblk m c 1 t) (iblk m c 2 t) (iblk m c 0 t) fun r => argRes m c (row t r) := fun r d =>
  congrArg₂ (fun p q : EReal => (alpha : EReal) * p + ((1 / 2 : ℝ) : EReal) * q) (blk_x m c t r d)
    (Finset.sum_congr rfl fun k _ => congrArg₂ (fun p q : EReal => p * q) (blk_a m c t r k) (blk_w m c t k d))

/-! ### The result arrays -/

/-- The normalised row scaled and shifted. -/
theorem array_y : (dats m 0 c).arrAt 5 cfg0.N = arr (a := 4096) (b := 1024) fun t => rln (argRes m c t)
    (fun d => m ((c : Thread nD τ).loc main_arg3) (ix1 d)) (fun d => m ((c : Thread nD τ).loc main_arg4) (ix1 d)) := by
  refine (dats m 0 c).arrAt_eq_of_covers 5 _ (by decide +kernel) fun t hf y => ?_
  blk_simp
  idx_vars y
  have e : (win0_5.blk t).view.emb (ix2 y0 y1) = ix2 (row t y0) y1 := by blk_ext [row, idx5 t]
  rw [e, after0_5]
  frame_out
  rw [pay4 (isRes m c t)]
  simp only [blk_g, blk_b]
  rfl

/-- The normalised row. -/
theorem array_xh : (dats m 0 c).arrAt 6 cfg0.N = arr (a := 4096) (b := 1024) fun t => rnrm (argRes m c t) := by
  refine (dats m 0 c).arrAt_eq_of_covers 6 _ (by decide +kernel) fun t hf y => ?_
  blk_simp
  idx_vars y
  have e : (win0_6.blk t).view.emb (ix2 y0 y1) = ix2 (row t y0) y1 := by blk_ext [row, idx6 t]
  rw [e, after0_6]
  frame_out
  rw [pay3 (isRes m c t)]
  rfl

/-- The reciprocal deviation. -/
theorem array_dev : (dats m 0 c).arrAt 7 cfg0.N = arr (a := 4096) (b := 1) fun t _ => rdev (argRes m c t) := by
  refine (dats m 0 c).arrAt_eq_of_covers 7 _ (by decide +kernel) fun t hf y => ?_
  blk_simp
  idx_vars y
  obtain rfl : y1 = 0 := Subsingleton.elim _ _
  have e : (win0_7.blk t).view.emb (ix2 y0 0) = ix2 (row t y0) 0 := by blk_ext [row, idx7 t]
  rw [e, after0_7]
  frame_out
  rw [pay2 (isRes m c t)]
  rfl

end Cert.OutIdeal.Values

namespace Cert.OutRefIdeal.Values

open Idealize.ShloMosaic Cert.OutRefIdeal Cert.OutRefIdeal.Gen Cert.OutRefIdeal.Read Cert.Lift Cert.Norm
open Cert.OutIdeal.Values (res)

variable (x : Vec Ideal S4096x1024 .f32) (a : Vec Ideal S4096x2816 .f32) (w : Vec Ideal S2816x1024 .f32)
  (g b : Vec Ideal S1024 .f32) (t : Fin 4096)

theorem sum (d : Fin 1024) : val_main_v5 x a w (ix2 t d) = res x a w t d := by
  pointwise [val_main_v5, val_main_v4, val_main_v3, val_main_cst_0, val_main_v2, val_main_v1, val_main_v0, val_main_cst]
  rw [word_alpha, word_half]
  rfl

theorem mean : val_main_v9 x a w (ix2 t 0) = rmean (res x a w t) := by
  pointwise [val_main_v9, val_main_v8, val_main_cst_2, val_main_v7, val_main_v6, val_main_cst_1]
  simp only [sum, word_1024]
  rfl

theorem cen (d : Fin 1024) : val_main_v11 x a w (ix2 t d) = rcen (res x a w t) d := by
  pointwise [val_main_v11, val_main_v10]
  rw [sum, mean]
  rfl

theorem dev : val_main_v19 x a w (ix2 t 0) = rdev (res x a w t) := by
  pointwise [val_main_v19, val_main_v18, val_main_v17, val_main_cst_5, val_main_v16, val_main_v15, val_main_cst_4,
    val_main_v14, val_main_v13, val_main_cst_3, val_main_v12]
  simp only [cen, word_1024, word_eps]
  rfl

theorem nrm (d : Fin 1024) : val_main_v47 x a w (ix2 t d) = rnrm (res x a w t) d := by
  pointwise [val_main_v47, val_main_v46]
  rw [dev, show val_main_v45 x a w (ix2 t d) = rcen (res x a w t) d from cen x a w t d]
  rfl

theorem ln (d : Fin 1024) : val_main_v43 x a w g b (ix2 t d) = rln (res x a w t) (fun d => g (ix1 d)) (fun d => b (ix1 d)) d := by
  pointwise [val_main_v43, val_main_v42, val_main_v41, val_main_v40, val_main_v39, val_main_v38]
  rw [show val_main_v37 x a w (ix2 t d) = rnrm (res x a w t) d from nrm x a w t d]
  rfl

end Cert.OutRefIdeal.Values

namespace Cert.Proof

open Idealize.ShloMosaic Idealize.SL.Sem

theorem algebraic_out : Cert.algebraic_OutIdeal_OutRefIdeal (hOutIdeal := Cert.OutIdeal.Gen.facts)
    (hOutRefIdeal := Cert.OutRefIdeal.Gen.facts) := by
  intro m g m' g' hpre hargs
  refine ⟨_, _, _, Cert.OutIdeal.Value.run_blocks m g,
    (θ_run Cert.OutRefIdeal.defs _ _).mono (fun r h c => ?_) (Cert.OutRefIdeal.Value.run m' g')⟩
  obtain ⟨e0, e1, e2, e3, e4⟩ := hargs c
  obtain ⟨h0, h1, h2, hk⟩ := h c
  refine ⟨h0.trans ?_, h1.trans ?_, h2.trans ?_, hk⟩
  · rw [Cert.OutRefIdeal.Read.val_main_v43_eq, Cert.OutIdeal.Values.array_y, e0, e1, e2, e3, e4]
    funext i; idx_vars i; exact Cert.OutRefIdeal.Values.ln _ _ _ _ _ i0 i1
  · rw [Cert.OutRefIdeal.Read.val_main_v47_eq, Cert.OutIdeal.Values.array_xh, e0, e1, e2]
    funext i; idx_vars i; exact Cert.OutRefIdeal.Values.nrm _ _ _ i0 i1
  · rw [Cert.OutRefIdeal.Read.val_main_v19_eq, Cert.OutIdeal.Values.array_dev, e0, e1, e2]
    funext i; idx_vars i
    obtain rfl : i1 = 0 := Subsingleton.elim _ _
    exact Cert.OutRefIdeal.Values.dev _ _ _ i0

end Cert.Proof

end
-- ==== Proof.MixinValues.lean ====
/-
  The combined input projection, forward: the transposed argument, and the product's three runs of columns.
-/
module

public import proofs.«01_k».proof.Defs
public import proofs.«01_k».proof.Proof.Sums
public import proofs.«01_k».proof.Proof.Gen.MixinIdeal.Value
public import proofs.«01_k».proof.Proof.Gen.MixinRefIdeal.Run
public import proofs.«01_k».proof.Proof.Gen.MixinRefIdeal.Read
public import Idealize.ShloMosaic.Lib.Pipeline.ValueKit
public import Idealize.ShloMosaic.Lib.Claim
public import Idealize.ShloMosaic.Lib.StableHlo.ReadAt

@[expose] public section

set_option maxRecDepth 16384

noncomputable section

namespace Cert.MixinIdeal.Values

open Idealize.ShloMosaic Idealize.ShloMosaic.TcCoe Idealize.SL.Sem Cert.MixinIdeal Cert.MixinIdeal.Gen Cert.Sums

/-- An element of the product. -/
def prj (x : S4096x1024.Idx → EReal) (w : S1024x3584.Idx → EReal) (t : Fin 4096) (j : Fin 3584) : EReal :=
  ∑ k : Fin 1024, x (ix2 t k) * w (ix2 k j)

/-! ### The body's values, at an index -/

section Body

variable (x : Vec Ideal S512x1024 .f32)

theorem pay2 (d : Fin 1024) (r : Fin 512) : k0_pay2 x (ix2 d r) = x (ix2 r d) := by
  pointwise [k0_pay2, k0_pay1]

theorem pay3 (w : Vec Ideal S1024x512 .bf16) (r j : Fin 512) : k0_pay3 x w (ix2 r j) = ∑ k, x (ix2 r k) * w (ix2 k j) := by
  pointwise [k0_pay3, k0_pay1]

theorem pay4 (w : Vec Ideal S1024x1024 .bf16) (r : Fin 512) (j : Fin 1024) :
    k0_pay4 x w (ix2 r j) = ∑ k, x (ix2 r k) * w (ix2 k j) := by
  pointwise [k0_pay4, k0_pay1]

theorem pay5 (w : Vec Ideal S1024x2048 .bf16) (r : Fin 512) (j : Fin 2048) :
    k0_pay5 x w (ix2 r j) = ∑ k, x (ix2 r k) * w (ix2 k j) := by
  pointwise [k0_pay5, k0_pay1]

end Body

/-! ### The blocks -/

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

/-- The array row that row `r` of block `t` is. -/
def row (t : Fin cfg0.N) (r : Fin 512) : Fin 4096 := ⟨t.val * 512 + r.val, by have : cfg0.N = 8 := rfl; omega⟩

theorem blk_x (t : Fin cfg0.N) (r : Fin 512) (d : Fin 1024) : iblk m c 0 t (ix2 r d)
    = m ((c : Thread nD τ).loc main_arg0) (ix2 (row t r) d) := by
  trans V m c main_arg0 (ix2 (row t r) d)
  · blk_ext [iblk, row, idx0 t]
  · rw [V_main_arg0 m c]

theorem blk_w (t : Fin cfg0.N) (k : Fin 1024) (j : Fin 3584) : iblk m c 1 t (ix2 k j)
    = m ((c : Thread nD τ).loc main_arg1) (ix2 k j) := by
  trans V m c main_v0 (ix2 k j)
  · blk_ext [iblk, idx1 t]
  · unfold V; after_reads_at

/-- The columns of the product that the three runs are. -/
def col0 (j : Fin 512) : Fin 3584 := ⟨j.val, by omega⟩
def col1 (j : Fin 1024) : Fin 3584 := ⟨512 + j.val, by omega⟩
def col2 (j : Fin 2048) : Fin 3584 := ⟨1536 + j.val, by omega⟩

theorem blk_w0 (t : Fin cfg0.N) (k : Fin 1024) (j : Fin 512) : View.ld (iblk m c 1 t) r0_2 (ix2 k j)
    = m ((c : Thread nD τ).loc main_arg1) (ix2 k (col0 j)) := by
  trans iblk m c 1 t (ix2 k (col0 j))
  · pointwise [col0]
  · exact blk_w m c t k _

theorem blk_w1 (t : Fin cfg0.N) (k j : Fin 1024) : View.ld (iblk m c 1 t) r0_4 (ix2 k j)
    = m ((c : Thread nD τ).loc main_arg1) (ix2 k (col1 j)) := by
  trans iblk m c 1 t (ix2 k (col1 j))
  · pointwise [col1]
  · exact blk_w m c t k _

theorem blk_w2 (t : Fin cfg0.N) (k : Fin 1024) (j : Fin 2048) : View.ld (iblk m c 1 t) r0_5 (ix2 k j)
    = m ((c : Thread nD τ).loc main_arg1) (ix2 k (col2 j)) := by
  trans iblk m c 1 t (ix2 k (col2 j))
  · pointwise [col2]
  · exact blk_w m c t k _

/-! ### The result arrays -/

/-- The product of the arguments. -/
def argPrj : Fin 4096 → Fin 3584 → EReal := prj (m ((c : Thread nD τ).loc main_arg0)) (m ((c : Thread nD τ).loc main_arg1))

theorem array_xt : (dats m 0 c).arrAt 2 cfg0.N = arr (a := 1024) (b := 4096) fun d t =>
    m ((c : Thread nD τ).loc main_arg0) (ix2 t d) := by
  refine (dats m 0 c).arrAt_eq_of_covers 2 _ (by decide +kernel) fun t hf y => ?_
  blk_simp
  idx_vars y
  have e : (win0_2.blk t).view.emb (ix2 y0 y1) = ix2 y0 (row t y1) := by blk_ext [row, idx2 t]
  rw [e, after0_2]
  frame_out
  rw [pay2]
  exact blk_x m c t y1 y0

theorem array_a : (dats m 0 c).arrAt 3 cfg0.N = arr (a := 4096) (b := 512) fun t j => argPrj m c t (col0 j) := by
  refine (dats m 0 c).arrAt_eq_of_covers 3 _ (by decide +kernel) fun t hf y => ?_
  blk_simp
  idx_vars y
  have e : (win0_3.blk t).view.emb (ix2 y0 y1) = ix2 (row t y0) y1 := by blk_ext [row, idx3 t]
  rw [e, after0_3]
  frame_out
  rw [pay3]
  exact Finset.sum_congr rfl fun k _ => congrArg₂ (fun p q : EReal => p * q) (blk_x m c t y0 k) (blk_w0 m c t k y1)

theorem array_uv : (dats m 0 c).arrAt 4 cfg0.N = arr (a := 4096) (b := 1024) fun t j => argPrj m c t (col1 j) := by
  refine (dats m 0 c).arrAt_eq_of_covers 4 _ (by decide +kernel) fun t hf y => ?_
  blk_simp
  idx_vars y
  have e : (win0_4.blk t).view.emb (ix2 y0 y1) = ix2 (row t y0) y1 := by blk_ext [row, idx4 t]
  rw [e, after0_4]
  frame_out
  rw [pay4]
  exact Finset.sum_congr rfl fun k _ => congrArg₂ (fun p q : EReal => p * q) (blk_x m c t y0 k) (blk_w1 m c t k y1)

theorem array_g : (dats m 0 c).arrAt 5 cfg0.N = arr (a := 4096) (b := 2048) fun t j => argPrj m c t (col2 j) := by
  refine (dats m 0 c).arrAt_eq_of_covers 5 _ (by decide +kernel) fun t hf y => ?_
  blk_simp
  idx_vars y
  have e : (win0_5.blk t).view.emb (ix2 y0 y1) = ix2 (row t y0) y1 := by blk_ext [row, idx5 t]
  rw [e, after0_5]
  frame_out
  rw [pay5]
  exact Finset.sum_congr rfl fun k _ => congrArg₂ (fun p q : EReal => p * q) (blk_x m c t y0 k) (blk_w2 m c t k y1)

end Cert.MixinIdeal.Values

namespace Cert.MixinRefIdeal.Values

open Idealize.ShloMosaic Cert.MixinRefIdeal Cert.MixinRefIdeal.Gen Cert.MixinRefIdeal.Read
open Cert.MixinIdeal.Values (prj col0 col1 col2)

variable (x : Vec Ideal S4096x1024 .f32) (w : Vec Ideal S1024x3584 .f32) (t : Fin 4096)

theorem product (j : Fin 3584) : val_main_v0 x w (ix2 t j) = prj x w t j := by
  pointwise [val_main_v0]
  rfl

theorem xt (d : Fin 1024) : val_main_v5 x (ix2 d t) = x (ix2 t d) := by
  pointwise [val_main_v5, val_main_v4]

theorem za (j : Fin 512) : val_main_v6 x w (ix2 t j) = prj x w t (col0 j) := by
  rw [← product]
  pointwise [val_main_v6, val_main_v1, col0]

theorem zuv (j : Fin 1024) : val_main_v7 x w (ix2 t j) = prj x w t (col1 j) := by
  rw [← product]
  pointwise [val_main_v7, val_main_v2, col1]

theorem gab (j : Fin 2048) : val_main_v8 x w (ix2 t j) = prj x w t (col2 j) := by
  rw [← product]
  pointwise [val_main_v8, val_main_v3, col2]

end Cert.MixinRefIdeal.Values

namespace Cert.Proof

open Idealize.ShloMosaic Idealize.SL.Sem

theorem algebraic_mixin : Cert.algebraic_MixinIdeal_MixinRefIdeal (hMixinIdeal := Cert.MixinIdeal.Gen.facts)
    (hMixinRefIdeal := Cert.MixinRefIdeal.Gen.facts) := by
  intro m g m' g' hpre hargs
  refine ⟨_, _, _, _, Cert.MixinIdeal.Value.run_blocks m g,
    (θ_run Cert.MixinRefIdeal.defs _ _).mono (fun r h c => ?_) (Cert.MixinRefIdeal.Value.run m' g')⟩
  obtain ⟨e0, e1⟩ := hargs c
  obtain ⟨h0, h1, h2, h3, hk⟩ := h c
  refine ⟨h0.trans ?_, h1.trans ?_, h2.trans ?_, h3.trans ?_, hk⟩
  · rw [Cert.MixinRefIdeal.Read.val_main_v5_eq, Cert.MixinIdeal.Values.array_xt, e0]
    funext i; idx_vars i; exact Cert.MixinRefIdeal.Values.xt _ i1 i0
  · rw [Cert.MixinRefIdeal.Read.val_main_v6_eq, Cert.MixinIdeal.Values.array_a, e0, e1]
    funext i; idx_vars i; exact Cert.MixinRefIdeal.Values.za _ _ i0 i1
  · rw [Cert.MixinRefIdeal.Read.val_main_v7_eq, Cert.MixinIdeal.Values.array_uv, e0, e1]
    funext i; idx_vars i; exact Cert.MixinRefIdeal.Values.zuv _ _ i0 i1
  · rw [Cert.MixinRefIdeal.Read.val_main_v8_eq, Cert.MixinIdeal.Values.array_g, e0, e1]
    funext i; idx_vars i; exact Cert.MixinRefIdeal.Values.gab _ _ i0 i1

end Cert.Proof

end
-- ==== Proof.MixinGradValues.lean ====
/-
  The combined input projection, backward: the gradient that comes by the residual path and the products of the three
  runs' gradients with their columns of the weight.
-/
module

public import proofs.«01_k».proof.Defs
public import proofs.«01_k».proof.Proof.Sums
public import proofs.«01_k».proof.Proof.Gen.MixinGradIdeal.Value
public import proofs.«01_k».proof.Proof.Gen.MixinGradRefIdeal.Run
public import proofs.«01_k».proof.Proof.Gen.MixinGradRefIdeal.Read
public import Idealize.ShloMosaic.Lib.Pipeline.ValueKit
public import Idealize.ShloMosaic.Lib.Claim
public import Idealize.ShloMosaic.Lib.StableHlo.ReadAt

@[expose] public section

set_option maxRecDepth 16384

noncomputable section

namespace Cert.MixinGradIdeal.Values

open Idealize.ShloMosaic Idealize.ShloMosaic.TcCoe Idealize.SL.Sem Cert.MixinGradIdeal Cert.MixinGradIdeal.Gen Cert.Sums

/-- The columns of the product that the three runs are. -/
def col0 (j : Fin 512) : Fin 3584 := ⟨j.val, by omega⟩
def col1 (j : Fin 1024) : Fin 3584 := ⟨512 + j.val, by omega⟩
def col2 (j : Fin 2048) : Fin 3584 := ⟨1536 + j.val, by omega⟩

/-- A row of the gradient, from a row of each array and the weight. -/
def grd (d : Fin 1024 → EReal) (a : Fin 512 → EReal) (uv : Fin 1024 → EReal) (g : Fin 2048 → EReal)
    (w : S1024x3584.Idx → EReal) (i : Fin 1024) : EReal :=
  d i + (∑ j, a j * w (ix2 i (col0 j)) + ∑ j, uv j * w (ix2 i (col1 j)) + ∑ j, g j * w (ix2 i (col2 j)))

theorem pay1 (d : Vec Ideal S512x1024 .f32) (a : Vec Ideal S512x512 .bf16) (wa : Vec Ideal S1024x512 .bf16)
    (uv : Vec Ideal S512x1024 .bf16) (wuv : Vec Ideal S1024x1024 .bf16) (g : Vec Ideal S512x2048 .bf16)
    (wg : Vec Ideal S1024x2048 .bf16) (r : Fin 512) (i : Fin 1024) : k0_pay1 d a wa uv wuv g wg (ix2 r i)
    = d (ix2 r i) + (∑ j, a (ix2 r j) * wa (ix2 i j)) + (∑ j, uv (ix2 r j) * wuv (ix2 i j))
      + ∑ j, g (ix2 r j) * wg (ix2 i j) := by
  pointwise [k0_pay1]

/-! ### The blocks -/

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)

/-- The array row that row `r` of block `t` is. -/
def row (t : Fin cfg0.N) (r : Fin 512) : Fin 4096 := ⟨t.val * 512 + r.val, by have : cfg0.N = 8 := rfl; omega⟩

theorem blk_d (t : Fin cfg0.N) (r : Fin 512) (d : Fin 1024) : iblk m c 0 t (ix2 r d)
    = m ((c : Thread nD τ).loc main_arg2) (ix2 (row t r) d) := by
  trans V m c main_arg2 (ix2 (row t r) d)
  · blk_ext [iblk, row, idx0 t]
  · rw [V_main_arg2 m c]

theorem blk_a (t : Fin cfg0.N) (r : Fin 512) (j : Fin 512) : iblk m c 1 t (ix2 r j)
    = m ((c : Thread nD τ).loc main_arg3) (ix2 (row t r) j) := by
  trans V m c main_v0 (ix2 (row t r) j)
  · blk_ext [iblk, row, idx1 t]
  · unfold V; after_reads_at

theorem blk_uv (t : Fin cfg0.N) (r : Fin 512) (j : Fin 1024) : iblk m c 2 t (ix2 r j)
    = m ((c : Thread nD τ).loc main_arg4) (ix2 (row t r) j) := by
  trans V m c main_v1 (ix2 (row t r) j)
  · blk_ext [iblk, row, idx2 t]
  · unfold V; after_reads_at

theorem blk_g (t : Fin cfg0.N) (r : Fin 512) (j : Fin 2048) : iblk m c 3 t (ix2 r j)
    = m ((c : Thread nD τ).loc main_arg5) (ix2 (row t r) j) := by
  trans V m c main_v2 (ix2 (row t r) j)
  · blk_ext [iblk, row, idx3 t]
  · unfold V; after_reads_at

theorem blk_w (t : Fin cfg0.N) (k : Fin 1024) (j : Fin 3584) : iblk m c 4 t (ix2 k j)
    = m ((c : Thread nD τ).loc main_arg1) (ix2 k j) := by
  trans V m c main_v3 (ix2 k j)
  · blk_ext [iblk, idx4 t]
  · unfold V; after_reads_at

theorem blk_w0 (t : Fin cfg0.N) (k : Fin 1024) (j : Fin 512) : View.ld (iblk m c 4 t) r0_2 (ix2 k j)
    = m ((c : Thread nD τ).loc main_arg1) (ix2 k (col0 j)) := by
  trans iblk m c 4 t (ix2 k (col0 j))
  · pointwise [col0]
  · exact blk_w m c t k _

theorem blk_w1 (t : Fin cfg0.N) (k j : Fin 1024) : View.ld (iblk m c 4 t) r0_3 (ix2 k j)
    = m ((c : Thread nD τ).loc main_arg1) (ix2 k (col1 j)) := by
  trans iblk m c 4 t (ix2 k (col1 j))
  · pointwise [col1]
  · exact blk_w m c t k _

theorem blk_w2 (t : Fin cfg0.N) (k : Fin 1024) (j : Fin 2048) : View.ld (iblk m c 4 t) r0_5 (ix2 k j)
    = m ((c : Thread nD τ).loc main_arg1) (ix2 k (col2 j)) := by
  trans iblk m c 4 t (ix2 k (col2 j))
  · pointwise [col2]
  · exact blk_w m c t k _

/-! ### The result array -/

theorem array_dx : (dats m 0 c).arrAt 5 cfg0.N = arr (a := 4096) (b := 1024) fun t =>
    grd (fun i => m ((c : Thread nD τ).loc main_arg2) (ix2 t i)) (fun j => m ((c : Thread nD τ).loc main_arg3) (ix2 t j))
      (fun j => m ((c : Thread nD τ).loc main_arg4) (ix2 t j)) (fun j => m ((c : Thread nD τ).loc main_arg5) (ix2 t j))
      (m ((c : Thread nD τ).loc main_arg1)) := by
  refine (dats m 0 c).arrAt_eq_of_covers 5 _ (by decide +kernel) fun t hf y => ?_
  blk_simp
  idx_vars y
  have e : (win0_5.blk t).view.emb (ix2 y0 y1) = ix2 (row t y0) y1 := by blk_ext [row, idx5 t]
  rw [e, after0_5]
  frame_out
  rw [pay1]
  simp only [blk_d, blk_a, blk_uv, blk_g, blk_w0, blk_w1, blk_w2]
  exact (congrArg (fun p : EReal => p + _) (add_assoc _ _ _)).trans (add_assoc _ _ _)

end Cert.MixinGradIdeal.Values

namespace Cert.MixinGradRefIdeal.Values

open Idealize.ShloMosaic Cert.MixinGradRefIdeal Cert.MixinGradRefIdeal.Gen Cert.MixinGradRefIdeal.Read
open Cert.MixinGradIdeal.Values (grd col0 col1 col2)

variable (w : Vec Ideal S1024x3584 .f32) (d : Vec Ideal S4096x1024 .f32) (a : Vec Ideal S4096x512 .f32)
  (uv : Vec Ideal S4096x1024 .f32) (g : Vec Ideal S4096x2048 .f32) (t : Fin 4096)

/-- A sum over the columns, in the three runs. -/
theorem sum_cols (f : Fin 3584 → EReal) :
    ∑ j, f j = ∑ j, f (col0 j) + ∑ j, f (col1 j) + ∑ j, f (col2 j) := by
  rw [show ∑ j, f j = _ from Fin.sum_univ_add (a := 1536) (b := 2048) f,
    Fin.sum_univ_add (a := 512) (b := 1024) fun j => f (Fin.castAdd 2048 j)]
  rfl

theorem run0 (j : Fin 512) : val_main_v4 a uv g (ix2 t (col0 j)) = a (ix2 t j) := by
  pointwise [val_main_v4, col0]

theorem run1 (j : Fin 1024) : val_main_v4 a uv g (ix2 t (col1 j)) = uv (ix2 t j) := by
  pointwise [val_main_v4, col1]

theorem run2 (j : Fin 2048) : val_main_v4 a uv g (ix2 t (col2 j)) = g (ix2 t j) := by
  pointwise [val_main_v4, col2]
  rw [dif_neg (by omega), dif_neg (by omega)]
  exact congrArg (fun k => g (ix2 t k)) (Fin.ext (by simp only; omega))

theorem dx (i : Fin 1024) : val_main_v6 w d a uv g (ix2 t i) = grd (fun i => d (ix2 t i)) (fun j => a (ix2 t j))
    (fun j => uv (ix2 t j)) (fun j => g (ix2 t j)) w i := by
  pointwise [val_main_v6, val_main_v5]
  rw [sum_cols]
  simp only [run0, run1, run2]
  rfl

end Cert.MixinGradRefIdeal.Values

namespace Cert.Proof

open Idealize.ShloMosaic Idealize.SL.Sem

theorem algebraic_mixin_grad : Cert.algebraic_MixinGradIdeal_MixinGradRefIdeal (hMixinGradIdeal := Cert.MixinGradIdeal.Gen.facts)
    (hMixinGradRefIdeal := Cert.MixinGradRefIdeal.Gen.facts) := by
  intro m g m' g' hpre hargs
  refine ⟨_, Cert.MixinGradIdeal.Value.run_blocks m g,
    (θ_run Cert.MixinGradRefIdeal.defs _ _).mono (fun r h c => ?_) (Cert.MixinGradRefIdeal.Value.run m' g')⟩
  obtain ⟨-, e1, e2, e3, e4, e5⟩ := hargs c
  obtain ⟨h0, hk⟩ := h c
  refine ⟨h0.trans ?_, hk⟩
  rw [Cert.MixinGradRefIdeal.Read.val_main_v6_eq, Cert.MixinGradIdeal.Values.array_dx, e1, e2, e3, e4, e5]
  funext i; idx_vars i; exact Cert.MixinGradRefIdeal.Values.dx _ _ _ _ _ i0 i1

end Cert.Proof

end
-- ==== Proof.SquareWGrad.lean ====
/-
  The gradient of a square weight matrix, the mixers' output projection or the embedding's gate: one block, the products over two halves of the rows added.
-/
module

public import proofs.«01_k».proof.Defs
public import proofs.«01_k».proof.Proof.Sums
public import proofs.«01_k».proof.Proof.Gen.SquareWIdeal.Value
public import proofs.«01_k».proof.Proof.Gen.SquareWRefIdeal.Run
public import proofs.«01_k».proof.Proof.Gen.SquareWRefIdeal.Read
public import Idealize.ShloMosaic.Lib.Pipeline.ValueKit
public import Idealize.ShloMosaic.Lib.Claim
public import Idealize.ShloMosaic.Lib.StableHlo.ReadAt

@[expose] public section

set_option maxRecDepth 16384

noncomputable section

namespace Cert.SquareWIdeal.Grad

open Idealize.ShloMosaic Idealize.ShloMosaic.TcCoe Idealize.SL.Sem Cert.SquareWIdeal Cert.SquareWIdeal.Gen Cert.Sums

variable (m : (ℓ : Loc nD τ sig) → Buf (Elt Ideal) ℓ) (c : Dev nD)

theorem idx0 : ∀ t : Fin cfg0.N, win0_0.index t = ![0, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

theorem blk_x (t : Fin cfg0.N) (d : Fin 1024) (k : Fin 2048) : iblk m c 0 t (ix2 d k)
    = m ((c : Thread nD τ).loc main_arg0) (ix2 ⟨t.val % 2 * 2048 + k.val, by omega⟩ d) := by
  trans V m c main_v1 (ix2 d ⟨t.val % 2 * 2048 + k.val, by omega⟩)
  · blk_ext [iblk, idx0 t]
  · unfold V; after_reads_at

theorem blk_ct (t : Fin cfg0.N) (k : Fin 2048) (j : Fin 1024) : iblk m c 1 t (ix2 k j)
    = m ((c : Thread nD τ).loc main_arg2) (ix2 ⟨t.val % 2 * 2048 + k.val, by omega⟩ j) := by
  trans V m c main_v2 (ix2 ⟨t.val % 2 * 2048 + k.val, by omega⟩ j)
  · blk_ext [iblk, idx1 t]
  · unfold V; after_reads_at

/-- What one point adds. -/
theorem pay2 (acc : Vec Ideal S1024x1024 .f32) (a : Vec Ideal S1024x2048 .bf16) (b : Vec Ideal S2048x1024 .bf16)
    (d : Fin 1024) (j : Fin 1024) : k0_pay2 acc a b (ix2 d j) = acc (ix2 d j) + ∑ k, a (ix2 d k) * b (ix2 k j) := by
  pointwise [k0_pay2]

/-- What the second point leaves. -/
theorem after_last (t : Fin cfg0.N) (h : t.val % 2 = 1) (d : Fin 1024) (j : Fin 1024) :
    (outsAt0 m c t.val t.isLt).1 (ix2 d j)
      = tnMul (m ((c : Thread nD τ).loc main_arg0)) (m ((c : Thread nD τ).loc main_arg2)) d j := by
  have hlt : t.val - 1 < cfg0.N := Nat.lt_of_le_of_lt (Nat.sub_le _ _) t.isLt
  have h' : (⟨t.val - 1, hlt⟩ : Fin cfg0.N).val % 2 = 0 := by dsimp only; omega
  have pay1 : k0_pay1 (F := Ideal) (ix2 d j) = (0 : EReal) := by pointwise [k0_pay1]
  have first : (outsAt0 m c (t.val - 1) hlt).1 (ix2 d j)
      = 0 + ∑ k : Fin 2048, term (m ((c : Thread nD τ).loc main_arg0)) (m ((c : Thread nD τ).loc main_arg2)) d j
          ⟨0 * 2048 + k.val, by omega⟩ := by
    rw [outsAt0_A m c ⟨t.val - 1, hlt⟩ h' (by omega)]
    frame_out
    simp only [pay2, pay1, blk_x, blk_ct, h']
    rfl
  rw [outsAt0_B m c t (by omega) h]
  frame_out
  simp only [pay2, first, blk_x, blk_ct, h]
  exact sum_halves (term (m ((c : Thread nD τ).loc main_arg0)) (m ((c : Thread nD τ).loc main_arg2)) d j)

/-- What the second point rounds is what it leaves. -/
theorem rounded (t : Fin cfg0.N) (h : t.val % 2 = 1) : (outsAt0 m c t.val t.isLt).2 = (outsAt0 m c t.val t.isLt).1 := by
  rw [outsAt0_B m c t (by omega) h]
  frame_out
  funext j
  idx_vars j
  pointwise [k0_pay3]

/-- The gradient, at the precision of the sum. -/
theorem array_f32 : (dats m 0 c).arrAt 2 cfg0.N = arr (a := 1024) (b := 1024)
    (tnMul (m ((c : Thread nD τ).loc main_arg0)) (m ((c : Thread nD τ).loc main_arg2))) := by
  refine (dats m 0 c).arrAt_eq_of_covers 2 _ (by decide +kernel) fun t hf y => ?_
  blk_simp
  idx_vars y
  have e : (win0_2.blk t).view.emb (ix2 y0 y1) = ix2 y0 y1 := by blk_ext [idx2 t]
  rw [e, after0_2]
  exact after_last m c t ((by decide +kernel : ∀ t : Fin cfg0.N, win0_2.flush t = true → t.val % 2 = 1) t hf) y0 y1

/-- The same gradient, rounded. -/
theorem array_bf16 : (dats m 0 c).arrAt 3 cfg0.N = arr (a := 1024) (b := 1024)
    (tnMul (m ((c : Thread nD τ).loc main_arg0)) (m ((c : Thread nD τ).loc main_arg2))) := by
  refine (dats m 0 c).arrAt_eq_of_covers 3 _ (by decide +kernel) fun t hf y => ?_
  blk_simp
  idx_vars y
  have e : (win0_3.blk t).view.emb (ix2 y0 y1) = ix2 y0 y1 := by blk_ext [idx3 t]
  have h := (by decide +kernel : ∀ t : Fin cfg0.N, win0_3.flush t = true → t.val % 2 = 1) t hf
  rw [e, after0_3, rounded m c t h]
  exact after_last m c t h y0 y1

end Cert.SquareWIdeal.Grad

namespace Cert.Proof

open Idealize.ShloMosaic Idealize.SL.Sem Cert.Sums

theorem algebraic_square_w : Cert.algebraic_SquareWIdeal_SquareWRefIdeal (hSquareWIdeal := Cert.SquareWIdeal.Gen.facts)
    (hSquareWRefIdeal := Cert.SquareWRefIdeal.Gen.facts) := by
  intro m g m' g' hpre hargs
  refine ⟨_, _, Cert.SquareWIdeal.Value.run_blocks m g,
    (θ_run Cert.SquareWRefIdeal.defs _ _).mono (fun r h c => ?_) (Cert.SquareWRefIdeal.Value.run m' g')⟩
  obtain ⟨e0, -, e2⟩ := hargs c
  obtain ⟨h0, h1, hk⟩ := h c
  have value : ∀ i j, Cert.SquareWRefIdeal.Read.val_main_v2
      (m' ((c.tc : Thread Cert.SquareWRefIdeal.nD Cert.SquareWRefIdeal.τ).loc Cert.SquareWRefIdeal.main_arg0))
      (m' ((c.tc : Thread Cert.SquareWRefIdeal.nD Cert.SquareWRefIdeal.τ).loc Cert.SquareWRefIdeal.main_arg2)) (ix2 i j)
      = tnMul (m ((c.tc : Thread Cert.SquareWIdeal.nD Cert.SquareWIdeal.τ).loc Cert.SquareWIdeal.main_arg0))
        (m ((c.tc : Thread Cert.SquareWIdeal.nD Cert.SquareWIdeal.τ).loc Cert.SquareWIdeal.main_arg2)) i j := fun i j => by
    rw [e0, e2]
    pointwise [Cert.SquareWRefIdeal.Read.val_main_v2, Cert.SquareWRefIdeal.Read.val_main_v1]
    exact Finset.sum_congr rfl fun k _ => mul_comm _ _
  refine ⟨h0.trans ?_, h1.trans ?_, hk⟩
  · rw [Cert.SquareWRefIdeal.Read.val_main_v2_eq, Cert.SquareWIdeal.Grad.array_f32]
    funext i; idx_vars i; exact value i0 i1
  · rw [Cert.SquareWRefIdeal.Read.val_main_v3_eq, Cert.SquareWIdeal.Grad.array_bf16]
    funext i; idx_vars i; exact value i0 i1

end Cert.Proof

end
-- ==== Proof.UpWGrad.lean ====
/-
  The gradient of the matrix that takes a mixer up to the full width: one block, the products over two halves of the rows added.
-/
module

public import proofs.«01_k».proof.Defs
public import proofs.«01_k».proof.Proof.Sums
public import proofs.«01_k».proof.Proof.Gen.UpWIdeal.Value
public import proofs.«01_k».proof.Proof.Gen.UpWRefIdeal.Run
public import proofs.«01_k».proof.Proof.Gen.UpWRefIdeal.Read
public import Idealize.ShloMosaic.Lib.Pipeline.ValueKit
public import Idealize.ShloMosaic.Lib.Claim
public import Idealize.ShloMosaic.Lib.StableHlo.ReadAt

@[expose] public section

set_option maxRecDepth 16384

noncomputable section

namespace Cert.UpWIdeal.Grad

open Idealize.ShloMosaic Idealize.ShloMosaic.TcCoe Idealize.SL.Sem Cert.UpWIdeal Cert.UpWIdeal.Gen Cert.Sums

variable (m : (ℓ : Loc nD τ sig) → Buf (Elt Ideal) ℓ) (c : Dev nD)

theorem idx0 : ∀ t : Fin cfg0.N, win0_0.index t = ![0, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

theorem blk_x (t : Fin cfg0.N) (d : Fin 512) (k : Fin 2048) : iblk m c 0 t (ix2 d k)
    = m ((c : Thread nD τ).loc main_arg0) (ix2 ⟨t.val % 2 * 2048 + k.val, by omega⟩ d) := by
  trans V m c main_v1 (ix2 d ⟨t.val % 2 * 2048 + k.val, by omega⟩)
  · blk_ext [iblk, idx0 t]
  · unfold V; after_reads_at

theorem blk_ct (t : Fin cfg0.N) (k : Fin 2048) (j : Fin 1024) : iblk m c 1 t (ix2 k j)
    = m ((c : Thread nD τ).loc main_arg2) (ix2 ⟨t.val % 2 * 2048 + k.val, by omega⟩ j) := by
  trans V m c main_v2 (ix2 ⟨t.val % 2 * 2048 + k.val, by omega⟩ j)
  · blk_ext [iblk, idx1 t]
  · unfold V; after_reads_at

/-- What one point adds. -/
theorem pay2 (acc : Vec Ideal S512x1024 .f32) (a : Vec Ideal S512x2048 .bf16) (b : Vec Ideal S2048x1024 .bf16)
    (d : Fin 512) (j : Fin 1024) : k0_pay2 acc a b (ix2 d j) = acc (ix2 d j) + ∑ k, a (ix2 d k) * b (ix2 k j) := by
  pointwise [k0_pay2]

/-- What the second point leaves. -/
theorem after_last (t : Fin cfg0.N) (h : t.val % 2 = 1) (d : Fin 512) (j : Fin 1024) :
    (outsAt0 m c t.val t.isLt).1 (ix2 d j)
      = tnMul (m ((c : Thread nD τ).loc main_arg0)) (m ((c : Thread nD τ).loc main_arg2)) d j := by
  have hlt : t.val - 1 < cfg0.N := Nat.lt_of_le_of_lt (Nat.sub_le _ _) t.isLt
  have h' : (⟨t.val - 1, hlt⟩ : Fin cfg0.N).val % 2 = 0 := by dsimp only; omega
  have pay1 : k0_pay1 (F := Ideal) (ix2 d j) = (0 : EReal) := by pointwise [k0_pay1]
  have first : (outsAt0 m c (t.val - 1) hlt).1 (ix2 d j)
      = 0 + ∑ k : Fin 2048, term (m ((c : Thread nD τ).loc main_arg0)) (m ((c : Thread nD τ).loc main_arg2)) d j
          ⟨0 * 2048 + k.val, by omega⟩ := by
    rw [outsAt0_A m c ⟨t.val - 1, hlt⟩ h' (by omega)]
    frame_out
    simp only [pay2, pay1, blk_x, blk_ct, h']
    rfl
  rw [outsAt0_B m c t (by omega) h]
  frame_out
  simp only [pay2, first, blk_x, blk_ct, h]
  exact sum_halves (term (m ((c : Thread nD τ).loc main_arg0)) (m ((c : Thread nD τ).loc main_arg2)) d j)

/-- What the second point rounds is what it leaves. -/
theorem rounded (t : Fin cfg0.N) (h : t.val % 2 = 1) : (outsAt0 m c t.val t.isLt).2 = (outsAt0 m c t.val t.isLt).1 := by
  rw [outsAt0_B m c t (by omega) h]
  frame_out
  funext j
  idx_vars j
  pointwise [k0_pay3]

/-- The gradient, at the precision of the sum. -/
theorem array_f32 : (dats m 0 c).arrAt 2 cfg0.N = arr (a := 512) (b := 1024)
    (tnMul (m ((c : Thread nD τ).loc main_arg0)) (m ((c : Thread nD τ).loc main_arg2))) := by
  refine (dats m 0 c).arrAt_eq_of_covers 2 _ (by decide +kernel) fun t hf y => ?_
  blk_simp
  idx_vars y
  have e : (win0_2.blk t).view.emb (ix2 y0 y1) = ix2 y0 y1 := by blk_ext [idx2 t]
  rw [e, after0_2]
  exact after_last m c t ((by decide +kernel : ∀ t : Fin cfg0.N, win0_2.flush t = true → t.val % 2 = 1) t hf) y0 y1

/-- The same gradient, rounded. -/
theorem array_bf16 : (dats m 0 c).arrAt 3 cfg0.N = arr (a := 512) (b := 1024)
    (tnMul (m ((c : Thread nD τ).loc main_arg0)) (m ((c : Thread nD τ).loc main_arg2))) := by
  refine (dats m 0 c).arrAt_eq_of_covers 3 _ (by decide +kernel) fun t hf y => ?_
  blk_simp
  idx_vars y
  have e : (win0_3.blk t).view.emb (ix2 y0 y1) = ix2 y0 y1 := by blk_ext [idx3 t]
  have h := (by decide +kernel : ∀ t : Fin cfg0.N, win0_3.flush t = true → t.val % 2 = 1) t hf
  rw [e, after0_3, rounded m c t h]
  exact after_last m c t h y0 y1

end Cert.UpWIdeal.Grad

namespace Cert.Proof

open Idealize.ShloMosaic Idealize.SL.Sem Cert.Sums

theorem algebraic_up_w : Cert.algebraic_UpWIdeal_UpWRefIdeal (hUpWIdeal := Cert.UpWIdeal.Gen.facts)
    (hUpWRefIdeal := Cert.UpWRefIdeal.Gen.facts) := by
  intro m g m' g' hpre hargs
  refine ⟨_, _, Cert.UpWIdeal.Value.run_blocks m g,
    (θ_run Cert.UpWRefIdeal.defs _ _).mono (fun r h c => ?_) (Cert.UpWRefIdeal.Value.run m' g')⟩
  obtain ⟨e0, -, e2⟩ := hargs c
  obtain ⟨h0, h1, hk⟩ := h c
  have value : ∀ i j, Cert.UpWRefIdeal.Read.val_main_v2
      (m' ((c.tc : Thread Cert.UpWRefIdeal.nD Cert.UpWRefIdeal.τ).loc Cert.UpWRefIdeal.main_arg0))
      (m' ((c.tc : Thread Cert.UpWRefIdeal.nD Cert.UpWRefIdeal.τ).loc Cert.UpWRefIdeal.main_arg2)) (ix2 i j)
      = tnMul (m ((c.tc : Thread Cert.UpWIdeal.nD Cert.UpWIdeal.τ).loc Cert.UpWIdeal.main_arg0))
        (m ((c.tc : Thread Cert.UpWIdeal.nD Cert.UpWIdeal.τ).loc Cert.UpWIdeal.main_arg2)) i j := fun i j => by
    rw [e0, e2]
    pointwise [Cert.UpWRefIdeal.Read.val_main_v2, Cert.UpWRefIdeal.Read.val_main_v1]
    exact Finset.sum_congr rfl fun k _ => mul_comm _ _
  refine ⟨h0.trans ?_, h1.trans ?_, hk⟩
  · rw [Cert.UpWRefIdeal.Read.val_main_v2_eq, Cert.UpWIdeal.Grad.array_f32]
    funext i; idx_vars i; exact value i0 i1
  · rw [Cert.UpWRefIdeal.Read.val_main_v3_eq, Cert.UpWIdeal.Grad.array_bf16]
    funext i; idx_vars i; exact value i0 i1

end Cert.Proof

end
-- ==== Proof.PleWGrad.lean ====
/-
  The gradient of the embedding's projection: one block, the products over two halves of the rows added.
-/
module

public import proofs.«01_k».proof.Defs
public import proofs.«01_k».proof.Proof.Sums
public import proofs.«01_k».proof.Proof.Gen.PleWIdeal.Value
public import proofs.«01_k».proof.Proof.Gen.PleWRefIdeal.Run
public import proofs.«01_k».proof.Proof.Gen.PleWRefIdeal.Read
public import Idealize.ShloMosaic.Lib.Pipeline.ValueKit
public import Idealize.ShloMosaic.Lib.Claim
public import Idealize.ShloMosaic.Lib.StableHlo.ReadAt

@[expose] public section

set_option maxRecDepth 16384

noncomputable section

namespace Cert.PleWIdeal.Grad

open Idealize.ShloMosaic Idealize.ShloMosaic.TcCoe Idealize.SL.Sem Cert.PleWIdeal Cert.PleWIdeal.Gen Cert.Sums

variable (m : (ℓ : Loc nD τ sig) → Buf (Elt Ideal) ℓ) (c : Dev nD)

theorem idx0 : ∀ t : Fin cfg0.N, win0_0.index t = ![0, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

theorem blk_x (t : Fin cfg0.N) (d : Fin 256) (k : Fin 2048) : iblk m c 0 t (ix2 d k)
    = m ((c : Thread nD τ).loc main_arg0) (ix2 ⟨t.val % 2 * 2048 + k.val, by omega⟩ d) := by
  trans V m c main_v1 (ix2 d ⟨t.val % 2 * 2048 + k.val, by omega⟩)
  · blk_ext [iblk, idx0 t]
  · unfold V; after_reads_at

theorem blk_ct (t : Fin cfg0.N) (k : Fin 2048) (j : Fin 1024) : iblk m c 1 t (ix2 k j)
    = m ((c : Thread nD τ).loc main_arg2) (ix2 ⟨t.val % 2 * 2048 + k.val, by omega⟩ j) := by
  trans V m c main_v2 (ix2 ⟨t.val % 2 * 2048 + k.val, by omega⟩ j)
  · blk_ext [iblk, idx1 t]
  · unfold V; after_reads_at

/-- What one point adds. -/
theorem pay2 (acc : Vec Ideal S256x1024 .f32) (a : Vec Ideal S256x2048 .bf16) (b : Vec Ideal S2048x1024 .bf16)
    (d : Fin 256) (j : Fin 1024) : k0_pay2 acc a b (ix2 d j) = acc (ix2 d j) + ∑ k, a (ix2 d k) * b (ix2 k j) := by
  pointwise [k0_pay2]

/-- What the second point leaves. -/
theorem after_last (t : Fin cfg0.N) (h : t.val % 2 = 1) (d : Fin 256) (j : Fin 1024) :
    (outsAt0 m c t.val t.isLt).1 (ix2 d j)
      = tnMul (m ((c : Thread nD τ).loc main_arg0)) (m ((c : Thread nD τ).loc main_arg2)) d j := by
  have hlt : t.val - 1 < cfg0.N := Nat.lt_of_le_of_lt (Nat.sub_le _ _) t.isLt
  have h' : (⟨t.val - 1, hlt⟩ : Fin cfg0.N).val % 2 = 0 := by dsimp only; omega
  have pay1 : k0_pay1 (F := Ideal) (ix2 d j) = (0 : EReal) := by pointwise [k0_pay1]
  have first : (outsAt0 m c (t.val - 1) hlt).1 (ix2 d j)
      = 0 + ∑ k : Fin 2048, term (m ((c : Thread nD τ).loc main_arg0)) (m ((c : Thread nD τ).loc main_arg2)) d j
          ⟨0 * 2048 + k.val, by omega⟩ := by
    rw [outsAt0_A m c ⟨t.val - 1, hlt⟩ h' (by omega)]
    frame_out
    simp only [pay2, pay1, blk_x, blk_ct, h']
    rfl
  rw [outsAt0_B m c t (by omega) h]
  frame_out
  simp only [pay2, first, blk_x, blk_ct, h]
  exact sum_halves (term (m ((c : Thread nD τ).loc main_arg0)) (m ((c : Thread nD τ).loc main_arg2)) d j)

/-- What the second point rounds is what it leaves. -/
theorem rounded (t : Fin cfg0.N) (h : t.val % 2 = 1) : (outsAt0 m c t.val t.isLt).2 = (outsAt0 m c t.val t.isLt).1 := by
  rw [outsAt0_B m c t (by omega) h]
  frame_out
  funext j
  idx_vars j
  pointwise [k0_pay3]

/-- The gradient, at the precision of the sum. -/
theorem array_f32 : (dats m 0 c).arrAt 2 cfg0.N = arr (a := 256) (b := 1024)
    (tnMul (m ((c : Thread nD τ).loc main_arg0)) (m ((c : Thread nD τ).loc main_arg2))) := by
  refine (dats m 0 c).arrAt_eq_of_covers 2 _ (by decide +kernel) fun t hf y => ?_
  blk_simp
  idx_vars y
  have e : (win0_2.blk t).view.emb (ix2 y0 y1) = ix2 y0 y1 := by blk_ext [idx2 t]
  rw [e, after0_2]
  exact after_last m c t ((by decide +kernel : ∀ t : Fin cfg0.N, win0_2.flush t = true → t.val % 2 = 1) t hf) y0 y1

/-- The same gradient, rounded. -/
theorem array_bf16 : (dats m 0 c).arrAt 3 cfg0.N = arr (a := 256) (b := 1024)
    (tnMul (m ((c : Thread nD τ).loc main_arg0)) (m ((c : Thread nD τ).loc main_arg2))) := by
  refine (dats m 0 c).arrAt_eq_of_covers 3 _ (by decide +kernel) fun t hf y => ?_
  blk_simp
  idx_vars y
  have e : (win0_3.blk t).view.emb (ix2 y0 y1) = ix2 y0 y1 := by blk_ext [idx3 t]
  have h := (by decide +kernel : ∀ t : Fin cfg0.N, win0_3.flush t = true → t.val % 2 = 1) t hf
  rw [e, after0_3, rounded m c t h]
  exact after_last m c t h y0 y1

end Cert.PleWIdeal.Grad

namespace Cert.Proof

open Idealize.ShloMosaic Idealize.SL.Sem Cert.Sums

theorem algebraic_ple_w : Cert.algebraic_PleWIdeal_PleWRefIdeal (hPleWIdeal := Cert.PleWIdeal.Gen.facts)
    (hPleWRefIdeal := Cert.PleWRefIdeal.Gen.facts) := by
  intro m g m' g' hpre hargs
  refine ⟨_, _, Cert.PleWIdeal.Value.run_blocks m g,
    (θ_run Cert.PleWRefIdeal.defs _ _).mono (fun r h c => ?_) (Cert.PleWRefIdeal.Value.run m' g')⟩
  obtain ⟨e0, -, e2⟩ := hargs c
  obtain ⟨h0, h1, hk⟩ := h c
  have value : ∀ i j, Cert.PleWRefIdeal.Read.val_main_v2
      (m' ((c.tc : Thread Cert.PleWRefIdeal.nD Cert.PleWRefIdeal.τ).loc Cert.PleWRefIdeal.main_arg0))
      (m' ((c.tc : Thread Cert.PleWRefIdeal.nD Cert.PleWRefIdeal.τ).loc Cert.PleWRefIdeal.main_arg2)) (ix2 i j)
      = tnMul (m ((c.tc : Thread Cert.PleWIdeal.nD Cert.PleWIdeal.τ).loc Cert.PleWIdeal.main_arg0))
        (m ((c.tc : Thread Cert.PleWIdeal.nD Cert.PleWIdeal.τ).loc Cert.PleWIdeal.main_arg2)) i j := fun i j => by
    rw [e0, e2]
    pointwise [Cert.PleWRefIdeal.Read.val_main_v2, Cert.PleWRefIdeal.Read.val_main_v1]
    exact Finset.sum_congr rfl fun k _ => mul_comm _ _
  refine ⟨h0.trans ?_, h1.trans ?_, hk⟩
  · rw [Cert.PleWRefIdeal.Read.val_main_v2_eq, Cert.PleWIdeal.Grad.array_f32]
    funext i; idx_vars i; exact value i0 i1
  · rw [Cert.PleWRefIdeal.Read.val_main_v3_eq, Cert.PleWIdeal.Grad.array_bf16]
    funext i; idx_vars i; exact value i0 i1

end Cert.Proof

end
-- ==== Proof.LossValues.lean ====
/-
  The last feed-forward block's second half with the loss: the normalised row, its reciprocal deviation, the gradient that
  leaves the gated embedding, the operands of the two weight gradients, and the squared errors summed over the rows.
-/
module

public import proofs.«01_k».proof.Defs
public import proofs.«01_k».proof.Proof.Sums
public import proofs.«01_k».proof.Proof.Norm
public import proofs.«01_k».proof.Proof.Logistic
public import proofs.«01_k».proof.Proof.Gen.LossIdeal.Value
public import proofs.«01_k».proof.Proof.Gen.LossRefIdeal.Run
public import proofs.«01_k».proof.Proof.Gen.LossRefIdeal.Read
public import Idealize.ShloMosaic.Lib.Pipeline.ValueKit
public import Idealize.ShloMosaic.Lib.Claim
public import Idealize.ShloMosaic.Lib.StableHlo.ReadAt

@[expose] public section

set_option maxRecDepth 16384

noncomputable section

namespace Cert.LossIdeal.Values

open Idealize.ShloMosaic Idealize.ShloMosaic.TcCoe Idealize.SL.Sem Cert.LossIdeal Cert.LossIdeal.Gen Cert.Sums Cert.Lift Cert.Norm

/-! ### One row -/

section Row

variable (y : Fin 1024 → EReal) (p : Fin 256 → EReal) (wg : S1024x1024.Idx → EReal) (wp : S256x1024.Idx → EReal)
  (tgt : Fin 1024 → EReal) (d : Fin 1024)

/-- The residual sum: the argument by `α` and half of the gated product by the second weight. -/
def res (x : S4096x1024.Idx → EReal) (a : S4096x2816.Idx → EReal) (w : S2816x1024.Idx → EReal) (t : Fin 4096)
    (d : Fin 1024) : EReal :=
  (alpha : EReal) * x (ix2 t d) + ((1 / 2 : ℝ) : EReal) * ∑ k : Fin 2816, a (ix2 t k) * w (ix2 k d)

/-- The embedding's gate. -/
def gate : EReal := lgs (∑ k, y k * wg (ix2 k d))

/-- The projected embedding. -/
def emb : EReal := ∑ k, p k * wp (ix2 k d)

/-- The row with its gated embedding, less the target. -/
def err : EReal := y d + gate y wg d * emb p wp d - tgt d

/-- The loss's gradient with respect to the block's output. -/
def dout : EReal := err y p wg wp tgt d * ((1 / 1024 : ℝ) : EReal)

/-- The gradient with respect to the projected embedding. -/
def dEmb : EReal := dout y p wg wp tgt d * gate y wg d

/-- The gradient with respect to the gate's argument. -/
def dGate : EReal := dout y p wg wp tgt d * emb p wp d * gate y wg d * (1 - gate y wg d)

/-- The gradient with respect to the row. -/
def dRow : EReal := dout y p wg wp tgt d + ∑ k, dGate y p wg wp tgt k * wg (ix2 d k)

end Row

/-! ### The body's values, at an index -/

section Body

variable {a : Vec Ideal S512x2816 .bf16} {w : Vec Ideal S2816x1024 .bf16} {x : Vec Ideal S512x1024 .f32}
variable {F : Fin 512 → Fin 1024 → EReal}

/-- The block's residual sums. -/
def IsRes (a : Vec Ideal S512x2816 .bf16) (w : Vec Ideal S2816x1024 .bf16) (x : Vec Ideal S512x1024 .f32)
    (F : Fin 512 → Fin 1024 → EReal) : Prop :=
  ∀ r d, (alpha : EReal) * x (ix2 r d) + ((1 / 2 : ℝ) : EReal) * ∑ k : Fin 2816, a (ix2 r k) * w (ix2 k d) = F r d

theorem pay6 (h : IsRes a w x F) (r : Fin 512) (d : Fin 1024) : k0_pay6 a w x (ix2 r d) = rcen (F r) d := by
  pointwise [k0_pay6]
  simp only [word_alpha, word_half, word_1024, h r]
  rfl

theorem pay7 (h : IsRes a w x F) (r : Fin 512) : k0_pay7 a w x (ix2 r 0) = rdev (F r) := by
  pointwise [k0_pay7]
  simp only [word_1024, word_eps, pay6 h]
  rfl

theorem pay8 (h : IsRes a w x F) (r : Fin 512) (d : Fin 1024) : k0_pay8 a w x (ix2 r d) = rnrm (F r) d := by
  pointwise [k0_pay8]
  rw [pay6 h, pay7 h]
  rfl

theorem pay9 (h : IsRes a w x F) (g b : Vec Ideal S1x1024 .f32) (r : Fin 512) (d : Fin 1024) : k0_pay9 a w x g b (ix2 r d)
    = rln (F r) (fun d => g (ix2 0 d)) (fun d => b (ix2 0 d)) d := by
  pointwise [k0_pay9]
  rw [pay8 h]
  rfl

variable {v : Vec Ideal S512x1024 .f32} {q : Vec Ideal S512x256 .f32} {u : Vec Ideal S1024x1024 .bf16}
  {z : Vec Ideal S256x1024 .bf16} {o : Vec Ideal S512x1024 .f32}

theorem pay14 (r : Fin 512) (d : Fin 1024) : k0_pay14 v u (ix2 r d) = gate (fun k => v (ix2 r k)) u d := by
  pointwise [k0_pay14, k0_pay10]
  rw [word_half, lgs_eq]
  rfl

theorem pay15 (r : Fin 512) (d : Fin 1024) : k0_pay15 q z (ix2 r d) = emb (fun k => q (ix2 r k)) z d := by
  pointwise [k0_pay15, k0_pay11]
  rfl

theorem pay16 (r : Fin 512) (d : Fin 1024) : k0_pay16 v q u z o (ix2 r d)
    = err (fun k => v (ix2 r k)) (fun k => q (ix2 r k)) u z (fun k => o (ix2 r k)) d := by
  pointwise [k0_pay16]
  rw [pay14, pay15]
  rfl

theorem pay1 (r : Fin 512) (d : Fin 1024) : k0_pay1 (k0_pay16 v q u z o) (ix2 r d)
    = dout (fun k => v (ix2 r k)) (fun k => q (ix2 r k)) u z (fun k => o (ix2 r k)) d := by
  pointwise [k0_pay1]
  rw [pay16, word_inv_1024]
  rfl

theorem pay2 (r : Fin 512) (d : Fin 1024) : k0_pay2 (k0_pay14 v u) (k0_pay16 v q u z o) (ix2 r d)
    = dEmb (fun k => v (ix2 r k)) (fun k => q (ix2 r k)) u z (fun k => o (ix2 r k)) d := by
  pointwise [k0_pay2]
  rw [pay14, pay1]
  rfl

theorem pay3 (r : Fin 512) (d : Fin 1024) : k0_pay3 (k0_pay14 v u) (k0_pay15 q z) (k0_pay16 v q u z o) (ix2 r d)
    = dGate (fun k => v (ix2 r k)) (fun k => q (ix2 r k)) u z (fun k => o (ix2 r k)) d := by
  pointwise [k0_pay3]
  rw [pay14, pay15, pay1]
  rfl

theorem pay4 (r : Fin 512) (d : Fin 1024) : k0_pay4 (k0_pay14 v u) (k0_pay15 q z) (k0_pay16 v q u z o) u (ix2 r d)
    = dRow (fun k => v (ix2 r k)) (fun k => q (ix2 r k)) u z (fun k => o (ix2 r k)) d := by
  pointwise [k0_pay4]
  simp only [pay1, pay3]
  rfl

theorem pay17 (acc : Vec Ideal S1x1024 .f32) (d : Fin 1024) : k0_pay17 v q u z o acc (ix2 0 d)
    = acc (ix2 0 d) + ∑ r, k0_pay16 v q u z o (ix2 r d) * k0_pay16 v q u z o (ix2 r d) := by
  pointwise [k0_pay17]

end Body

/-! ### The blocks -/

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![0, t.val] := (by decide +kernel : ∀ t : Fin grid0.N, _)
theorem idx13 : ∀ t : Fin cfg0.N, win0_13.index t = ![0, t.val] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![0, 0] := (by decide +kernel : ∀ t : Fin grid0.N, _)

/-- The array row that row `r` of block `t` is. -/
def row (t : Fin cfg0.N) (r : Fin 512) : Fin 4096 := ⟨t.val * 512 + r.val, by have : cfg0.N = 8 := rfl; omega⟩

theorem blk_x (t : Fin cfg0.N) (r : Fin 512) (d : Fin 1024) : iblk m c 0 t (ix2 r d)
    = m ((c : Thread nD τ).loc main_arg0) (ix2 (row t r) d) := by
  trans V m c main_arg0 (ix2 (row t r) d)
  · blk_ext [iblk, row, idx0 t]
  · rw [V_main_arg0 m c]

theorem blk_a (t : Fin cfg0.N) (r : Fin 512) (k : Fin 2816) : iblk m c 1 t (ix2 r k)
    = m ((c : Thread nD τ).loc main_arg1) (ix2 (row t r) k) := by
  trans V m c main_v0 (ix2 (row t r) k)
  · blk_ext [iblk, row, idx1 t]
  · unfold V; after_reads_at

theorem blk_w (t : Fin cfg0.N) (k : Fin 2816) (d : Fin 1024) : iblk m c 2 t (ix2 k d)
    = m ((c : Thread nD τ).loc main_arg2) (ix2 k d) := by
  trans V m c main_v1 (ix2 k d)
  · blk_ext [iblk, idx2 t]
  · unfold V; after_reads_at

theorem blk_g (t : Fin cfg0.N) (d : Fin 1024) : iblk m c 3 t (ix2 0 d) = m ((c : Thread nD τ).loc main_arg3) (ix1 d) := by
  trans V m c main_v2 (ix2 0 d)
  · blk_ext [iblk, idx3 t]
  · unfold V; after_reads_at

theorem blk_b (t : Fin cfg0.N) (d : Fin 1024) : iblk m c 4 t (ix2 0 d) = m ((c : Thread nD τ).loc main_arg4) (ix1 d) := by
  trans V m c main_v3 (ix2 0 d)
  · blk_ext [iblk, idx4 t]
  · unfold V; after_reads_at

theorem blk_p (t : Fin cfg0.N) (r : Fin 512) (k : Fin 256) : iblk m c 5 t (ix2 r k)
    = m ((c : Thread nD τ).loc main_arg5) (ix2 (row t r) k) := by
  trans V m c main_arg5 (ix2 (row t r) k)
  · blk_ext [iblk, row, idx5 t]
  · rw [V_main_arg5 m c]

theorem blk_tgt (t : Fin cfg0.N) (r : Fin 512) (d : Fin 1024) : iblk m c 6 t (ix2 r d)
    = m ((c : Thread nD τ).loc main_arg6) (ix2 (row t r) d) := by
  trans V m c main_arg6 (ix2 (row t r) d)
  · blk_ext [iblk, row, idx6 t]
  · rw [V_main_arg6 m c]

theorem blk_wg (t : Fin cfg0.N) : (iblk m c 7 t : S1024x1024.Idx → EReal) = m ((c : Thread nD τ).loc main_arg7) := by
  funext i
  idx_vars i
  trans V m c main_v4 (ix2 i0 i1)
  · blk_ext [iblk, idx7 t]
  · unfold V; after_reads_at

theorem blk_wp (t : Fin cfg0.N) : (iblk m c 8 t : S256x1024.Idx → EReal) = m ((c : Thread nD τ).loc main_arg8) := by
  funext i
  idx_vars i
  trans V m c main_v5 (ix2 i0 i1)
  · blk_ext [iblk, idx8 t]
  · unfold V; after_reads_at

/-- The residual sums of the arguments. -/
def argRes (t : Fin 4096) : Fin 1024 → EReal :=
  res (m ((c : Thread nD τ).loc main_arg0)) (m ((c : Thread nD τ).loc main_arg1)) (m ((c : Thread nD τ).loc main_arg2)) t

theorem isRes (t : Fin cfg0.N) : IsRes (iblk m c 1 t) (iblk m c 2 t) (iblk m c 0 t) fun r => argRes m c (row t r) := fun r d =>
  congrArg₂ (fun p q : EReal => (alpha : EReal) * p + ((1 / 2 : ℝ) : EReal) * q) (blk_x m c t r d)
    (Finset.sum_congr rfl fun k _ => congrArg₂ (fun p q : EReal => p * q) (blk_a m c t r k) (blk_w m c t k d))

/-- The normalised row, scaled and shifted. -/
def argRow (t : Fin 4096) : Fin 1024 → EReal := rln (argRes m c t)
  (fun d => m ((c : Thread nD τ).loc main_arg3) (ix1 d)) (fun d => m ((c : Thread nD τ).loc main_arg4) (ix1 d))

/-- One of the row's values, of the arguments. -/
def argOf (f : (Fin 1024 → EReal) → (Fin 256 → EReal) → (S1024x1024.Idx → EReal) → (S256x1024.Idx → EReal)
    → (Fin 1024 → EReal) → Fin 1024 → EReal) (t : Fin 4096) : Fin 1024 → EReal :=
  f (argRow m c t) (fun k => m ((c : Thread nD τ).loc main_arg5) (ix2 t k)) (m ((c : Thread nD τ).loc main_arg7))
    (m ((c : Thread nD τ).loc main_arg8)) (fun d => m ((c : Thread nD τ).loc main_arg6) (ix2 t d))

/-- The block's normalised rows, scaled and shifted. -/
abbrev ln (t : Fin cfg0.N) : Vec Ideal S512x1024 .f32 :=
  k0_pay9 (iblk m c 1 t) (iblk m c 2 t) (iblk m c 0 t) (iblk m c 3 t) (iblk m c 4 t)

theorem ln_eq (t : Fin cfg0.N) (r : Fin 512) (d : Fin 1024) : ln m c t (ix2 r d) = argRow m c (row t r) d := by
  rw [ln, pay9 (isRes m c t)]
  simp only [blk_g, blk_b]
  rfl

theorem of_blk (f : (Fin 1024 → EReal) → (Fin 256 → EReal) → (S1024x1024.Idx → EReal) → (S256x1024.Idx → EReal)
    → (Fin 1024 → EReal) → Fin 1024 → EReal) (t : Fin cfg0.N) (r : Fin 512) :
    f (fun k => ln m c t (ix2 r k)) (fun k => iblk m c 5 t (ix2 r k)) (iblk m c 7 t) (iblk m c 8 t)
      (fun k => iblk m c 6 t (ix2 r k)) = argOf m c f (row t r) := by
  rw [blk_wg m c t, blk_wp m c t, show (fun k => ln m c t (ix2 r k)) = argRow m c (row t r) from funext (ln_eq m c t r),
    show (fun k => iblk m c 5 t (ix2 r k)) = _ from funext (blk_p m c t r),
    show (fun k => iblk m c 6 t (ix2 r k)) = _ from funext (blk_tgt m c t r)]
  rfl

/-! ### What a point leaves -/

theorem left_xh (t : Fin cfg0.N) (r : Fin 512) (d : Fin 1024) :
    (outsAt0 m c t.val t.isLt).1 (ix2 r d) = rnrm (argRes m c (row t r)) d := by
  by_cases h0 : t.val % 8 = 0
  · rw [outsAt0_A m c t h0]; frame_out; exact pay8 (isRes m c t) r d
  · rw [outsAt0_B m c t h0]; frame_out; exact pay8 (isRes m c t) r d

theorem left_dev (t : Fin cfg0.N) (r : Fin 512) :
    (outsAt0 m c t.val t.isLt).2.1 (ix2 r 0) = rdev (argRes m c (row t r)) := by
  by_cases h0 : t.val % 8 = 0
  · rw [outsAt0_A m c t h0]; frame_out; exact pay7 (isRes m c t) r
  · rw [outsAt0_B m c t h0]; frame_out; exact pay7 (isRes m c t) r

theorem left_dx (t : Fin cfg0.N) (r : Fin 512) (d : Fin 1024) :
    (outsAt0 m c t.val t.isLt).2.2.1 (ix2 r d) = argOf m c dRow (row t r) d := by
  rw [← of_blk]
  by_cases h0 : t.val % 8 = 0
  · rw [outsAt0_A m c t h0]; frame_out; exact pay4 r d
  · rw [outsAt0_B m c t h0]; frame_out; exact pay4 r d

theorem left_y (t : Fin cfg0.N) (r : Fin 512) (d : Fin 1024) :
    (outsAt0 m c t.val t.isLt).2.2.2.1 (ix2 d r) = argRow m c (row t r) d := by
  rw [← ln_eq]
  by_cases h0 : t.val % 8 = 0
  · rw [outsAt0_A m c t h0]; frame_out; pointwise [k0_pay12, k0_pay10]
  · rw [outsAt0_B m c t h0]; frame_out; pointwise [k0_pay12, k0_pay10]

theorem left_p (t : Fin cfg0.N) (r : Fin 512) (k : Fin 256) :
    (outsAt0 m c t.val t.isLt).2.2.2.2.1 (ix2 k r) = m ((c : Thread nD τ).loc main_arg5) (ix2 (row t r) k) := by
  rw [← blk_p m c t r k]
  by_cases h0 : t.val % 8 = 0
  · rw [outsAt0_A m c t h0]; frame_out; pointwise [k0_pay13, k0_pay11]
  · rw [outsAt0_B m c t h0]; frame_out; pointwise [k0_pay13, k0_pay11]

theorem left_dq (t : Fin cfg0.N) (r : Fin 512) (d : Fin 1024) :
    (outsAt0 m c t.val t.isLt).2.2.2.2.2.1 (ix2 r d) = argOf m c dGate (row t r) d := by
  rw [← of_blk]
  by_cases h0 : t.val % 8 = 0
  · rw [outsAt0_A m c t h0]; frame_out; exact pay3 r d
  · rw [outsAt0_B m c t h0]; frame_out; exact pay3 r d

theorem left_de (t : Fin cfg0.N) (r : Fin 512) (d : Fin 1024) :
    (outsAt0 m c t.val t.isLt).2.2.2.2.2.2.1 (ix2 r d) = argOf m c dEmb (row t r) d := by
  rw [← of_blk]
  by_cases h0 : t.val % 8 = 0
  · rw [outsAt0_A m c t h0]; frame_out; exact pay2 r d
  · rw [outsAt0_B m c t h0]; frame_out; exact pay2 r d

/-- A row's squared error. -/
def sq (d : Fin 1024) (t : Fin 4096) : EReal := argOf m c err t d * argOf m c err t d

theorem sum_blk (t : Fin cfg0.N) (d : Fin 1024) (acc : Vec Ideal S1x1024 .f32) :
    k0_pay17 (ln m c t) (iblk m c 5 t) (iblk m c 7 t) (iblk m c 8 t) (iblk m c 6 t) acc (ix2 0 d)
      = acc (ix2 0 d) + ∑ r : Fin 512, sq m c d (row t r) := by
  rw [pay17]
  refine congrArg _ (Finset.sum_congr rfl fun r _ => ?_)
  rw [pay16, of_blk m c err t r]
  rfl

/-- The squared errors of the rows so far. -/
theorem left_sq (n : ℕ) (hn : n < cfg0.N) (d : Fin 1024) :
    (outsAt0 m c n hn).2.2.2.2.2.2.2 (ix2 0 d) = upto (sq m c d) (n * 512 + 512) := by
  have hN : cfg0.N = 8 := rfl
  induction n with
  | zero =>
    rw [outsAt0_A m c ⟨0, hn⟩ (Nat.zero_mod _)]
    frame_out
    refine (sum_blk m c ⟨0, hn⟩ d _).trans ?_
    rw [← upto_add _ _ _ (by omega)]
    refine congrArg₂ (fun p q : EReal => p + q) ?_ rfl
    rw [Nat.zero_mul, upto_zero]
    pointwise [k0_pay5]
  | succ n ih =>
    rw [outsAt0_B m c ⟨n + 1, hn⟩ (by dsimp only; omega)]
    frame_out
    refine (sum_blk m c ⟨n + 1, hn⟩ d _).trans ?_
    rw [← upto_add _ _ _ (by omega)]
    refine congrArg₂ (fun p q : EReal => p + q) ?_ rfl
    rw [show (n + 1) * 512 = n * 512 + 512 by omega]
    exact ih (by omega)

/-! ### The result arrays -/

theorem array_xh : (dats m 0 c).arrAt 9 cfg0.N = arr (a := 4096) (b := 1024) fun t => rnrm (argRes m c t) := by
  refine (dats m 0 c).arrAt_eq_of_covers 9 _ (by decide +kernel) fun t hf y => ?_
  blk_simp
  idx_vars y
  have e : (win0_9.blk t).view.emb (ix2 y0 y1) = ix2 (row t y0) y1 := by blk_ext [row, idx9 t]
  rw [e, after0_9]
  exact left_xh m c t y0 y1

theorem array_dev : (dats m 0 c).arrAt 10 cfg0.N = arr (a := 4096) (b := 1) fun t _ => rdev (argRes m c t) := by
  refine (dats m 0 c).arrAt_eq_of_covers 10 _ (by decide +kernel) fun t hf y => ?_
  blk_simp
  idx_vars y
  obtain rfl : y1 = 0 := Subsingleton.elim _ _
  have e : (win0_10.blk t).view.emb (ix2 y0 0) = ix2 (row t y0) 0 := by blk_ext [row, idx10 t]
  rw [e, after0_10]
  exact left_dev m c t y0

theorem array_dx : (dats m 0 c).arrAt 11 cfg0.N = arr (a := 4096) (b := 1024) (argOf m c dRow) := by
  refine (dats m 0 c).arrAt_eq_of_covers 11 _ (by decide +kernel) fun t hf y => ?_
  blk_simp
  idx_vars y
  have e : (win0_11.blk t).view.emb (ix2 y0 y1) = ix2 (row t y0) y1 := by blk_ext [row, idx11 t]
  rw [e, after0_11]
  exact left_dx m c t y0 y1

theorem array_y : (dats m 0 c).arrAt 12 cfg0.N = arr (a := 1024) (b := 4096) fun d t => argRow m c t d := by
  refine (dats m 0 c).arrAt_eq_of_covers 12 _ (by decide +kernel) fun t hf y => ?_
  blk_simp
  idx_vars y
  have e : (win0_12.blk t).view.emb (ix2 y0 y1) = ix2 y0 (row t y1) := by blk_ext [row, idx12 t]
  rw [e, after0_12]
  exact left_y m c t y1 y0

theorem array_p : (dats m 0 c).arrAt 13 cfg0.N = arr (a := 256) (b := 4096) fun k t =>
    m ((c : Thread nD τ).loc main_arg5) (ix2 t k) := by
  refine (dats m 0 c).arrAt_eq_of_covers 13 _ (by decide +kernel) fun t hf y => ?_
  blk_simp
  idx_vars y
  have e : (win0_13.blk t).view.emb (ix2 y0 y1) = ix2 y0 (row t y1) := by blk_ext [row, idx13 t]
  rw [e, after0_13]
  exact left_p m c t y1 y0

theorem array_dq : (dats m 0 c).arrAt 14 cfg0.N = arr (a := 4096) (b := 1024) (argOf m c dGate) := by
  refine (dats m 0 c).arrAt_eq_of_covers 14 _ (by decide +kernel) fun t hf y => ?_
  blk_simp
  idx_vars y
  have e : (win0_14.blk t).view.emb (ix2 y0 y1) = ix2 (row t y0) y1 := by blk_ext [row, idx14 t]
  rw [e, after0_14]
  exact left_dq m c t y0 y1

theorem array_de : (dats m 0 c).arrAt 15 cfg0.N = arr (a := 4096) (b := 1024) (argOf m c dEmb) := by
  refine (dats m 0 c).arrAt_eq_of_covers 15 _ (by decide +kernel) fun t hf y => ?_
  blk_simp
  idx_vars y
  have e : (win0_15.blk t).view.emb (ix2 y0 y1) = ix2 (row t y0) y1 := by blk_ext [row, idx15 t]
  rw [e, after0_15]
  exact left_de m c t y0 y1

theorem array_sq : (dats m 0 c).arrAt 16 cfg0.N = arr (a := 1) (b := 1024) fun _ d => ∑ t, sq m c d t := by
  refine (dats m 0 c).arrAt_eq_of_covers 16 _ (by decide +kernel) fun t hf y => ?_
  blk_simp
  idx_vars y
  obtain rfl : y0 = 0 := Subsingleton.elim _ _
  have e : (win0_16.blk t).view.emb (ix2 0 y1) = ix2 0 y1 := by blk_ext [idx16 t]
  rw [e, after0_16, left_sq]
  have h : t.val = 7 := (by decide +kernel : ∀ t : Fin cfg0.N, win0_16.flush t = true → t.val = 7) t hf
  rw [h]
  exact upto_all _

end Cert.LossIdeal.Values

namespace Cert.LossRefIdeal.Values

open Idealize.ShloMosaic Cert.LossRefIdeal Cert.LossRefIdeal.Gen Cert.LossRefIdeal.Read Cert.Lift Cert.Norm
open Cert.LossIdeal.Values (res gate emb err dout dEmb dGate dRow)

variable (x : Vec Ideal S4096x1024 .f32) (a : Vec Ideal S4096x2816 .f32) (w : Vec Ideal S2816x1024 .f32)
  (g b : Vec Ideal S1024 .f32) (p : Vec Ideal S4096x256 .f32) (o : Vec Ideal S4096x1024 .f32)
  (wg : Vec Ideal S1024x1024 .f32) (wp : Vec Ideal S256x1024 .f32) (t : Fin 4096)

theorem sum (d : Fin 1024) : val_main_v5 x a w (ix2 t d) = res x a w t d := by
  pointwise [val_main_v5, val_main_v4, val_main_v3, val_main_cst_0, val_main_v2, val_main_v1, val_main_v0, val_main_cst]
  rw [word_alpha, word_half]
  rfl

theorem mean : val_main_v9 x a w (ix2 t 0) = rmean (res x a w t) := by
  pointwise [val_main_v9, val_main_v8, val_main_cst_2, val_main_v7, val_main_v6, val_main_cst_1]
  simp only [sum, word_1024]
  rfl

theorem cen (d : Fin 1024) : val_main_v11 x a w (ix2 t d) = rcen (res x a w t) d := by
  pointwise [val_main_v11, val_main_v10]
  rw [sum, mean]
  rfl

theorem dev : val_main_v19 x a w (ix2 t 0) = rdev (res x a w t) := by
  pointwise [val_main_v19, val_main_v18, val_main_v17, val_main_cst_5, val_main_v16, val_main_v15, val_main_cst_4,
    val_main_v14, val_main_v13, val_main_cst_3, val_main_v12]
  simp only [cen, word_1024, word_eps]
  rfl

theorem nrm (d : Fin 1024) : val_main_v90 x a w (ix2 t d) = rnrm (res x a w t) d := by
  pointwise [val_main_v90, val_main_v89]
  rw [dev, show val_main_v88 x a w (ix2 t d) = rcen (res x a w t) d from cen x a w t d]
  rfl

/-- The row, normalised, scaled and shifted. -/
abbrev rrow : Fin 1024 → EReal := rln (res x a w t) (fun d => g (ix1 d)) (fun d => b (ix1 d))

theorem ln (d : Fin 1024) : val_main_v43 x a w g b (ix2 t d) = rrow x a w g b t d := by
  pointwise [val_main_v43, val_main_v42, val_main_v41, val_main_v40, val_main_v39, val_main_v38]
  rw [show val_main_v37 x a w (ix2 t d) = rnrm (res x a w t) d from nrm x a w t d]
  rfl

theorem gated (d : Fin 1024) : val_main_v51 x a w g b wg (ix2 t d) = gate (rrow x a w g b t) wg d := by
  pointwise [val_main_v51, val_main_v50, val_main_cst_12, val_main_v49, val_main_v48, val_main_cst_11, val_main_v47, val_main_v46,
    val_main_v44]
  simp only [ln, word_one, EReal.coe_one]
  rfl

theorem emb_eq (d : Fin 1024) : val_main_v45 p wp (ix2 t d) = emb (fun k => p (ix2 t k)) wp d := by
  pointwise [val_main_v45]
  rfl

theorem err_eq (d : Fin 1024) : val_main_v57 x a w g b p o wg wp (ix2 t d)
    = err (rrow x a w g b t) (fun k => p (ix2 t k)) wg wp (fun k => o (ix2 t k)) d := by
  pointwise [val_main_v57, val_main_v56, val_main_v55]
  rw [ln, gated, emb_eq]
  rfl

theorem scaled (e : EReal) : Ideal.div ((1 / 2 : ℝ) : EReal) ((1024 : ℝ) : EReal) * (((2 : ℝ) : EReal) * e)
    = e * ((1 / 1024 : ℝ) : EReal) := by
  rw [coe_div_1024, ← mul_assoc, ← EReal.coe_mul, mul_comm]
  norm_num

theorem dout_eq (d : Fin 1024) : val_main_v71 x a w g b p o wg wp (ix2 t d)
    = dout (rrow x a w g b t) (fun k => p (ix2 t k)) wg wp (fun k => o (ix2 t k)) d := by
  pointwise [val_main_v71, val_main_v70, val_main_v69, val_main_v68, val_main_cst_21, val_main_v67, val_main_v66, val_main_cst_20,
    val_main_cst_19, val_main_v60, val_main_v59, val_main_cst_14]
  rw [err_eq, word_half, word_1024, word_two, scaled]
  rfl

theorem dGate_eq (d : Fin 1024) : val_main_v74 x a w g b p o wg wp (ix2 t d)
    = dGate (rrow x a w g b t) (fun k => p (ix2 t k)) wg wp (fun k => o (ix2 t k)) d := by
  pointwise [val_main_v74, val_main_v73, val_main_v54, val_main_v53, val_main_v52, val_main_cst_13]
  rw [dout_eq, gated, emb_eq, ← mul_assoc]
  rfl

theorem dEmb_eq (d : Fin 1024) : val_main_v72 x a w g b p o wg wp (ix2 t d)
    = dEmb (rrow x a w g b t) (fun k => p (ix2 t k)) wg wp (fun k => o (ix2 t k)) d := by
  pointwise [val_main_v72]
  rw [dout_eq, gated, mul_comm]
  rfl

theorem dRow_eq (d : Fin 1024) : val_main_v92 x a w g b p o wg wp (ix2 t d)
    = dRow (rrow x a w g b t) (fun k => p (ix2 t k)) wg wp (fun k => o (ix2 t k)) d := by
  pointwise [val_main_v92, val_main_v91]
  simp only [dout_eq, dGate_eq]
  rfl

theorem sq_eq (d : Fin 1024) : val_main_v86 x a w g b p o wg wp (ix2 0 d)
    = ∑ t : Fin 4096, err (rrow x a w g b t) (fun k => p (ix2 t k)) wg wp (fun k => o (ix2 t k)) d
      * err (rrow x a w g b t) (fun k => p (ix2 t k)) wg wp (fun k => o (ix2 t k)) d := by
  pointwise [val_main_v86, val_main_v85, val_main_cst_24, val_main_v84]
  refine Finset.sum_congr rfl fun t _ => ?_
  rw [show val_main_v83 x a w g b p o wg wp (ix2 t d) = _ from err_eq x a w g b p o wg wp t d]

end Cert.LossRefIdeal.Values

namespace Cert.Proof

open Idealize.ShloMosaic Idealize.SL.Sem

theorem algebraic_loss : Cert.algebraic_LossIdeal_LossRefIdeal (hLossIdeal := Cert.LossIdeal.Gen.facts)
    (hLossRefIdeal := Cert.LossRefIdeal.Gen.facts) := by
  intro m g m' g' hpre hargs
  refine ⟨_, _, _, _, _, _, _, _, Cert.LossIdeal.Value.run_blocks m g,
    (θ_run Cert.LossRefIdeal.defs _ _).mono (fun r h c => ?_) (Cert.LossRefIdeal.Value.run m' g')⟩
  obtain ⟨e0, e1, e2, e3, e4, e5, e6, e7, e8⟩ := hargs c
  obtain ⟨h0, h1, h2, h3, h4, h5, h6, h7, hk⟩ := h c
  refine ⟨h0.trans ?_, h1.trans ?_, h2.trans ?_, h3.trans ?_, h4.trans ?_, h5.trans ?_, h6.trans ?_, h7.trans ?_, hk⟩
  · rw [Cert.LossRefIdeal.Read.val_main_v90_eq, Cert.LossIdeal.Values.array_xh, e0, e1, e2]
    funext i; idx_vars i; exact Cert.LossRefIdeal.Values.nrm _ _ _ i0 i1
  · rw [Cert.LossRefIdeal.Read.val_main_v19_eq, Cert.LossIdeal.Values.array_dev, e0, e1, e2]
    funext i; idx_vars i
    obtain rfl : i1 = 0 := Subsingleton.elim _ _
    exact Cert.LossRefIdeal.Values.dev _ _ _ i0
  · rw [Cert.LossRefIdeal.Read.val_main_v92_eq, Cert.LossIdeal.Values.array_dx, e0, e1, e2, e3, e4, e5, e6, e7, e8]
    funext i; idx_vars i; exact Cert.LossRefIdeal.Values.dRow_eq _ _ _ _ _ _ _ _ _ i0 i1
  · rw [Cert.LossRefIdeal.Read.val_main_v94_eq, Cert.LossIdeal.Values.array_y, e0, e1, e2, e3, e4]
    funext i; idx_vars i
    refine Eq.trans ?_ (Cert.LossRefIdeal.Values.ln _ _ _ _ _ i1 i0)
    pointwise [Cert.LossRefIdeal.Read.val_main_v94, Cert.LossRefIdeal.Read.val_main_v93]
  · rw [Cert.LossRefIdeal.Read.val_main_v96_eq, Cert.LossIdeal.Values.array_p, e5]
    funext i; idx_vars i
    pointwise [Cert.LossRefIdeal.Read.val_main_v96, Cert.LossRefIdeal.Read.val_main_v95]
    rfl
  · rw [Cert.LossRefIdeal.Read.val_main_v97_eq, Cert.LossIdeal.Values.array_dq, e0, e1, e2, e3, e4, e5, e6, e7, e8]
    funext i; idx_vars i
    refine Eq.trans ?_ (Cert.LossRefIdeal.Values.dGate_eq _ _ _ _ _ _ _ _ _ i0 i1)
    pointwise [Cert.LossRefIdeal.Read.val_main_v97]
  · rw [Cert.LossRefIdeal.Read.val_main_v98_eq, Cert.LossIdeal.Values.array_de, e0, e1, e2, e3, e4, e5, e6, e7, e8]
    funext i; idx_vars i
    refine Eq.trans ?_ (Cert.LossRefIdeal.Values.dEmb_eq _ _ _ _ _ _ _ _ _ i0 i1)
    pointwise [Cert.LossRefIdeal.Read.val_main_v98]
  · rw [Cert.LossRefIdeal.Read.val_main_v86_eq, Cert.LossIdeal.Values.array_sq, e0, e1, e2, e3, e4, e5, e6, e7, e8]
    funext i; idx_vars i
    obtain rfl : i0 = 0 := Subsingleton.elim _ _
    exact Cert.LossRefIdeal.Values.sq_eq _ _ _ _ _ _ _ _ _ i1

end Cert.Proof

end
-- ==== Proof.Merge.lean ====
/-
  The gated merge of the two mixers, one row: both mixers' outputs taken up to the model's width, each by its gate, and
  the residual sum of the merged row's projection.
-/
module

public import proofs.«01_k».proof.Proof.Logistic
public import proofs.«01_k».proof.Proof.Norm
public import Idealize.ShloMosaic.Lib.Pointwise

@[expose] public section

noncomputable section

namespace Cert.Merge

open Idealize.ShloMosaic Cert.Lift

variable (ga gb : Fin 1024 → EReal) (s m : Fin 512 → EReal) (ua ub : (⟨2, ![512, 1024]⟩ : Shape).Idx → EReal)
  (wo : (⟨2, ![1024, 1024]⟩ : Shape).Idx → EReal) (x : Fin 1024 → EReal) (d : Fin 1024)

/-- A mixer's output at the model's width. -/
def up : EReal := ∑ k, s k * ua (ix2 k d)

/-- The merged row. -/
def mix : EReal := lgs (ga d) * up s ua d + lgs (gb d) * up m ub d

/-- The residual sum. -/
def res : EReal := (alpha : EReal) * x d + ∑ k, mix ga gb s m ua ub k * wo (ix2 k d)

end Cert.Merge

end
-- ==== Proof.MixoutValues.lean ====
/-
  The gated merge of the two mixers, forward: the residual sum normalised, scaled and shifted, with the normalised row and
  the reciprocal deviation that the backward pass reads.
-/
module

public import proofs.«01_k».proof.Defs
public import proofs.«01_k».proof.Proof.Sums
public import proofs.«01_k».proof.Proof.Merge
public import proofs.«01_k».proof.Proof.Gen.MixoutIdeal.Value
public import proofs.«01_k».proof.Proof.Gen.MixoutRefIdeal.Run
public import proofs.«01_k».proof.Proof.Gen.MixoutRefIdeal.Read
public import Idealize.ShloMosaic.Lib.Pipeline.ValueKit
public import Idealize.ShloMosaic.Lib.Claim
public import Idealize.ShloMosaic.Lib.StableHlo.ReadAt

@[expose] public section

set_option maxRecDepth 16384

noncomputable section

namespace Cert.MixoutIdeal.Values

open Idealize.ShloMosaic Idealize.ShloMosaic.TcCoe Idealize.SL.Sem Cert.MixoutIdeal Cert.MixoutIdeal.Gen Cert.Sums Cert.Lift Cert.Norm
open Cert.Merge

/-! ### The body's values, at an index -/

section Body

variable {v : Vec Ideal S512x1024 .f32} {w : Vec Ideal S1024x1024 .bf16} {x : Vec Ideal S512x1024 .f32}
variable {F : Fin 512 → Fin 1024 → EReal}

/-- The block's residual sums. -/
def IsRes (v : Vec Ideal S512x1024 .f32) (w : Vec Ideal S1024x1024 .bf16) (x : Vec Ideal S512x1024 .f32)
    (F : Fin 512 → Fin 1024 → EReal) : Prop :=
  ∀ r d, (alpha : EReal) * x (ix2 r d) + ∑ k : Fin 1024, v (ix2 r k) * w (ix2 k d) = F r d

theorem pay1 (h : IsRes v w x F) (r : Fin 512) (d : Fin 1024) : k0_pay1 v (k0_pay6 x) w (ix2 r d) = rcen (F r) d := by
  pointwise [k0_pay1, k0_pay6]
  simp only [word_alpha, word_1024, h r]
  rfl

theorem pay2 (h : IsRes v w x F) (r : Fin 512) : k0_pay2 v (k0_pay6 x) w (ix2 r 0) = rdev (F r) := by
  pointwise [k0_pay2]
  simp only [word_1024, word_eps, pay1 h]
  rfl

theorem pay3 (h : IsRes v w x F) (r : Fin 512) (d : Fin 1024) : k0_pay3 v (k0_pay6 x) w (ix2 r d) = rnrm (F r) d := by
  pointwise [k0_pay3]
  rw [pay1 h, pay2 h]
  rfl

theorem pay4 (h : IsRes v w x F) (g b : Vec Ideal S1x1024 .f32) (r : Fin 512) (d : Fin 1024) :
    k0_pay4 v (k0_pay6 x) w g b (ix2 r d) = rln (F r) (fun d => g (ix2 0 d)) (fun d => b (ix2 0 d)) d := by
  pointwise [k0_pay4]
  rw [pay3 h]
  rfl

theorem pay5 (s m : Vec Ideal S512x512 .bf16) (ua ub : Vec Ideal S512x1024 .bf16) (ga gb : Vec Ideal S512x1024 .bf16)
    (r : Fin 512) (d : Fin 1024) : k0_pay5 s ua m ub ga gb (ix2 r d) = mix (fun d => ga (ix2 r d)) (fun d => gb (ix2 r d))
      (fun k => s (ix2 r k)) (fun k => m (ix2 r k)) ua ub d := by
  pointwise [k0_pay5]
  simp only [word_half, lgs_eq]
  rfl

theorem ld_row (x : Vec Ideal S512x1024 .f32) : View.ld x r0_1 = x := by
  funext j
  idx_vars j
  pointwise

theorem ld_up (x : Vec Ideal S512x1024 .bf16) : View.ld x r0_1 = x := by
  funext j
  idx_vars j
  pointwise

theorem ld_mixer (x : Vec Ideal S512x512 .bf16) : View.ld x r0_0 = x := by
  funext j
  idx_vars j
  pointwise

variable (x0 : Vec Ideal S512x1024 .f32) (x1 x2 : Vec Ideal S512x512 .bf16) (x3 : Vec Ideal S512x2048 .bf16)
  (x4 x5 : Vec Ideal S512x1024 .bf16) (x6 : Vec Ideal S1024x1024 .bf16) (x7 x8 : Vec Ideal S1x1024 .f32)

theorem pay7_eq : k0_pay7 x0 x1 x2 x3 x4 x5 x6 x7 x8 = k0_pay5 x1 x4 x2 x5 (View.ld x3 r0_2) (View.ld x3 r0_3) := by
  rw [k0_pay7, ld_mixer, ld_mixer, ld_up, ld_up]

theorem pay8_eq : k0_pay8 x0 x1 x2 x3 x4 x5 x6 x7 x8 = k0_pay6 x0 := by rw [k0_pay8, ld_row]

end Body

/-! ### The blocks -/

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)

/-- The array row that row `r` of block `t` is. -/
def row (t : Fin cfg0.N) (r : Fin 512) : Fin 4096 := ⟨t.val * 512 + r.val, by have : cfg0.N = 8 := rfl; omega⟩

theorem blk_x (t : Fin cfg0.N) (r : Fin 512) (d : Fin 1024) : iblk m c 0 t (ix2 r d)
    = m ((c : Thread nD τ).loc main_arg0) (ix2 (row t r) d) := by
  trans V m c main_arg0 (ix2 (row t r) d)
  · blk_ext [iblk, row, idx0 t]
  · rw [V_main_arg0 m c]

theorem blk_s (t : Fin cfg0.N) (r k : Fin 512) : iblk m c 1 t (ix2 r k)
    = m ((c : Thread nD τ).loc main_arg1) (ix2 (row t r) k) := by
  trans V m c main_v0 (ix2 (row t r) k)
  · blk_ext [iblk, row, idx1 t]
  · unfold V; after_reads_at

theorem blk_m (t : Fin cfg0.N) (r k : Fin 512) : iblk m c 2 t (ix2 r k)
    = m ((c : Thread nD τ).loc main_arg2) (ix2 (row t r) k) := by
  trans V m c main_v1 (ix2 (row t r) k)
  · blk_ext [iblk, row, idx2 t]
  · unfold V; after_reads_at

theorem blk_gab (t : Fin cfg0.N) (r : Fin 512) (j : Fin 2048) : iblk m c 3 t (ix2 r j)
    = m ((c : Thread nD τ).loc main_arg3) (ix2 (row t r) j) := by
  trans V m c main_v2 (ix2 (row t r) j)
  · blk_ext [iblk, row, idx3 t]
  · unfold V; after_reads_at

theorem blk_ga (t : Fin cfg0.N) (r : Fin 512) (d : Fin 1024) : View.ld (iblk m c 3 t) r0_2 (ix2 r d)
    = m ((c : Thread nD τ).loc main_arg3) (ix2 (row t r) ⟨d.val, by omega⟩) := by
  trans iblk m c 3 t (ix2 r ⟨d.val, by omega⟩)
  · pointwise
  · exact blk_gab m c t r _

theorem blk_gb (t : Fin cfg0.N) (r : Fin 512) (d : Fin 1024) : View.ld (iblk m c 3 t) r0_3 (ix2 r d)
    = m ((c : Thread nD τ).loc main_arg3) (ix2 (row t r) ⟨1024 + d.val, by omega⟩) := by
  trans iblk m c 3 t (ix2 r ⟨1024 + d.val, by omega⟩)
  · pointwise
  · exact blk_gab m c t r _

theorem blk_ua (t : Fin cfg0.N) : (iblk m c 4 t : S512x1024.Idx → EReal) = m ((c : Thread nD τ).loc main_arg4) := by
  funext i
  idx_vars i
  trans V m c main_v3 (ix2 i0 i1)
  · blk_ext [iblk, idx4 t]
  · unfold V; after_reads_at

theorem blk_ub (t : Fin cfg0.N) : (iblk m c 5 t : S512x1024.Idx → EReal) = m ((c : Thread nD τ).loc main_arg5) := by
  funext i
  idx_vars i
  trans V m c main_v4 (ix2 i0 i1)
  · blk_ext [iblk, idx5 t]
  · unfold V; after_reads_at

theorem blk_wo (t : Fin cfg0.N) : (iblk m c 6 t : S1024x1024.Idx → EReal) = m ((c : Thread nD τ).loc main_arg6) := by
  funext i
  idx_vars i
  trans V m c main_v5 (ix2 i0 i1)
  · blk_ext [iblk, idx6 t]
  · unfold V; after_reads_at

theorem blk_g (t : Fin cfg0.N) (d : Fin 1024) : iblk m c 7 t (ix2 0 d) = m ((c : Thread nD τ).loc main_arg7) (ix1 d) := by
  trans V m c main_v6 (ix2 0 d)
  · blk_ext [iblk, idx7 t]
  · unfold V; after_reads_at

theorem blk_b (t : Fin cfg0.N) (d : Fin 1024) : iblk m c 8 t (ix2 0 d) = m ((c : Thread nD τ).loc main_arg8) (ix1 d) := by
  trans V m c main_v7 (ix2 0 d)
  · blk_ext [iblk, idx8 t]
  · unfold V; after_reads_at

/-- The residual sum of row `t`, of the arrays. -/
def rowRes (x : S4096x1024.Idx → EReal) (s m : S4096x512.Idx → EReal) (gab : S4096x2048.Idx → EReal)
    (ua ub : S512x1024.Idx → EReal) (wo : S1024x1024.Idx → EReal) (t : Fin 4096) : Fin 1024 → EReal :=
  res (fun d => gab (ix2 t ⟨d.val, by omega⟩)) (fun d => gab (ix2 t ⟨1024 + d.val, by omega⟩)) (fun k => s (ix2 t k))
    (fun k => m (ix2 t k)) ua ub wo (fun d => x (ix2 t d))

/-- The residual sums of the arguments. -/
def argRes (t : Fin 4096) : Fin 1024 → EReal :=
  rowRes (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) t

theorem isRes (t : Fin cfg0.N) : IsRes
    (k0_pay5 (iblk m c 1 t) (iblk m c 4 t) (iblk m c 2 t) (iblk m c 5 t) (View.ld (iblk m c 3 t) r0_2)
      (View.ld (iblk m c 3 t) r0_3)) (iblk m c 6 t) (iblk m c 0 t) fun r => argRes m c (row t r) := fun r d => by
  refine congrArg₂ (fun p q : EReal => (alpha : EReal) * p + q) (blk_x m c t r d)
    (Finset.sum_congr rfl fun k _ => congrArg₂ (fun p q : EReal => p * q) ?_ (congrFun (blk_wo m c t) _))
  rw [pay5, blk_ua m c t, blk_ub m c t, show (fun d => View.ld (iblk m c 3 t) r0_2 (ix2 r d)) = _ from funext (blk_ga m c t r),
    show (fun d => View.ld (iblk m c 3 t) r0_3 (ix2 r d)) = _ from funext (blk_gb m c t r),
    show (fun k => iblk m c 1 t (ix2 r k)) = _ from funext (blk_s m c t r),
    show (fun k => iblk m c 2 t (ix2 r k)) = _ from funext (blk_m m c t r)]

/-! ### The result arrays -/

/-- The normalised row scaled and shifted. -/
theorem array_y : (dats m 0 c).arrAt 9 cfg0.N = arr (a := 4096) (b := 1024) fun t => rln (argRes m c t)
    (fun d => m ((c : Thread nD τ).loc main_arg7) (ix1 d)) (fun d => m ((c : Thread nD τ).loc main_arg8) (ix1 d)) := by
  refine (dats m 0 c).arrAt_eq_of_covers 9 _ (by decide +kernel) fun t hf y => ?_
  blk_simp
  idx_vars y
  have e : (win0_9.blk t).view.emb (ix2 y0 y1) = ix2 (row t y0) y1 := by blk_ext [row, idx9 t]
  rw [e, after0_9]
  frame_out
  rw [pay7_eq, pay8_eq]
  refine (pay4 (isRes m c t) _ _ y0 y1).trans ?_
  simp only [blk_g, blk_b]
  rfl

/-- The normalised row. -/
theorem array_xh : (dats m 0 c).arrAt 10 cfg0.N = arr (a := 4096) (b := 1024) fun t => rnrm (argRes m c t) := by
  refine (dats m 0 c).arrAt_eq_of_covers 10 _ (by decide +kernel) fun t hf y => ?_
  blk_simp
  idx_vars y
  have e : (win0_10.blk t).view.emb (ix2 y0 y1) = ix2 (row t y0) y1 := by blk_ext [row, idx10 t]
  rw [e, after0_10]
  frame_out
  rw [pay7_eq, pay8_eq]
  exact pay3 (isRes m c t) y0 y1

/-- The reciprocal deviation. -/
theorem array_dev : (dats m 0 c).arrAt 11 cfg0.N = arr (a := 4096) (b := 1) fun t _ => rdev (argRes m c t) := by
  refine (dats m 0 c).arrAt_eq_of_covers 11 _ (by decide +kernel) fun t hf y => ?_
  blk_simp
  idx_vars y
  obtain rfl : y1 = 0 := Subsingleton.elim _ _
  have e : (win0_11.blk t).view.emb (ix2 y0 0) = ix2 (row t y0) 0 := by blk_ext [row, idx11 t]
  rw [e, after0_11]
  frame_out
  rw [pay7_eq, pay8_eq]
  exact pay2 (isRes m c t) y0

end Cert.MixoutIdeal.Values

namespace Cert.MixoutRefIdeal.Values

open Idealize.ShloMosaic Cert.MixoutRefIdeal Cert.MixoutRefIdeal.Gen Cert.MixoutRefIdeal.Read Cert.Lift Cert.Norm
open Cert.MixoutIdeal.Values (rowRes)

variable (x : Vec Ideal S4096x1024 .f32) (s m : Vec Ideal S4096x512 .f32) (gab : Vec Ideal S4096x2048 .f32)
  (ua ub : Vec Ideal S512x1024 .f32) (w : Vec Ideal S1024x1024 .f32) (g b : Vec Ideal S1024 .f32) (t : Fin 4096)

theorem sum (d : Fin 1024) : val_main_v22 x s m gab ua ub w (ix2 t d) = rowRes x s m gab ua ub w t d := by
  pointwise [val_main_v22, val_main_v21, val_main_v20, val_main_v19, val_main_v18, val_main_v17, val_main_cst_3, val_main_v16,
    val_main_v15, val_main_cst_2, val_main_v14, val_main_v13, val_main_v12, val_main_v11, val_main_v10, val_main_cst_1, val_main_v9,
    val_main_v8, val_main_cst_0, val_main_v7, val_main_v6, val_main_v5, val_main_v4, val_main_v3, val_main_v2, val_main_v1,
    val_main_v0, val_main_cst]
  rw [word_alpha]
  rfl

theorem mean : val_main_v26 x s m gab ua ub w (ix2 t 0) = rmean (rowRes x s m gab ua ub w t) := by
  pointwise [val_main_v26, val_main_v25, val_main_cst_5, val_main_v24, val_main_v23, val_main_cst_4]
  simp only [sum, word_1024]
  rfl

theorem cen (d : Fin 1024) : val_main_v28 x s m gab ua ub w (ix2 t d) = rcen (rowRes x s m gab ua ub w t) d := by
  pointwise [val_main_v28, val_main_v27]
  rw [sum, mean]
  rfl

theorem dev : val_main_v36 x s m gab ua ub w (ix2 t 0) = rdev (rowRes x s m gab ua ub w t) := by
  pointwise [val_main_v36, val_main_v35, val_main_v34, val_main_cst_8, val_main_v33, val_main_v32, val_main_cst_7,
    val_main_v31, val_main_v30, val_main_cst_6, val_main_v29]
  simp only [cen, word_1024, word_eps]
  rfl

theorem nrm (d : Fin 1024) : val_main_v64 x s m gab ua ub w (ix2 t d) = rnrm (rowRes x s m gab ua ub w t) d := by
  pointwise [val_main_v64, val_main_v63]
  rw [dev, show val_main_v62 x s m gab ua ub w (ix2 t d) = rcen (rowRes x s m gab ua ub w t) d from cen x s m gab ua ub w t d]
  rfl

theorem ln (d : Fin 1024) : val_main_v60 x s m gab ua ub w g b (ix2 t d)
    = rln (rowRes x s m gab ua ub w t) (fun d => g (ix1 d)) (fun d => b (ix1 d)) d := by
  pointwise [val_main_v60, val_main_v59, val_main_v58, val_main_v57, val_main_v56, val_main_v55]
  rw [show val_main_v54 x s m gab ua ub w (ix2 t d) = rnrm (rowRes x s m gab ua ub w t) d from nrm x s m gab ua ub w t d]
  rfl

end Cert.MixoutRefIdeal.Values

namespace Cert.Proof

open Idealize.ShloMosaic Idealize.SL.Sem

theorem algebraic_mixout : Cert.algebraic_MixoutIdeal_MixoutRefIdeal (hMixoutIdeal := Cert.MixoutIdeal.Gen.facts)
    (hMixoutRefIdeal := Cert.MixoutRefIdeal.Gen.facts) := by
  intro m g m' g' hpre hargs
  refine ⟨_, _, _, Cert.MixoutIdeal.Value.run_blocks m g,
    (θ_run Cert.MixoutRefIdeal.defs _ _).mono (fun r h c => ?_) (Cert.MixoutRefIdeal.Value.run m' g')⟩
  obtain ⟨e0, e1, e2, e3, e4, e5, e6, e7, e8⟩ := hargs c
  obtain ⟨h0, h1, h2, hk⟩ := h c
  refine ⟨h0.trans ?_, h1.trans ?_, h2.trans ?_, hk⟩
  · rw [Cert.MixoutRefIdeal.Read.val_main_v60_eq, Cert.MixoutIdeal.Values.array_y, e0, e1, e2, e3, e4, e5, e6, e7, e8]
    funext i; idx_vars i; exact Cert.MixoutRefIdeal.Values.ln _ _ _ _ _ _ _ _ _ i0 i1
  · rw [Cert.MixoutRefIdeal.Read.val_main_v64_eq, Cert.MixoutIdeal.Values.array_xh, e0, e1, e2, e3, e4, e5, e6]
    funext i; idx_vars i; exact Cert.MixoutRefIdeal.Values.nrm _ _ _ _ _ _ _ i0 i1
  · rw [Cert.MixoutRefIdeal.Read.val_main_v36_eq, Cert.MixoutIdeal.Values.array_dev, e0, e1, e2, e3, e4, e5, e6]
    funext i; idx_vars i
    obtain rfl : i1 = 0 := Subsingleton.elim _ _
    exact Cert.MixoutRefIdeal.Values.dev _ _ _ _ _ _ _ i0

end Cert.Proof

end
-- ==== Proof.RealNorm.lean ====
/-
  The gradient of a normalised row, over the extended reals as the kernel writes it, and what it is on rows of real
  numbers.
-/
module

public import proofs.«01_k».proof.Proof.Merge

@[expose] public section

noncomputable section

namespace Cert.Norm

open Idealize.ShloMosaic Cert.Lift Cert.Spec

/-- The gradient of a normalised row with gain `g`: `rs` the reciprocal deviation, `xh` the normalised row, `ct` the
    gradient of what the normalisation returns. -/
def rgrad (rs : EReal) (ct xh g : Fin 1024 → EReal) (d : Fin 1024) : EReal :=
  rs * (ct d * g d - Ideal.div (∑ e, ct e * g e) ((1024 : ℝ) : EReal)
    - xh d * Ideal.div (∑ e, ct e * g e * xh e) ((1024 : ℝ) : EReal))

theorem rgrad_coe {rs : EReal} {ct xh g : Fin 1024 → EReal} {r : ℝ} {C X G : Fin 1024 → ℝ} (hr : rs = (r : EReal))
    (hc : ∀ d, ct d = (C d : EReal)) (hx : ∀ d, xh d = (X d : EReal)) (hg : ∀ d, g d = (G d : EReal)) (d : Fin 1024) :
    rgrad rs ct xh g d = (normGrad r C X G d : EReal) := by
  simp only [rgrad, hr, hc, hx, hg, ← EReal.coe_mul, coe_sum, coe_div_1024, ← EReal.coe_sub]
  rfl

/-- The variance of a row of real numbers, and `ε`. -/
def varOf (R : Fin 1024 → ℝ) : ℝ := mean (fun d => (R d - mean R) * (R d - mean R)) + eps

theorem varOf_pos (R : Fin 1024 → ℝ) : 0 < varOf R :=
  add_pos_of_nonneg_of_pos (div_nonneg (Finset.sum_nonneg fun _ _ => mul_self_nonneg _) (by norm_num)) eps_pos

/-- The reciprocal deviation of a row of real numbers. -/
def devOf (R : Fin 1024 → ℝ) : ℝ := (Real.sqrt (varOf R))⁻¹

section Real

variable {f : Fin 1024 → EReal} {R : Fin 1024 → ℝ} (h : ∀ d, f d = (R d : EReal))
include h

theorem rmean_coe : rmean f = (mean R : EReal) := by
  simp only [rmean, h, coe_sum, coe_div_1024]
  rfl

theorem rcen_coe (d : Fin 1024) : rcen f d = ((R d - mean R : ℝ) : EReal) := by
  rw [rcen, h, rmean_coe h, ← EReal.coe_sub]

theorem rvar_coe : rmean (fun d => rcen f d * rcen f d) + (eps : EReal) = (varOf R : EReal) := by
  rw [rmean_coe (R := fun d => (R d - mean R) * (R d - mean R)) fun d => by rw [rcen_coe h, ← EReal.coe_mul], ← EReal.coe_add]
  rfl

theorem rdev_coe : rdev f = (devOf R : EReal) := by
  rw [rdev, rvar_coe h, coe_rsqrt (varOf_pos R)]
  rfl

theorem rnrm_coe (d : Fin 1024) : rnrm f d = (((R d - mean R) * devOf R : ℝ) : EReal) := by
  rw [rnrm, rcen_coe h, rdev_coe h, ← EReal.coe_mul]

end Real

/-- An extended real that is a real number. -/
def IsReal (z : EReal) : Prop := ∃ r : ℝ, z = (r : EReal)

theorem IsReal.add {a b : EReal} : IsReal a → IsReal b → IsReal (a + b) := by
  rintro ⟨p, rfl⟩ ⟨q, rfl⟩
  exact ⟨p + q, (EReal.coe_add p q).symm⟩

theorem IsReal.mul {a b : EReal} : IsReal a → IsReal b → IsReal (a * b) := by
  rintro ⟨p, rfl⟩ ⟨q, rfl⟩
  exact ⟨p * q, (EReal.coe_mul p q).symm⟩

theorem IsReal.sum {ι : Type*} [Fintype ι] {f : ι → EReal} (h : ∀ i, IsReal (f i)) : IsReal (∑ i, f i) := by
  choose g hg using h
  exact ⟨∑ i, g i, by simp only [hg, coe_sum]⟩

theorem IsReal.lgs {z : EReal} : IsReal z → IsReal (lgs z) := by
  rintro ⟨p, rfl⟩
  exact ⟨sgm p, by rw [Lift.lgs, coe_logistic]⟩

open Cert.Merge in
/-- The residual sum of real rows and weights is a real row. -/
theorem isReal_res {ga gb : Fin 1024 → EReal} {s m : Fin 512 → EReal} {ua ub : (⟨2, ![512, 1024]⟩ : Shape).Idx → EReal}
    {wo : (⟨2, ![1024, 1024]⟩ : Shape).Idx → EReal} {x : Fin 1024 → EReal} (hga : ∀ d, IsReal (ga d))
    (hgb : ∀ d, IsReal (gb d)) (hs : ∀ k, IsReal (s k)) (hm : ∀ k, IsReal (m k)) (hua : ∀ i, IsReal (ua i))
    (hub : ∀ i, IsReal (ub i)) (hwo : ∀ i, IsReal (wo i)) (hx : ∀ d, IsReal (x d)) (d : Fin 1024) :
    IsReal (res ga gb s m ua ub wo x d) :=
  (IsReal.mul ⟨alpha, rfl⟩ (hx d)).add (.sum fun k => (((hga k).lgs.mul (.sum fun j => (hs j).mul (hua _))).add
    ((hgb k).lgs.mul (.sum fun j => (hm j).mul (hub _)))).mul (hwo _))

end Cert.Norm

end
-- ==== Proof.MixoutFinite.lean ====
/-
  The precondition of the gated merge's gradient: each element of the nine arrays that it reads is a real number.
-/
module

public import proofs.«01_k».proof.Pre_finite_mix
public import proofs.«01_k».proof.Proof.Finite
public import proofs.«01_k».proof.Proof.RealNorm

@[expose] public section

set_option maxRecDepth 16384

noncomputable section

namespace Cert.Pre_finite_mix

open Idealize.ShloMosaic Cert.Norm
open Cert.Pre_finite (real_of_all)

instance facts : Facts where
  bcast_S_S4096x1024 := by decide
  reducesTo_S4096x1024_S_d0_1 := by decide
  h_S_ := by decide
  bcast_S_S4096x512 := by decide
  reducesTo_S4096x512_S_d0_1 := by decide
  bcast_S_S4096x2048 := by decide
  reducesTo_S4096x2048_S_d0_1 := by decide
  bcast_S_S512x1024 := by decide
  reducesTo_S512x1024_S_d0_1 := by decide
  bcast_S_S1024x1024 := by decide
  reducesTo_S1024x1024_S_d0_1 := by decide
  bcast_S_S1024 := by decide
  reducesTo_S1024_S_d0 := by decide

/-- The precondition, element by element. -/
theorem real {x0 : FVec Ideal S4096x1024 .f32} {x1 x2 : FVec Ideal S4096x512 .f32} {x3 : FVec Ideal S4096x2048 .f32}
    {x4 x5 : FVec Ideal S512x1024 .f32} {x6 : FVec Ideal S1024x1024 .f32} {x7 x8 : FVec Ideal S1024 .f32}
    {x9 : FVec Ideal S4096x1024 .f32} (h : fn x0 x1 x2 x3 x4 x5 x6 x7 x8 x9 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x9 i)) := by
  have e := congrFun h (fun a => a.elim0)
  dsimp only [fn, fn_part1, fn_part2] at e
  obtain ⟨e, e9⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ _ e0, real_of_all _ _ _ _ _ _ e1, real_of_all _ _ _ _ _ _ e2, real_of_all _ _ _ _ _ _ e3,
    real_of_all _ _ _ _ _ _ e4, real_of_all _ _ _ _ _ _ e5, real_of_all _ _ _ _ _ _ e6, real_of_all _ _ _ _ _ _ e7,
    real_of_all _ _ _ _ _ _ e9⟩

end Cert.Pre_finite_mix

end
-- ==== Proof.MixoutSpec.lean ====
/-
  The gated merge backward, row by row over the extended reals: what the kernel's ten results are as functions of its
  arguments.
-/
module

public import proofs.«01_k».proof.Proof.RealNorm
public import proofs.«01_k».proof.Proof.MixoutValues

@[expose] public section

noncomputable section

namespace Cert.Merge

open Idealize.ShloMosaic Cert.Sums Cert.Lift Cert.Norm
open Cert.MixoutIdeal.Values (rowRes)
open Cert.MixoutIdeal (S4096x1024 S4096x512 S4096x2048 S512x1024 S1024x1024 S1024)

/-- The arguments that are read: the argument of the merge, the two mixers, the gates, the weights, the gain, and the
    gradient of what the merge returns. -/
structure Args where
  x : S4096x1024.Idx → EReal
  s : S4096x512.Idx → EReal
  m : S4096x512.Idx → EReal
  gab : S4096x2048.Idx → EReal
  ua : S512x1024.Idx → EReal
  ub : S512x1024.Idx → EReal
  wo : S1024x1024.Idx → EReal
  g : S1024.Idx → EReal
  ct : S4096x1024.Idx → EReal

namespace Args

variable (A : Args) (t : Fin 4096) (d : Fin 1024)

/-- The residual sum. -/
def res : Fin 1024 → EReal := rowRes A.x A.s A.m A.gab A.ua A.ub A.wo t

/-- The first gate, before the logistic function. -/
def ga : EReal := A.gab (ix2 t ⟨d.val, by omega⟩)

/-- The second gate, before the logistic function. -/
def gb : EReal := A.gab (ix2 t ⟨1024 + d.val, by omega⟩)

/-- The first mixer at the model's width. -/
def ya : EReal := up (fun k => A.s (ix2 t k)) A.ua d

/-- The second mixer at the model's width. -/
def yb : EReal := up (fun k => A.m (ix2 t k)) A.ub d

/-- The merged row. -/
def mixed : EReal := lgs (A.ga t d) * A.ya t d + lgs (A.gb t d) * A.yb t d

/-- The gradient of the residual sum. -/
def dr : EReal := rgrad (rdev (A.res t)) (fun d => A.ct (ix2 t d)) (rnrm (A.res t)) (fun d => A.g (ix1 d)) d

/-- The gradient of the merged row. -/
def dm : EReal := ∑ k : Fin 1024, A.dr t k * A.wo (ix2 d k)

/-- The gradient of the first mixer at the model's width. -/
def dya : EReal := A.dm t d * lgs (A.ga t d)

/-- The gradient of the second mixer at the model's width. -/
def dyb : EReal := A.dm t d * lgs (A.gb t d)

/-- The gradient of the first gate. -/
def dga : EReal := A.dm t d * A.ya t d * lgs (A.ga t d) * (1 - lgs (A.ga t d))

/-- The gradient of the second gate. -/
def dgb : EReal := A.dm t d * A.yb t d * lgs (A.gb t d) * (1 - lgs (A.gb t d))

/-- The gradients of the two gates side by side. -/
def dgab (j : Fin 2048) : EReal := if h : j.val < 1024 then A.dga t ⟨j.val, h⟩ else A.dgb t ⟨j.val - 1024, by omega⟩

/-- The gradient of the first mixer. -/
def ds (k : Fin 512) : EReal := ∑ d : Fin 1024, A.dya t d * A.ua (ix2 k d)

/-- The gradient of the second mixer. -/
def dmx (k : Fin 512) : EReal := ∑ d : Fin 1024, A.dyb t d * A.ub (ix2 k d)

/-- A row's part of the gradient of the gain. -/
def dgRow : EReal := A.ct (ix2 t d) * rnrm (A.res t) d

theorem dgab_low {j : Fin 2048} (h : j.val = d.val) : A.dgab t j = A.dga t d := by
  rw [dgab, dif_pos (by omega)]
  congr 1
  exact Fin.ext h

theorem dgab_high {j : Fin 2048} (h : j.val = 1024 + d.val) : A.dgab t j = A.dgb t d := by
  rw [dgab, dif_neg (by omega)]
  congr 1
  exact Fin.ext (by dsimp only; omega)

end Args

end Cert.Merge

end
-- ==== Proof.MixoutGradBlocks.lean ====
/-
  The gated merge of the two mixers, backward: what the kernel leaves in its ten result arrays.
-/
module

public import proofs.«01_k».proof.Proof.MixoutSpec
public import proofs.«01_k».proof.Proof.Gen.MixoutGradIdeal.Value
public import Idealize.ShloMosaic.Lib.Pipeline.ValueKit
public import Idealize.ShloMosaic.Lib.Claim
public import Idealize.ShloMosaic.Lib.StableHlo.ReadAt

@[expose] public section

set_option maxRecDepth 16384

noncomputable section

namespace Cert.MixoutGradIdeal.Values

open Idealize.ShloMosaic Idealize.ShloMosaic.TcCoe Idealize.SL.Sem Cert.MixoutGradIdeal Cert.MixoutGradIdeal.Gen Cert.Sums
open Cert.Lift Cert.Norm Cert.Merge

/-! ### The body's values, at an index -/

section Body

variable (ct xh : Vec Ideal S512x1024 .f32) (dr dm ya yb : FVec Ideal S512x1024 .f32) (rs : Vec Ideal S512x1 .f32)
  (g acc : Vec Ideal S1x1024 .f32) (w : Vec Ideal S1024x1024 .bf16) (s : Vec Ideal S512x512 .bf16)
  (u z zb : Vec Ideal S512x1024 .bf16) (r : Fin 512) (d : Fin 1024)

theorem pay6 : k0_pay6 ct xh rs g (ix2 r d)
    = rgrad (rs (ix2 r 0)) (fun d => ct (ix2 r d)) (fun d => xh (ix2 r d)) (fun d => g (ix2 0 d)) d := by
  pointwise [k0_pay6, k0_pay5]
  simp only [word_1024]
  rfl

theorem pay9 : k0_pay9 dr (ix2 r d) = (alpha : EReal) * dr (ix2 r d) := by
  pointwise [k0_pay9]
  rw [word_alpha]

theorem pay10 : k0_pay10 dr (ix2 r d) = dr (ix2 r d) := by pointwise [k0_pay10]

theorem pay11 : k0_pay11 dr w (ix2 r d) = ∑ k : Fin 1024, dr (ix2 r k) * w (ix2 d k) := by
  pointwise [k0_pay11, k0_pay10]

theorem pay12 : k0_pay12 s u (ix2 r d) = up (fun k => s (ix2 r k)) u d := by
  pointwise [k0_pay12]
  rfl

theorem pay13 : k0_pay13 s u (ix2 r d) = up (fun k => s (ix2 r k)) u d := pay12 s u r d

theorem pay15 : k0_pay15 (k0_pay14 z) (Ideal.ofBits .f32 0x3F000000#32) (ix2 r d) = lgs (z (ix2 r d)) := by
  pointwise [k0_pay15, k0_pay14]
  rw [word_half, lgs_eq]

theorem pay16 : k0_pay16 z (ix2 r d) = lgs (z (ix2 r d)) := by
  pointwise [k0_pay16]
  rw [word_half, lgs_eq]

theorem pay17 : k0_pay17 ya yb (k0_pay14 z) (Ideal.ofBits .f32 0x3F000000#32) zb (ix2 d r)
    = lgs (z (ix2 r d)) * ya (ix2 r d) + lgs (zb (ix2 r d)) * yb (ix2 r d) := by
  pointwise [k0_pay17]
  rw [pay15, pay16]

theorem pay18 : k0_pay18 dm (k0_pay14 z) (Ideal.ofBits .f32 0x3F000000#32) (ix2 r d) = dm (ix2 r d) * lgs (z (ix2 r d)) := by
  pointwise [k0_pay18]
  rw [pay15]

theorem pay19 : k0_pay19 dm z (ix2 r d) = dm (ix2 r d) * lgs (z (ix2 r d)) := by
  pointwise [k0_pay19]
  rw [pay16]

theorem pay20 : k0_pay20 dm ya (k0_pay14 z) (Ideal.ofBits .f32 0x3F000000#32) (ix2 r d)
    = dm (ix2 r d) * ya (ix2 r d) * lgs (z (ix2 r d)) * (1 - lgs (z (ix2 r d))) := by
  pointwise [k0_pay20]
  rw [pay15]

theorem pay21 : k0_pay21 dm yb z (ix2 r d)
    = dm (ix2 r d) * yb (ix2 r d) * lgs (z (ix2 r d)) * (1 - lgs (z (ix2 r d))) := by
  pointwise [k0_pay21]
  rw [pay16]

theorem pay1 (y : FVec Ideal S512x1024 .bf16) (k : Fin 512) :
    k0_pay1 y u (ix2 r k) = ∑ d : Fin 1024, y (ix2 r d) * u (ix2 k d) := by
  pointwise [k0_pay1]

theorem pay2 (y : FVec Ideal S512x1024 .bf16) (k : Fin 512) :
    k0_pay2 y u (ix2 r k) = ∑ d : Fin 1024, y (ix2 r d) * u (ix2 k d) := by
  pointwise [k0_pay2]

theorem pay7 : k0_pay7 ct xh acc (ix2 0 d) = acc (ix2 0 d) + ∑ r : Fin 512, ct (ix2 r d) * xh (ix2 r d) := by
  pointwise [k0_pay7, k0_pay5]

theorem pay8 : k0_pay8 ct acc (ix2 0 d) = acc (ix2 0 d) + ∑ r : Fin 512, ct (ix2 r d) := by
  pointwise [k0_pay8]

end Body

/-! ### The blocks -/

variable (m : (ℓ : Loc nD τ sig) → Buf (Elt Ideal) ℓ) (c : Dev nD)

/-- The arguments. -/
def args : Args where
  x := m ((c : Thread nD τ).loc main_arg0)
  s := m ((c : Thread nD τ).loc main_arg1)
  m := m ((c : Thread nD τ).loc main_arg2)
  gab := m ((c : Thread nD τ).loc main_arg3)
  ua := m ((c : Thread nD τ).loc main_arg4)
  ub := m ((c : Thread nD τ).loc main_arg5)
  wo := m ((c : Thread nD τ).loc main_arg6)
  g := m ((c : Thread nD τ).loc main_arg7)
  ct := m ((c : Thread nD τ).loc main_arg9)

theorem V_nrm : V m c main_v64 = Cert.MixoutRefIdeal.Read.val_main_v64 (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  entry_read
  rfl

theorem V_dev : V m c main_v36 = Cert.MixoutRefIdeal.Read.val_main_v36 (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  entry_read
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![0, t.val] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)
theorem idx17 : ∀ t : Fin cfg0.N, win0_17.index t = ![t.val, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)

/-- The array row that row `r` of block `t` is. -/
def row (t : Fin cfg0.N) (r : Fin 512) : Fin 4096 := ⟨t.val * 512 + r.val, by have : cfg0.N = 8 := rfl; omega⟩

variable (t : Fin cfg0.N) (r : Fin 512) (d : Fin 1024)

theorem blk_ct : iblk m c 0 t (ix2 r d) = (args m c).ct (ix2 (row t r) d) := by
  trans V m c main_arg9 (ix2 (row t r) d)
  · blk_ext [iblk, row, idx0 t]
  · rw [V_main_arg9 m c]; rfl

theorem blk_xh : iblk m c 1 t (ix2 r d) = rnrm ((args m c).res (row t r)) d := by
  trans V m c main_v64 (ix2 (row t r) d)
  · blk_ext [iblk, row, idx1 t]
  · exact (congrFun (V_nrm m c) _).trans (Cert.MixoutRefIdeal.Values.nrm _ _ _ _ _ _ _ (row t r) d)

theorem blk_rs : iblk m c 2 t (ix2 r 0) = rdev ((args m c).res (row t r)) := by
  trans V m c main_v36 (ix2 (row t r) 0)
  · blk_ext [iblk, row, idx2 t]
  · exact (congrFun (V_dev m c) _).trans (Cert.MixoutRefIdeal.Values.dev _ _ _ _ _ _ _ (row t r))

theorem blk_s (k : Fin 512) : iblk m c 3 t (ix2 r k) = (args m c).s (ix2 (row t r) k) := by
  trans V m c main_v65 (ix2 (row t r) k)
  · blk_ext [iblk, row, idx3 t]
  · unfold V; after_reads_at; rfl

theorem blk_m (k : Fin 512) : iblk m c 4 t (ix2 r k) = (args m c).m (ix2 (row t r) k) := by
  trans V m c main_v66 (ix2 (row t r) k)
  · blk_ext [iblk, row, idx4 t]
  · unfold V; after_reads_at; rfl

theorem blk_gab (j : Fin 2048) : iblk m c 5 t (ix2 r j) = (args m c).gab (ix2 (row t r) j) := by
  trans V m c main_v67 (ix2 (row t r) j)
  · blk_ext [iblk, row, idx5 t]
  · unfold V; after_reads_at; rfl

/-- The block of the first gate. -/
abbrev za (t : Fin cfg0.N) : Vec Ideal S512x1024 .bf16 :=
  View.ld (iblk m c 5 t) (Rect.unit ![0, 0] ![512, 1024] inb_S512x2048_S512x1024_0_0)

/-- The block of the second gate. -/
abbrev zb (t : Fin cfg0.N) : Vec Ideal S512x1024 .bf16 :=
  View.ld (iblk m c 5 t) (Rect.unit ![0, 1024] ![512, 1024] inb_S512x2048_S512x1024_0_1024)

theorem blk_ga : za m c t (ix2 r d) = (args m c).ga (row t r) d := by
  trans iblk m c 5 t (ix2 r ⟨d.val, by omega⟩)
  · unfold za; pointwise
  · exact blk_gab m c t r _

theorem blk_gb : zb m c t (ix2 r d) = (args m c).gb (row t r) d := by
  trans iblk m c 5 t (ix2 r ⟨1024 + d.val, by omega⟩)
  · unfold zb; pointwise
  · exact blk_gab m c t r _

theorem blk_ua (k : Fin 512) : iblk m c 6 t (ix2 k d) = (args m c).ua (ix2 k d) := by
  trans V m c main_v68 (ix2 k d)
  · blk_ext [iblk, idx6 t]
  · unfold V; after_reads_at; rfl

theorem blk_ub (k : Fin 512) : iblk m c 7 t (ix2 k d) = (args m c).ub (ix2 k d) := by
  trans V m c main_v69 (ix2 k d)
  · blk_ext [iblk, idx7 t]
  · unfold V; after_reads_at; rfl

theorem blk_wo (k : Fin 1024) : iblk m c 8 t (ix2 d k) = (args m c).wo (ix2 d k) := by
  trans V m c main_v70 (ix2 d k)
  · blk_ext [iblk, idx8 t]
  · unfold V; after_reads_at; rfl

theorem blk_g : iblk m c 9 t (ix2 0 d) = (args m c).g (ix1 d) := by
  trans V m c main_v71 (ix2 0 d)
  · blk_ext [iblk, idx9 t]
  · unfold V; after_reads_at; rfl

/-! ### The body's values on a block -/

/-- The gradient of the residual sums of block `t`. -/
abbrev bdr (t : Fin cfg0.N) : FVec Ideal S512x1024 .f32 := k0_pay6 (iblk m c 0 t) (iblk m c 1 t) (iblk m c 2 t) (iblk m c 9 t)

theorem body_dr : bdr m c t (ix2 r d) = (args m c).dr (row t r) d := by
  refine (pay6 _ _ _ _ r d).trans ?_
  simp only [blk_ct, blk_xh, blk_rs, blk_g]
  rfl

/-- The gradient of the merged rows of block `t`. -/
abbrev bdm (t : Fin cfg0.N) : FVec Ideal S512x1024 .f32 := k0_pay11 (bdr m c t) (iblk m c 8 t)

theorem body_dm : bdm m c t (ix2 r d) = (args m c).dm (row t r) d := by
  refine (pay11 _ _ r d).trans (Finset.sum_congr rfl fun k _ => ?_)
  rw [body_dr, blk_wo]

/-- The first mixer of block `t` at the model's width. -/
abbrev bya (t : Fin cfg0.N) : FVec Ideal S512x1024 .f32 := k0_pay12 (iblk m c 3 t) (iblk m c 6 t)

theorem body_ya : bya m c t (ix2 r d) = (args m c).ya (row t r) d := by
  refine (pay12 _ _ r d).trans ?_
  rw [Args.ya, up, up]
  exact Finset.sum_congr rfl fun k _ => congrArg₂ (fun p q : EReal => p * q) (blk_s m c t r k) (blk_ua m c t d k)

/-- The second mixer of block `t` at the model's width. -/
abbrev byb (t : Fin cfg0.N) : FVec Ideal S512x1024 .f32 := k0_pay13 (iblk m c 4 t) (iblk m c 7 t)

theorem body_yb : byb m c t (ix2 r d) = (args m c).yb (row t r) d := by
  refine (pay13 _ _ r d).trans ?_
  rw [Args.yb, up, up]
  exact Finset.sum_congr rfl fun k _ => congrArg₂ (fun p q : EReal => p * q) (blk_m m c t r k) (blk_ub m c t d k)

theorem body_mixed : k0_pay17 (bya m c t) (byb m c t) (k0_pay14 (za m c t)) (Ideal.ofBits .f32 0x3F000000#32) (zb m c t) (ix2 d r)
    = (args m c).mixed (row t r) d := by
  rw [pay17, body_ya, body_yb, blk_ga, blk_gb]
  rfl

theorem body_dya : k0_pay18 (bdm m c t) (k0_pay14 (za m c t)) (Ideal.ofBits .f32 0x3F000000#32) (ix2 r d)
    = (args m c).dya (row t r) d := by
  rw [pay18, body_dm, blk_ga]
  rfl

theorem body_dyb : k0_pay19 (bdm m c t) (zb m c t) (ix2 r d) = (args m c).dyb (row t r) d := by
  rw [pay19, body_dm, blk_gb]
  rfl

theorem body_ds (k : Fin 512) : k0_pay1 (k0_pay18 (bdm m c t) (k0_pay14 (za m c t)) (Ideal.ofBits .f32 0x3F000000#32))
    (iblk m c 6 t) (ix2 r k) = (args m c).ds (row t r) k := by
  refine (pay1 _ r _ k).trans (Finset.sum_congr rfl fun d _ => ?_)
  rw [body_dya, blk_ua]

theorem body_dmx (k : Fin 512) : k0_pay2 (k0_pay19 (bdm m c t) (zb m c t)) (iblk m c 7 t) (ix2 r k)
    = (args m c).dmx (row t r) k := by
  refine (pay2 _ r _ k).trans (Finset.sum_congr rfl fun d _ => ?_)
  rw [body_dyb, blk_ub]

theorem body_dga : k0_pay20 (bdm m c t) (bya m c t) (k0_pay14 (za m c t)) (Ideal.ofBits .f32 0x3F000000#32) (ix2 r d)
    = (args m c).dga (row t r) d := by
  rw [pay20, body_dm, body_ya, blk_ga]
  rfl

theorem body_dgb : k0_pay21 (bdm m c t) (byb m c t) (zb m c t) (ix2 r d) = (args m c).dgb (row t r) d := by
  rw [pay21, body_dm, body_yb, blk_gb]
  rfl

theorem body_dg (acc : Vec Ideal S1x1024 .f32) : k0_pay7 (iblk m c 0 t) (iblk m c 1 t) acc (ix2 0 d)
    = acc (ix2 0 d) + ∑ r : Fin 512, (args m c).dgRow (row t r) d := by
  refine (pay7 _ _ _ d).trans (congrArg _ (Finset.sum_congr rfl fun r _ => ?_))
  rw [blk_ct, blk_xh]
  rfl

theorem body_db (acc : Vec Ideal S1x1024 .f32) : k0_pay8 (iblk m c 0 t) acc (ix2 0 d)
    = acc (ix2 0 d) + ∑ r : Fin 512, (args m c).ct (ix2 (row t r) d) := by
  refine (pay8 _ _ d).trans (congrArg _ (Finset.sum_congr rfl fun r _ => ?_))
  rw [blk_ct]

/-! ### What a point leaves -/

theorem left_dx : (outsAt0 m c t.val t.isLt).1 (ix2 r d) = (alpha : EReal) * (args m c).dr (row t r) d := by
  rw [← body_dr]
  by_cases h : t.val % 8 = 0
  · rw [outsAt0_A m c t h]; frame_out; exact pay9 _ r d
  · rw [outsAt0_B m c t h]; frame_out; exact pay9 _ r d

theorem left_dr : (outsAt0 m c t.val t.isLt).2.1 (ix2 r d) = (args m c).dr (row t r) d := by
  rw [← body_dr]
  by_cases h : t.val % 8 = 0
  · rw [outsAt0_A m c t h]; frame_out; exact pay10 _ r d
  · rw [outsAt0_B m c t h]; frame_out; exact pay10 _ r d

theorem left_mixed : (outsAt0 m c t.val t.isLt).2.2.1 (ix2 d r) = (args m c).mixed (row t r) d := by
  by_cases h : t.val % 8 = 0
  · rw [outsAt0_A m c t h]; frame_out; exact body_mixed m c t r d
  · rw [outsAt0_B m c t h]; frame_out; exact body_mixed m c t r d

theorem left_dya : (outsAt0 m c t.val t.isLt).2.2.2.1 (ix2 r d) = (args m c).dya (row t r) d := by
  by_cases h : t.val % 8 = 0
  · rw [outsAt0_A m c t h]; frame_out; exact body_dya m c t r d
  · rw [outsAt0_B m c t h]; frame_out; exact body_dya m c t r d

theorem left_dyb : (outsAt0 m c t.val t.isLt).2.2.2.2.1 (ix2 r d) = (args m c).dyb (row t r) d := by
  by_cases h : t.val % 8 = 0
  · rw [outsAt0_A m c t h]; frame_out; exact body_dyb m c t r d
  · rw [outsAt0_B m c t h]; frame_out; exact body_dyb m c t r d

theorem left_ds (k : Fin 512) : (outsAt0 m c t.val t.isLt).2.2.2.2.2.1 (ix2 r k) = (args m c).ds (row t r) k := by
  by_cases h : t.val % 8 = 0
  · rw [outsAt0_A m c t h]; frame_out; exact body_ds m c t r k
  · rw [outsAt0_B m c t h]; frame_out; exact body_ds m c t r k

theorem left_dmx (k : Fin 512) : (outsAt0 m c t.val t.isLt).2.2.2.2.2.2.1 (ix2 r k) = (args m c).dmx (row t r) k := by
  by_cases h : t.val % 8 = 0
  · rw [outsAt0_A m c t h]; frame_out; exact body_dmx m c t r k
  · rw [outsAt0_B m c t h]; frame_out; exact body_dmx m c t r k

theorem left_dgab (j : Fin 2048) : (outsAt0 m c t.val t.isLt).2.2.2.2.2.2.2.1 (ix2 r j) = (args m c).dgab (row t r) j := by
  by_cases h : t.val % 8 = 0
  · rw [outsAt0_A m c t h]; frame_out; canon_tiles x hx <;> idx_vars x
    · obtain rfl : r = x0 := Fin.ext hx0
      exact (body_dgb m c t r x1).trans ((args m c).dgab_high _ x1 hx1).symm
    · obtain rfl : r = x0 := Fin.ext hx0
      exact (body_dga m c t r x1).trans ((args m c).dgab_low _ x1 hx1).symm
  · rw [outsAt0_B m c t h]; frame_out; canon_tiles x hx <;> idx_vars x
    · obtain rfl : r = x0 := Fin.ext hx0
      exact (body_dgb m c t r x1).trans ((args m c).dgab_high _ x1 hx1).symm
    · obtain rfl : r = x0 := Fin.ext hx0
      exact (body_dga m c t r x1).trans ((args m c).dgab_low _ x1 hx1).symm

/-- The rows' parts of the gradient of the gain so far. -/
theorem left_dg (n : ℕ) (hn : n < cfg0.N) : (outsAt0 m c n hn).2.2.2.2.2.2.2.2.1 (ix2 0 d)
    = upto (fun t => (args m c).dgRow t d) (n * 512 + 512) := by
  have hN : cfg0.N = 8 := rfl
  induction n with
  | zero =>
    rw [outsAt0_A m c ⟨0, hn⟩ (Nat.zero_mod _)]
    frame_out
    refine (body_dg m c ⟨0, hn⟩ d _).trans ?_
    rw [← upto_add _ _ _ (by omega)]
    refine congrArg₂ (fun p q : EReal => p + q) ?_ rfl
    rw [Nat.zero_mul, upto_zero]
    pointwise [k0_pay3]
  | succ n ih =>
    rw [outsAt0_B m c ⟨n + 1, hn⟩ (by dsimp only; omega)]
    frame_out
    refine (body_dg m c ⟨n + 1, hn⟩ d _).trans ?_
    rw [← upto_add _ _ _ (by omega)]
    refine congrArg₂ (fun p q : EReal => p + q) ?_ rfl
    rw [show (n + 1) * 512 = n * 512 + 512 by omega]
    exact ih (by omega)

/-- The rows' parts of the gradient of the shift so far. -/
theorem left_db (n : ℕ) (hn : n < cfg0.N) : (outsAt0 m c n hn).2.2.2.2.2.2.2.2.2 (ix2 0 d)
    = upto (fun t => (args m c).ct (ix2 t d)) (n * 512 + 512) := by
  have hN : cfg0.N = 8 := rfl
  induction n with
  | zero =>
    rw [outsAt0_A m c ⟨0, hn⟩ (Nat.zero_mod _)]
    frame_out
    refine (body_db m c ⟨0, hn⟩ d _).trans ?_
    rw [← upto_add _ _ _ (by omega)]
    refine congrArg₂ (fun p q : EReal => p + q) ?_ rfl
    rw [Nat.zero_mul, upto_zero]
    pointwise [k0_pay4]
  | succ n ih =>
    rw [outsAt0_B m c ⟨n + 1, hn⟩ (by dsimp only; omega)]
    frame_out
    refine (body_db m c ⟨n + 1, hn⟩ d _).trans ?_
    rw [← upto_add _ _ _ (by omega)]
    refine congrArg₂ (fun p q : EReal => p + q) ?_ rfl
    rw [show (n + 1) * 512 = n * 512 + 512 by omega]
    exact ih (by omega)

/-! ### The result arrays -/

theorem array_dx : (dats m 0 c).arrAt 10 cfg0.N = arr (a := 4096) (b := 1024) fun t d => (alpha : EReal) * (args m c).dr t d := by
  refine (dats m 0 c).arrAt_eq_of_covers 10 _ (by decide +kernel) fun t hf y => ?_
  blk_simp
  idx_vars y
  have e : (win0_10.blk t).view.emb (ix2 y0 y1) = ix2 (row t y0) y1 := by blk_ext [row, idx10 t]
  rw [e, after0_10]
  exact left_dx m c t y0 y1

theorem array_dr : (dats m 0 c).arrAt 11 cfg0.N = arr (a := 4096) (b := 1024) (args m c).dr := by
  refine (dats m 0 c).arrAt_eq_of_covers 11 _ (by decide +kernel) fun t hf y => ?_
  blk_simp
  idx_vars y
  have e : (win0_11.blk t).view.emb (ix2 y0 y1) = ix2 (row t y0) y1 := by blk_ext [row, idx11 t]
  rw [e, after0_11]
  exact left_dr m c t y0 y1

theorem array_mixed : (dats m 0 c).arrAt 12 cfg0.N = arr (a := 1024) (b := 4096) fun d t => (args m c).mixed t d := by
  refine (dats m 0 c).arrAt_eq_of_covers 12 _ (by decide +kernel) fun t hf y => ?_
  blk_simp
  idx_vars y
  have e : (win0_12.blk t).view.emb (ix2 y0 y1) = ix2 y0 (row t y1) := by blk_ext [row, idx12 t]
  rw [e, after0_12]
  exact left_mixed m c t y1 y0

theorem array_dya : (dats m 0 c).arrAt 13 cfg0.N = arr (a := 4096) (b := 1024) (args m c).dya := by
  refine (dats m 0 c).arrAt_eq_of_covers 13 _ (by decide +kernel) fun t hf y => ?_
  blk_simp
  idx_vars y
  have e : (win0_13.blk t).view.emb (ix2 y0 y1) = ix2 (row t y0) y1 := by blk_ext [row, idx13 t]
  rw [e, after0_13]
  exact left_dya m c t y0 y1

theorem array_dyb : (dats m 0 c).arrAt 14 cfg0.N = arr (a := 4096) (b := 1024) (args m c).dyb := by
  refine (dats m 0 c).arrAt_eq_of_covers 14 _ (by decide +kernel) fun t hf y => ?_
  blk_simp
  idx_vars y
  have e : (win0_14.blk t).view.emb (ix2 y0 y1) = ix2 (row t y0) y1 := by blk_ext [row, idx14 t]
  rw [e, after0_14]
  exact left_dyb m c t y0 y1

theorem array_ds : (dats m 0 c).arrAt 15 cfg0.N = arr (a := 4096) (b := 512) (args m c).ds := by
  refine (dats m 0 c).arrAt_eq_of_covers 15 _ (by decide +kernel) fun t hf y => ?_
  blk_simp
  idx_vars y
  have e : (win0_15.blk t).view.emb (ix2 y0 y1) = ix2 (row t y0) y1 := by blk_ext [row, idx15 t]
  rw [e, after0_15]
  exact left_ds m c t y0 y1

theorem array_dmx : (dats m 0 c).arrAt 16 cfg0.N = arr (a := 4096) (b := 512) (args m c).dmx := by
  refine (dats m 0 c).arrAt_eq_of_covers 16 _ (by decide +kernel) fun t hf y => ?_
  blk_simp
  idx_vars y
  have e : (win0_16.blk t).view.emb (ix2 y0 y1) = ix2 (row t y0) y1 := by blk_ext [row, idx16 t]
  rw [e, after0_16]
  exact left_dmx m c t y0 y1

theorem array_dgab : (dats m 0 c).arrAt 17 cfg0.N = arr (a := 4096) (b := 2048) (args m c).dgab := by
  refine (dats m 0 c).arrAt_eq_of_covers 17 _ (by decide +kernel) fun t hf y => ?_
  blk_simp
  idx_vars y
  have e : (win0_17.blk t).view.emb (ix2 y0 y1) = ix2 (row t y0) y1 := by blk_ext [row, idx17 t]
  rw [e, after0_17]
  exact left_dgab m c t y0 y1

theorem array_dg : (dats m 0 c).arrAt 18 cfg0.N = arr (a := 1) (b := 1024) fun _ d => ∑ t : Fin 4096, (args m c).dgRow t d := by
  refine (dats m 0 c).arrAt_eq_of_covers 18 _ (by decide +kernel) fun t hf y => ?_
  blk_simp
  idx_vars y
  obtain rfl : y0 = 0 := Subsingleton.elim _ _
  have e : (win0_18.blk t).view.emb (ix2 0 y1) = ix2 0 y1 := by blk_ext [idx18 t]
  rw [e, after0_18, left_dg]
  have h : t.val = 7 := (by decide +kernel : ∀ t : Fin cfg0.N, win0_18.flush t = true → t.val = 7) t hf
  rw [h]
  exact upto_all _

theorem array_db : (dats m 0 c).arrAt 19 cfg0.N = arr (a := 1) (b := 1024) fun _ d => ∑ t : Fin 4096, (args m c).ct (ix2 t d) := by
  refine (dats m 0 c).arrAt_eq_of_covers 19 _ (by decide +kernel) fun t hf y => ?_
  blk_simp
  idx_vars y
  obtain rfl : y0 = 0 := Subsingleton.elim _ _
  have e : (win0_19.blk t).view.emb (ix2 0 y1) = ix2 0 y1 := by blk_ext [idx19 t]
  rw [e, after0_19, left_db]
  have h : t.val = 7 := (by decide +kernel : ∀ t : Fin cfg0.N, win0_19.flush t = true → t.val = 7) t hf
  rw [h]
  exact upto_all _

end Cert.MixoutGradIdeal.Values

end
-- ==== Proof.MixoutGradRef.lean ====
/-
  The gated merge of the two mixers, backward: what the reference computes. The gradient of the normalisation comes by
  differentiation there, and is the kernel's on rows of real numbers.
-/
module

public import proofs.«01_k».proof.Proof.MixoutSpec
public import proofs.«01_k».proof.Proof.Gen.MixoutGradRefIdeal.Run
public import proofs.«01_k».proof.Proof.Gen.MixoutGradRefIdeal.Read
public import Idealize.ShloMosaic.Lib.Pointwise

@[expose] public section

set_option maxRecDepth 16384

noncomputable section

namespace Cert.MixoutGradRefIdeal.Values

open Idealize.ShloMosaic Cert.MixoutGradRefIdeal Cert.MixoutGradRefIdeal.Gen Cert.MixoutGradRefIdeal.Read Cert.Lift Cert.Norm
open Cert.Merge Cert.Spec
open Cert.MixoutIdeal.Values (rowRes)

variable (x0 : Vec Ideal S4096x1024 .f32) (x1 x2 : Vec Ideal S4096x512 .f32) (x3 : Vec Ideal S4096x2048 .f32)
  (x4 x5 : Vec Ideal S512x1024 .f32) (x6 : Vec Ideal S1024x1024 .f32) (x7 : Vec Ideal S1024 .f32)
  (x9 : Vec Ideal S4096x1024 .f32) (t : Fin 4096) (d : Fin 1024)

/-- The arguments. -/
def args : Args := ⟨x0, x1, x2, x3, x4, x5, x6, x7, x9⟩

theorem ya : val_main_v0 x1 x4 (ix2 t d) = (args x0 x1 x2 x3 x4 x5 x6 x7 x9).ya t d := by
  pointwise [val_main_v0]
  rfl

theorem yb : val_main_v1 x2 x5 (ix2 t d) = (args x0 x1 x2 x3 x4 x5 x6 x7 x9).yb t d := by
  pointwise [val_main_v1]
  rfl

theorem sa : val_main_v9 x3 (ix2 t d) = lgs ((args x0 x1 x2 x3 x4 x5 x6 x7 x9).ga t d) := by
  pointwise [val_main_v9, val_main_v8, val_main_cst_0, val_main_v7, val_main_v6, val_main_cst, val_main_v5, val_main_v4,
    val_main_v2]
  rfl

theorem sb : val_main_v19 x3 (ix2 t d) = lgs ((args x0 x1 x2 x3 x4 x5 x6 x7 x9).gb t d) := by
  pointwise [val_main_v19, val_main_v18, val_main_cst_3, val_main_v17, val_main_v16, val_main_cst_2, val_main_v15, val_main_v14,
    val_main_v3]
  rfl

theorem mixed : val_main_v24 x1 x2 x3 x4 x5 (ix2 t d) = (args x0 x1 x2 x3 x4 x5 x6 x7 x9).mixed t d := by
  pointwise [val_main_v24, val_main_v23, val_main_v13]
  rw [ya x0 x1 x2 x3 x4 x5 x6 x7 x9, yb x0 x1 x2 x3 x4 x5 x6 x7 x9, sa x0 x1 x2 x3 x4 x5 x6 x7 x9,
    sb x0 x1 x2 x3 x4 x5 x6 x7 x9]
  rfl

theorem res : val_main_v28 x0 x1 x2 x3 x4 x5 x6 (ix2 t d) = (args x0 x1 x2 x3 x4 x5 x6 x7 x9).res t d := by
  pointwise [val_main_v28, val_main_v27, val_main_v26, val_main_cst_5, val_main_v25]
  simp only [mixed x0 x1 x2 x3 x4 x5 x6 x7 x9, word_alpha]
  rfl

theorem mean : val_main_v32 x0 x1 x2 x3 x4 x5 x6 (ix2 t 0) = rmean ((args x0 x1 x2 x3 x4 x5 x6 x7 x9).res t) := by
  pointwise [val_main_v32, val_main_v31, val_main_cst_7, val_main_v30, val_main_v29, val_main_cst_6]
  simp only [res x0 x1 x2 x3 x4 x5 x6 x7 x9, word_1024]
  rfl

theorem cen : val_main_v34 x0 x1 x2 x3 x4 x5 x6 (ix2 t d) = rcen ((args x0 x1 x2 x3 x4 x5 x6 x7 x9).res t) d := by
  pointwise [val_main_v34, val_main_v33]
  rw [res x0 x1 x2 x3 x4 x5 x6 x7 x9, mean x0 x1 x2 x3 x4 x5 x6 x7 x9]
  rfl

theorem cen' : val_main_v43 x0 x1 x2 x3 x4 x5 x6 (ix2 t d) = rcen ((args x0 x1 x2 x3 x4 x5 x6 x7 x9).res t) d :=
  cen x0 x1 x2 x3 x4 x5 x6 x7 x9 t d

theorem var : val_main_v45 x0 x1 x2 x3 x4 x5 x6 (ix2 t 0) = rmean (fun d => rcen ((args x0 x1 x2 x3 x4 x5 x6 x7 x9).res t) d
    * rcen ((args x0 x1 x2 x3 x4 x5 x6 x7 x9).res t) d) + (eps : EReal) := by
  pointwise [val_main_v45, val_main_v44, val_main_cst_11, val_main_v41, val_main_v40, val_main_cst_10, val_main_v39,
    val_main_v38, val_main_cst_9, val_main_v35]
  simp only [cen x0 x1 x2 x3 x4 x5 x6 x7 x9, word_1024, word_eps]
  rfl

theorem dev : val_main_v46 x0 x1 x2 x3 x4 x5 x6 (ix2 t 0) = rdev ((args x0 x1 x2 x3 x4 x5 x6 x7 x9).res t) := by
  pointwise [val_main_v46]
  rw [var x0 x1 x2 x3 x4 x5 x6 x7 x9]
  rfl

theorem nrm : val_main_v51 x0 x1 x2 x3 x4 x5 x6 (ix2 t d) = rnrm ((args x0 x1 x2 x3 x4 x5 x6 x7 x9).res t) d := by
  pointwise [val_main_v51, val_main_v50]
  rw [cen' x0 x1 x2 x3 x4 x5 x6 x7 x9, dev x0 x1 x2 x3 x4 x5 x6 x7 x9]
  rfl

/-! ### The gradient of the normalisation, on rows of real numbers -/

section Real

variable {x0 x1 x2 x3 x4 x5 x6 x7 x9 t} {R C G : Fin 1024 → ℝ} (hr : ∀ d, (args x0 x1 x2 x3 x4 x5 x6 x7 x9).res t d = (R d : EReal))
  (hc : ∀ d, x9 (ix2 t d) = (C d : EReal)) (hg : ∀ d, x7 (ix1 d) = (G d : EReal))

include hr in
theorem rres : val_main_v28 x0 x1 x2 x3 x4 x5 x6 (ix2 t d) = (R d : EReal) := (res x0 x1 x2 x3 x4 x5 x6 x7 x9 t d).trans (hr d)

include hr in
theorem rcen34 : val_main_v34 x0 x1 x2 x3 x4 x5 x6 (ix2 t d) = ((R d - Spec.mean R : ℝ) : EReal) :=
  (cen x0 x1 x2 x3 x4 x5 x6 x7 x9 t d).trans (rcen_coe hr d)

include hr in
theorem rcen43 : val_main_v43 x0 x1 x2 x3 x4 x5 x6 (ix2 t d) = ((R d - Spec.mean R : ℝ) : EReal) :=
  (cen' x0 x1 x2 x3 x4 x5 x6 x7 x9 t d).trans (rcen_coe hr d)

include hr in
theorem rvar45 : val_main_v45 x0 x1 x2 x3 x4 x5 x6 (ix2 t 0) = (varOf R : EReal) :=
  (var x0 x1 x2 x3 x4 x5 x6 x7 x9 t).trans (rvar_coe hr)

include hr in
theorem rdev46 : val_main_v46 x0 x1 x2 x3 x4 x5 x6 (ix2 t 0) = (devOf R : EReal) :=
  (dev x0 x1 x2 x3 x4 x5 x6 x7 x9 t).trans (rdev_coe hr)

include hc hg in
theorem dy : val_main_v66 x7 x9 (ix2 t d) = ((C d * G d : ℝ) : EReal) := by
  pointwise [val_main_v66, val_main_v65, val_main_v58, val_main_v52]
  rw [hc, hg, ← EReal.coe_mul]

include hr hc hg in
/-- The gradient of the variance. -/
theorem dvar : val_main_v78 x0 x1 x2 x3 x4 x5 x6 x7 x9 (ix2 t 0) = (((∑ e, (R e - Spec.mean R) * (C e * G e))
    * (-(1 / 2) * (devOf R / varOf R)) / 1024 : ℝ) : EReal) := by
  pointwise [val_main_v78, val_main_v77, val_main_cst_19, val_main_v73, val_main_v70, val_main_v69, val_main_cst_17,
    val_main_v68, val_main_v49, val_main_v48, val_main_cst_12, val_main_v47]
  simp only [rcen43 _ hr, dy _ hc hg, rdev46 hr, rvar45 hr, word_neg_half, word_1024, coe_div _ (varOf_pos R).ne', ← EReal.coe_mul,
    coe_sum, coe_div_1024]

include hr hc hg in
theorem dcen : val_main_v81 x0 x1 x2 x3 x4 x5 x6 x7 x9 (ix2 t d) = (((∑ e, (R e - Spec.mean R) * (C e * G e))
    * (-(1 / 2) * (devOf R / varOf R)) / 1024 * (2 * (R d - Spec.mean R)) : ℝ) : EReal) := by
  pointwise [val_main_v81, val_main_v80, val_main_v79, val_main_cst_20, val_main_v37, val_main_v36, val_main_cst_8]
  simp only [Finset.univ_unique, Fin.default_eq_zero, Finset.sum_singleton, dvar hr hc hg, rcen34 _ hr, word_two]
  norm_cast

include hr hc hg in
theorem dnrm : val_main_v72 x0 x1 x2 x3 x4 x5 x6 x7 x9 (ix2 t d) = ((C d * G d * devOf R : ℝ) : EReal) := by
  pointwise [val_main_v72, val_main_v71]
  rw [dy _ hc hg, rdev46 hr, ← EReal.coe_mul]

include hr hc hg in
/-- The gradient of the residual sum. -/
theorem dres : val_main_v91 x0 x1 x2 x3 x4 x5 x6 x7 x9 (ix2 t d)
    = (normGrad (devOf R) C (fun e => (R e - Spec.mean R) * devOf R) G d : EReal) := by
  have e := normGrad_eq (devOf R) (varOf R) C (fun e => R e - Spec.mean R) G d (varOf_pos R).ne' (rsqrt_sq_mul (varOf_pos R))
    (sum_sub_mean R)
  pointwise [val_main_v91, val_main_v90, val_main_v89, val_main_cst_23, val_main_v88, val_main_v87, val_main_cst_22,
    val_main_v86, val_main_v85, val_main_v84, val_main_v83, val_main_cst_21, val_main_v82, val_main_v76, val_main_v75,
    val_main_cst_18, val_main_v74]
  simp only [Finset.univ_unique, Finset.sum_singleton, dcen _ hr hc hg, dnrm _ hr hc hg, word_1024, ← EReal.coe_neg, coe_sum,
    coe_div_1024, ← EReal.coe_add]
  exact congrArg _ e

end Real

/-- The arguments' numbers are real. -/
structure Finite : Prop where
  x : ∀ i, IsReal (x0 i)
  s : ∀ i, IsReal (x1 i)
  m : ∀ i, IsReal (x2 i)
  gab : ∀ i, IsReal (x3 i)
  ua : ∀ i, IsReal (x4 i)
  ub : ∀ i, IsReal (x5 i)
  wo : ∀ i, IsReal (x6 i)
  g : ∀ i, IsReal (x7 i)
  ct : ∀ i, IsReal (x9 i)

variable {x0 x1 x2 x3 x4 x5 x6 x7 x9} (H : Finite x0 x1 x2 x3 x4 x5 x6 x7 x9)
include H

theorem dr : val_main_v91 x0 x1 x2 x3 x4 x5 x6 x7 x9 (ix2 t d) = (args x0 x1 x2 x3 x4 x5 x6 x7 x9).dr t d := by
  have hr : ∀ d, IsReal ((args x0 x1 x2 x3 x4 x5 x6 x7 x9).res t d) := isReal_res (fun _ => H.gab _) (fun _ => H.gab _)
    (fun _ => H.s _) (fun _ => H.m _) H.ua H.ub H.wo (fun _ => H.x _)
  choose R hR using hr
  choose C hC using fun d => H.ct (ix2 t d)
  choose G hG using fun d => H.g (ix1 d)
  exact (dres d hR hC hG).trans (rgrad_coe (rdev_coe hR) hC (fun d => rnrm_coe hR d) hG d).symm

theorem dx : val_main_v93 x0 x1 x2 x3 x4 x5 x6 x7 x9 (ix2 t d)
    = (alpha : EReal) * (args x0 x1 x2 x3 x4 x5 x6 x7 x9).dr t d := by
  pointwise [val_main_v93, val_main_v92, val_main_cst_24]
  rw [dr t d H, word_alpha]

theorem dm : val_main_v94 x0 x1 x2 x3 x4 x5 x6 x7 x9 (ix2 t d) = (args x0 x1 x2 x3 x4 x5 x6 x7 x9).dm t d := by
  pointwise [val_main_v94]
  simp only [dr _ _ H]
  rfl

theorem dya : val_main_v98 x0 x1 x2 x3 x4 x5 x6 x7 x9 (ix2 t d) = (args x0 x1 x2 x3 x4 x5 x6 x7 x9).dya t d := by
  pointwise [val_main_v98]
  rw [dm t d H, sa x0 x1 x2 x3 x4 x5 x6 x7 x9, mul_comm]
  rfl

theorem dyb : val_main_v95 x0 x1 x2 x3 x4 x5 x6 x7 x9 (ix2 t d) = (args x0 x1 x2 x3 x4 x5 x6 x7 x9).dyb t d := by
  pointwise [val_main_v95]
  rw [dm t d H, sb x0 x1 x2 x3 x4 x5 x6 x7 x9, mul_comm]
  rfl

theorem dga : val_main_v100 x0 x1 x2 x3 x4 x5 x6 x7 x9 (ix2 t d) = (args x0 x1 x2 x3 x4 x5 x6 x7 x9).dga t d := by
  pointwise [val_main_v100, val_main_v99, val_main_v12, val_main_v11, val_main_v10, val_main_cst_1]
  rw [dm t d H, sa x0 x1 x2 x3 x4 x5 x6 x7 x9, ya x0 x1 x2 x3 x4 x5 x6 x7 x9, ← mul_assoc]
  rfl

theorem dgb : val_main_v97 x0 x1 x2 x3 x4 x5 x6 x7 x9 (ix2 t d) = (args x0 x1 x2 x3 x4 x5 x6 x7 x9).dgb t d := by
  pointwise [val_main_v97, val_main_v96, val_main_v22, val_main_v21, val_main_v20, val_main_cst_4]
  rw [dm t d H, sb x0 x1 x2 x3 x4 x5 x6 x7 x9, yb x0 x1 x2 x3 x4 x5 x6 x7 x9, ← mul_assoc]
  rfl

theorem dgab (j : Fin 2048) : val_main_v101 x0 x1 x2 x3 x4 x5 x6 x7 x9 (ix2 t j)
    = (args x0 x1 x2 x3 x4 x5 x6 x7 x9).dgab t j := by
  by_cases h : j.val < 1024
  · rw [(args x0 x1 x2 x3 x4 x5 x6 x7 x9).dgab_low t ⟨j.val, h⟩ rfl, ← dga t _ H]
    pointwise [val_main_v101]
    exact dif_pos h
  · rw [(args x0 x1 x2 x3 x4 x5 x6 x7 x9).dgab_high t ⟨j.val - 1024, by omega⟩ (by dsimp only; omega), ← dgb t _ H]
    pointwise [val_main_v101]
    exact dif_neg h

theorem ds (k : Fin 512) : val_main_v107 x0 x1 x2 x3 x4 x5 x6 x7 x9 (ix2 t k) = (args x0 x1 x2 x3 x4 x5 x6 x7 x9).ds t k := by
  pointwise [val_main_v107]
  simp only [dya _ _ H]
  rfl

theorem dmx (k : Fin 512) : val_main_v108 x0 x1 x2 x3 x4 x5 x6 x7 x9 (ix2 t k) = (args x0 x1 x2 x3 x4 x5 x6 x7 x9).dmx t k := by
  pointwise [val_main_v108]
  simp only [dyb _ _ H]
  rfl

omit H

theorem dg : val_main_v110 x0 x1 x2 x3 x4 x5 x6 x9 (ix2 0 d)
    = ∑ t : Fin 4096, (args x0 x1 x2 x3 x4 x5 x6 x7 x9).dgRow t d := by
  pointwise [val_main_v110, val_main_v67, val_main_cst_16, val_main_v64, val_main_v63, val_main_cst_15, val_main_v62, val_main_v58]
  simp only [Finset.univ_unique, Finset.sum_singleton]
  refine Finset.sum_congr rfl fun t _ => ?_
  rw [nrm x0 x1 x2 x3 x4 x5 x6 x7 x9, mul_comm]
  rfl

theorem db : val_main_v111 x9 (ix2 0 d) = ∑ t : Fin 4096, (args x0 x1 x2 x3 x4 x5 x6 x7 x9).ct (ix2 t d) := by
  pointwise [val_main_v111, val_main_v61, val_main_cst_14, val_main_v60, val_main_v59, val_main_cst_13]
  simp only [Finset.univ_unique, Finset.sum_singleton]
  rfl

end Cert.MixoutGradRefIdeal.Values

end
-- ==== Proof.MixoutGradValues.lean ====
/-
  The value claim of the gated merge's gradient: on finite arguments the kernel's ten result arrays are the reference's.
-/
module

public import proofs.«01_k».proof.Defs
public import proofs.«01_k».proof.Proof.MixoutFinite
public import proofs.«01_k».proof.Proof.MixoutGradBlocks
public import proofs.«01_k».proof.Proof.MixoutGradRef

@[expose] public section

set_option maxRecDepth 16384

noncomputable section

namespace Cert.Proof

open Idealize.ShloMosaic Idealize.SL.Sem
open Cert.MixoutGradRefIdeal.Values (Finite)

set_option maxHeartbeats 4000000 in
theorem algebraic_mixout_grad : Cert.algebraic_MixoutGradIdeal_MixoutGradRefIdeal_pre_finite_mix
    (hMixoutGradIdeal := Cert.MixoutGradIdeal.Gen.facts) (hMixoutGradRefIdeal := Cert.MixoutGradRefIdeal.Gen.facts)
    (hPre_finite_mix := Cert.Pre_finite_mix.facts) := by
  intro m g m' g' hpre hargs
  refine ⟨_, _, _, _, _, _, _, _, _, _, Cert.MixoutGradIdeal.Value.run_blocks m g,
    (θ_run Cert.MixoutGradRefIdeal.defs _ _).mono (fun r h c => ?_) (Cert.MixoutGradRefIdeal.Value.run m' g')⟩
  obtain ⟨p0, p1, p2, p3, p4, p5, p6, p7, p9⟩ := Cert.Pre_finite_mix.real (hpre c)
  have H : Finite _ _ _ _ _ _ _ _ _ := ⟨p0, p1, p2, p3, p4, p5, p6, p7, p9⟩
  obtain ⟨e0, e1, e2, e3, e4, e5, e6, e7, -, e9⟩ := hargs c
  replace e0 : StableHlo.launchContents m' c (Proc.devRef .tc Cert.MixoutGradRefIdeal.main_arg0) = _ := e0
  replace e1 : StableHlo.launchContents m' c (Proc.devRef .tc Cert.MixoutGradRefIdeal.main_arg1) = _ := e1
  replace e2 : StableHlo.launchContents m' c (Proc.devRef .tc Cert.MixoutGradRefIdeal.main_arg2) = _ := e2
  replace e3 : StableHlo.launchContents m' c (Proc.devRef .tc Cert.MixoutGradRefIdeal.main_arg3) = _ := e3
  replace e4 : StableHlo.launchContents m' c (Proc.devRef .tc Cert.MixoutGradRefIdeal.main_arg4) = _ := e4
  replace e5 : StableHlo.launchContents m' c (Proc.devRef .tc Cert.MixoutGradRefIdeal.main_arg5) = _ := e5
  replace e6 : StableHlo.launchContents m' c (Proc.devRef .tc Cert.MixoutGradRefIdeal.main_arg6) = _ := e6
  replace e7 : StableHlo.launchContents m' c (Proc.devRef .tc Cert.MixoutGradRefIdeal.main_arg7) = _ := e7
  replace e9 : StableHlo.launchContents m' c (Proc.devRef .tc Cert.MixoutGradRefIdeal.main_arg9) = _ := e9
  obtain ⟨h0, h1, h2, h3, h4, h5, h6, h7, h8, h9, hk⟩ := h c
  refine ⟨h0.trans ?_, h1.trans ?_, h2.trans ?_, h3.trans ?_, h4.trans ?_, h5.trans ?_, h6.trans ?_, h7.trans ?_,
    h8.trans ?_, h9.trans ?_, hk⟩
  · rw [Cert.MixoutGradRefIdeal.Read.val_main_v93_eq, Cert.MixoutGradIdeal.Values.array_dx, e0, e1, e2, e3, e4, e5, e6, e7, e9]
    funext i; idx_vars i; exact Cert.MixoutGradRefIdeal.Values.dx i0 i1 H
  · rw [Cert.MixoutGradRefIdeal.Read.val_main_v102_eq, Cert.MixoutGradIdeal.Values.array_dr, e0, e1, e2, e3, e4, e5, e6, e7, e9]
    funext i; idx_vars i
    refine Eq.trans ?_ (Cert.MixoutGradRefIdeal.Values.dr i0 i1 H)
    pointwise [Cert.MixoutGradRefIdeal.Read.val_main_v102]
  · rw [Cert.MixoutGradRefIdeal.Read.val_main_v104_eq, Cert.MixoutGradIdeal.Values.array_mixed, e1, e2, e3, e4, e5]
    funext i; idx_vars i
    refine Eq.trans ?_ (Cert.MixoutGradRefIdeal.Values.mixed _ _ _ _ _ _ _ _ _ i1 i0)
    pointwise [Cert.MixoutGradRefIdeal.Read.val_main_v104, Cert.MixoutGradRefIdeal.Read.val_main_v103]
  · rw [Cert.MixoutGradRefIdeal.Read.val_main_v105_eq, Cert.MixoutGradIdeal.Values.array_dya, e0, e1, e2, e3, e4, e5, e6, e7, e9]
    funext i; idx_vars i
    refine Eq.trans ?_ (Cert.MixoutGradRefIdeal.Values.dya i0 i1 H)
    pointwise [Cert.MixoutGradRefIdeal.Read.val_main_v105]
  · rw [Cert.MixoutGradRefIdeal.Read.val_main_v106_eq, Cert.MixoutGradIdeal.Values.array_dyb, e0, e1, e2, e3, e4, e5, e6, e7, e9]
    funext i; idx_vars i
    refine Eq.trans ?_ (Cert.MixoutGradRefIdeal.Values.dyb i0 i1 H)
    pointwise [Cert.MixoutGradRefIdeal.Read.val_main_v106]
  · rw [Cert.MixoutGradRefIdeal.Read.val_main_v107_eq, Cert.MixoutGradIdeal.Values.array_ds, e0, e1, e2, e3, e4, e5, e6, e7, e9]
    funext i; idx_vars i; exact Cert.MixoutGradRefIdeal.Values.ds i0 H i1
  · rw [Cert.MixoutGradRefIdeal.Read.val_main_v108_eq, Cert.MixoutGradIdeal.Values.array_dmx, e0, e1, e2, e3, e4, e5, e6, e7, e9]
    funext i; idx_vars i; exact Cert.MixoutGradRefIdeal.Values.dmx i0 H i1
  · rw [Cert.MixoutGradRefIdeal.Read.val_main_v109_eq, Cert.MixoutGradIdeal.Values.array_dgab, e0, e1, e2, e3, e4, e5, e6, e7, e9]
    funext i; idx_vars i
    refine Eq.trans ?_ (Cert.MixoutGradRefIdeal.Values.dgab i0 H i1)
    pointwise [Cert.MixoutGradRefIdeal.Read.val_main_v109]
  · rw [Cert.MixoutGradRefIdeal.Read.val_main_v110_eq, Cert.MixoutGradIdeal.Values.array_dg, e0, e1, e2, e3, e4, e5, e6, e9]
    funext i; idx_vars i
    obtain rfl : i0 = 0 := Subsingleton.elim _ _
    exact Cert.MixoutGradRefIdeal.Values.dg i1 (x0 := m (c.tc.loc Cert.MixoutGradIdeal.main_arg0)) (x1 := m (c.tc.loc Cert.MixoutGradIdeal.main_arg1))
      (x2 := m (c.tc.loc Cert.MixoutGradIdeal.main_arg2)) (x3 := m (c.tc.loc Cert.MixoutGradIdeal.main_arg3))
      (x4 := m (c.tc.loc Cert.MixoutGradIdeal.main_arg4)) (x5 := m (c.tc.loc Cert.MixoutGradIdeal.main_arg5))
      (x6 := m (c.tc.loc Cert.MixoutGradIdeal.main_arg6)) (x7 := m (c.tc.loc Cert.MixoutGradIdeal.main_arg7))
      (x9 := m (c.tc.loc Cert.MixoutGradIdeal.main_arg9))
  · rw [Cert.MixoutGradRefIdeal.Read.val_main_v111_eq, Cert.MixoutGradIdeal.Values.array_db, e9]
    funext i; idx_vars i
    obtain rfl : i0 = 0 := Subsingleton.elim _ _
    exact Cert.MixoutGradRefIdeal.Values.db i1 (x0 := m (c.tc.loc Cert.MixoutGradIdeal.main_arg0)) (x1 := m (c.tc.loc Cert.MixoutGradIdeal.main_arg1))
      (x2 := m (c.tc.loc Cert.MixoutGradIdeal.main_arg2)) (x3 := m (c.tc.loc Cert.MixoutGradIdeal.main_arg3))
      (x4 := m (c.tc.loc Cert.MixoutGradIdeal.main_arg4)) (x5 := m (c.tc.loc Cert.MixoutGradIdeal.main_arg5))
      (x6 := m (c.tc.loc Cert.MixoutGradIdeal.main_arg6)) (x7 := m (c.tc.loc Cert.MixoutGradIdeal.main_arg7))
      (x9 := m (c.tc.loc Cert.MixoutGradIdeal.main_arg9))

end Cert.Proof

end
-- ==== Proof.MixinWUvGrad.lean ====
/-
  The gradient of the combined input projection's weight, the middle run of columns, written over the array that the
  call before it left.
-/
module

public import proofs.«01_k».proof.Defs
public import proofs.«01_k».proof.Proof.Sums
public import proofs.«01_k».proof.Proof.Gen.MixinWUvIdeal.Value
public import proofs.«01_k».proof.Proof.Gen.MixinWUvRefIdeal.Run
public import proofs.«01_k».proof.Proof.Gen.MixinWUvRefIdeal.Read
public import Idealize.ShloMosaic.Lib.Pipeline.ValueKit
public import Idealize.ShloMosaic.Lib.Claim
public import Idealize.ShloMosaic.Lib.StableHlo.ReadAt

@[expose] public section

set_option maxRecDepth 16384

noncomputable section

namespace Cert.MixinWUvIdeal.Grad

open Idealize.ShloMosaic Idealize.ShloMosaic.TcCoe Idealize.SL.Sem Cert.MixinWUvIdeal Cert.MixinWUvIdeal.Gen Cert.Sums

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val + 1] := (by decide +kernel : ∀ t : Fin grid0.N, _)
theorem idx3 : ∀ t : Fin cfg0.N, win0_3.index t = ![0, t.val + 1] := (by decide +kernel : ∀ t : Fin grid0.N, _)

/-- The column of the run, and of the whole array, that column `j` of block `t` is. -/
def col (t : Fin cfg0.N) (j : Fin 512) : Fin 1024 := ⟨t.val * 512 + j.val, by have : cfg0.N = 2 := rfl; omega⟩
def wcol (t : Fin cfg0.N) (j : Fin 512) : Fin 3584 := ⟨(t.val + 1) * 512 + j.val, by have : cfg0.N = 2 := rfl; omega⟩

theorem blk_x (t : Fin cfg0.N) (i : Fin 1024) (k : Fin 4096) : iblk m c 0 t (ix2 i k)
    = m ((c : Thread nD τ).loc main_arg0) (ix2 k i) := by
  trans V m c main_v1 (ix2 i k)
  · blk_ext [iblk, idx0 t]
  · unfold V; after_reads_at

theorem blk_ct (t : Fin cfg0.N) (k : Fin 4096) (j : Fin 512) : iblk m c 1 t (ix2 k j)
    = m ((c : Thread nD τ).loc main_arg2) (ix2 k (col t j)) := by
  trans V m c main_v2 (ix2 k (col t j))
  · blk_ext [iblk, col, idx1 t]
  · unfold V; after_reads_at

/-- What the two result arrays hold before the call. -/
theorem prev_f32 (i : Fin 1024) (j : Fin 3584) : V m c main_v4_0 (ix2 i j)
    = m ((c : Thread nD τ).loc main_arg3) (ix2 i j) := by unfold V; after_reads_at; rfl

theorem prev_bf16 (i : Fin 1024) (j : Fin 3584) : V m c main_v4_1 (ix2 i j)
    = m ((c : Thread nD τ).loc main_arg3) (ix2 i j) := by unfold V; after_reads_at; rfl

/-- What a point stores: zero and the product. -/
theorem pay2 (a : Vec Ideal S1024x4096 .bf16) (b : Vec Ideal S4096x512 .bf16) (i : Fin 1024) (j : Fin 512) :
    k0_pay2 (k0_pay1 (F := Ideal)) a b (ix2 i j) = ∑ k, a (ix2 i k) * b (ix2 k j) := by
  pointwise [k0_pay2, k0_pay1]

/-- The array with the run written. -/
def dw : Fin 1024 → Fin 3584 → EReal :=
  put 512 (tnMul (m ((c : Thread nD τ).loc main_arg0)) (m ((c : Thread nD τ).loc main_arg2))) (m ((c : Thread nD τ).loc main_arg3))

/-- What a point leaves. -/
theorem after_point (t : Fin cfg0.N) (i : Fin 1024) (j : Fin 512) :
    (outsAt0 m c t).1 (ix2 i j) = dw m c i (wcol t j) := by
  rw [dw, put_in (col t j) (by simp only [col, wcol]; omega)]
  unfold outsAt0
  frame_out
  simp only [pay2, blk_x, blk_ct]
  rfl

theorem rounded (t : Fin cfg0.N) : (outsAt0 m c t).2 = (outsAt0 m c t).1 := by
  unfold outsAt0
  frame_out
  funext j
  idx_vars j
  pointwise [k0_pay3]

/-- The gradient, at the precision of the sum. -/
theorem array_f32 : (dats m 0 c).arrAt 2 cfg0.N = arr (a := 1024) (b := 3584) (dw m c) := by
  refine (dats m 0 c).arrAt_eq_of_coversWhere_of_agree 2 _ (fun β => 1 ≤ β (1 : Fin _) ∧ β (1 : Fin _) < 3)
    (by decide +kernel) (fun t hf y => ?_) (fun j hj => ?_)
  · blk_simp
    idx_vars y
    have e : (win0_2.blk t).view.emb (ix2 y0 y1) = ix2 y0 (wcol t y1) := by blk_ext [wcol, idx2 t]
    rw [e, after0_2]
    exact after_point m c t y0 y1
  · blk_simp [Pipeline.Window.cell_apply] at hj
    rw [A_eq]
    idx_vars j
    exact (prev_f32 m c j0 j1).trans (put_out (by omega)).symm

/-- The same gradient, rounded. -/
theorem array_bf16 : (dats m 0 c).arrAt 3 cfg0.N = arr (a := 1024) (b := 3584) (dw m c) := by
  refine (dats m 0 c).arrAt_eq_of_coversWhere_of_agree 3 _ (fun β => 1 ≤ β (1 : Fin _) ∧ β (1 : Fin _) < 3)
    (by decide +kernel) (fun t hf y => ?_) (fun j hj => ?_)
  · blk_simp
    idx_vars y
    have e : (win0_3.blk t).view.emb (ix2 y0 y1) = ix2 y0 (wcol t y1) := by blk_ext [wcol, idx3 t]
    rw [e, after0_3, rounded]
    exact after_point m c t y0 y1
  · blk_simp [Pipeline.Window.cell_apply] at hj
    rw [A_eq]
    idx_vars j
    exact (prev_bf16 m c j0 j1).trans (put_out (by omega)).symm

end Cert.MixinWUvIdeal.Grad

namespace Cert.MixinWUvRefIdeal.Grad

open Idealize.ShloMosaic Cert.MixinWUvRefIdeal Cert.MixinWUvRefIdeal.Gen Cert.MixinWUvRefIdeal.Read Cert.Sums

variable (x ct : Vec Ideal S4096x1024 .f32) (prev : Vec Ideal S1024x3584 .f32)

theorem dw (i : Fin 1024) (j : Fin 3584) : val_main_v5 x ct prev (ix2 i j) = put 512 (tnMul x ct) prev i j := by
  have product : ∀ i j, val_main_v3 x ct (ix2 i j) = tnMul x ct i j := fun i j => by
    pointwise [val_main_v3, val_main_v2]
    exact Finset.sum_congr rfl fun k _ => mul_comm _ _
  pointwise [val_main_v5]
  by_cases h0 : j.val < 512
  · rw [dif_pos h0, put_out (by omega)]
    pointwise [val_main_v0]
  · by_cases h1 : j.val - 512 < 1024
    · rw [dif_neg h0, dif_pos h1, put_in ⟨j.val - 512, h1⟩ (by simp only; omega)]
      exact product _ _
    · rw [dif_neg h0, dif_neg h1, put_out (by omega)]
      pointwise [val_main_v4]
      exact congrArg (fun k => prev (ix2 i k)) (Fin.ext (by simp only; omega))

end Cert.MixinWUvRefIdeal.Grad

namespace Cert.Proof

open Idealize.ShloMosaic Idealize.SL.Sem Cert.Sums

theorem algebraic_mixin_w_uv : Cert.algebraic_MixinWUvIdeal_MixinWUvRefIdeal (hMixinWUvIdeal := Cert.MixinWUvIdeal.Gen.facts)
    (hMixinWUvRefIdeal := Cert.MixinWUvRefIdeal.Gen.facts) := by
  intro m g m' g' hpre hargs
  refine ⟨_, _, Cert.MixinWUvIdeal.Value.run_blocks m g,
    (θ_run Cert.MixinWUvRefIdeal.defs _ _).mono (fun r h c => ?_) (Cert.MixinWUvRefIdeal.Value.run m' g')⟩
  obtain ⟨e0, -, e2, e3⟩ := hargs c
  obtain ⟨h0, h1, hk⟩ := h c
  refine ⟨h0.trans ?_, h1.trans ?_, hk⟩
  · rw [Cert.MixinWUvRefIdeal.Read.val_main_v5_eq, Cert.MixinWUvIdeal.Grad.array_f32, e0, e2, e3]
    funext i; idx_vars i; exact Cert.MixinWUvRefIdeal.Grad.dw _ _ _ i0 i1
  · rw [Cert.MixinWUvRefIdeal.Read.val_main_v6_eq, Cert.MixinWUvIdeal.Grad.array_bf16, e0, e2, e3]
    funext i; idx_vars i; exact Cert.MixinWUvRefIdeal.Grad.dw _ _ _ i0 i1

end Cert.Proof

end
-- ==== Proof.MixinWGGrad.lean ====
/-
  The gradient of the combined input projection's weight, the last run of columns, written over the array that the
  call before it left.
-/
module

public import proofs.«01_k».proof.Defs
public import proofs.«01_k».proof.Proof.Sums
public import proofs.«01_k».proof.Proof.Gen.MixinWGIdeal.Value
public import proofs.«01_k».proof.Proof.Gen.MixinWGRefIdeal.Run
public import proofs.«01_k».proof.Proof.Gen.MixinWGRefIdeal.Read
public import Idealize.ShloMosaic.Lib.Pipeline.ValueKit
public import Idealize.ShloMosaic.Lib.Claim
public import Idealize.ShloMosaic.Lib.StableHlo.ReadAt

@[expose] public section

set_option maxRecDepth 16384

noncomputable section

namespace Cert.MixinWGIdeal.Grad

open Idealize.ShloMosaic Idealize.ShloMosaic.TcCoe Idealize.SL.Sem Cert.MixinWGIdeal Cert.MixinWGIdeal.Gen Cert.Sums

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val + 3] := (by decide +kernel : ∀ t : Fin grid0.N, _)
theorem idx3 : ∀ t : Fin cfg0.N, win0_3.index t = ![0, t.val + 3] := (by decide +kernel : ∀ t : Fin grid0.N, _)

/-- The column of the run, and of the whole array, that column `j` of block `t` is. -/
def col (t : Fin cfg0.N) (j : Fin 512) : Fin 2048 := ⟨t.val * 512 + j.val, by have : cfg0.N = 4 := rfl; omega⟩
def wcol (t : Fin cfg0.N) (j : Fin 512) : Fin 3584 := ⟨(t.val + 3) * 512 + j.val, by have : cfg0.N = 4 := rfl; omega⟩

theorem blk_x (t : Fin cfg0.N) (i : Fin 1024) (k : Fin 4096) : iblk m c 0 t (ix2 i k)
    = m ((c : Thread nD τ).loc main_arg0) (ix2 k i) := by
  trans V m c main_v1 (ix2 i k)
  · blk_ext [iblk, idx0 t]
  · unfold V; after_reads_at

theorem blk_ct (t : Fin cfg0.N) (k : Fin 4096) (j : Fin 512) : iblk m c 1 t (ix2 k j)
    = m ((c : Thread nD τ).loc main_arg2) (ix2 k (col t j)) := by
  trans V m c main_v2 (ix2 k (col t j))
  · blk_ext [iblk, col, idx1 t]
  · unfold V; after_reads_at

/-- What the two result arrays hold before the call. -/
theorem prev_f32 (i : Fin 1024) (j : Fin 3584) : V m c main_v4_0 (ix2 i j)
    = m ((c : Thread nD τ).loc main_arg3) (ix2 i j) := by unfold V; after_reads_at; rfl

theorem prev_bf16 (i : Fin 1024) (j : Fin 3584) : V m c main_v4_1 (ix2 i j)
    = m ((c : Thread nD τ).loc main_arg3) (ix2 i j) := by unfold V; after_reads_at; rfl

/-- What a point stores: zero and the product. -/
theorem pay2 (a : Vec Ideal S1024x4096 .bf16) (b : Vec Ideal S4096x512 .bf16) (i : Fin 1024) (j : Fin 512) :
    k0_pay2 (k0_pay1 (F := Ideal)) a b (ix2 i j) = ∑ k, a (ix2 i k) * b (ix2 k j) := by
  pointwise [k0_pay2, k0_pay1]

/-- The array with the run written. -/
def dw : Fin 1024 → Fin 3584 → EReal :=
  put 1536 (tnMul (m ((c : Thread nD τ).loc main_arg0)) (m ((c : Thread nD τ).loc main_arg2))) (m ((c : Thread nD τ).loc main_arg3))

/-- What a point leaves. -/
theorem after_point (t : Fin cfg0.N) (i : Fin 1024) (j : Fin 512) :
    (outsAt0 m c t).1 (ix2 i j) = dw m c i (wcol t j) := by
  rw [dw, put_in (col t j) (by simp only [col, wcol]; omega)]
  unfold outsAt0
  frame_out
  simp only [pay2, blk_x, blk_ct]
  rfl

theorem rounded (t : Fin cfg0.N) : (outsAt0 m c t).2 = (outsAt0 m c t).1 := by
  unfold outsAt0
  frame_out
  funext j
  idx_vars j
  pointwise [k0_pay3]

/-- The gradient, at the precision of the sum. -/
theorem array_f32 : (dats m 0 c).arrAt 2 cfg0.N = arr (a := 1024) (b := 3584) (dw m c) := by
  refine (dats m 0 c).arrAt_eq_of_coversWhere_of_agree 2 _ (fun β => 3 ≤ β (1 : Fin _))
    (by decide +kernel) (fun t hf y => ?_) (fun j hj => ?_)
  · blk_simp
    idx_vars y
    have e : (win0_2.blk t).view.emb (ix2 y0 y1) = ix2 y0 (wcol t y1) := by blk_ext [wcol, idx2 t]
    rw [e, after0_2]
    exact after_point m c t y0 y1
  · blk_simp [Pipeline.Window.cell_apply] at hj
    rw [A_eq]
    idx_vars j
    exact (prev_f32 m c j0 j1).trans (put_out (by omega)).symm

/-- The same gradient, rounded. -/
theorem array_bf16 : (dats m 0 c).arrAt 3 cfg0.N = arr (a := 1024) (b := 3584) (dw m c) := by
  refine (dats m 0 c).arrAt_eq_of_coversWhere_of_agree 3 _ (fun β => 3 ≤ β (1 : Fin _))
    (by decide +kernel) (fun t hf y => ?_) (fun j hj => ?_)
  · blk_simp
    idx_vars y
    have e : (win0_3.blk t).view.emb (ix2 y0 y1) = ix2 y0 (wcol t y1) := by blk_ext [wcol, idx3 t]
    rw [e, after0_3, rounded]
    exact after_point m c t y0 y1
  · blk_simp [Pipeline.Window.cell_apply] at hj
    rw [A_eq]
    idx_vars j
    exact (prev_bf16 m c j0 j1).trans (put_out (by omega)).symm

end Cert.MixinWGIdeal.Grad

namespace Cert.MixinWGRefIdeal.Grad

open Idealize.ShloMosaic Cert.MixinWGRefIdeal Cert.MixinWGRefIdeal.Gen Cert.MixinWGRefIdeal.Read Cert.Sums

variable (x : Vec Ideal S4096x1024 .f32) (ct : Vec Ideal S4096x2048 .f32) (prev : Vec Ideal S1024x3584 .f32)

theorem dw (i : Fin 1024) (j : Fin 3584) : val_main_v5 x ct prev (ix2 i j) = put 1536 (tnMul x ct) prev i j := by
  have product : ∀ i j, val_main_v3 x ct (ix2 i j) = tnMul x ct i j := fun i j => by
    pointwise [val_main_v3, val_main_v2]
    exact Finset.sum_congr rfl fun k _ => mul_comm _ _
  pointwise [val_main_v5]
  by_cases h0 : j.val < 1536
  · rw [dif_pos h0, put_out (by omega)]
    pointwise [val_main_v0]
  · have h1 : j.val - 1536 < 2048 := by omega
    rw [dif_neg h0, dif_pos h1, put_in ⟨j.val - 1536, h1⟩ (by simp only; omega)]
    exact product _ _

end Cert.MixinWGRefIdeal.Grad

namespace Cert.Proof

open Idealize.ShloMosaic Idealize.SL.Sem Cert.Sums

theorem algebraic_mixin_w_g : Cert.algebraic_MixinWGIdeal_MixinWGRefIdeal (hMixinWGIdeal := Cert.MixinWGIdeal.Gen.facts)
    (hMixinWGRefIdeal := Cert.MixinWGRefIdeal.Gen.facts) := by
  intro m g m' g' hpre hargs
  refine ⟨_, _, Cert.MixinWGIdeal.Value.run_blocks m g,
    (θ_run Cert.MixinWGRefIdeal.defs _ _).mono (fun r h c => ?_) (Cert.MixinWGRefIdeal.Value.run m' g')⟩
  obtain ⟨e0, -, e2, e3⟩ := hargs c
  obtain ⟨h0, h1, hk⟩ := h c
  refine ⟨h0.trans ?_, h1.trans ?_, hk⟩
  · rw [Cert.MixinWGRefIdeal.Read.val_main_v5_eq, Cert.MixinWGIdeal.Grad.array_f32, e0, e2, e3]
    funext i; idx_vars i; exact Cert.MixinWGRefIdeal.Grad.dw _ _ _ i0 i1
  · rw [Cert.MixinWGRefIdeal.Read.val_main_v6_eq, Cert.MixinWGIdeal.Grad.array_bf16, e0, e2, e3]
    funext i; idx_vars i; exact Cert.MixinWGRefIdeal.Grad.dw _ _ _ i0 i1

end Cert.Proof

end
-- ==== Proof.SumLossValues.lean ====
/-
  The loss: the eight devices' parts, 1024 columns each, summed and scaled.
-/
module

public import proofs.«01_k».proof.Defs
public import proofs.«01_k».proof.Proof.Lift
public import proofs.«01_k».proof.Proof.Gen.SumLossIdeal.Value
public import proofs.«01_k».proof.Proof.Gen.SumLossRefIdeal.Run
public import proofs.«01_k».proof.Proof.Gen.SumLossRefIdeal.Read
public import Idealize.ShloMosaic.Lib.Pointwise
public import Idealize.ShloMosaic.Lib.Claim

@[expose] public section

set_option maxRecDepth 16384

noncomputable section

namespace Cert.SumLossIdeal.Values

open Idealize.ShloMosaic Cert.SumLossIdeal Cert.SumLossIdeal.Gen Cert.Lift

theorem word_scale : Ideal.ofBits .f32 0x3A000000#32 = ((1 / 2 * (1 / 1024) : ℝ) : EReal) := by
  simp [Ideal.ofBits, Ideal.ieee, -EReal.coe_mul]; norm_num

/-- Halving and dividing by 1024 is scaling once. -/
theorem scale (s : EReal) : ((1 / 2 * (1 / 1024) : ℝ) : EReal) * s = Ideal.div (((1 / 2 : ℝ) : EReal) * s) ((1024 : ℝ) : EReal) := by
  rw [Ideal.div_coe (by norm_num), EReal.coe_mul, mul_assoc, mul_assoc, mul_comm s]

/-- The kernel sums the devices' parts column by column, the reference all at once. -/
theorem loss (x : Vec Ideal S8x1x1024 .f32) : Value.G1 x = Cert.SumLossRefIdeal.Read.val_main_v3 x := by
  funext i
  idx_vars i
  pointwise [Value.G1, k0_pay1, Cert.SumLossRefIdeal.Read.val_main_v3, Cert.SumLossRefIdeal.Read.val_main_v2,
    Cert.SumLossRefIdeal.Read.val_main_cst_1, Cert.SumLossRefIdeal.Read.val_main_v1, Cert.SumLossRefIdeal.Read.val_main_cst_0,
    Cert.SumLossRefIdeal.Read.val_main_v0, Cert.SumLossRefIdeal.Read.val_main_cst]
  rw [word_scale, word_half, word_1024, scale]
  simp only [Fin.sum_univ_eight, Finset.univ_unique, Fin.default_eq_zero, Finset.sum_singleton, Finset.sum_add_distrib]

end Cert.SumLossIdeal.Values

namespace Cert.Proof

open Idealize.ShloMosaic Idealize.SL.Sem

theorem algebraic_sum_loss : Cert.algebraic_SumLossIdeal_SumLossRefIdeal (hSumLossIdeal := Cert.SumLossIdeal.Gen.facts)
    (hSumLossRefIdeal := Cert.SumLossRefIdeal.Gen.facts) := by
  intro m g m' g' hpre hargs
  refine ⟨_, Cert.SumLossIdeal.Value.run m g,
    (θ_run Cert.SumLossRefIdeal.defs _ _).mono (fun r h c => ?_) (Cert.SumLossRefIdeal.Value.run m' g')⟩
  have e0 := hargs c
  obtain ⟨h0, hk⟩ := h c
  refine ⟨h0.trans ?_, hk⟩
  rw [Cert.SumLossRefIdeal.Read.val_main_v3_eq, e0]
  exact (Cert.SumLossIdeal.Values.loss _).symm

end Cert.Proof

end
-- ==== Proof.AdamValues.lean ====
/-
  One step of the optimiser on a shard of a large weight: the two parts of the gradient added, the two moments and the
  change of the weight. The kernel takes the shard block by block and writes each operation as the reference does, so
  its results are the reference's once their arguments are equal; there is one theorem for each shape of a shard.
-/
module

public import proofs.«01_k».proof.Defs
public import proofs.«01_k».proof.Proof.Gen.AdamFfnOutIdeal.Value
public import proofs.«01_k».proof.Proof.Gen.AdamFfnOutRefIdeal.Run
public import proofs.«01_k».proof.Proof.Gen.AdamFfnOutRefIdeal.Read
public import proofs.«01_k».proof.Proof.Gen.AdamFfnInIdeal.Value
public import proofs.«01_k».proof.Proof.Gen.AdamFfnInRefIdeal.Run
public import proofs.«01_k».proof.Proof.Gen.AdamFfnInRefIdeal.Read
public import proofs.«01_k».proof.Proof.Gen.AdamMixInIdeal.Value
public import proofs.«01_k».proof.Proof.Gen.AdamMixInRefIdeal.Run
public import proofs.«01_k».proof.Proof.Gen.AdamMixInRefIdeal.Read
public import proofs.«01_k».proof.Proof.Gen.AdamGluIdeal.Value
public import proofs.«01_k».proof.Proof.Gen.AdamGluRefIdeal.Run
public import proofs.«01_k».proof.Proof.Gen.AdamGluRefIdeal.Read
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Proof.Gen.AdamSquareIdeal.Value
public import proofs.«01_k».proof.Proof.Gen.AdamSquareRefIdeal.Run
public import proofs.«01_k».proof.Proof.Gen.AdamSquareRefIdeal.Read
public import proofs.«01_k».proof.Proof.Gen.AdamPleIdeal.Value
public import proofs.«01_k».proof.Proof.Gen.AdamPleRefIdeal.Run
public import proofs.«01_k».proof.Proof.Gen.AdamPleRefIdeal.Read
public import Idealize.ShloMosaic.Lib.Claim

@[expose] public section

set_option maxRecDepth 16384

noncomputable section

namespace Cert.Proof

open Idealize.ShloMosaic Idealize.SL.Sem

/-- The output weight of the second feed-forward layer. -/
theorem algebraic_adam_ffn_out : Cert.algebraic_AdamFfnOutIdeal_AdamFfnOutRefIdeal (hAdamFfnOutIdeal := Cert.AdamFfnOutIdeal.Gen.facts)
    (hAdamFfnOutRefIdeal := Cert.AdamFfnOutRefIdeal.Gen.facts) := by
  intro m g m' g' hpre hargs
  refine ⟨_, _, _, _, Cert.AdamFfnOutIdeal.Value.run m g,
    (θ_run Cert.AdamFfnOutRefIdeal.defs _ _).mono (fun r h c => ?_) (Cert.AdamFfnOutRefIdeal.Value.run m' g')⟩
  obtain ⟨e0, e1, e2, e3, e4⟩ := hargs c
  obtain ⟨h0, h1, h2, h3, hk⟩ := h c
  have h := And.intro h0 (And.intro h1 (And.intro h2 h3))
  rw [e0, e1, e2, e3, e4] at h
  exact ⟨h.1, h.2.1, h.2.2.1, h.2.2.2, hk⟩

/-- The input weight of the second feed-forward layer. -/
theorem algebraic_adam_ffn_in : Cert.algebraic_AdamFfnInIdeal_AdamFfnInRefIdeal (hAdamFfnInIdeal := Cert.AdamFfnInIdeal.Gen.facts)
    (hAdamFfnInRefIdeal := Cert.AdamFfnInRefIdeal.Gen.facts) := by
  intro m g m' g' hpre hargs
  refine ⟨_, _, _, _, Cert.AdamFfnInIdeal.Value.run m g,
    (θ_run Cert.AdamFfnInRefIdeal.defs _ _).mono (fun r h c => ?_) (Cert.AdamFfnInRefIdeal.Value.run m' g')⟩
  obtain ⟨e0, e1, e2, e3, e4⟩ := hargs c
  obtain ⟨h0, h1, h2, h3, hk⟩ := h c
  have h := And.intro h0 (And.intro h1 (And.intro h2 h3))
  rw [e0, e1, e2, e3, e4] at h
  exact ⟨h.1, h.2.1, h.2.2.1, h.2.2.2, hk⟩

/-- The input weight of the two mixers. -/
theorem algebraic_adam_mix_in : Cert.algebraic_AdamMixInIdeal_AdamMixInRefIdeal (hAdamMixInIdeal := Cert.AdamMixInIdeal.Gen.facts)
    (hAdamMixInRefIdeal := Cert.AdamMixInRefIdeal.Gen.facts) := by
  intro m g m' g' hpre hargs
  refine ⟨_, _, _, _, Cert.AdamMixInIdeal.Value.run m g,
    (θ_run Cert.AdamMixInRefIdeal.defs _ _).mono (fun r h c => ?_) (Cert.AdamMixInRefIdeal.Value.run m' g')⟩
  obtain ⟨e0, e1, e2, e3, e4⟩ := hargs c
  obtain ⟨h0, h1, h2, h3, hk⟩ := h c
  have h := And.intro h0 (And.intro h1 (And.intro h2 h3))
  rw [e0, e1, e2, e3, e4] at h
  exact ⟨h.1, h.2.1, h.2.2.1, h.2.2.2, hk⟩

/-- The weight of the recurrent mixer's gate. -/
theorem algebraic_adam_glu : Cert.algebraic_AdamGluIdeal_AdamGluRefIdeal (hAdamGluIdeal := Cert.AdamGluIdeal.Gen.facts)
    (hAdamGluRefIdeal := Cert.AdamGluRefIdeal.Gen.facts) := by
  intro m g m' g' hpre hargs
  refine ⟨_, _, _, _, Cert.AdamGluIdeal.Value.run m g,
    (θ_run Cert.AdamGluRefIdeal.defs _ _).mono (fun r h c => ?_) (Cert.AdamGluRefIdeal.Value.run m' g')⟩
  obtain ⟨e0, e1, e2, e3, e4⟩ := hargs c
  obtain ⟨h0, h1, h2, h3, hk⟩ := h c
  have h := And.intro h0 (And.intro h1 (And.intro h2 h3))
  rw [e0, e1, e2, e3, e4] at h
  exact ⟨h.1, h.2.1, h.2.2.1, h.2.2.2, hk⟩

/-- The two weights that take a mixer up to the model's width. -/
theorem algebraic_adam_up : Cert.algebraic_AdamUpIdeal_AdamUpRefIdeal (hAdamUpIdeal := Cert.AdamUpIdeal.Gen.facts)
    (hAdamUpRefIdeal := Cert.AdamUpRefIdeal.Gen.facts) := by
  intro m g m' g' hpre hargs
  refine ⟨_, _, _, _, Cert.AdamUpIdeal.Value.run m g,
    (θ_run Cert.AdamUpRefIdeal.defs _ _).mono (fun r h c => ?_) (Cert.AdamUpRefIdeal.Value.run m' g')⟩
  obtain ⟨e0, e1, e2, e3, e4⟩ := hargs c
  obtain ⟨h0, h1, h2, h3, hk⟩ := h c
  have h := And.intro h0 (And.intro h1 (And.intro h2 h3))
  rw [e0, e1, e2, e3, e4] at h
  exact ⟨h.1, h.2.1, h.2.2.1, h.2.2.2, hk⟩

/-- The mixers' output weight and the embedding's gate. -/
theorem algebraic_adam_square : Cert.algebraic_AdamSquareIdeal_AdamSquareRefIdeal (hAdamSquareIdeal := Cert.AdamSquareIdeal.Gen.facts)
    (hAdamSquareRefIdeal := Cert.AdamSquareRefIdeal.Gen.facts) := by
  intro m g m' g' hpre hargs
  refine ⟨_, _, _, _, Cert.AdamSquareIdeal.Value.run m g,
    (θ_run Cert.AdamSquareRefIdeal.defs _ _).mono (fun r h c => ?_) (Cert.AdamSquareRefIdeal.Value.run m' g')⟩
  obtain ⟨e0, e1, e2, e3, e4⟩ := hargs c
  obtain ⟨h0, h1, h2, h3, hk⟩ := h c
  have h := And.intro h0 (And.intro h1 (And.intro h2 h3))
  rw [e0, e1, e2, e3, e4] at h
  exact ⟨h.1, h.2.1, h.2.2.1, h.2.2.2, hk⟩

/-- The weight of the embedding. -/
theorem algebraic_adam_ple : Cert.algebraic_AdamPleIdeal_AdamPleRefIdeal (hAdamPleIdeal := Cert.AdamPleIdeal.Gen.facts)
    (hAdamPleRefIdeal := Cert.AdamPleRefIdeal.Gen.facts) := by
  intro m g m' g' hpre hargs
  refine ⟨_, _, _, _, Cert.AdamPleIdeal.Value.run m g,
    (θ_run Cert.AdamPleRefIdeal.defs _ _).mono (fun r h c => ?_) (Cert.AdamPleRefIdeal.Value.run m' g')⟩
  obtain ⟨e0, e1, e2, e3, e4⟩ := hargs c
  obtain ⟨h0, h1, h2, h3, hk⟩ := h c
  have h := And.intro h0 (And.intro h1 (And.intro h2 h3))
  rw [e0, e1, e2, e3, e4] at h
  exact ⟨h.1, h.2.1, h.2.2.1, h.2.2.2, hk⟩

end Cert.Proof

end
-- ==== Proof.lean ====
/-
  The proof of the certificate's claim: the frames come from the generated runs, the value claims from the modules under
  Proof/.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Wout.Frame
public import proofs.«01_k».proof.Proof.Gen.WoutIdeal.Frame
public import proofs.«01_k».proof.Proof.Gen.WoutIdeal.Value
public import proofs.«01_k».proof.Proof.Gen.WoutRefIdeal.Run
public import proofs.«01_k».proof.Proof.Gen.WoutRefIdeal.Read
public import proofs.«01_k».proof.Proof.Gen.Win.Frame
public import proofs.«01_k».proof.Proof.Gen.WinIdeal.Frame
public import proofs.«01_k».proof.Proof.Gen.WinIdeal.Value
public import proofs.«01_k».proof.Proof.Gen.WinRefIdeal.Run
public import proofs.«01_k».proof.Proof.Gen.WinRefIdeal.Read
public import proofs.«01_k».proof.Proof.Gen.WinLow.Frame
public import proofs.«01_k».proof.Proof.Gen.WinLowIdeal.Frame
public import proofs.«01_k».proof.Proof.Gen.WinLowIdeal.Value
public import proofs.«01_k».proof.Proof.Gen.WinLowRefIdeal.Run
public import proofs.«01_k».proof.Proof.Gen.WinLowRefIdeal.Read
public import proofs.«01_k».proof.Proof.Gen.WinHigh.Frame
public import proofs.«01_k».proof.Proof.Gen.WinHighIdeal.Frame
public import proofs.«01_k».proof.Proof.Gen.WinHighIdeal.Value
public import proofs.«01_k».proof.Proof.Gen.WinHighRefIdeal.Run
public import proofs.«01_k».proof.Proof.Gen.WinHighRefIdeal.Read
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.Mixin.Frame
public import proofs.«01_k».proof.Proof.Gen.MixinIdeal.Frame
public import proofs.«01_k».proof.Proof.Gen.MixinIdeal.Value
public import proofs.«01_k».proof.Proof.Gen.MixinRefIdeal.Run
public import proofs.«01_k».proof.Proof.Gen.MixinRefIdeal.Read
public import proofs.«01_k».proof.Proof.Gen.MixinGrad.Frame
public import proofs.«01_k».proof.Proof.Gen.MixinGradIdeal.Frame
public import proofs.«01_k».proof.Proof.Gen.MixinGradIdeal.Value
public import proofs.«01_k».proof.Proof.Gen.MixinGradRefIdeal.Run
public import proofs.«01_k».proof.Proof.Gen.MixinGradRefIdeal.Read
public import proofs.«01_k».proof.Proof.Gen.SquareW.Frame
public import proofs.«01_k».proof.Proof.Gen.SquareWIdeal.Frame
public import proofs.«01_k».proof.Proof.Gen.SquareWIdeal.Value
public import proofs.«01_k».proof.Proof.Gen.SquareWRefIdeal.Run
public import proofs.«01_k».proof.Proof.Gen.SquareWRefIdeal.Read
public import proofs.«01_k».proof.Proof.Gen.UpW.Frame
public import proofs.«01_k».proof.Proof.Gen.UpWIdeal.Frame
public import proofs.«01_k».proof.Proof.Gen.UpWIdeal.Value
public import proofs.«01_k».proof.Proof.Gen.UpWRefIdeal.Run
public import proofs.«01_k».proof.Proof.Gen.UpWRefIdeal.Read
public import proofs.«01_k».proof.Proof.Gen.PleW.Frame
public import proofs.«01_k».proof.Proof.Gen.PleWIdeal.Frame
public import proofs.«01_k».proof.Proof.Gen.PleWIdeal.Value
public import proofs.«01_k».proof.Proof.Gen.PleWRefIdeal.Run
public import proofs.«01_k».proof.Proof.Gen.PleWRefIdeal.Read
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.Mixout.Frame
public import proofs.«01_k».proof.Proof.Gen.MixoutIdeal.Frame
public import proofs.«01_k».proof.Proof.Gen.MixoutIdeal.Value
public import proofs.«01_k».proof.Proof.Gen.MixoutRefIdeal.Run
public import proofs.«01_k».proof.Proof.Gen.MixoutRefIdeal.Read
public import proofs.«01_k».proof.Proof.Gen.MixoutGrad.Frame
public import proofs.«01_k».proof.Proof.Gen.MixoutGradIdeal.Frame
public import proofs.«01_k».proof.Proof.Gen.MixoutGradIdeal.Value
public import proofs.«01_k».proof.Proof.Gen.MixoutGradRefIdeal.Run
public import proofs.«01_k».proof.Proof.Gen.MixoutGradRefIdeal.Read
public import proofs.«01_k».proof.Proof.Gen.MixinWUv.Frame
public import proofs.«01_k».proof.Proof.Gen.MixinWUvIdeal.Frame
public import proofs.«01_k».proof.Proof.Gen.MixinWUvIdeal.Value
public import proofs.«01_k».proof.Proof.Gen.MixinWUvRefIdeal.Run
public import proofs.«01_k».proof.Proof.Gen.MixinWUvRefIdeal.Read
public import proofs.«01_k».proof.Proof.Gen.MixinWG.Frame
public import proofs.«01_k».proof.Proof.Gen.MixinWGIdeal.Frame
public import proofs.«01_k».proof.Proof.Gen.MixinWGIdeal.Value
public import proofs.«01_k».proof.Proof.Gen.MixinWGRefIdeal.Run
public import proofs.«01_k».proof.Proof.Gen.MixinWGRefIdeal.Read
public import proofs.«01_k».proof.Proof.Gen.SumLoss.Frame
public import proofs.«01_k».proof.Proof.Gen.SumLossIdeal.Frame
public import proofs.«01_k».proof.Proof.Gen.SumLossIdeal.Value
public import proofs.«01_k».proof.Proof.Gen.SumLossRefIdeal.Run
public import proofs.«01_k».proof.Proof.Gen.SumLossRefIdeal.Read
public import proofs.«01_k».proof.Proof.Gen.AdamFfnOut.Frame
public import proofs.«01_k».proof.Proof.Gen.AdamFfnOutIdeal.Frame
public import proofs.«01_k».proof.Proof.Gen.AdamFfnOutIdeal.Value
public import proofs.«01_k».proof.Proof.Gen.AdamFfnOutRefIdeal.Run
public import proofs.«01_k».proof.Proof.Gen.AdamFfnOutRefIdeal.Read
public import proofs.«01_k».proof.Proof.Gen.AdamFfnIn.Frame
public import proofs.«01_k».proof.Proof.Gen.AdamFfnInIdeal.Frame
public import proofs.«01_k».proof.Proof.Gen.AdamFfnInIdeal.Value
public import proofs.«01_k».proof.Proof.Gen.AdamFfnInRefIdeal.Run
public import proofs.«01_k».proof.Proof.Gen.AdamFfnInRefIdeal.Read
public import proofs.«01_k».proof.Proof.Gen.AdamMixIn.Frame
public import proofs.«01_k».proof.Proof.Gen.AdamMixInIdeal.Frame
public import proofs.«01_k».proof.Proof.Gen.AdamMixInIdeal.Value
public import proofs.«01_k».proof.Proof.Gen.AdamMixInRefIdeal.Run
public import proofs.«01_k».proof.Proof.Gen.AdamMixInRefIdeal.Read
public import proofs.«01_k».proof.Proof.Gen.AdamGlu.Frame
public import proofs.«01_k».proof.Proof.Gen.AdamGluIdeal.Frame
public import proofs.«01_k».proof.Proof.Gen.AdamGluIdeal.Value
public import proofs.«01_k».proof.Proof.Gen.AdamGluRefIdeal.Run
public import proofs.«01_k».proof.Proof.Gen.AdamGluRefIdeal.Read
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.AdamUpRefIdeal.Run
public import proofs.«01_k».proof.Proof.Gen.AdamUpRefIdeal.Read
public import proofs.«01_k».proof.Proof.Gen.AdamSquare.Frame
public import proofs.«01_k».proof.Proof.Gen.AdamSquareIdeal.Frame
public import proofs.«01_k».proof.Proof.Gen.AdamSquareIdeal.Value
public import proofs.«01_k».proof.Proof.Gen.AdamSquareRefIdeal.Run
public import proofs.«01_k».proof.Proof.Gen.AdamSquareRefIdeal.Read
public import proofs.«01_k».proof.Proof.Gen.AdamPle.Frame
public import proofs.«01_k».proof.Proof.Gen.AdamPleIdeal.Frame
public import proofs.«01_k».proof.Proof.Gen.AdamPleIdeal.Value
public import proofs.«01_k».proof.Proof.Gen.AdamPleRefIdeal.Run
public import proofs.«01_k».proof.Proof.Gen.AdamPleRefIdeal.Read
public import proofs.«01_k».proof.Proof.Algebraic
public import proofs.«01_k».proof.Proof.WoutGrad
public import proofs.«01_k».proof.Proof.WinGrad
public import proofs.«01_k».proof.Proof.WinLowGrad
public import proofs.«01_k».proof.Proof.WinHighGrad
public import proofs.«01_k».proof.Proof.ProjValues
public import proofs.«01_k».proof.Proof.OutValues
public import proofs.«01_k».proof.Proof.MixinValues
public import proofs.«01_k».proof.Proof.MixinGradValues
public import proofs.«01_k».proof.Proof.SquareWGrad
public import proofs.«01_k».proof.Proof.UpWGrad
public import proofs.«01_k».proof.Proof.PleWGrad
public import proofs.«01_k».proof.Proof.LossValues
public import proofs.«01_k».proof.Proof.MixoutValues
public import proofs.«01_k».proof.Proof.MixoutGradValues
public import proofs.«01_k».proof.Proof.MixinWUvGrad
public import proofs.«01_k».proof.Proof.MixinWGGrad
public import proofs.«01_k».proof.Proof.SumLossValues
public import proofs.«01_k».proof.Proof.AdamValues

@[expose] public section

noncomputable section

namespace Cert.Proof

open Idealize.ShloMosaic Idealize.SL.Sem

theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2, sem_eq_zero_of_no_sems (by decide) r.2⟩)
    (Cert.ReferenceIdeal.Value.run m ρ)

theorem frame_wout_ref : Cert.quiescent_WoutRefIdeal (hWoutRefIdeal := Cert.WoutRefIdeal.Gen.facts) := fun m ρ _ =>
  (θ_run Cert.WoutRefIdeal.defs _ _).mono (fun r h => ⟨fun c => (h c).2.2, sem_eq_zero_of_no_sems (by decide) r.2⟩)
    (Cert.WoutRefIdeal.Value.run m ρ)

theorem frame_win_ref : Cert.quiescent_WinRefIdeal (hWinRefIdeal := Cert.WinRefIdeal.Gen.facts) := fun m ρ _ =>
  (θ_run Cert.WinRefIdeal.defs _ _).mono (fun r h => ⟨fun c => (h c).2.2, sem_eq_zero_of_no_sems (by decide) r.2⟩)
    (Cert.WinRefIdeal.Value.run m ρ)

theorem frame_win_low_ref : Cert.quiescent_WinLowRefIdeal (hWinLowRefIdeal := Cert.WinLowRefIdeal.Gen.facts) := fun m ρ _ =>
  (θ_run Cert.WinLowRefIdeal.defs _ _).mono (fun r h => ⟨fun c => (h c).2.2, sem_eq_zero_of_no_sems (by decide) r.2⟩)
    (Cert.WinLowRefIdeal.Value.run m ρ)

theorem frame_win_high_ref : Cert.quiescent_WinHighRefIdeal (hWinHighRefIdeal := Cert.WinHighRefIdeal.Gen.facts) := fun m ρ _ =>
  (θ_run Cert.WinHighRefIdeal.defs _ _).mono (fun r h => ⟨fun c => (h c).2.2, sem_eq_zero_of_no_sems (by decide) r.2⟩)
    (Cert.WinHighRefIdeal.Value.run m ρ)

theorem frame_proj_ref : Cert.quiescent_ProjRefIdeal (hProjRefIdeal := Cert.ProjRefIdeal.Gen.facts) := fun m ρ _ =>
  (θ_run Cert.ProjRefIdeal.defs _ _).mono (fun r h => ⟨fun c => (h c).2.2.2, sem_eq_zero_of_no_sems (by decide) r.2⟩)
    (Cert.ProjRefIdeal.Value.run m ρ)

theorem frame_out_ref : Cert.quiescent_OutRefIdeal (hOutRefIdeal := Cert.OutRefIdeal.Gen.facts) := fun m ρ _ =>
  (θ_run Cert.OutRefIdeal.defs _ _).mono (fun r h => ⟨fun c => (h c).2.2.2, sem_eq_zero_of_no_sems (by decide) r.2⟩)
    (Cert.OutRefIdeal.Value.run m ρ)

theorem frame_mixin_ref : Cert.quiescent_MixinRefIdeal (hMixinRefIdeal := Cert.MixinRefIdeal.Gen.facts) := fun m ρ _ =>
  (θ_run Cert.MixinRefIdeal.defs _ _).mono (fun r h => ⟨fun c => (h c).2.2.2.2, sem_eq_zero_of_no_sems (by decide) r.2⟩)
    (Cert.MixinRefIdeal.Value.run m ρ)

theorem frame_mixin_grad_ref : Cert.quiescent_MixinGradRefIdeal (hMixinGradRefIdeal := Cert.MixinGradRefIdeal.Gen.facts) := fun m ρ _ =>
  (θ_run Cert.MixinGradRefIdeal.defs _ _).mono (fun r h => ⟨fun c => (h c).2, sem_eq_zero_of_no_sems (by decide) r.2⟩)
    (Cert.MixinGradRefIdeal.Value.run m ρ)

theorem frame_square_w_ref : Cert.quiescent_SquareWRefIdeal (hSquareWRefIdeal := Cert.SquareWRefIdeal.Gen.facts) := fun m ρ _ =>
  (θ_run Cert.SquareWRefIdeal.defs _ _).mono (fun r h => ⟨fun c => (h c).2.2, sem_eq_zero_of_no_sems (by decide) r.2⟩)
    (Cert.SquareWRefIdeal.Value.run m ρ)

theorem frame_up_w_ref : Cert.quiescent_UpWRefIdeal (hUpWRefIdeal := Cert.UpWRefIdeal.Gen.facts) := fun m ρ _ =>
  (θ_run Cert.UpWRefIdeal.defs _ _).mono (fun r h => ⟨fun c => (h c).2.2, sem_eq_zero_of_no_sems (by decide) r.2⟩)
    (Cert.UpWRefIdeal.Value.run m ρ)

theorem frame_ple_w_ref : Cert.quiescent_PleWRefIdeal (hPleWRefIdeal := Cert.PleWRefIdeal.Gen.facts) := fun m ρ _ =>
  (θ_run Cert.PleWRefIdeal.defs _ _).mono (fun r h => ⟨fun c => (h c).2.2, sem_eq_zero_of_no_sems (by decide) r.2⟩)
    (Cert.PleWRefIdeal.Value.run m ρ)

theorem frame_loss_ref : Cert.quiescent_LossRefIdeal (hLossRefIdeal := Cert.LossRefIdeal.Gen.facts) := fun m ρ _ =>
  (θ_run Cert.LossRefIdeal.defs _ _).mono (fun r h => ⟨fun c => (h c).2.2.2.2.2.2.2.2, sem_eq_zero_of_no_sems (by decide) r.2⟩)
    (Cert.LossRefIdeal.Value.run m ρ)

theorem frame_mixout_ref : Cert.quiescent_MixoutRefIdeal (hMixoutRefIdeal := Cert.MixoutRefIdeal.Gen.facts) := fun m ρ _ =>
  (θ_run Cert.MixoutRefIdeal.defs _ _).mono (fun r h => ⟨fun c => (h c).2.2.2, sem_eq_zero_of_no_sems (by decide) r.2⟩)
    (Cert.MixoutRefIdeal.Value.run m ρ)

theorem frame_mixout_grad_ref : Cert.quiescent_MixoutGradRefIdeal (hMixoutGradRefIdeal := Cert.MixoutGradRefIdeal.Gen.facts) := fun m ρ _ =>
  (θ_run Cert.MixoutGradRefIdeal.defs _ _).mono (fun r h => ⟨fun c => (h c).2.2.2.2.2.2.2.2.2.2, sem_eq_zero_of_no_sems (by decide) r.2⟩)
    (Cert.MixoutGradRefIdeal.Value.run m ρ)

theorem frame_mixin_w_uv_ref : Cert.quiescent_MixinWUvRefIdeal (hMixinWUvRefIdeal := Cert.MixinWUvRefIdeal.Gen.facts) := fun m ρ _ =>
  (θ_run Cert.MixinWUvRefIdeal.defs _ _).mono (fun r h => ⟨fun c => (h c).2.2, sem_eq_zero_of_no_sems (by decide) r.2⟩)
    (Cert.MixinWUvRefIdeal.Value.run m ρ)

theorem frame_mixin_w_g_ref : Cert.quiescent_MixinWGRefIdeal (hMixinWGRefIdeal := Cert.MixinWGRefIdeal.Gen.facts) := fun m ρ _ =>
  (θ_run Cert.MixinWGRefIdeal.defs _ _).mono (fun r h => ⟨fun c => (h c).2.2, sem_eq_zero_of_no_sems (by decide) r.2⟩)
    (Cert.MixinWGRefIdeal.Value.run m ρ)

theorem frame_sum_loss_ref : Cert.quiescent_SumLossRefIdeal (hSumLossRefIdeal := Cert.SumLossRefIdeal.Gen.facts) := fun m ρ _ =>
  (θ_run Cert.SumLossRefIdeal.defs _ _).mono (fun r h => ⟨fun c => (h c).2, sem_eq_zero_of_no_sems (by decide) r.2⟩)
    (Cert.SumLossRefIdeal.Value.run m ρ)

theorem frame_adam_ffn_out_ref : Cert.quiescent_AdamFfnOutRefIdeal (hAdamFfnOutRefIdeal := Cert.AdamFfnOutRefIdeal.Gen.facts) := fun m ρ _ =>
  (θ_run Cert.AdamFfnOutRefIdeal.defs _ _).mono (fun r h => ⟨fun c => (h c).2.2.2.2, sem_eq_zero_of_no_sems (by decide) r.2⟩)
    (Cert.AdamFfnOutRefIdeal.Value.run m ρ)

theorem frame_adam_ffn_in_ref : Cert.quiescent_AdamFfnInRefIdeal (hAdamFfnInRefIdeal := Cert.AdamFfnInRefIdeal.Gen.facts) := fun m ρ _ =>
  (θ_run Cert.AdamFfnInRefIdeal.defs _ _).mono (fun r h => ⟨fun c => (h c).2.2.2.2, sem_eq_zero_of_no_sems (by decide) r.2⟩)
    (Cert.AdamFfnInRefIdeal.Value.run m ρ)

theorem frame_adam_mix_in_ref : Cert.quiescent_AdamMixInRefIdeal (hAdamMixInRefIdeal := Cert.AdamMixInRefIdeal.Gen.facts) := fun m ρ _ =>
  (θ_run Cert.AdamMixInRefIdeal.defs _ _).mono (fun r h => ⟨fun c => (h c).2.2.2.2, sem_eq_zero_of_no_sems (by decide) r.2⟩)
    (Cert.AdamMixInRefIdeal.Value.run m ρ)

theorem frame_adam_glu_ref : Cert.quiescent_AdamGluRefIdeal (hAdamGluRefIdeal := Cert.AdamGluRefIdeal.Gen.facts) := fun m ρ _ =>
  (θ_run Cert.AdamGluRefIdeal.defs _ _).mono (fun r h => ⟨fun c => (h c).2.2.2.2, sem_eq_zero_of_no_sems (by decide) r.2⟩)
    (Cert.AdamGluRefIdeal.Value.run m ρ)

theorem frame_adam_up_ref : Cert.quiescent_AdamUpRefIdeal (hAdamUpRefIdeal := Cert.AdamUpRefIdeal.Gen.facts) := fun m ρ _ =>
  (θ_run Cert.AdamUpRefIdeal.defs _ _).mono (fun r h => ⟨fun c => (h c).2.2.2.2, sem_eq_zero_of_no_sems (by decide) r.2⟩)
    (Cert.AdamUpRefIdeal.Value.run m ρ)

theorem frame_adam_square_ref : Cert.quiescent_AdamSquareRefIdeal (hAdamSquareRefIdeal := Cert.AdamSquareRefIdeal.Gen.facts) := fun m ρ _ =>
  (θ_run Cert.AdamSquareRefIdeal.defs _ _).mono (fun r h => ⟨fun c => (h c).2.2.2.2, sem_eq_zero_of_no_sems (by decide) r.2⟩)
    (Cert.AdamSquareRefIdeal.Value.run m ρ)

theorem frame_adam_ple_ref : Cert.quiescent_AdamPleRefIdeal (hAdamPleRefIdeal := Cert.AdamPleRefIdeal.Gen.facts) := fun m ρ _ =>
  (θ_run Cert.AdamPleRefIdeal.defs _ _).mono (fun r h => ⟨fun c => (h c).2.2.2.2, sem_eq_zero_of_no_sems (by decide) r.2⟩)
    (Cert.AdamPleRefIdeal.Value.run m ρ)

theorem claim : Cert.Claim :=
  ⟨Cert.Kernel.Gen.facts, Cert.KernelIdeal.Gen.facts, Cert.ReferenceIdeal.Gen.facts, Cert.Wout.Gen.facts,
    Cert.WoutIdeal.Gen.facts, Cert.WoutRefIdeal.Gen.facts, Cert.Win.Gen.facts, Cert.WinIdeal.Gen.facts,
    Cert.WinRefIdeal.Gen.facts, Cert.WinLow.Gen.facts, Cert.WinLowIdeal.Gen.facts, Cert.WinLowRefIdeal.Gen.facts,
    Cert.WinHigh.Gen.facts, Cert.WinHighIdeal.Gen.facts, Cert.WinHighRefIdeal.Gen.facts, Cert.Proj.Gen.facts,
    Cert.ProjIdeal.Gen.facts, Cert.ProjRefIdeal.Gen.facts, Cert.Out.Gen.facts, Cert.OutIdeal.Gen.facts,
    Cert.OutRefIdeal.Gen.facts, Cert.Mixin.Gen.facts, Cert.MixinIdeal.Gen.facts, Cert.MixinRefIdeal.Gen.facts,
    Cert.MixinGrad.Gen.facts, Cert.MixinGradIdeal.Gen.facts, Cert.MixinGradRefIdeal.Gen.facts,
    Cert.MixinWUv.Gen.facts, Cert.MixinWUvIdeal.Gen.facts, Cert.MixinWUvRefIdeal.Gen.facts, Cert.SquareW.Gen.facts,
    Cert.SquareWIdeal.Gen.facts, Cert.SquareWRefIdeal.Gen.facts, Cert.UpW.Gen.facts, Cert.UpWIdeal.Gen.facts,
    Cert.UpWRefIdeal.Gen.facts, Cert.PleW.Gen.facts, Cert.PleWIdeal.Gen.facts, Cert.PleWRefIdeal.Gen.facts,
    Cert.Loss.Gen.facts, Cert.LossIdeal.Gen.facts, Cert.LossRefIdeal.Gen.facts, Cert.Mixout.Gen.facts,
    Cert.MixoutIdeal.Gen.facts, Cert.MixoutRefIdeal.Gen.facts, Cert.MixoutGrad.Gen.facts,
    Cert.MixoutGradIdeal.Gen.facts, Cert.MixoutGradRefIdeal.Gen.facts, Cert.MixinWG.Gen.facts,
    Cert.MixinWGIdeal.Gen.facts, Cert.MixinWGRefIdeal.Gen.facts, Cert.SumLoss.Gen.facts, Cert.SumLossIdeal.Gen.facts,
    Cert.SumLossRefIdeal.Gen.facts, Cert.AdamFfnOut.Gen.facts, Cert.AdamFfnOutIdeal.Gen.facts,
    Cert.AdamFfnOutRefIdeal.Gen.facts, Cert.AdamFfnIn.Gen.facts, Cert.AdamFfnInIdeal.Gen.facts,
    Cert.AdamFfnInRefIdeal.Gen.facts, Cert.AdamMixIn.Gen.facts, Cert.AdamMixInIdeal.Gen.facts,
    Cert.AdamMixInRefIdeal.Gen.facts, Cert.AdamGlu.Gen.facts, Cert.AdamGluIdeal.Gen.facts,
    Cert.AdamGluRefIdeal.Gen.facts, Cert.AdamUp.Gen.facts, Cert.AdamUpIdeal.Gen.facts, Cert.AdamUpRefIdeal.Gen.facts,
    Cert.AdamSquare.Gen.facts, Cert.AdamSquareIdeal.Gen.facts, Cert.AdamSquareRefIdeal.Gen.facts,
    Cert.AdamPle.Gen.facts, Cert.AdamPleIdeal.Gen.facts, Cert.AdamPleRefIdeal.Gen.facts, Cert.Pre_finite.facts,
    Cert.Pre_finite_mix.facts, fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Wout.Gen.frame m ρ, fun m ρ _ => Cert.WoutIdeal.Gen.frame m ρ, frame_wout_ref,
    fun m ρ _ => Cert.Win.Gen.frame m ρ, fun m ρ _ => Cert.WinIdeal.Gen.frame m ρ, frame_win_ref,
    fun m ρ _ => Cert.WinLow.Gen.frame m ρ, fun m ρ _ => Cert.WinLowIdeal.Gen.frame m ρ, frame_win_low_ref,
    fun m ρ _ => Cert.WinHigh.Gen.frame m ρ, fun m ρ _ => Cert.WinHighIdeal.Gen.frame m ρ, frame_win_high_ref,
    fun m ρ _ => Cert.Proj.Gen.frame m ρ, fun m ρ _ => Cert.ProjIdeal.Gen.frame m ρ, frame_proj_ref,
    fun m ρ _ => Cert.Out.Gen.frame m ρ, fun m ρ _ => Cert.OutIdeal.Gen.frame m ρ, frame_out_ref,
    fun m ρ _ => Cert.Mixin.Gen.frame m ρ, fun m ρ _ => Cert.MixinIdeal.Gen.frame m ρ, frame_mixin_ref,
    fun m ρ _ => Cert.MixinGrad.Gen.frame m ρ, fun m ρ _ => Cert.MixinGradIdeal.Gen.frame m ρ, frame_mixin_grad_ref,
    fun m ρ _ => Cert.MixinWUv.Gen.frame m ρ, fun m ρ _ => Cert.MixinWUvIdeal.Gen.frame m ρ, frame_mixin_w_uv_ref,
    fun m ρ _ => Cert.SquareW.Gen.frame m ρ, fun m ρ _ => Cert.SquareWIdeal.Gen.frame m ρ, frame_square_w_ref,
    fun m ρ _ => Cert.UpW.Gen.frame m ρ, fun m ρ _ => Cert.UpWIdeal.Gen.frame m ρ, frame_up_w_ref,
    fun m ρ _ => Cert.PleW.Gen.frame m ρ, fun m ρ _ => Cert.PleWIdeal.Gen.frame m ρ, frame_ple_w_ref,
    fun m ρ _ => Cert.Loss.Gen.frame m ρ, fun m ρ _ => Cert.LossIdeal.Gen.frame m ρ, frame_loss_ref,
    fun m ρ _ => Cert.Mixout.Gen.frame m ρ, fun m ρ _ => Cert.MixoutIdeal.Gen.frame m ρ, frame_mixout_ref,
    fun m ρ _ => Cert.MixoutGrad.Gen.frame m ρ, fun m ρ _ => Cert.MixoutGradIdeal.Gen.frame m ρ,
    fun m ρ _ => Cert.MixoutGradIdeal.Gen.frame m ρ, frame_mixout_grad_ref,
    fun m ρ _ => frame_mixout_grad_ref m ρ trivial, fun m ρ _ => Cert.MixinWG.Gen.frame m ρ,
    fun m ρ _ => Cert.MixinWGIdeal.Gen.frame m ρ, frame_mixin_w_g_ref, fun m ρ _ => Cert.SumLoss.Gen.frame m ρ,
    fun m ρ _ => Cert.SumLossIdeal.Gen.frame m ρ, frame_sum_loss_ref, fun m ρ _ => Cert.AdamFfnOut.Gen.frame m ρ,
    fun m ρ _ => Cert.AdamFfnOutIdeal.Gen.frame m ρ, frame_adam_ffn_out_ref,
    fun m ρ _ => Cert.AdamFfnIn.Gen.frame m ρ, fun m ρ _ => Cert.AdamFfnInIdeal.Gen.frame m ρ, frame_adam_ffn_in_ref,
    fun m ρ _ => Cert.AdamMixIn.Gen.frame m ρ, fun m ρ _ => Cert.AdamMixInIdeal.Gen.frame m ρ, frame_adam_mix_in_ref,
    fun m ρ _ => Cert.AdamGlu.Gen.frame m ρ, fun m ρ _ => Cert.AdamGluIdeal.Gen.frame m ρ, frame_adam_glu_ref,
    fun m ρ _ => Cert.AdamUp.Gen.frame m ρ, fun m ρ _ => Cert.AdamUpIdeal.Gen.frame m ρ, frame_adam_up_ref,
    fun m ρ _ => Cert.AdamSquare.Gen.frame m ρ, fun m ρ _ => Cert.AdamSquareIdeal.Gen.frame m ρ,
    frame_adam_square_ref, fun m ρ _ => Cert.AdamPle.Gen.frame m ρ, fun m ρ _ => Cert.AdamPleIdeal.Gen.frame m ρ,
    frame_adam_ple_ref, trivial, algebraic, trivial, algebraic_wout, trivial, algebraic_win, trivial,
    algebraic_win_low, trivial, algebraic_win_high, trivial, algebraic_proj, trivial, algebraic_out, trivial,
    algebraic_mixin, trivial, algebraic_mixin_grad, trivial, algebraic_mixin_w_uv, trivial, algebraic_square_w,
    trivial, algebraic_up_w, trivial, algebraic_ple_w, trivial, algebraic_loss, trivial, algebraic_mixout, trivial,
    algebraic_mixout_grad, trivial, algebraic_mixin_w_g, trivial, algebraic_sum_loss, trivial,
    algebraic_adam_ffn_out, trivial, algebraic_adam_ffn_in, trivial, algebraic_adam_mix_in, trivial,
    algebraic_adam_glu, trivial, algebraic_adam_up, trivial, algebraic_adam_square, trivial, algebraic_adam_ple⟩

end Cert.Proof

end
